-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdIdeal_factors_finite [hPre_factors_finite : Cert.Pre_factors_finite.Facts] (m : (ℓ : Loc Cert.DownBwdIdeal.nD Cert.DownBwdIdeal.τ Cert.DownBwdIdeal.sig) → Buf (Elt Ideal) ℓ) : Prop :=
  ∀ c : Dev Cert.DownBwdIdeal.nD,
    (Cert.Pre_factors_finite.fn (F := Ideal) (m ((c.tc : Thread Cert.DownBwdIdeal.nD Cert.DownBwdIdeal.τ).loc Cert.DownBwdIdeal.main_arg0)) (m ((c.tc : Thread Cert.DownBwdIdeal.nD Cert.DownBwdIdeal.τ).loc Cert.DownBwdIdeal.main_arg1)) (m ((c.tc : Thread Cert.DownBwdIdeal.nD Cert.DownBwdIdeal.τ).loc Cert.DownBwdIdeal.main_arg2)) (m ((c.tc : Thread Cert.DownBwdIdeal.nD Cert.DownBwdIdeal.τ).loc Cert.DownBwdIdeal.main_arg3)) (m ((c.tc : Thread Cert.DownBwdIdeal.nD Cert.DownBwdIdeal.τ).loc Cert.DownBwdIdeal.main_arg4))) = (fun _ => 1#1)

def Pre_DownBwdRefIdeal (m : (ℓ : Loc Cert.DownBwdRefIdeal.nD Cert.DownBwdRefIdeal.τ Cert.DownBwdRefIdeal.sig) → Buf (Elt Ideal) ℓ) : Prop :=
  True

def Pre_DownBwdRefIdeal_factors_finite [hPre_factors_finite : Cert.Pre_factors_finite.Facts] (m : (ℓ : Loc Cert.DownBwdRefIdeal.nD Cert.DownBwdRefIdeal.τ Cert.DownBwdRefIdeal.sig) → Buf (Elt Ideal) ℓ) : Prop :=
  ∀ c : Dev Cert.DownBwdRefIdeal.nD,
    (Cert.Pre_factors_finite.fn (F := Ideal) (m ((c.tc : Thread Cert.DownBwdRefIdeal.nD Cert.DownBwdRefIdeal.τ).loc Cert.DownBwdRefIdeal.main_arg0)) (m ((c.tc : Thread Cert.DownBwdRefIdeal.nD Cert.DownBwdRefIdeal.τ).loc Cert.DownBwdRefIdeal.main_arg1)) (m ((c.tc : Thread Cert.DownBwdRefIdeal.nD Cert.DownBwdRefIdeal.τ).loc Cert.DownBwdRefIdeal.main_arg2)) (m ((c.tc : Thread Cert.DownBwdRefIdeal.nD Cert.DownBwdRefIdeal.τ).loc Cert.DownBwdRefIdeal.main_arg3)) (m ((c.tc : Thread Cert.DownBwdRefIdeal.nD Cert.DownBwdRefIdeal.τ).loc Cert.DownBwdRefIdeal.main_arg4))) = (fun _ => 1#1)

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_GradGateRefIdeal (m : (ℓ : Loc Cert.GradGateRefIdeal.nD Cert.GradGateRefIdeal.τ Cert.GradGateRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_norm_finite [hPre_norm_finite : Cert.Pre_norm_finite.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_norm_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4))) = (fun _ => 1#1)

def Pre_UpBwdRefIdeal (m : (ℓ : Loc Cert.UpBwdRefIdeal.nD Cert.UpBwdRefIdeal.τ Cert.UpBwdRefIdeal.sig) → Buf (Elt Ideal) ℓ) : Prop :=
  True

def Pre_UpBwdRefIdeal_norm_finite [hPre_norm_finite : Cert.Pre_norm_finite.Facts] (m : (ℓ : Loc Cert.UpBwdRefIdeal.nD Cert.UpBwdRefIdeal.τ Cert.UpBwdRefIdeal.sig) → Buf (Elt Ideal) ℓ) : Prop :=
  ∀ c : Dev Cert.UpBwdRefIdeal.nD,
    (Cert.Pre_norm_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_InBwdX (m : (ℓ : Loc Cert.InBwdX.nD Cert.InBwdX.τ Cert.InBwdX.sig) → Buf (Elt Bits) ℓ) : Prop :=
  True

def Pre_InBwdXIdeal (m : (ℓ : Loc Cert.InBwdXIdeal.nD Cert.InBwdXIdeal.τ Cert.InBwdXIdeal.sig) → Buf (Elt Ideal) ℓ) : Prop :=
  True

def Pre_InBwdXRefIdeal (m : (ℓ : Loc Cert.InBwdXRefIdeal.nD Cert.InBwdXRefIdeal.τ Cert.InBwdXRefIdeal.sig) → Buf (Elt Ideal) ℓ) : Prop :=
  True

def Pre_GradInA (m : (ℓ : Loc Cert.GradInA.nD Cert.GradInA.τ Cert.GradInA.sig) → Buf (Elt Bits) ℓ) : Prop :=
  True

def Pre_GradInAIdeal (m : (ℓ : Loc Cert.GradInAIdeal.nD Cert.GradInAIdeal.τ Cert.GradInAIdeal.sig) → Buf (Elt Ideal) ℓ) : Prop :=
  True

def Pre_GradInARefIdeal (m : (ℓ : Loc Cert.GradInARefIdeal.nD Cert.GradInARefIdeal.τ Cert.GradInARefIdeal.sig) → Buf (Elt Ideal) ℓ) : Prop :=
  True

def Pre_GradInB (m : (ℓ : Loc Cert.GradInB.nD Cert.GradInB.τ Cert.GradInB.sig) → Buf (Elt Bits) ℓ) : Prop :=
  True

def Pre_GradInBIdeal (m : (ℓ : Loc Cert.GradInBIdeal.nD Cert.GradInBIdeal.τ Cert.GradInBIdeal.sig) → Buf (Elt Ideal) ℓ) : Prop :=
  True

def Pre_GradInBRefIdeal (m : (ℓ : Loc Cert.GradInBRefIdeal.nD Cert.GradInBRefIdeal.τ Cert.GradInBRefIdeal.sig) → Buf (Elt Ideal) ℓ) : Prop :=
  True

def Pre_InBwdA (m : (ℓ : Loc Cert.InBwdA.nD Cert.InBwdA.τ Cert.InBwdA.sig) → Buf (Elt Bits) ℓ) : Prop :=
  True

def Pre_InBwdAIdeal (m : (ℓ : Loc Cert.InBwdAIdeal.nD Cert.InBwdAIdeal.τ Cert.InBwdAIdeal.sig) → Buf (Elt Ideal) ℓ) : Prop :=
  True

def Pre_InBwdAIdeal_norm_finite_a [hPre_norm_finite_a : Cert.Pre_norm_finite_a.Facts] (m : (ℓ : Loc Cert.InBwdAIdeal.nD Cert.InBwdAIdeal.τ Cert.InBwdAIdeal.sig) → Buf (Elt Ideal) ℓ) : Prop :=
  ∀ c : Dev Cert.InBwdAIdeal.nD,
    (Cert.Pre_norm_finite_a.fn (F := Ideal) (m ((c.tc : Thread Cert.InBwdAIdeal.nD Cert.InBwdAIdeal.τ).loc Cert.InBwdAIdeal.main_arg0)) (m ((c.tc : Thread Cert.InBwdAIdeal.nD Cert.InBwdAIdeal.τ).loc Cert.InBwdAIdeal.main_arg1)) (m ((c.tc : Thread Cert.InBwdAIdeal.nD Cert.InBwdAIdeal.τ).loc Cert.InBwdAIdeal.main_arg2)) (m ((c.tc : Thread Cert.InBwdAIdeal.nD Cert.InBwdAIdeal.τ).loc Cert.InBwdAIdeal.main_arg3)) (m ((c.tc : Thread Cert.InBwdAIdeal.nD Cert.InBwdAIdeal.τ).loc Cert.InBwdAIdeal.main_arg4)) (m ((c.tc : Thread Cert.InBwdAIdeal.nD Cert.InBwdAIdeal.τ).loc Cert.InBwdAIdeal.main_arg5)) (m ((c.tc : Thread Cert.InBwdAIdeal.nD Cert.InBwdAIdeal.τ).loc Cert.InBwdAIdeal.main_arg6)) (m ((c.tc : Thread Cert.InBwdAIdeal.nD Cert.InBwdAIdeal.τ).loc Cert.InBwdAIdeal.main_arg7))) = (fun _ => 1#1)

def Pre_InBwdARefIdeal (m : (ℓ : Loc Cert.InBwdARefIdeal.nD Cert.InBwdARefIdeal.τ Cert.InBwdARefIdeal.sig) → Buf (Elt Ideal) ℓ) : Prop :=
  True

def Pre_InBwdARefIdeal_norm_finite_a [hPre_norm_finite_a : Cert.Pre_norm_finite_a.Facts] (m : (ℓ : Loc Cert.InBwdARefIdeal.nD Cert.InBwdARefIdeal.τ Cert.InBwdARefIdeal.sig) → Buf (Elt Ideal) ℓ) : Prop :=
  ∀ c : Dev Cert.InBwdARefIdeal.nD,
    (Cert.Pre_norm_finite_a.fn (F := Ideal) (m ((c.tc : Thread Cert.InBwdARefIdeal.nD Cert.InBwdARefIdeal.τ).loc Cert.InBwdARefIdeal.main_arg0)) (m ((c.tc : Thread Cert.InBwdARefIdeal.nD Cert.InBwdARefIdeal.τ).loc Cert.InBwdARefIdeal.main_arg1)) (m ((c.tc : Thread Cert.InBwdARefIdeal.nD Cert.InBwdARefIdeal.τ).loc Cert.InBwdARefIdeal.main_arg2)) (m ((c.tc : Thread Cert.InBwdARefIdeal.nD Cert.InBwdARefIdeal.τ).loc Cert.InBwdARefIdeal.main_arg3)) (m ((c.tc : Thread Cert.InBwdARefIdeal.nD Cert.InBwdARefIdeal.τ).loc Cert.InBwdARefIdeal.main_arg4)) (m ((c.tc : Thread Cert.InBwdARefIdeal.nD Cert.InBwdARefIdeal.τ).loc Cert.InBwdARefIdeal.main_arg5)) (m ((c.tc : Thread Cert.InBwdARefIdeal.nD Cert.InBwdARefIdeal.τ).loc Cert.InBwdARefIdeal.main_arg6)) (m ((c.tc : Thread Cert.InBwdARefIdeal.nD Cert.InBwdARefIdeal.τ).loc Cert.InBwdARefIdeal.main_arg7))) = (fun _ => 1#1)

def Pre_InBwdB (m : (ℓ : Loc Cert.InBwdB.nD Cert.InBwdB.τ Cert.InBwdB.sig) → Buf (Elt Bits) ℓ) : Prop :=
  True

def Pre_InBwdBIdeal (m : (ℓ : Loc Cert.InBwdBIdeal.nD Cert.InBwdBIdeal.τ Cert.InBwdBIdeal.sig) → Buf (Elt Ideal) ℓ) : Prop :=
  True

def Pre_InBwdBIdeal_norm_finite_b [hPre_norm_finite_b : Cert.Pre_norm_finite_b.Facts] (m : (ℓ : Loc Cert.InBwdBIdeal.nD Cert.InBwdBIdeal.τ Cert.InBwdBIdeal.sig) → Buf (Elt Ideal) ℓ) : Prop :=
  ∀ c : Dev Cert.InBwdBIdeal.nD,
    (Cert.Pre_norm_finite_b.fn (F := Ideal) (m ((c.tc : Thread Cert.InBwdBIdeal.nD Cert.InBwdBIdeal.τ).loc Cert.InBwdBIdeal.main_arg0)) (m ((c.tc : Thread Cert.InBwdBIdeal.nD Cert.InBwdBIdeal.τ).loc Cert.InBwdBIdeal.main_arg1)) (m ((c.tc : Thread Cert.InBwdBIdeal.nD Cert.InBwdBIdeal.τ).loc Cert.InBwdBIdeal.main_arg2)) (m ((c.tc : Thread Cert.InBwdBIdeal.nD Cert.InBwdBIdeal.τ).loc Cert.InBwdBIdeal.main_arg3)) (m ((c.tc : Thread Cert.InBwdBIdeal.nD Cert.InBwdBIdeal.τ).loc Cert.InBwdBIdeal.main_arg4)) (m ((c.tc : Thread Cert.InBwdBIdeal.nD Cert.InBwdBIdeal.τ).loc Cert.InBwdBIdeal.main_arg5))) = (fun _ => 1#1)

def Pre_InBwdBRefIdeal (m : (ℓ : Loc Cert.InBwdBRefIdeal.nD Cert.InBwdBRefIdeal.τ Cert.InBwdBRefIdeal.sig) → Buf (Elt Ideal) ℓ) : Prop :=
  True

def Pre_InBwdBRefIdeal_norm_finite_b [hPre_norm_finite_b : Cert.Pre_norm_finite_b.Facts] (m : (ℓ : Loc Cert.InBwdBRefIdeal.nD Cert.InBwdBRefIdeal.τ Cert.InBwdBRefIdeal.sig) → Buf (Elt Ideal) ℓ) : Prop :=
  ∀ c : Dev Cert.InBwdBRefIdeal.nD,
    (Cert.Pre_norm_finite_b.fn (F := Ideal) (m ((c.tc : Thread Cert.InBwdBRefIdeal.nD Cert.InBwdBRefIdeal.τ).loc Cert.InBwdBRefIdeal.main_arg0)) (m ((c.tc : Thread Cert.InBwdBRefIdeal.nD Cert.InBwdBRefIdeal.τ).loc Cert.InBwdBRefIdeal.main_arg1)) (m ((c.tc : Thread Cert.InBwdBRefIdeal.nD Cert.InBwdBRefIdeal.τ).loc Cert.InBwdBRefIdeal.main_arg2)) (m ((c.tc : Thread Cert.InBwdBRefIdeal.nD Cert.InBwdBRefIdeal.τ).loc Cert.InBwdBRefIdeal.main_arg3)) (m ((c.tc : Thread Cert.InBwdBRefIdeal.nD Cert.InBwdBRefIdeal.τ).loc Cert.InBwdBRefIdeal.main_arg4)) (m ((c.tc : Thread Cert.InBwdBRefIdeal.nD Cert.InBwdBRefIdeal.τ).loc Cert.InBwdBRefIdeal.main_arg5))) = (fun _ => 1#1)

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutFwdX (m : (ℓ : Loc Cert.OutFwdX.nD Cert.OutFwdX.τ Cert.OutFwdX.sig) → Buf (Elt Bits) ℓ) : Prop :=
  True

def Pre_OutFwdXIdeal (m : (ℓ : Loc Cert.OutFwdXIdeal.nD Cert.OutFwdXIdeal.τ Cert.OutFwdXIdeal.sig) → Buf (Elt Ideal) ℓ) : Prop :=
  True

def Pre_OutFwdXRefIdeal (m : (ℓ : Loc Cert.OutFwdXRefIdeal.nD Cert.OutFwdXRefIdeal.τ Cert.OutFwdXRefIdeal.sig) → Buf (Elt Ideal) ℓ) : Prop :=
  True

def Pre_InFwdA (m : (ℓ : Loc Cert.InFwdA.nD Cert.InFwdA.τ Cert.InFwdA.sig) → Buf (Elt Bits) ℓ) : Prop :=
  True

def Pre_InFwdAIdeal (m : (ℓ : Loc Cert.InFwdAIdeal.nD Cert.InFwdAIdeal.τ Cert.InFwdAIdeal.sig) → Buf (Elt Ideal) ℓ) : Prop :=
  True

def Pre_InFwdARefIdeal (m : (ℓ : Loc Cert.InFwdARefIdeal.nD Cert.InFwdARefIdeal.τ Cert.InFwdARefIdeal.sig) → Buf (Elt Ideal) ℓ) : Prop :=
  True

def Pre_InFwdB (m : (ℓ : Loc Cert.InFwdB.nD Cert.InFwdB.τ Cert.InFwdB.sig) → Buf (Elt Bits) ℓ) : Prop :=
  True

def Pre_InFwdBIdeal (m : (ℓ : Loc Cert.InFwdBIdeal.nD Cert.InFwdBIdeal.τ Cert.InFwdBIdeal.sig) → Buf (Elt Ideal) ℓ) : Prop :=
  True

def Pre_InFwdBRefIdeal (m : (ℓ : Loc Cert.InFwdBRefIdeal.nD Cert.InFwdBRefIdeal.τ Cert.InFwdBRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_GradMem (m : (ℓ : Loc Cert.GradMem.nD Cert.GradMem.τ Cert.GradMem.sig) → Buf (Elt Bits) ℓ) : Prop :=
  True

def Pre_GradMemIdeal (m : (ℓ : Loc Cert.GradMemIdeal.nD Cert.GradMemIdeal.τ Cert.GradMemIdeal.sig) → Buf (Elt Ideal) ℓ) : Prop :=
  True

def Pre_GradMemRefIdeal (m : (ℓ : Loc Cert.GradMemRefIdeal.nD Cert.GradMemRefIdeal.τ Cert.GradMemRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3)
      ∧ r.2.mem ((c.tc : Thread Cert.DownBwd.nD Cert.DownBwd.τ).loc Cert.DownBwd.main_arg4) = m ((c.tc : Thread Cert.DownBwd.nD Cert.DownBwd.τ).loc Cert.DownBwd.main_arg4))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4))
      ∧ r.2.sem = fun _ => 0)

def quiescent_DownBwdIdeal_pre_factors_finite [hDownBwdIdeal : Cert.DownBwdIdeal.Facts] [hPre_factors_finite : Cert.Pre_factors_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal_factors_finite m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
      ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3)
      ∧ r.2.mem ((c.tc : Thread Cert.DownBwdRefIdeal.nD Cert.DownBwdRefIdeal.τ).loc Cert.DownBwdRefIdeal.main_arg4) = m ((c.tc : Thread Cert.DownBwdRefIdeal.nD Cert.DownBwdRefIdeal.τ).loc Cert.DownBwdRefIdeal.main_arg4))
      ∧ r.2.sem = fun _ => 0)

def quiescent_DownBwdRefIdeal_pre_factors_finite [hDownBwdRefIdeal : Cert.DownBwdRefIdeal.Facts] [hPre_factors_finite : Cert.Pre_factors_finite.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal_factors_finite m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3)
      ∧ r.2.mem ((c.tc : Thread Cert.DownBwdRefIdeal.nD Cert.DownBwdRefIdeal.τ).loc Cert.DownBwdRefIdeal.main_arg4) = m ((c.tc : Thread Cert.DownBwdRefIdeal.nD Cert.DownBwdRefIdeal.τ).loc Cert.DownBwdRefIdeal.main_arg4))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1)
      ∧ r.2.mem ((c.tc : Thread Cert.GradDown.nD Cert.GradDown.τ).loc Cert.GradDown.main_arg2) = m ((c.tc : Thread Cert.GradDown.nD Cert.GradDown.τ).loc Cert.GradDown.main_arg2)
      ∧ r.2.mem ((c.tc : Thread Cert.GradDown.nD Cert.GradDown.τ).loc Cert.GradDown.main_arg3) = m ((c.tc : Thread Cert.GradDown.nD Cert.GradDown.τ).loc Cert.GradDown.main_arg3))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
      ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2)
      ∧ r.2.mem ((c.tc : Thread Cert.GradDownIdeal.nD Cert.GradDownIdeal.τ).loc Cert.GradDownIdeal.main_arg3) = m ((c.tc : Thread Cert.GradDownIdeal.nD Cert.GradDownIdeal.τ).loc Cert.GradDownIdeal.main_arg3))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1)
      ∧ r.2.mem ((c.tc : Thread Cert.GradDownRefIdeal.nD Cert.GradDownRefIdeal.τ).loc Cert.GradDownRefIdeal.main_arg2) = m ((c.tc : Thread Cert.GradDownRefIdeal.nD Cert.GradDownRefIdeal.τ).loc Cert.GradDownRefIdeal.main_arg2)
      ∧ r.2.mem ((c.tc : Thread Cert.GradDownRefIdeal.nD Cert.GradDownRefIdeal.τ).loc Cert.GradDownRefIdeal.main_arg3) = m ((c.tc : Thread Cert.GradDownRefIdeal.nD Cert.GradDownRefIdeal.τ).loc Cert.GradDownRefIdeal.main_arg3))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_GradGateRefIdeal [hGradGateRefIdeal : Cert.GradGateRefIdeal.Facts] : Prop :=
  ∀ (m : (ℓ : Loc Cert.GradGateRefIdeal.nD Cert.GradGateRefIdeal.τ Cert.GradGateRefIdeal.sig) → Buf (Elt Ideal) ℓ) (g : Dev Cert.GradGateRefIdeal.nD → PrngReg), Pre_GradGateRefIdeal m →
    θ_run (Cert.GradGateRefIdeal.defs (F := Ideal)) (onTc (τ := Cert.GradGateRefIdeal.τ) (Cert.GradGateRefIdeal.main (F := Ideal))) ⟨m, fun _ => 0, g⟩ (fun r => (∀ c : Dev Cert.GradGateRefIdeal.nD,
      r.2.mem ((c.tc : Thread Cert.GradGateRefIdeal.nD Cert.GradGateRefIdeal.τ).loc Cert.GradGateRefIdeal.main_arg0) = m ((c.tc : Thread Cert.GradGateRefIdeal.nD Cert.GradGateRefIdeal.τ).loc Cert.GradGateRefIdeal.main_arg0)
      ∧ r.2.mem ((c.tc : Thread Cert.GradGateRefIdeal.nD Cert.GradGateRefIdeal.τ).loc Cert.GradGateRefIdeal.main_arg1) = m ((c.tc : Thread Cert.GradGateRefIdeal.nD Cert.GradGateRefIdeal.τ).loc Cert.GradGateRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdIdeal_pre_norm_finite [hUpBwdIdeal : Cert.UpBwdIdeal.Facts] [hPre_norm_finite : Cert.Pre_norm_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_norm_finite m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_UpBwdRefIdeal_pre_norm_finite [hUpBwdRefIdeal : Cert.UpBwdRefIdeal.Facts] [hPre_norm_finite : Cert.Pre_norm_finite.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal_norm_finite m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1)
      ∧ r.2.mem ((c.tc : Thread Cert.GradOutRefIdeal.nD Cert.GradOutRefIdeal.τ).loc Cert.GradOutRefIdeal.main_arg2) = m ((c.tc : Thread Cert.GradOutRefIdeal.nD Cert.GradOutRefIdeal.τ).loc Cert.GradOutRefIdeal.main_arg2))
      ∧ r.2.sem = fun _ => 0)

def quiescent_InBwdX [hInBwdX : Cert.InBwdX.Facts] : Prop :=
  ∀ (m : (ℓ : Loc Cert.InBwdX.nD Cert.InBwdX.τ Cert.InBwdX.sig) → Buf (Elt Bits) ℓ) (g : Dev Cert.InBwdX.nD → PrngReg), Pre_InBwdX m →
    θ_run (Cert.InBwdX.defs (F := Bits)) (onTc (τ := Cert.InBwdX.τ) (Cert.InBwdX.main (F := Bits))) ⟨m, fun _ => 0, g⟩ (fun r => (∀ c : Dev Cert.InBwdX.nD,
      r.2.mem ((c.tc : Thread Cert.InBwdX.nD Cert.InBwdX.τ).loc Cert.InBwdX.main_arg0) = m ((c.tc : Thread Cert.InBwdX.nD Cert.InBwdX.τ).loc Cert.InBwdX.main_arg0)
      ∧ r.2.mem ((c.tc : Thread Cert.InBwdX.nD Cert.InBwdX.τ).loc Cert.InBwdX.main_arg1) = m ((c.tc : Thread Cert.InBwdX.nD Cert.InBwdX.τ).loc Cert.InBwdX.main_arg1)
      ∧ r.2.mem ((c.tc : Thread Cert.InBwdX.nD Cert.InBwdX.τ).loc Cert.InBwdX.main_arg2) = m ((c.tc : Thread Cert.InBwdX.nD Cert.InBwdX.τ).loc Cert.InBwdX.main_arg2)
      ∧ r.2.mem ((c.tc : Thread Cert.InBwdX.nD Cert.InBwdX.τ).loc Cert.InBwdX.main_arg3) = m ((c.tc : Thread Cert.InBwdX.nD Cert.InBwdX.τ).loc Cert.InBwdX.main_arg3)
      ∧ r.2.mem ((c.tc : Thread Cert.InBwdX.nD Cert.InBwdX.τ).loc Cert.InBwdX.main_arg4) = m ((c.tc : Thread Cert.InBwdX.nD Cert.InBwdX.τ).loc Cert.InBwdX.main_arg4)
      ∧ r.2.mem ((c.tc : Thread Cert.InBwdX.nD Cert.InBwdX.τ).loc Cert.InBwdX.main_arg5) = m ((c.tc : Thread Cert.InBwdX.nD Cert.InBwdX.τ).loc Cert.InBwdX.main_arg5))
      ∧ r.2.sem = fun _ => 0)

def quiescent_InBwdXIdeal [hInBwdXIdeal : Cert.InBwdXIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg), Pre_InBwdXIdeal m →
    θ_run (Cert.InBwdXIdeal.defs (F := Ideal)) (onTc (τ := Cert.InBwdXIdeal.τ) (Cert.InBwdXIdeal.main (F := Ideal))) ⟨m, fun _ => 0, g⟩ (fun r => (∀ c : Dev Cert.InBwdXIdeal.nD,
      r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
      ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1)
      ∧ r.2.mem ((c.tc : Thread Cert.InBwdXIdeal.nD Cert.InBwdXIdeal.τ).loc Cert.InBwdXIdeal.main_arg2) = m ((c.tc : Thread Cert.InBwdXIdeal.nD Cert.InBwdXIdeal.τ).loc Cert.InBwdXIdeal.main_arg2)
      ∧ r.2.mem ((c.tc : Thread Cert.InBwdXIdeal.nD Cert.InBwdXIdeal.τ).loc Cert.InBwdXIdeal.main_arg3) = m ((c.tc : Thread Cert.InBwdXIdeal.nD Cert.InBwdXIdeal.τ).loc Cert.InBwdXIdeal.main_arg3)
      ∧ r.2.mem ((c.tc : Thread Cert.InBwdXIdeal.nD Cert.InBwdXIdeal.τ).loc Cert.InBwdXIdeal.main_arg4) = m ((c.tc : Thread Cert.InBwdXIdeal.nD Cert.InBwdXIdeal.τ).loc Cert.InBwdXIdeal.main_arg4)
      ∧ r.2.mem ((c.tc : Thread Cert.InBwdXIdeal.nD Cert.InBwdXIdeal.τ).loc Cert.InBwdXIdeal.main_arg5) = m ((c.tc : Thread Cert.InBwdXIdeal.nD Cert.InBwdXIdeal.τ).loc Cert.InBwdXIdeal.main_arg5))
      ∧ r.2.sem = fun _ => 0)

def quiescent_InBwdXRefIdeal [hInBwdXRefIdeal : Cert.InBwdXRefIdeal.Facts] : Prop :=
  ∀ (m : (ℓ : Loc Cert.InBwdXRefIdeal.nD Cert.InBwdXRefIdeal.τ Cert.InBwdXRefIdeal.sig) → Buf (Elt Ideal) ℓ) (g : Dev Cert.InBwdXRefIdeal.nD → PrngReg), Pre_InBwdXRefIdeal m →
    θ_run (Cert.InBwdXRefIdeal.defs (F := Ideal)) (onTc (τ := Cert.InBwdXRefIdeal.τ) (Cert.InBwdXRefIdeal.main (F := Ideal))) ⟨m, fun _ => 0, g⟩ (fun r => (∀ c : Dev Cert.InBwdXRefIdeal.nD,
      r.2.mem ((c.tc : Thread Cert.InBwdXRefIdeal.nD Cert.InBwdXRefIdeal.τ).loc Cert.InBwdXRefIdeal.main_arg0) = m ((c.tc : Thread Cert.InBwdXRefIdeal.nD Cert.InBwdXRefIdeal.τ).loc Cert.InBwdXRefIdeal.main_arg0)
      ∧ r.2.mem ((c.tc : Thread Cert.InBwdXRefIdeal.nD Cert.InBwdXRefIdeal.τ).loc Cert.InBwdXRefIdeal.main_arg1) = m ((c.tc : Thread Cert.InBwdXRefIdeal.nD Cert.InBwdXRefIdeal.τ).loc Cert.InBwdXRefIdeal.main_arg1)
      ∧ r.2.mem ((c.tc : Thread Cert.InBwdXRefIdeal.nD Cert.InBwdXRefIdeal.τ).loc Cert.InBwdXRefIdeal.main_arg2) = m ((c.tc : Thread Cert.InBwdXRefIdeal.nD Cert.InBwdXRefIdeal.τ).loc Cert.InBwdXRefIdeal.main_arg2)
      ∧ r.2.mem ((c.tc : Thread Cert.InBwdXRefIdeal.nD Cert.InBwdXRefIdeal.τ).loc Cert.InBwdXRefIdeal.main_arg3) = m ((c.tc : Thread Cert.InBwdXRefIdeal.nD Cert.InBwdXRefIdeal.τ).loc Cert.InBwdXRefIdeal.main_arg3)
      ∧ r.2.mem ((c.tc : Thread Cert.InBwdXRefIdeal.nD Cert.InBwdXRefIdeal.τ).loc Cert.InBwdXRefIdeal.main_arg4) = m ((c.tc : Thread Cert.InBwdXRefIdeal.nD Cert.InBwdXRefIdeal.τ).loc Cert.InBwdXRefIdeal.main_arg4)
      ∧ r.2.mem ((c.tc : Thread Cert.InBwdXRefIdeal.nD Cert.InBwdXRefIdeal.τ).loc Cert.InBwdXRefIdeal.main_arg5) = m ((c.tc : Thread Cert.InBwdXRefIdeal.nD Cert.InBwdXRefIdeal.τ).loc Cert.InBwdXRefIdeal.main_arg5))
      ∧ r.2.sem = fun _ => 0)

def quiescent_GradInA [hGradInA : Cert.GradInA.Facts] : Prop :=
  ∀ (m : (ℓ : Loc Cert.GradInA.nD Cert.GradInA.τ Cert.GradInA.sig) → Buf (Elt Bits) ℓ) (g : Dev Cert.GradInA.nD → PrngReg), Pre_GradInA m →
    θ_run (Cert.GradInA.defs (F := Bits)) (onTc (τ := Cert.GradInA.τ) (Cert.GradInA.main (F := Bits))) ⟨m, fun _ => 0, g⟩ (fun r => (∀ c : Dev Cert.GradInA.nD,
      r.2.mem ((c.tc : Thread Cert.GradInA.nD Cert.GradInA.τ).loc Cert.GradInA.main_arg0) = m ((c.tc : Thread Cert.GradInA.nD Cert.GradInA.τ).loc Cert.GradInA.main_arg0)
      ∧ r.2.mem ((c.tc : Thread Cert.GradInA.nD Cert.GradInA.τ).loc Cert.GradInA.main_arg1) = m ((c.tc : Thread Cert.GradInA.nD Cert.GradInA.τ).loc Cert.GradInA.main_arg1)
      ∧ r.2.mem ((c.tc : Thread Cert.GradInA.nD Cert.GradInA.τ).loc Cert.GradInA.main_arg2) = m ((c.tc : Thread Cert.GradInA.nD Cert.GradInA.τ).loc Cert.GradInA.main_arg2)
      ∧ r.2.mem ((c.tc : Thread Cert.GradInA.nD Cert.GradInA.τ).loc Cert.GradInA.main_arg3) = m ((c.tc : Thread Cert.GradInA.nD Cert.GradInA.τ).loc Cert.GradInA.main_arg3)
      ∧ r.2.mem ((c.tc : Thread Cert.GradInA.nD Cert.GradInA.τ).loc Cert.GradInA.main_arg4) = m ((c.tc : Thread Cert.GradInA.nD Cert.GradInA.τ).loc Cert.GradInA.main_arg4))
      ∧ r.2.sem = fun _ => 0)

def quiescent_GradInAIdeal [hGradInAIdeal : Cert.GradInAIdeal.Facts] : Prop :=
  ∀ (m : (ℓ : Loc Cert.GradInAIdeal.nD Cert.GradInAIdeal.τ Cert.GradInAIdeal.sig) → Buf (Elt Ideal) ℓ) (g : Dev Cert.GradInAIdeal.nD → PrngReg), Pre_GradInAIdeal m →
    θ_run (Cert.GradInAIdeal.defs (F := Ideal)) (onTc (τ := Cert.GradInAIdeal.τ) (Cert.GradInAIdeal.main (F := Ideal))) ⟨m, fun _ => 0, g⟩ (fun r => (∀ c : Dev Cert.GradInAIdeal.nD,
      r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
      ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1)
      ∧ r.2.mem ((c.tc : Thread Cert.GradInAIdeal.nD Cert.GradInAIdeal.τ).loc Cert.GradInAIdeal.main_arg2) = m ((c.tc : Thread Cert.GradInAIdeal.nD Cert.GradInAIdeal.τ).loc Cert.GradInAIdeal.main_arg2)
      ∧ r.2.mem ((c.tc : Thread Cert.GradInAIdeal.nD Cert.GradInAIdeal.τ).loc Cert.GradInAIdeal.main_arg3) = m ((c.tc : Thread Cert.GradInAIdeal.nD Cert.GradInAIdeal.τ).loc Cert.GradInAIdeal.main_arg3)
      ∧ r.2.mem ((c.tc : Thread Cert.GradInAIdeal.nD Cert.GradInAIdeal.τ).loc Cert.GradInAIdeal.main_arg4) = m ((c.tc : Thread Cert.GradInAIdeal.nD Cert.GradInAIdeal.τ).loc Cert.GradInAIdeal.main_arg4))
      ∧ r.2.sem = fun _ => 0)

def quiescent_GradInARefIdeal [hGradInARefIdeal : Cert.GradInARefIdeal.Facts] : Prop :=
  ∀ (m : (ℓ : Loc Cert.GradInARefIdeal.nD Cert.GradInARefIdeal.τ Cert.GradInARefIdeal.sig) → Buf (Elt Ideal) ℓ) (g : Dev Cert.GradInARefIdeal.nD → PrngReg), Pre_GradInARefIdeal m →
    θ_run (Cert.GradInARefIdeal.defs (F := Ideal)) (onTc (τ := Cert.GradInARefIdeal.τ) (Cert.GradInARefIdeal.main (F := Ideal))) ⟨m, fun _ => 0, g⟩ (fun r => (∀ c : Dev Cert.GradInARefIdeal.nD,
      r.2.mem ((c.tc : Thread Cert.GradInARefIdeal.nD Cert.GradInARefIdeal.τ).loc Cert.GradInARefIdeal.main_arg0) = m ((c.tc : Thread Cert.GradInARefIdeal.nD Cert.GradInARefIdeal.τ).loc Cert.GradInARefIdeal.main_arg0)
      ∧ r.2.mem ((c.tc : Thread Cert.GradInARefIdeal.nD Cert.GradInARefIdeal.τ).loc Cert.GradInARefIdeal.main_arg1) = m ((c.tc : Thread Cert.GradInARefIdeal.nD Cert.GradInARefIdeal.τ).loc Cert.GradInARefIdeal.main_arg1)
      ∧ r.2.mem ((c.tc : Thread Cert.GradInARefIdeal.nD Cert.GradInARefIdeal.τ).loc Cert.GradInARefIdeal.main_arg2) = m ((c.tc : Thread Cert.GradInARefIdeal.nD Cert.GradInARefIdeal.τ).loc Cert.GradInARefIdeal.main_arg2)
      ∧ r.2.mem ((c.tc : Thread Cert.GradInARefIdeal.nD Cert.GradInARefIdeal.τ).loc Cert.GradInARefIdeal.main_arg3) = m ((c.tc : Thread Cert.GradInARefIdeal.nD Cert.GradInARefIdeal.τ).loc Cert.GradInARefIdeal.main_arg3)
      ∧ r.2.mem ((c.tc : Thread Cert.GradInARefIdeal.nD Cert.GradInARefIdeal.τ).loc Cert.GradInARefIdeal.main_arg4) = m ((c.tc : Thread Cert.GradInARefIdeal.nD Cert.GradInARefIdeal.τ).loc Cert.GradInARefIdeal.main_arg4))
      ∧ r.2.sem = fun _ => 0)

def quiescent_GradInB [hGradInB : Cert.GradInB.Facts] : Prop :=
  ∀ (m : (ℓ : Loc Cert.GradInB.nD Cert.GradInB.τ Cert.GradInB.sig) → Buf (Elt Bits) ℓ) (g : Dev Cert.GradInB.nD → PrngReg), Pre_GradInB m →
    θ_run (Cert.GradInB.defs (F := Bits)) (onTc (τ := Cert.GradInB.τ) (Cert.GradInB.main (F := Bits))) ⟨m, fun _ => 0, g⟩ (fun r => (∀ c : Dev Cert.GradInB.nD,
      r.2.mem ((c.tc : Thread Cert.GradInB.nD Cert.GradInB.τ).loc Cert.GradInB.main_arg0) = m ((c.tc : Thread Cert.GradInB.nD Cert.GradInB.τ).loc Cert.GradInB.main_arg0)
      ∧ r.2.mem ((c.tc : Thread Cert.GradInB.nD Cert.GradInB.τ).loc Cert.GradInB.main_arg1) = m ((c.tc : Thread Cert.GradInB.nD Cert.GradInB.τ).loc Cert.GradInB.main_arg1)
      ∧ r.2.mem ((c.tc : Thread Cert.GradInB.nD Cert.GradInB.τ).loc Cert.GradInB.main_arg2) = m ((c.tc : Thread Cert.GradInB.nD Cert.GradInB.τ).loc Cert.GradInB.main_arg2))
      ∧ r.2.sem = fun _ => 0)

def quiescent_GradInBIdeal [hGradInBIdeal : Cert.GradInBIdeal.Facts] : Prop :=
  ∀ (m : (ℓ : Loc Cert.GradInBIdeal.nD Cert.GradInBIdeal.τ Cert.GradInBIdeal.sig) → Buf (Elt Ideal) ℓ) (g : Dev Cert.GradInBIdeal.nD → PrngReg), Pre_GradInBIdeal m →
    θ_run (Cert.GradInBIdeal.defs (F := Ideal)) (onTc (τ := Cert.GradInBIdeal.τ) (Cert.GradInBIdeal.main (F := Ideal))) ⟨m, fun _ => 0, g⟩ (fun r => (∀ c : Dev Cert.GradInBIdeal.nD,
      r.2.mem ((c.tc : Thread Cert.GradInBIdeal.nD Cert.GradInBIdeal.τ).loc Cert.GradInBIdeal.main_arg0) = m ((c.tc : Thread Cert.GradInBIdeal.nD Cert.GradInBIdeal.τ).loc Cert.GradInBIdeal.main_arg0)
      ∧ r.2.mem ((c.tc : Thread Cert.GradInBIdeal.nD Cert.GradInBIdeal.τ).loc Cert.GradInBIdeal.main_arg1) = m ((c.tc : Thread Cert.GradInBIdeal.nD Cert.GradInBIdeal.τ).loc Cert.GradInBIdeal.main_arg1)
      ∧ r.2.mem ((c.tc : Thread Cert.GradInBIdeal.nD Cert.GradInBIdeal.τ).loc Cert.GradInBIdeal.main_arg2) = m ((c.tc : Thread Cert.GradInBIdeal.nD Cert.GradInBIdeal.τ).loc Cert.GradInBIdeal.main_arg2))
      ∧ r.2.sem = fun _ => 0)

def quiescent_GradInBRefIdeal [hGradInBRefIdeal : Cert.GradInBRefIdeal.Facts] : Prop :=
  ∀ (m : (ℓ : Loc Cert.GradInBRefIdeal.nD Cert.GradInBRefIdeal.τ Cert.GradInBRefIdeal.sig) → Buf (Elt Ideal) ℓ) (g : Dev Cert.GradInBRefIdeal.nD → PrngReg), Pre_GradInBRefIdeal m →
    θ_run (Cert.GradInBRefIdeal.defs (F := Ideal)) (onTc (τ := Cert.GradInBRefIdeal.τ) (Cert.GradInBRefIdeal.main (F := Ideal))) ⟨m, fun _ => 0, g⟩ (fun r => (∀ c : Dev Cert.GradInBRefIdeal.nD,
      r.2.mem ((c.tc : Thread Cert.GradInBRefIdeal.nD Cert.GradInBRefIdeal.τ).loc Cert.GradInBRefIdeal.main_arg0) = m ((c.tc : Thread Cert.GradInBRefIdeal.nD Cert.GradInBRefIdeal.τ).loc Cert.GradInBRefIdeal.main_arg0)
      ∧ r.2.mem ((c.tc : Thread Cert.GradInBRefIdeal.nD Cert.GradInBRefIdeal.τ).loc Cert.GradInBRefIdeal.main_arg1) = m ((c.tc : Thread Cert.GradInBRefIdeal.nD Cert.GradInBRefIdeal.τ).loc Cert.GradInBRefIdeal.main_arg1)
      ∧ r.2.mem ((c.tc : Thread Cert.GradInBRefIdeal.nD Cert.GradInBRefIdeal.τ).loc Cert.GradInBRefIdeal.main_arg2) = m ((c.tc : Thread Cert.GradInBRefIdeal.nD Cert.GradInBRefIdeal.τ).loc Cert.GradInBRefIdeal.main_arg2))
      ∧ r.2.sem = fun _ => 0)

def quiescent_InBwdA [hInBwdA : Cert.InBwdA.Facts] : Prop :=
  ∀ (m : (ℓ : Loc Cert.InBwdA.nD Cert.InBwdA.τ Cert.InBwdA.sig) → Buf (Elt Bits) ℓ) (g : Dev Cert.InBwdA.nD → PrngReg), Pre_InBwdA m →
    θ_run (Cert.InBwdA.defs (F := Bits)) (onTc (τ := Cert.InBwdA.τ) (Cert.InBwdA.main (F := Bits))) ⟨m, fun _ => 0, g⟩ (fun r => (∀ c : Dev Cert.InBwdA.nD,
      r.2.mem ((c.tc : Thread Cert.InBwdA.nD Cert.InBwdA.τ).loc Cert.InBwdA.main_arg0) = m ((c.tc : Thread Cert.InBwdA.nD Cert.InBwdA.τ).loc Cert.InBwdA.main_arg0)
      ∧ r.2.mem ((c.tc : Thread Cert.InBwdA.nD Cert.InBwdA.τ).loc Cert.InBwdA.main_arg1) = m ((c.tc : Thread Cert.InBwdA.nD Cert.InBwdA.τ).loc Cert.InBwdA.main_arg1)
      ∧ r.2.mem ((c.tc : Thread Cert.InBwdA.nD Cert.InBwdA.τ).loc Cert.InBwdA.main_arg2) = m ((c.tc : Thread Cert.InBwdA.nD Cert.InBwdA.τ).loc Cert.InBwdA.main_arg2)
      ∧ r.2.mem ((c.tc : Thread Cert.InBwdA.nD Cert.InBwdA.τ).loc Cert.InBwdA.main_arg3) = m ((c.tc : Thread Cert.InBwdA.nD Cert.InBwdA.τ).loc Cert.InBwdA.main_arg3)
      ∧ r.2.mem ((c.tc : Thread Cert.InBwdA.nD Cert.InBwdA.τ).loc Cert.InBwdA.main_arg4) = m ((c.tc : Thread Cert.InBwdA.nD Cert.InBwdA.τ).loc Cert.InBwdA.main_arg4)
      ∧ r.2.mem ((c.tc : Thread Cert.InBwdA.nD Cert.InBwdA.τ).loc Cert.InBwdA.main_arg5) = m ((c.tc : Thread Cert.InBwdA.nD Cert.InBwdA.τ).loc Cert.InBwdA.main_arg5)
      ∧ r.2.mem ((c.tc : Thread Cert.InBwdA.nD Cert.InBwdA.τ).loc Cert.InBwdA.main_arg6) = m ((c.tc : Thread Cert.InBwdA.nD Cert.InBwdA.τ).loc Cert.InBwdA.main_arg6)
      ∧ r.2.mem ((c.tc : Thread Cert.InBwdA.nD Cert.InBwdA.τ).loc Cert.InBwdA.main_arg7) = m ((c.tc : Thread Cert.InBwdA.nD Cert.InBwdA.τ).loc Cert.InBwdA.main_arg7))
      ∧ r.2.sem = fun _ => 0)

def quiescent_InBwdAIdeal [hInBwdAIdeal : Cert.InBwdAIdeal.Facts] : Prop :=
  ∀ (m : (ℓ : Loc Cert.InBwdAIdeal.nD Cert.InBwdAIdeal.τ Cert.InBwdAIdeal.sig) → Buf (Elt Ideal) ℓ) (g : Dev Cert.InBwdAIdeal.nD → PrngReg), Pre_InBwdAIdeal m →
    θ_run (Cert.InBwdAIdeal.defs (F := Ideal)) (onTc (τ := Cert.InBwdAIdeal.τ) (Cert.InBwdAIdeal.main (F := Ideal))) ⟨m, fun _ => 0, g⟩ (fun r => (∀ c : Dev Cert.InBwdAIdeal.nD,
      r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
      ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
      ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2)
      ∧ r.2.mem ((c.tc : Thread Cert.InBwdAIdeal.nD Cert.InBwdAIdeal.τ).loc Cert.InBwdAIdeal.main_arg3) = m ((c.tc : Thread Cert.InBwdAIdeal.nD Cert.InBwdAIdeal.τ).loc Cert.InBwdAIdeal.main_arg3)
      ∧ r.2.mem ((c.tc : Thread Cert.InBwdAIdeal.nD Cert.InBwdAIdeal.τ).loc Cert.InBwdAIdeal.main_arg4) = m ((c.tc : Thread Cert.InBwdAIdeal.nD Cert.InBwdAIdeal.τ).loc Cert.InBwdAIdeal.main_arg4)
      ∧ r.2.mem ((c.tc : Thread Cert.InBwdAIdeal.nD Cert.InBwdAIdeal.τ).loc Cert.InBwdAIdeal.main_arg5) = m ((c.tc : Thread Cert.InBwdAIdeal.nD Cert.InBwdAIdeal.τ).loc Cert.InBwdAIdeal.main_arg5)
      ∧ r.2.mem ((c.tc : Thread Cert.InBwdAIdeal.nD Cert.InBwdAIdeal.τ).loc Cert.InBwdAIdeal.main_arg6) = m ((c.tc : Thread Cert.InBwdAIdeal.nD Cert.InBwdAIdeal.τ).loc Cert.InBwdAIdeal.main_arg6)
      ∧ r.2.mem ((c.tc : Thread Cert.InBwdAIdeal.nD Cert.InBwdAIdeal.τ).loc Cert.InBwdAIdeal.main_arg7) = m ((c.tc : Thread Cert.InBwdAIdeal.nD Cert.InBwdAIdeal.τ).loc Cert.InBwdAIdeal.main_arg7))
      ∧ r.2.sem = fun _ => 0)

def quiescent_InBwdAIdeal_pre_norm_finite_a [hInBwdAIdeal : Cert.InBwdAIdeal.Facts] [hPre_norm_finite_a : Cert.Pre_norm_finite_a.Facts] : Prop :=
  ∀ (m : (ℓ : Loc Cert.InBwdAIdeal.nD Cert.InBwdAIdeal.τ Cert.InBwdAIdeal.sig) → Buf (Elt Ideal) ℓ) (g : Dev Cert.InBwdAIdeal.nD → PrngReg), Pre_InBwdAIdeal_norm_finite_a m →
    θ_run (Cert.InBwdAIdeal.defs (F := Ideal)) (onTc (τ := Cert.InBwdAIdeal.τ) (Cert.InBwdAIdeal.main (F := Ideal))) ⟨m, fun _ => 0, g⟩ (fun r => (∀ c : Dev Cert.InBwdAIdeal.nD,
      r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
      ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
      ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2)
      ∧ r.2.mem ((c.tc : Thread Cert.InBwdAIdeal.nD Cert.InBwdAIdeal.τ).loc Cert.InBwdAIdeal.main_arg3) = m ((c.tc : Thread Cert.InBwdAIdeal.nD Cert.InBwdAIdeal.τ).loc Cert.InBwdAIdeal.main_arg3)
      ∧ r.2.mem ((c.tc : Thread Cert.InBwdAIdeal.nD Cert.InBwdAIdeal.τ).loc Cert.InBwdAIdeal.main_arg4) = m ((c.tc : Thread Cert.InBwdAIdeal.nD Cert.InBwdAIdeal.τ).loc Cert.InBwdAIdeal.main_arg4)
      ∧ r.2.mem ((c.tc : Thread Cert.InBwdAIdeal.nD Cert.InBwdAIdeal.τ).loc Cert.InBwdAIdeal.main_arg5) = m ((c.tc : Thread Cert.InBwdAIdeal.nD Cert.InBwdAIdeal.τ).loc Cert.InBwdAIdeal.main_arg5)
      ∧ r.2.mem ((c.tc : Thread Cert.InBwdAIdeal.nD Cert.InBwdAIdeal.τ).loc Cert.InBwdAIdeal.main_arg6) = m ((c.tc : Thread Cert.InBwdAIdeal.nD Cert.InBwdAIdeal.τ).loc Cert.InBwdAIdeal.main_arg6)
      ∧ r.2.mem ((c.tc : Thread Cert.InBwdAIdeal.nD Cert.InBwdAIdeal.τ).loc Cert.InBwdAIdeal.main_arg7) = m ((c.tc : Thread Cert.InBwdAIdeal.nD Cert.InBwdAIdeal.τ).loc Cert.InBwdAIdeal.main_arg7))
      ∧ r.2.sem = fun _ => 0)

def quiescent_InBwdARefIdeal [hInBwdARefIdeal : Cert.InBwdARefIdeal.Facts] : Prop :=
  ∀ (m : (ℓ : Loc Cert.InBwdARefIdeal.nD Cert.InBwdARefIdeal.τ Cert.InBwdARefIdeal.sig) → Buf (Elt Ideal) ℓ) (g : Dev Cert.InBwdARefIdeal.nD → PrngReg), Pre_InBwdARefIdeal m →
    θ_run (Cert.InBwdARefIdeal.defs (F := Ideal)) (onTc (τ := Cert.InBwdARefIdeal.τ) (Cert.InBwdARefIdeal.main (F := Ideal))) ⟨m, fun _ => 0, g⟩ (fun r => (∀ c : Dev Cert.InBwdARefIdeal.nD,
      r.2.mem ((c.tc : Thread Cert.InBwdARefIdeal.nD Cert.InBwdARefIdeal.τ).loc Cert.InBwdARefIdeal.main_arg0) = m ((c.tc : Thread Cert.InBwdARefIdeal.nD Cert.InBwdARefIdeal.τ).loc Cert.InBwdARefIdeal.main_arg0)
      ∧ r.2.mem ((c.tc : Thread Cert.InBwdARefIdeal.nD Cert.InBwdARefIdeal.τ).loc Cert.InBwdARefIdeal.main_arg1) = m ((c.tc : Thread Cert.InBwdARefIdeal.nD Cert.InBwdARefIdeal.τ).loc Cert.InBwdARefIdeal.main_arg1)
      ∧ r.2.mem ((c.tc : Thread Cert.InBwdARefIdeal.nD Cert.InBwdARefIdeal.τ).loc Cert.InBwdARefIdeal.main_arg2) = m ((c.tc : Thread Cert.InBwdARefIdeal.nD Cert.InBwdARefIdeal.τ).loc Cert.InBwdARefIdeal.main_arg2)
      ∧ r.2.mem ((c.tc : Thread Cert.InBwdARefIdeal.nD Cert.InBwdARefIdeal.τ).loc Cert.InBwdARefIdeal.main_arg3) = m ((c.tc : Thread Cert.InBwdARefIdeal.nD Cert.InBwdARefIdeal.τ).loc Cert.InBwdARefIdeal.main_arg3)
      ∧ r.2.mem ((c.tc : Thread Cert.InBwdARefIdeal.nD Cert.InBwdARefIdeal.τ).loc Cert.InBwdARefIdeal.main_arg4) = m ((c.tc : Thread Cert.InBwdARefIdeal.nD Cert.InBwdARefIdeal.τ).loc Cert.InBwdARefIdeal.main_arg4)
      ∧ r.2.mem ((c.tc : Thread Cert.InBwdARefIdeal.nD Cert.InBwdARefIdeal.τ).loc Cert.InBwdARefIdeal.main_arg5) = m ((c.tc : Thread Cert.InBwdARefIdeal.nD Cert.InBwdARefIdeal.τ).loc Cert.InBwdARefIdeal.main_arg5)
      ∧ r.2.mem ((c.tc : Thread Cert.InBwdARefIdeal.nD Cert.InBwdARefIdeal.τ).loc Cert.InBwdARefIdeal.main_arg6) = m ((c.tc : Thread Cert.InBwdARefIdeal.nD Cert.InBwdARefIdeal.τ).loc Cert.InBwdARefIdeal.main_arg6)
      ∧ r.2.mem ((c.tc : Thread Cert.InBwdARefIdeal.nD Cert.InBwdARefIdeal.τ).loc Cert.InBwdARefIdeal.main_arg7) = m ((c.tc : Thread Cert.InBwdARefIdeal.nD Cert.InBwdARefIdeal.τ).loc Cert.InBwdARefIdeal.main_arg7))
      ∧ r.2.sem = fun _ => 0)

def quiescent_InBwdARefIdeal_pre_norm_finite_a [hInBwdARefIdeal : Cert.InBwdARefIdeal.Facts] [hPre_norm_finite_a : Cert.Pre_norm_finite_a.Facts] : Prop :=
  ∀ (m : (ℓ : Loc Cert.InBwdARefIdeal.nD Cert.InBwdARefIdeal.τ Cert.InBwdARefIdeal.sig) → Buf (Elt Ideal) ℓ) (g : Dev Cert.InBwdARefIdeal.nD → PrngReg), Pre_InBwdARefIdeal_norm_finite_a m →
    θ_run (Cert.InBwdARefIdeal.defs (F := Ideal)) (onTc (τ := Cert.InBwdARefIdeal.τ) (Cert.InBwdARefIdeal.main (F := Ideal))) ⟨m, fun _ => 0, g⟩ (fun r => (∀ c : Dev Cert.InBwdARefIdeal.nD,
      r.2.mem ((c.tc : Thread Cert.InBwdARefIdeal.nD Cert.InBwdARefIdeal.τ).loc Cert.InBwdARefIdeal.main_arg0) = m ((c.tc : Thread Cert.InBwdARefIdeal.nD Cert.InBwdARefIdeal.τ).loc Cert.InBwdARefIdeal.main_arg0)
      ∧ r.2.mem ((c.tc : Thread Cert.InBwdARefIdeal.nD Cert.InBwdARefIdeal.τ).loc Cert.InBwdARefIdeal.main_arg1) = m ((c.tc : Thread Cert.InBwdARefIdeal.nD Cert.InBwdARefIdeal.τ).loc Cert.InBwdARefIdeal.main_arg1)
      ∧ r.2.mem ((c.tc : Thread Cert.InBwdARefIdeal.nD Cert.InBwdARefIdeal.τ).loc Cert.InBwdARefIdeal.main_arg2) = m ((c.tc : Thread Cert.InBwdARefIdeal.nD Cert.InBwdARefIdeal.τ).loc Cert.InBwdARefIdeal.main_arg2)
      ∧ r.2.mem ((c.tc : Thread Cert.InBwdARefIdeal.nD Cert.InBwdARefIdeal.τ).loc Cert.InBwdARefIdeal.main_arg3) = m ((c.tc : Thread Cert.InBwdARefIdeal.nD Cert.InBwdARefIdeal.τ).loc Cert.InBwdARefIdeal.main_arg3)
      ∧ r.2.mem ((c.tc : Thread Cert.InBwdARefIdeal.nD Cert.InBwdARefIdeal.τ).loc Cert.InBwdARefIdeal.main_arg4) = m ((c.tc : Thread Cert.InBwdARefIdeal.nD Cert.InBwdARefIdeal.τ).loc Cert.InBwdARefIdeal.main_arg4)
      ∧ r.2.mem ((c.tc : Thread Cert.InBwdARefIdeal.nD Cert.InBwdARefIdeal.τ).loc Cert.InBwdARefIdeal.main_arg5) = m ((c.tc : Thread Cert.InBwdARefIdeal.nD Cert.InBwdARefIdeal.τ).loc Cert.InBwdARefIdeal.main_arg5)
      ∧ r.2.mem ((c.tc : Thread Cert.InBwdARefIdeal.nD Cert.InBwdARefIdeal.τ).loc Cert.InBwdARefIdeal.main_arg6) = m ((c.tc : Thread Cert.InBwdARefIdeal.nD Cert.InBwdARefIdeal.τ).loc Cert.InBwdARefIdeal.main_arg6)
      ∧ r.2.mem ((c.tc : Thread Cert.InBwdARefIdeal.nD Cert.InBwdARefIdeal.τ).loc Cert.InBwdARefIdeal.main_arg7) = m ((c.tc : Thread Cert.InBwdARefIdeal.nD Cert.InBwdARefIdeal.τ).loc Cert.InBwdARefIdeal.main_arg7))
      ∧ r.2.sem = fun _ => 0)

def quiescent_InBwdB [hInBwdB : Cert.InBwdB.Facts] : Prop :=
  ∀ (m : (ℓ : Loc Cert.InBwdB.nD Cert.InBwdB.τ Cert.InBwdB.sig) → Buf (Elt Bits) ℓ) (g : Dev Cert.InBwdB.nD → PrngReg), Pre_InBwdB m →
    θ_run (Cert.InBwdB.defs (F := Bits)) (onTc (τ := Cert.InBwdB.τ) (Cert.InBwdB.main (F := Bits))) ⟨m, fun _ => 0, g⟩ (fun r => (∀ c : Dev Cert.InBwdB.nD,
      r.2.mem ((c.tc : Thread Cert.InBwdB.nD Cert.InBwdB.τ).loc Cert.InBwdB.main_arg0) = m ((c.tc : Thread Cert.InBwdB.nD Cert.InBwdB.τ).loc Cert.InBwdB.main_arg0)
      ∧ r.2.mem ((c.tc : Thread Cert.InBwdB.nD Cert.InBwdB.τ).loc Cert.InBwdB.main_arg1) = m ((c.tc : Thread Cert.InBwdB.nD Cert.InBwdB.τ).loc Cert.InBwdB.main_arg1)
      ∧ r.2.mem ((c.tc : Thread Cert.InBwdB.nD Cert.InBwdB.τ).loc Cert.InBwdB.main_arg2) = m ((c.tc : Thread Cert.InBwdB.nD Cert.InBwdB.τ).loc Cert.InBwdB.main_arg2)
      ∧ r.2.mem ((c.tc : Thread Cert.InBwdB.nD Cert.InBwdB.τ).loc Cert.InBwdB.main_arg3) = m ((c.tc : Thread Cert.InBwdB.nD Cert.InBwdB.τ).loc Cert.InBwdB.main_arg3)
      ∧ r.2.mem ((c.tc : Thread Cert.InBwdB.nD Cert.InBwdB.τ).loc Cert.InBwdB.main_arg4) = m ((c.tc : Thread Cert.InBwdB.nD Cert.InBwdB.τ).loc Cert.InBwdB.main_arg4)
      ∧ r.2.mem ((c.tc : Thread Cert.InBwdB.nD Cert.InBwdB.τ).loc Cert.InBwdB.main_arg5) = m ((c.tc : Thread Cert.InBwdB.nD Cert.InBwdB.τ).loc Cert.InBwdB.main_arg5))
      ∧ r.2.sem = fun _ => 0)

def quiescent_InBwdBIdeal [hInBwdBIdeal : Cert.InBwdBIdeal.Facts] : Prop :=
  ∀ (m : (ℓ : Loc Cert.InBwdBIdeal.nD Cert.InBwdBIdeal.τ Cert.InBwdBIdeal.sig) → Buf (Elt Ideal) ℓ) (g : Dev Cert.InBwdBIdeal.nD → PrngReg), Pre_InBwdBIdeal m →
    θ_run (Cert.InBwdBIdeal.defs (F := Ideal)) (onTc (τ := Cert.InBwdBIdeal.τ) (Cert.InBwdBIdeal.main (F := Ideal))) ⟨m, fun _ => 0, g⟩ (fun r => (∀ c : Dev Cert.InBwdBIdeal.nD,
      r.2.mem ((c.tc : Thread Cert.InBwdBIdeal.nD Cert.InBwdBIdeal.τ).loc Cert.InBwdBIdeal.main_arg0) = m ((c.tc : Thread Cert.InBwdBIdeal.nD Cert.InBwdBIdeal.τ).loc Cert.InBwdBIdeal.main_arg0)
      ∧ r.2.mem ((c.tc : Thread Cert.InBwdBIdeal.nD Cert.InBwdBIdeal.τ).loc Cert.InBwdBIdeal.main_arg1) = m ((c.tc : Thread Cert.InBwdBIdeal.nD Cert.InBwdBIdeal.τ).loc Cert.InBwdBIdeal.main_arg1)
      ∧ r.2.mem ((c.tc : Thread Cert.InBwdBIdeal.nD Cert.InBwdBIdeal.τ).loc Cert.InBwdBIdeal.main_arg2) = m ((c.tc : Thread Cert.InBwdBIdeal.nD Cert.InBwdBIdeal.τ).loc Cert.InBwdBIdeal.main_arg2)
      ∧ r.2.mem ((c.tc : Thread Cert.InBwdBIdeal.nD Cert.InBwdBIdeal.τ).loc Cert.InBwdBIdeal.main_arg3) = m ((c.tc : Thread Cert.InBwdBIdeal.nD Cert.InBwdBIdeal.τ).loc Cert.InBwdBIdeal.main_arg3)
      ∧ r.2.mem ((c.tc : Thread Cert.InBwdBIdeal.nD Cert.InBwdBIdeal.τ).loc Cert.InBwdBIdeal.main_arg4) = m ((c.tc : Thread Cert.InBwdBIdeal.nD Cert.InBwdBIdeal.τ).loc Cert.InBwdBIdeal.main_arg4)
      ∧ r.2.mem ((c.tc : Thread Cert.InBwdBIdeal.nD Cert.InBwdBIdeal.τ).loc Cert.InBwdBIdeal.main_arg5) = m ((c.tc : Thread Cert.InBwdBIdeal.nD Cert.InBwdBIdeal.τ).loc Cert.InBwdBIdeal.main_arg5))
      ∧ r.2.sem = fun _ => 0)

def quiescent_InBwdBIdeal_pre_norm_finite_b [hInBwdBIdeal : Cert.InBwdBIdeal.Facts] [hPre_norm_finite_b : Cert.Pre_norm_finite_b.Facts] : Prop :=
  ∀ (m : (ℓ : Loc Cert.InBwdBIdeal.nD Cert.InBwdBIdeal.τ Cert.InBwdBIdeal.sig) → Buf (Elt Ideal) ℓ) (g : Dev Cert.InBwdBIdeal.nD → PrngReg), Pre_InBwdBIdeal_norm_finite_b m →
    θ_run (Cert.InBwdBIdeal.defs (F := Ideal)) (onTc (τ := Cert.InBwdBIdeal.τ) (Cert.InBwdBIdeal.main (F := Ideal))) ⟨m, fun _ => 0, g⟩ (fun r => (∀ c : Dev Cert.InBwdBIdeal.nD,
      r.2.mem ((c.tc : Thread Cert.InBwdBIdeal.nD Cert.InBwdBIdeal.τ).loc Cert.InBwdBIdeal.main_arg0) = m ((c.tc : Thread Cert.InBwdBIdeal.nD Cert.InBwdBIdeal.τ).loc Cert.InBwdBIdeal.main_arg0)
      ∧ r.2.mem ((c.tc : Thread Cert.InBwdBIdeal.nD Cert.InBwdBIdeal.τ).loc Cert.InBwdBIdeal.main_arg1) = m ((c.tc : Thread Cert.InBwdBIdeal.nD Cert.InBwdBIdeal.τ).loc Cert.InBwdBIdeal.main_arg1)
      ∧ r.2.mem ((c.tc : Thread Cert.InBwdBIdeal.nD Cert.InBwdBIdeal.τ).loc Cert.InBwdBIdeal.main_arg2) = m ((c.tc : Thread Cert.InBwdBIdeal.nD Cert.InBwdBIdeal.τ).loc Cert.InBwdBIdeal.main_arg2)
      ∧ r.2.mem ((c.tc : Thread Cert.InBwdBIdeal.nD Cert.InBwdBIdeal.τ).loc Cert.InBwdBIdeal.main_arg3) = m ((c.tc : Thread Cert.InBwdBIdeal.nD Cert.InBwdBIdeal.τ).loc Cert.InBwdBIdeal.main_arg3)
      ∧ r.2.mem ((c.tc : Thread Cert.InBwdBIdeal.nD Cert.InBwdBIdeal.τ).loc Cert.InBwdBIdeal.main_arg4) = m ((c.tc : Thread Cert.InBwdBIdeal.nD Cert.InBwdBIdeal.τ).loc Cert.InBwdBIdeal.main_arg4)
      ∧ r.2.mem ((c.tc : Thread Cert.InBwdBIdeal.nD Cert.InBwdBIdeal.τ).loc Cert.InBwdBIdeal.main_arg5) = m ((c.tc : Thread Cert.InBwdBIdeal.nD Cert.InBwdBIdeal.τ).loc Cert.InBwdBIdeal.main_arg5))
      ∧ r.2.sem = fun _ => 0)

def quiescent_InBwdBRefIdeal [hInBwdBRefIdeal : Cert.InBwdBRefIdeal.Facts] : Prop :=
  ∀ (m : (ℓ : Loc Cert.InBwdBRefIdeal.nD Cert.InBwdBRefIdeal.τ Cert.InBwdBRefIdeal.sig) → Buf (Elt Ideal) ℓ) (g : Dev Cert.InBwdBRefIdeal.nD → PrngReg), Pre_InBwdBRefIdeal m →
    θ_run (Cert.InBwdBRefIdeal.defs (F := Ideal)) (onTc (τ := Cert.InBwdBRefIdeal.τ) (Cert.InBwdBRefIdeal.main (F := Ideal))) ⟨m, fun _ => 0, g⟩ (fun r => (∀ c : Dev Cert.InBwdBRefIdeal.nD,
      r.2.mem ((c.tc : Thread Cert.InBwdBRefIdeal.nD Cert.InBwdBRefIdeal.τ).loc Cert.InBwdBRefIdeal.main_arg0) = m ((c.tc : Thread Cert.InBwdBRefIdeal.nD Cert.InBwdBRefIdeal.τ).loc Cert.InBwdBRefIdeal.main_arg0)
      ∧ r.2.mem ((c.tc : Thread Cert.InBwdBRefIdeal.nD Cert.InBwdBRefIdeal.τ).loc Cert.InBwdBRefIdeal.main_arg1) = m ((c.tc : Thread Cert.InBwdBRefIdeal.nD Cert.InBwdBRefIdeal.τ).loc Cert.InBwdBRefIdeal.main_arg1)
      ∧ r.2.mem ((c.tc : Thread Cert.InBwdBRefIdeal.nD Cert.InBwdBRefIdeal.τ).loc Cert.InBwdBRefIdeal.main_arg2) = m ((c.tc : Thread Cert.InBwdBRefIdeal.nD Cert.InBwdBRefIdeal.τ).loc Cert.InBwdBRefIdeal.main_arg2)
      ∧ r.2.mem ((c.tc : Thread Cert.InBwdBRefIdeal.nD Cert.InBwdBRefIdeal.τ).loc Cert.InBwdBRefIdeal.main_arg3) = m ((c.tc : Thread Cert.InBwdBRefIdeal.nD Cert.InBwdBRefIdeal.τ).loc Cert.InBwdBRefIdeal.main_arg3)
      ∧ r.2.mem ((c.tc : Thread Cert.InBwdBRefIdeal.nD Cert.InBwdBRefIdeal.τ).loc Cert.InBwdBRefIdeal.main_arg4) = m ((c.tc : Thread Cert.InBwdBRefIdeal.nD Cert.InBwdBRefIdeal.τ).loc Cert.InBwdBRefIdeal.main_arg4)
      ∧ r.2.mem ((c.tc : Thread Cert.InBwdBRefIdeal.nD Cert.InBwdBRefIdeal.τ).loc Cert.InBwdBRefIdeal.main_arg5) = m ((c.tc : Thread Cert.InBwdBRefIdeal.nD Cert.InBwdBRefIdeal.τ).loc Cert.InBwdBRefIdeal.main_arg5))
      ∧ r.2.sem = fun _ => 0)

def quiescent_InBwdBRefIdeal_pre_norm_finite_b [hInBwdBRefIdeal : Cert.InBwdBRefIdeal.Facts] [hPre_norm_finite_b : Cert.Pre_norm_finite_b.Facts] : Prop :=
  ∀ (m : (ℓ : Loc Cert.InBwdBRefIdeal.nD Cert.InBwdBRefIdeal.τ Cert.InBwdBRefIdeal.sig) → Buf (Elt Ideal) ℓ) (g : Dev Cert.InBwdBRefIdeal.nD → PrngReg), Pre_InBwdBRefIdeal_norm_finite_b m →
    θ_run (Cert.InBwdBRefIdeal.defs (F := Ideal)) (onTc (τ := Cert.InBwdBRefIdeal.τ) (Cert.InBwdBRefIdeal.main (F := Ideal))) ⟨m, fun _ => 0, g⟩ (fun r => (∀ c : Dev Cert.InBwdBRefIdeal.nD,
      r.2.mem ((c.tc : Thread Cert.InBwdBRefIdeal.nD Cert.InBwdBRefIdeal.τ).loc Cert.InBwdBRefIdeal.main_arg0) = m ((c.tc : Thread Cert.InBwdBRefIdeal.nD Cert.InBwdBRefIdeal.τ).loc Cert.InBwdBRefIdeal.main_arg0)
      ∧ r.2.mem ((c.tc : Thread Cert.InBwdBRefIdeal.nD Cert.InBwdBRefIdeal.τ).loc Cert.InBwdBRefIdeal.main_arg1) = m ((c.tc : Thread Cert.InBwdBRefIdeal.nD Cert.InBwdBRefIdeal.τ).loc Cert.InBwdBRefIdeal.main_arg1)
      ∧ r.2.mem ((c.tc : Thread Cert.InBwdBRefIdeal.nD Cert.InBwdBRefIdeal.τ).loc Cert.InBwdBRefIdeal.main_arg2) = m ((c.tc : Thread Cert.InBwdBRefIdeal.nD Cert.InBwdBRefIdeal.τ).loc Cert.InBwdBRefIdeal.main_arg2)
      ∧ r.2.mem ((c.tc : Thread Cert.InBwdBRefIdeal.nD Cert.InBwdBRefIdeal.τ).loc Cert.InBwdBRefIdeal.main_arg3) = m ((c.tc : Thread Cert.InBwdBRefIdeal.nD Cert.InBwdBRefIdeal.τ).loc Cert.InBwdBRefIdeal.main_arg3)
      ∧ r.2.mem ((c.tc : Thread Cert.InBwdBRefIdeal.nD Cert.InBwdBRefIdeal.τ).loc Cert.InBwdBRefIdeal.main_arg4) = m ((c.tc : Thread Cert.InBwdBRefIdeal.nD Cert.InBwdBRefIdeal.τ).loc Cert.InBwdBRefIdeal.main_arg4)
      ∧ r.2.mem ((c.tc : Thread Cert.InBwdBRefIdeal.nD Cert.InBwdBRefIdeal.τ).loc Cert.InBwdBRefIdeal.main_arg5) = m ((c.tc : Thread Cert.InBwdBRefIdeal.nD Cert.InBwdBRefIdeal.τ).loc Cert.InBwdBRefIdeal.main_arg5))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5)
      ∧ r.2.mem ((c.tc : Thread Cert.DownFwd.nD Cert.DownFwd.τ).loc Cert.DownFwd.main_arg6) = m ((c.tc : Thread Cert.DownFwd.nD Cert.DownFwd.τ).loc Cert.DownFwd.main_arg6))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
      ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5)
      ∧ r.2.mem ((c.tc : Thread Cert.DownFwdRefIdeal.nD Cert.DownFwdRefIdeal.τ).loc Cert.DownFwdRefIdeal.main_arg6) = m ((c.tc : Thread Cert.DownFwdRefIdeal.nD Cert.DownFwdRefIdeal.τ).loc Cert.DownFwdRefIdeal.main_arg6))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6)
      ∧ r.2.mem ((c.tc : Thread Cert.OutFwd.nD Cert.OutFwd.τ).loc Cert.OutFwd.main_arg7) = m ((c.tc : Thread Cert.OutFwd.nD Cert.OutFwd.τ).loc Cert.OutFwd.main_arg7))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
      ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5)
      ∧ r.2.mem ((c.tc : Thread Cert.OutFwdRefIdeal.nD Cert.OutFwdRefIdeal.τ).loc Cert.OutFwdRefIdeal.main_arg6) = m ((c.tc : Thread Cert.OutFwdRefIdeal.nD Cert.OutFwdRefIdeal.τ).loc Cert.OutFwdRefIdeal.main_arg6)
      ∧ r.2.mem ((c.tc : Thread Cert.OutFwdRefIdeal.nD Cert.OutFwdRefIdeal.τ).loc Cert.OutFwdRefIdeal.main_arg7) = m ((c.tc : Thread Cert.OutFwdRefIdeal.nD Cert.OutFwdRefIdeal.τ).loc Cert.OutFwdRefIdeal.main_arg7))
      ∧ r.2.sem = fun _ => 0)

def quiescent_OutFwdX [hOutFwdX : Cert.OutFwdX.Facts] : Prop :=
  ∀ (m : (ℓ : Loc Cert.OutFwdX.nD Cert.OutFwdX.τ Cert.OutFwdX.sig) → Buf (Elt Bits) ℓ) (g : Dev Cert.OutFwdX.nD → PrngReg), Pre_OutFwdX m →
    θ_run (Cert.OutFwdX.defs (F := Bits)) (onTc (τ := Cert.OutFwdX.τ) (Cert.OutFwdX.main (F := Bits))) ⟨m, fun _ => 0, g⟩ (fun r => (∀ c : Dev Cert.OutFwdX.nD,
      r.2.mem ((c.tc : Thread Cert.OutFwdX.nD Cert.OutFwdX.τ).loc Cert.OutFwdX.main_arg0) = m ((c.tc : Thread Cert.OutFwdX.nD Cert.OutFwdX.τ).loc Cert.OutFwdX.main_arg0)
      ∧ r.2.mem ((c.tc : Thread Cert.OutFwdX.nD Cert.OutFwdX.τ).loc Cert.OutFwdX.main_arg1) = m ((c.tc : Thread Cert.OutFwdX.nD Cert.OutFwdX.τ).loc Cert.OutFwdX.main_arg1)
      ∧ r.2.mem ((c.tc : Thread Cert.OutFwdX.nD Cert.OutFwdX.τ).loc Cert.OutFwdX.main_arg2) = m ((c.tc : Thread Cert.OutFwdX.nD Cert.OutFwdX.τ).loc Cert.OutFwdX.main_arg2)
      ∧ r.2.mem ((c.tc : Thread Cert.OutFwdX.nD Cert.OutFwdX.τ).loc Cert.OutFwdX.main_arg3) = m ((c.tc : Thread Cert.OutFwdX.nD Cert.OutFwdX.τ).loc Cert.OutFwdX.main_arg3)
      ∧ r.2.mem ((c.tc : Thread Cert.OutFwdX.nD Cert.OutFwdX.τ).loc Cert.OutFwdX.main_arg4) = m ((c.tc : Thread Cert.OutFwdX.nD Cert.OutFwdX.τ).loc Cert.OutFwdX.main_arg4)
      ∧ r.2.mem ((c.tc : Thread Cert.OutFwdX.nD Cert.OutFwdX.τ).loc Cert.OutFwdX.main_arg5) = m ((c.tc : Thread Cert.OutFwdX.nD Cert.OutFwdX.τ).loc Cert.OutFwdX.main_arg5))
      ∧ r.2.sem = fun _ => 0)

def quiescent_OutFwdXIdeal [hOutFwdXIdeal : Cert.OutFwdXIdeal.Facts] : Prop :=
  ∀ (m : (ℓ : Loc Cert.OutFwdXIdeal.nD Cert.OutFwdXIdeal.τ Cert.OutFwdXIdeal.sig) → Buf (Elt Ideal) ℓ) (g : Dev Cert.OutFwdXIdeal.nD → PrngReg), Pre_OutFwdXIdeal m →
    θ_run (Cert.OutFwdXIdeal.defs (F := Ideal)) (onTc (τ := Cert.OutFwdXIdeal.τ) (Cert.OutFwdXIdeal.main (F := Ideal))) ⟨m, fun _ => 0, g⟩ (fun r => (∀ c : Dev Cert.OutFwdXIdeal.nD,
      r.2.mem ((c.tc : Thread Cert.OutFwdXIdeal.nD Cert.OutFwdXIdeal.τ).loc Cert.OutFwdXIdeal.main_arg0) = m ((c.tc : Thread Cert.OutFwdXIdeal.nD Cert.OutFwdXIdeal.τ).loc Cert.OutFwdXIdeal.main_arg0)
      ∧ r.2.mem ((c.tc : Thread Cert.OutFwdXIdeal.nD Cert.OutFwdXIdeal.τ).loc Cert.OutFwdXIdeal.main_arg1) = m ((c.tc : Thread Cert.OutFwdXIdeal.nD Cert.OutFwdXIdeal.τ).loc Cert.OutFwdXIdeal.main_arg1)
      ∧ r.2.mem ((c.tc : Thread Cert.OutFwdXIdeal.nD Cert.OutFwdXIdeal.τ).loc Cert.OutFwdXIdeal.main_arg2) = m ((c.tc : Thread Cert.OutFwdXIdeal.nD Cert.OutFwdXIdeal.τ).loc Cert.OutFwdXIdeal.main_arg2)
      ∧ r.2.mem ((c.tc : Thread Cert.OutFwdXIdeal.nD Cert.OutFwdXIdeal.τ).loc Cert.OutFwdXIdeal.main_arg3) = m ((c.tc : Thread Cert.OutFwdXIdeal.nD Cert.OutFwdXIdeal.τ).loc Cert.OutFwdXIdeal.main_arg3)
      ∧ r.2.mem ((c.tc : Thread Cert.OutFwdXIdeal.nD Cert.OutFwdXIdeal.τ).loc Cert.OutFwdXIdeal.main_arg4) = m ((c.tc : Thread Cert.OutFwdXIdeal.nD Cert.OutFwdXIdeal.τ).loc Cert.OutFwdXIdeal.main_arg4)
      ∧ r.2.mem ((c.tc : Thread Cert.OutFwdXIdeal.nD Cert.OutFwdXIdeal.τ).loc Cert.OutFwdXIdeal.main_arg5) = m ((c.tc : Thread Cert.OutFwdXIdeal.nD Cert.OutFwdXIdeal.τ).loc Cert.OutFwdXIdeal.main_arg5))
      ∧ r.2.sem = fun _ => 0)

def quiescent_OutFwdXRefIdeal [hOutFwdXRefIdeal : Cert.OutFwdXRefIdeal.Facts] : Prop :=
  ∀ (m : (ℓ : Loc Cert.OutFwdXRefIdeal.nD Cert.OutFwdXRefIdeal.τ Cert.OutFwdXRefIdeal.sig) → Buf (Elt Ideal) ℓ) (g : Dev Cert.OutFwdXRefIdeal.nD → PrngReg), Pre_OutFwdXRefIdeal m →
    θ_run (Cert.OutFwdXRefIdeal.defs (F := Ideal)) (onTc (τ := Cert.OutFwdXRefIdeal.τ) (Cert.OutFwdXRefIdeal.main (F := Ideal))) ⟨m, fun _ => 0, g⟩ (fun r => (∀ c : Dev Cert.OutFwdXRefIdeal.nD,
      r.2.mem ((c.tc : Thread Cert.OutFwdXRefIdeal.nD Cert.OutFwdXRefIdeal.τ).loc Cert.OutFwdXRefIdeal.main_arg0) = m ((c.tc : Thread Cert.OutFwdXRefIdeal.nD Cert.OutFwdXRefIdeal.τ).loc Cert.OutFwdXRefIdeal.main_arg0)
      ∧ r.2.mem ((c.tc : Thread Cert.OutFwdXRefIdeal.nD Cert.OutFwdXRefIdeal.τ).loc Cert.OutFwdXRefIdeal.main_arg1) = m ((c.tc : Thread Cert.OutFwdXRefIdeal.nD Cert.OutFwdXRefIdeal.τ).loc Cert.OutFwdXRefIdeal.main_arg1)
      ∧ r.2.mem ((c.tc : Thread Cert.OutFwdXRefIdeal.nD Cert.OutFwdXRefIdeal.τ).loc Cert.OutFwdXRefIdeal.main_arg2) = m ((c.tc : Thread Cert.OutFwdXRefIdeal.nD Cert.OutFwdXRefIdeal.τ).loc Cert.OutFwdXRefIdeal.main_arg2)
      ∧ r.2.mem ((c.tc : Thread Cert.OutFwdXRefIdeal.nD Cert.OutFwdXRefIdeal.τ).loc Cert.OutFwdXRefIdeal.main_arg3) = m ((c.tc : Thread Cert.OutFwdXRefIdeal.nD Cert.OutFwdXRefIdeal.τ).loc Cert.OutFwdXRefIdeal.main_arg3)
      ∧ r.2.mem ((c.tc : Thread Cert.OutFwdXRefIdeal.nD Cert.OutFwdXRefIdeal.τ).loc Cert.OutFwdXRefIdeal.main_arg4) = m ((c.tc : Thread Cert.OutFwdXRefIdeal.nD Cert.OutFwdXRefIdeal.τ).loc Cert.OutFwdXRefIdeal.main_arg4)
      ∧ r.2.mem ((c.tc : Thread Cert.OutFwdXRefIdeal.nD Cert.OutFwdXRefIdeal.τ).loc Cert.OutFwdXRefIdeal.main_arg5) = m ((c.tc : Thread Cert.OutFwdXRefIdeal.nD Cert.OutFwdXRefIdeal.τ).loc Cert.OutFwdXRefIdeal.main_arg5))
      ∧ r.2.sem = fun _ => 0)

def quiescent_InFwdA [hInFwdA : Cert.InFwdA.Facts] : Prop :=
  ∀ (m : (ℓ : Loc Cert.InFwdA.nD Cert.InFwdA.τ Cert.InFwdA.sig) → Buf (Elt Bits) ℓ) (g : Dev Cert.InFwdA.nD → PrngReg), Pre_InFwdA m →
    θ_run (Cert.InFwdA.defs (F := Bits)) (onTc (τ := Cert.InFwdA.τ) (Cert.InFwdA.main (F := Bits))) ⟨m, fun _ => 0, g⟩ (fun r => (∀ c : Dev Cert.InFwdA.nD,
      r.2.mem ((c.tc : Thread Cert.InFwdA.nD Cert.InFwdA.τ).loc Cert.InFwdA.main_arg0) = m ((c.tc : Thread Cert.InFwdA.nD Cert.InFwdA.τ).loc Cert.InFwdA.main_arg0)
      ∧ r.2.mem ((c.tc : Thread Cert.InFwdA.nD Cert.InFwdA.τ).loc Cert.InFwdA.main_arg1) = m ((c.tc : Thread Cert.InFwdA.nD Cert.InFwdA.τ).loc Cert.InFwdA.main_arg1))
      ∧ r.2.sem = fun _ => 0)

def quiescent_InFwdAIdeal [hInFwdAIdeal : Cert.InFwdAIdeal.Facts] : Prop :=
  ∀ (m : (ℓ : Loc Cert.InFwdAIdeal.nD Cert.InFwdAIdeal.τ Cert.InFwdAIdeal.sig) → Buf (Elt Ideal) ℓ) (g : Dev Cert.InFwdAIdeal.nD → PrngReg), Pre_InFwdAIdeal m →
    θ_run (Cert.InFwdAIdeal.defs (F := Ideal)) (onTc (τ := Cert.InFwdAIdeal.τ) (Cert.InFwdAIdeal.main (F := Ideal))) ⟨m, fun _ => 0, g⟩ (fun r => (∀ c : Dev Cert.InFwdAIdeal.nD,
      r.2.mem ((c.tc : Thread Cert.InFwdAIdeal.nD Cert.InFwdAIdeal.τ).loc Cert.InFwdAIdeal.main_arg0) = m ((c.tc : Thread Cert.InFwdAIdeal.nD Cert.InFwdAIdeal.τ).loc Cert.InFwdAIdeal.main_arg0)
      ∧ r.2.mem ((c.tc : Thread Cert.InFwdAIdeal.nD Cert.InFwdAIdeal.τ).loc Cert.InFwdAIdeal.main_arg1) = m ((c.tc : Thread Cert.InFwdAIdeal.nD Cert.InFwdAIdeal.τ).loc Cert.InFwdAIdeal.main_arg1))
      ∧ r.2.sem = fun _ => 0)

def quiescent_InFwdARefIdeal [hInFwdARefIdeal : Cert.InFwdARefIdeal.Facts] : Prop :=
  ∀ (m : (ℓ : Loc Cert.InFwdARefIdeal.nD Cert.InFwdARefIdeal.τ Cert.InFwdARefIdeal.sig) → Buf (Elt Ideal) ℓ) (g : Dev Cert.InFwdARefIdeal.nD → PrngReg), Pre_InFwdARefIdeal m →
    θ_run (Cert.InFwdARefIdeal.defs (F := Ideal)) (onTc (τ := Cert.InFwdARefIdeal.τ) (Cert.InFwdARefIdeal.main (F := Ideal))) ⟨m, fun _ => 0, g⟩ (fun r => (∀ c : Dev Cert.InFwdARefIdeal.nD,
      r.2.mem ((c.tc : Thread Cert.InFwdARefIdeal.nD Cert.InFwdARefIdeal.τ).loc Cert.InFwdARefIdeal.main_arg0) = m ((c.tc : Thread Cert.InFwdARefIdeal.nD Cert.InFwdARefIdeal.τ).loc Cert.InFwdARefIdeal.main_arg0)
      ∧ r.2.mem ((c.tc : Thread Cert.InFwdARefIdeal.nD Cert.InFwdARefIdeal.τ).loc Cert.InFwdARefIdeal.main_arg1) = m ((c.tc : Thread Cert.InFwdARefIdeal.nD Cert.InFwdARefIdeal.τ).loc Cert.InFwdARefIdeal.main_arg1))
      ∧ r.2.sem = fun _ => 0)

def quiescent_InFwdB [hInFwdB : Cert.InFwdB.Facts] : Prop :=
  ∀ (m : (ℓ : Loc Cert.InFwdB.nD Cert.InFwdB.τ Cert.InFwdB.sig) → Buf (Elt Bits) ℓ) (g : Dev Cert.InFwdB.nD → PrngReg), Pre_InFwdB m →
    θ_run (Cert.InFwdB.defs (F := Bits)) (onTc (τ := Cert.InFwdB.τ) (Cert.InFwdB.main (F := Bits))) ⟨m, fun _ => 0, g⟩ (fun r => (∀ c : Dev Cert.InFwdB.nD,
      r.2.mem ((c.tc : Thread Cert.InFwdB.nD Cert.InFwdB.τ).loc Cert.InFwdB.main_arg0) = m ((c.tc : Thread Cert.InFwdB.nD Cert.InFwdB.τ).loc Cert.InFwdB.main_arg0)
      ∧ r.2.mem ((c.tc : Thread Cert.InFwdB.nD Cert.InFwdB.τ).loc Cert.InFwdB.main_arg1) = m ((c.tc : Thread Cert.InFwdB.nD Cert.InFwdB.τ).loc Cert.InFwdB.main_arg1))
      ∧ r.2.sem = fun _ => 0)

def quiescent_InFwdBIdeal [hInFwdBIdeal : Cert.InFwdBIdeal.Facts] : Prop :=
  ∀ (m : (ℓ : Loc Cert.InFwdBIdeal.nD Cert.InFwdBIdeal.τ Cert.InFwdBIdeal.sig) → Buf (Elt Ideal) ℓ) (g : Dev Cert.InFwdBIdeal.nD → PrngReg), Pre_InFwdBIdeal m →
    θ_run (Cert.InFwdBIdeal.defs (F := Ideal)) (onTc (τ := Cert.InFwdBIdeal.τ) (Cert.InFwdBIdeal.main (F := Ideal))) ⟨m, fun _ => 0, g⟩ (fun r => (∀ c : Dev Cert.InFwdBIdeal.nD,
      r.2.mem ((c.tc : Thread Cert.InFwdBIdeal.nD Cert.InFwdBIdeal.τ).loc Cert.InFwdBIdeal.main_arg0) = m ((c.tc : Thread Cert.InFwdBIdeal.nD Cert.InFwdBIdeal.τ).loc Cert.InFwdBIdeal.main_arg0)
      ∧ r.2.mem ((c.tc : Thread Cert.InFwdBIdeal.nD Cert.InFwdBIdeal.τ).loc Cert.InFwdBIdeal.main_arg1) = m ((c.tc : Thread Cert.InFwdBIdeal.nD Cert.InFwdBIdeal.τ).loc Cert.InFwdBIdeal.main_arg1))
      ∧ r.2.sem = fun _ => 0)

def quiescent_InFwdBRefIdeal [hInFwdBRefIdeal : Cert.InFwdBRefIdeal.Facts] : Prop :=
  ∀ (m : (ℓ : Loc Cert.InFwdBRefIdeal.nD Cert.InFwdBRefIdeal.τ Cert.InFwdBRefIdeal.sig) → Buf (Elt Ideal) ℓ) (g : Dev Cert.InFwdBRefIdeal.nD → PrngReg), Pre_InFwdBRefIdeal m →
    θ_run (Cert.InFwdBRefIdeal.defs (F := Ideal)) (onTc (τ := Cert.InFwdBRefIdeal.τ) (Cert.InFwdBRefIdeal.main (F := Ideal))) ⟨m, fun _ => 0, g⟩ (fun r => (∀ c : Dev Cert.InFwdBRefIdeal.nD,
      r.2.mem ((c.tc : Thread Cert.InFwdBRefIdeal.nD Cert.InFwdBRefIdeal.τ).loc Cert.InFwdBRefIdeal.main_arg0) = m ((c.tc : Thread Cert.InFwdBRefIdeal.nD Cert.InFwdBRefIdeal.τ).loc Cert.InFwdBRefIdeal.main_arg0)
      ∧ r.2.mem ((c.tc : Thread Cert.InFwdBRefIdeal.nD Cert.InFwdBRefIdeal.τ).loc Cert.InFwdBRefIdeal.main_arg1) = m ((c.tc : Thread Cert.InFwdBRefIdeal.nD Cert.InFwdBRefIdeal.τ).loc Cert.InFwdBRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_GradMem [hGradMem : Cert.GradMem.Facts] : Prop :=
  ∀ (m : (ℓ : Loc Cert.GradMem.nD Cert.GradMem.τ Cert.GradMem.sig) → Buf (Elt Bits) ℓ) (g : Dev Cert.GradMem.nD → PrngReg), Pre_GradMem m →
    θ_run (Cert.GradMem.defs (F := Bits)) (onTc (τ := Cert.GradMem.τ) (Cert.GradMem.main (F := Bits))) ⟨m, fun _ => 0, g⟩ (fun r => (∀ c : Dev Cert.GradMem.nD,
      r.2.mem ((c.tc : Thread Cert.GradMem.nD Cert.GradMem.τ).loc Cert.GradMem.main_arg0) = m ((c.tc : Thread Cert.GradMem.nD Cert.GradMem.τ).loc Cert.GradMem.main_arg0)
      ∧ r.2.mem ((c.tc : Thread Cert.GradMem.nD Cert.GradMem.τ).loc Cert.GradMem.main_arg1) = m ((c.tc : Thread Cert.GradMem.nD Cert.GradMem.τ).loc Cert.GradMem.main_arg1))
      ∧ r.2.sem = fun _ => 0)

def quiescent_GradMemIdeal [hGradMemIdeal : Cert.GradMemIdeal.Facts] : Prop :=
  ∀ (m : (ℓ : Loc Cert.GradMemIdeal.nD Cert.GradMemIdeal.τ Cert.GradMemIdeal.sig) → Buf (Elt Ideal) ℓ) (g : Dev Cert.GradMemIdeal.nD → PrngReg), Pre_GradMemIdeal m →
    θ_run (Cert.GradMemIdeal.defs (F := Ideal)) (onTc (τ := Cert.GradMemIdeal.τ) (Cert.GradMemIdeal.main (F := Ideal))) ⟨m, fun _ => 0, g⟩ (fun r => (∀ c : Dev Cert.GradMemIdeal.nD,
      r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
      ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ r.2.sem = fun _ => 0)

def quiescent_GradMemRefIdeal [hGradMemRefIdeal : Cert.GradMemRefIdeal.Facts] : Prop :=
  ∀ (m : (ℓ : Loc Cert.GradMemRefIdeal.nD Cert.GradMemRefIdeal.τ Cert.GradMemRefIdeal.sig) → Buf (Elt Ideal) ℓ) (g : Dev Cert.GradMemRefIdeal.nD → PrngReg), Pre_GradMemRefIdeal m →
    θ_run (Cert.GradMemRefIdeal.defs (F := Ideal)) (onTc (τ := Cert.GradMemRefIdeal.τ) (Cert.GradMemRefIdeal.main (F := Ideal))) ⟨m, fun _ => 0, g⟩ (fun r => (∀ c : Dev Cert.GradMemRefIdeal.nD,
      r.2.mem ((c.tc : Thread Cert.GradMemRefIdeal.nD Cert.GradMemRefIdeal.τ).loc Cert.GradMemRefIdeal.main_arg0) = m ((c.tc : Thread Cert.GradMemRefIdeal.nD Cert.GradMemRefIdeal.τ).loc Cert.GradMemRefIdeal.main_arg0)
      ∧ r.2.mem ((c.tc : Thread Cert.GradMemRefIdeal.nD Cert.GradMemRefIdeal.τ).loc Cert.GradMemRefIdeal.main_arg1) = m ((c.tc : Thread Cert.GradMemRefIdeal.nD Cert.GradMemRefIdeal.τ).loc Cert.GradMemRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownBwd_DownBwdIdeal : Prop :=
  True

def algebraic_DownBwdIdeal_DownBwdRefIdeal_pre_factors_finite [hDownBwdIdeal : Cert.DownBwdIdeal.Facts] [hDownBwdRefIdeal : Cert.DownBwdRefIdeal.Facts] [hPre_factors_finite : Cert.Pre_factors_finite.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal_factors_finite m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)
      ∧ m' ((c.tc : Thread Cert.DownBwdRefIdeal.nD Cert.DownBwdRefIdeal.τ).loc Cert.DownBwdRefIdeal.main_arg4) = m ((c.tc : Thread Cert.DownBwdIdeal.nD Cert.DownBwdIdeal.τ).loc Cert.DownBwdIdeal.main_arg4)) →
    ∃ (v0 : (c : Dev Cert.DownBwdIdeal.nD) → Buf (Elt Ideal) ((c.tc : Thread Cert.DownBwdIdeal.nD Cert.DownBwdIdeal.τ).loc Cert.DownBwdIdeal.main_v20)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v20) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3)
          ∧ r.2.mem ((c.tc : Thread Cert.DownBwdIdeal.nD Cert.DownBwdIdeal.τ).loc Cert.DownBwdIdeal.main_arg4) = m ((c.tc : Thread Cert.DownBwdIdeal.nD Cert.DownBwdIdeal.τ).loc Cert.DownBwdIdeal.main_arg4))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v17) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3)
          ∧ r.2.mem ((c.tc : Thread Cert.DownBwdRefIdeal.nD Cert.DownBwdRefIdeal.τ).loc Cert.DownBwdRefIdeal.main_arg4) = m' ((c.tc : Thread Cert.DownBwdRefIdeal.nD Cert.DownBwdRefIdeal.τ).loc Cert.DownBwdRefIdeal.main_arg4))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)
      ∧ m' ((c.tc : Thread Cert.GradDownRefIdeal.nD Cert.GradDownRefIdeal.τ).loc Cert.GradDownRefIdeal.main_arg2) = m ((c.tc : Thread Cert.GradDownIdeal.nD Cert.GradDownIdeal.τ).loc Cert.GradDownIdeal.main_arg2)
      ∧ m' ((c.tc : Thread Cert.GradDownRefIdeal.nD Cert.GradDownRefIdeal.τ).loc Cert.GradDownRefIdeal.main_arg3) = m ((c.tc : Thread Cert.GradDownIdeal.nD Cert.GradDownIdeal.τ).loc Cert.GradDownIdeal.main_arg3)) →
    ∃ (v0 : (c : Dev Cert.GradDownIdeal.nD) → Buf (Elt Ideal) ((c.tc : Thread Cert.GradDownIdeal.nD Cert.GradDownIdeal.τ).loc Cert.GradDownIdeal.main_v20)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v20) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1)
          ∧ r.2.mem ((c.tc : Thread Cert.GradDownIdeal.nD Cert.GradDownIdeal.τ).loc Cert.GradDownIdeal.main_arg2) = m ((c.tc : Thread Cert.GradDownIdeal.nD Cert.GradDownIdeal.τ).loc Cert.GradDownIdeal.main_arg2)
          ∧ r.2.mem ((c.tc : Thread Cert.GradDownIdeal.nD Cert.GradDownIdeal.τ).loc Cert.GradDownIdeal.main_arg3) = m ((c.tc : Thread Cert.GradDownIdeal.nD Cert.GradDownIdeal.τ).loc Cert.GradDownIdeal.main_arg3))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v12) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1)
          ∧ r.2.mem ((c.tc : Thread Cert.GradDownRefIdeal.nD Cert.GradDownRefIdeal.τ).loc Cert.GradDownRefIdeal.main_arg2) = m' ((c.tc : Thread Cert.GradDownRefIdeal.nD Cert.GradDownRefIdeal.τ).loc Cert.GradDownRefIdeal.main_arg2)
          ∧ r.2.mem ((c.tc : Thread Cert.GradDownRefIdeal.nD Cert.GradDownRefIdeal.τ).loc Cert.GradDownRefIdeal.main_arg3) = m' ((c.tc : Thread Cert.GradDownRefIdeal.nD Cert.GradDownRefIdeal.τ).loc Cert.GradDownRefIdeal.main_arg3))

def preserves_GradGate_GradGateIdeal : Prop :=
  True

def algebraic_GradGateIdeal_GradGateRefIdeal [hGradGateIdeal : Cert.GradGateIdeal.Facts] [hGradGateRefIdeal : Cert.GradGateRefIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.GradGateRefIdeal.nD Cert.GradGateRefIdeal.τ Cert.GradGateRefIdeal.sig) → Buf (Elt Ideal) ℓ) (g' : Dev Cert.GradGateRefIdeal.nD → PrngReg), Pre_GradGateIdeal m →
    (∀ c : Dev Cert.GradGateIdeal.nD,
      m' ((c.tc : Thread Cert.GradGateRefIdeal.nD Cert.GradGateRefIdeal.τ).loc Cert.GradGateRefIdeal.main_arg0) = m ((c.tc : Thread Cert.GradGateIdeal.nD Cert.GradGateIdeal.τ).loc Cert.GradGateIdeal.main_arg0)
      ∧ m' ((c.tc : Thread Cert.GradGateRefIdeal.nD Cert.GradGateRefIdeal.τ).loc Cert.GradGateRefIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.GradGateRefIdeal.defs (F := Ideal)) (onTc (τ := Cert.GradGateRefIdeal.τ) (Cert.GradGateRefIdeal.main (F := Ideal))) ⟨m', fun _ => 0, g'⟩ (fun r => ∀ c : Dev Cert.GradGateRefIdeal.nD,
          r.2.mem ((c.tc : Thread Cert.GradGateRefIdeal.nD Cert.GradGateRefIdeal.τ).loc Cert.GradGateRefIdeal.main_v8) = v0 c
          ∧ r.2.mem ((c.tc : Thread Cert.GradGateRefIdeal.nD Cert.GradGateRefIdeal.τ).loc Cert.GradGateRefIdeal.main_arg0) = m' ((c.tc : Thread Cert.GradGateRefIdeal.nD Cert.GradGateRefIdeal.τ).loc Cert.GradGateRefIdeal.main_arg0)
          ∧ r.2.mem ((c.tc : Thread Cert.GradGateRefIdeal.nD Cert.GradGateRefIdeal.τ).loc Cert.GradGateRefIdeal.main_arg1) = m' ((c.tc : Thread Cert.GradGateRefIdeal.nD Cert.GradGateRefIdeal.τ).loc Cert.GradGateRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v8) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_UpBwd_UpBwdIdeal : Prop :=
  True

def algebraic_UpBwdIdeal_UpBwdRefIdeal_pre_norm_finite [hUpBwdIdeal : Cert.UpBwdIdeal.Facts] [hUpBwdRefIdeal : Cert.UpBwdRefIdeal.Facts] [hPre_norm_finite : Cert.Pre_norm_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal_norm_finite m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v0_1)) (v2 : (c : Dev Cert.UpBwdIdeal.nD) → Buf (Elt Ideal) ((c.tc : Thread Cert.UpBwdIdeal.nD Cert.UpBwdIdeal.τ).loc Cert.UpBwdIdeal.main_v0_2)) (v3 : (c : Dev Cert.UpBwdIdeal.nD) → Buf (Elt Ideal) ((c.tc : Thread Cert.UpBwdIdeal.nD Cert.UpBwdIdeal.τ).loc Cert.UpBwdIdeal.main_v0_3)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v0_1) = v1 c
          ∧ r.2.mem ((c.tc : Thread Cert.UpBwdIdeal.nD Cert.UpBwdIdeal.τ).loc Cert.UpBwdIdeal.main_v0_2) = v2 c
          ∧ r.2.mem ((c.tc : Thread Cert.UpBwdIdeal.nD Cert.UpBwdIdeal.τ).loc Cert.UpBwdIdeal.main_v0_3) = v3 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v76) = v0 c
          ∧ r.2.mem ((c.tc : Thread Cert.UpBwdRefIdeal.nD Cert.UpBwdRefIdeal.τ).loc Cert.UpBwdRefIdeal.main_v77) = v1 c
          ∧ r.2.mem ((c.tc : Thread Cert.UpBwdRefIdeal.nD Cert.UpBwdRefIdeal.τ).loc Cert.UpBwdRefIdeal.main_v50) = v2 c
          ∧ r.2.mem ((c.tc : Thread Cert.UpBwdRefIdeal.nD Cert.UpBwdRefIdeal.τ).loc Cert.UpBwdRefIdeal.main_v47) = v3 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v10) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)
      ∧ m' ((c.tc : Thread Cert.GradOutRefIdeal.nD Cert.GradOutRefIdeal.τ).loc Cert.GradOutRefIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v7) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1)
          ∧ r.2.mem ((c.tc : Thread Cert.GradOutRefIdeal.nD Cert.GradOutRefIdeal.τ).loc Cert.GradOutRefIdeal.main_arg2) = m' ((c.tc : Thread Cert.GradOutRefIdeal.nD Cert.GradOutRefIdeal.τ).loc Cert.GradOutRefIdeal.main_arg2))

def preserves_InBwdX_InBwdXIdeal : Prop :=
  True

def algebraic_InBwdXIdeal_InBwdXRefIdeal [hInBwdXIdeal : Cert.InBwdXIdeal.Facts] [hInBwdXRefIdeal : Cert.InBwdXRefIdeal.Facts] : Prop :=
  ∀ (m : (ℓ : Loc Cert.InBwdXIdeal.nD Cert.InBwdXIdeal.τ Cert.InBwdXIdeal.sig) → Buf (Elt Ideal) ℓ) (g : Dev Cert.InBwdXIdeal.nD → PrngReg)
    (m' : (ℓ : Loc Cert.InBwdXRefIdeal.nD Cert.InBwdXRefIdeal.τ Cert.InBwdXRefIdeal.sig) → Buf (Elt Ideal) ℓ) (g' : Dev Cert.InBwdXRefIdeal.nD → PrngReg), Pre_InBwdXIdeal m →
    (∀ c : Dev Cert.InBwdXIdeal.nD,
      m' ((c.tc : Thread Cert.InBwdXRefIdeal.nD Cert.InBwdXRefIdeal.τ).loc Cert.InBwdXRefIdeal.main_arg0) = m ((c.tc : Thread Cert.InBwdXIdeal.nD Cert.InBwdXIdeal.τ).loc Cert.InBwdXIdeal.main_arg0)
      ∧ m' ((c.tc : Thread Cert.InBwdXRefIdeal.nD Cert.InBwdXRefIdeal.τ).loc Cert.InBwdXRefIdeal.main_arg1) = m ((c.tc : Thread Cert.InBwdXIdeal.nD Cert.InBwdXIdeal.τ).loc Cert.InBwdXIdeal.main_arg1)
      ∧ m' ((c.tc : Thread Cert.InBwdXRefIdeal.nD Cert.InBwdXRefIdeal.τ).loc Cert.InBwdXRefIdeal.main_arg2) = m ((c.tc : Thread Cert.InBwdXIdeal.nD Cert.InBwdXIdeal.τ).loc Cert.InBwdXIdeal.main_arg2)
      ∧ m' ((c.tc : Thread Cert.InBwdXRefIdeal.nD Cert.InBwdXRefIdeal.τ).loc Cert.InBwdXRefIdeal.main_arg3) = m ((c.tc : Thread Cert.InBwdXIdeal.nD Cert.InBwdXIdeal.τ).loc Cert.InBwdXIdeal.main_arg3)
      ∧ m' ((c.tc : Thread Cert.InBwdXRefIdeal.nD Cert.InBwdXRefIdeal.τ).loc Cert.InBwdXRefIdeal.main_arg4) = m ((c.tc : Thread Cert.InBwdXIdeal.nD Cert.InBwdXIdeal.τ).loc Cert.InBwdXIdeal.main_arg4)
      ∧ m' ((c.tc : Thread Cert.InBwdXRefIdeal.nD Cert.InBwdXRefIdeal.τ).loc Cert.InBwdXRefIdeal.main_arg5) = m ((c.tc : Thread Cert.InBwdXIdeal.nD Cert.InBwdXIdeal.τ).loc Cert.InBwdXIdeal.main_arg5)) →
    ∃ (v0 : (c : Dev Cert.InBwdXIdeal.nD) → Buf (Elt Ideal) ((c.tc : Thread Cert.InBwdXIdeal.nD Cert.InBwdXIdeal.τ).loc Cert.InBwdXIdeal.main_v0)),
      θ_run (Cert.InBwdXIdeal.defs (F := Ideal)) (onTc (τ := Cert.InBwdXIdeal.τ) (Cert.InBwdXIdeal.main (F := Ideal))) ⟨m, fun _ => 0, g⟩ (fun r => ∀ c : Dev Cert.InBwdXIdeal.nD,
          r.2.mem ((c.tc : Thread Cert.InBwdXIdeal.nD Cert.InBwdXIdeal.τ).loc Cert.InBwdXIdeal.main_v0) = v0 c
          ∧ r.2.mem ((c.tc : Thread Cert.InBwdXIdeal.nD Cert.InBwdXIdeal.τ).loc Cert.InBwdXIdeal.main_arg0) = m ((c.tc : Thread Cert.InBwdXIdeal.nD Cert.InBwdXIdeal.τ).loc Cert.InBwdXIdeal.main_arg0)
          ∧ r.2.mem ((c.tc : Thread Cert.InBwdXIdeal.nD Cert.InBwdXIdeal.τ).loc Cert.InBwdXIdeal.main_arg1) = m ((c.tc : Thread Cert.InBwdXIdeal.nD Cert.InBwdXIdeal.τ).loc Cert.InBwdXIdeal.main_arg1)
          ∧ r.2.mem ((c.tc : Thread Cert.InBwdXIdeal.nD Cert.InBwdXIdeal.τ).loc Cert.InBwdXIdeal.main_arg2) = m ((c.tc : Thread Cert.InBwdXIdeal.nD Cert.InBwdXIdeal.τ).loc Cert.InBwdXIdeal.main_arg2)
          ∧ r.2.mem ((c.tc : Thread Cert.InBwdXIdeal.nD Cert.InBwdXIdeal.τ).loc Cert.InBwdXIdeal.main_arg3) = m ((c.tc : Thread Cert.InBwdXIdeal.nD Cert.InBwdXIdeal.τ).loc Cert.InBwdXIdeal.main_arg3)
          ∧ r.2.mem ((c.tc : Thread Cert.InBwdXIdeal.nD Cert.InBwdXIdeal.τ).loc Cert.InBwdXIdeal.main_arg4) = m ((c.tc : Thread Cert.InBwdXIdeal.nD Cert.InBwdXIdeal.τ).loc Cert.InBwdXIdeal.main_arg4)
          ∧ r.2.mem ((c.tc : Thread Cert.InBwdXIdeal.nD Cert.InBwdXIdeal.τ).loc Cert.InBwdXIdeal.main_arg5) = m ((c.tc : Thread Cert.InBwdXIdeal.nD Cert.InBwdXIdeal.τ).loc Cert.InBwdXIdeal.main_arg5))
      ∧ θ_run (Cert.InBwdXRefIdeal.defs (F := Ideal)) (onTc (τ := Cert.InBwdXRefIdeal.τ) (Cert.InBwdXRefIdeal.main (F := Ideal))) ⟨m', fun _ => 0, g'⟩ (fun r => ∀ c : Dev Cert.InBwdXRefIdeal.nD,
          r.2.mem ((c.tc : Thread Cert.InBwdXRefIdeal.nD Cert.InBwdXRefIdeal.τ).loc Cert.InBwdXRefIdeal.main_v17) = v0 c
          ∧ r.2.mem ((c.tc : Thread Cert.InBwdXRefIdeal.nD Cert.InBwdXRefIdeal.τ).loc Cert.InBwdXRefIdeal.main_arg0) = m' ((c.tc : Thread Cert.InBwdXRefIdeal.nD Cert.InBwdXRefIdeal.τ).loc Cert.InBwdXRefIdeal.main_arg0)
          ∧ r.2.mem ((c.tc : Thread Cert.InBwdXRefIdeal.nD Cert.InBwdXRefIdeal.τ).loc Cert.InBwdXRefIdeal.main_arg1) = m' ((c.tc : Thread Cert.InBwdXRefIdeal.nD Cert.InBwdXRefIdeal.τ).loc Cert.InBwdXRefIdeal.main_arg1)
          ∧ r.2.mem ((c.tc : Thread Cert.InBwdXRefIdeal.nD Cert.InBwdXRefIdeal.τ).loc Cert.InBwdXRefIdeal.main_arg2) = m' ((c.tc : Thread Cert.InBwdXRefIdeal.nD Cert.InBwdXRefIdeal.τ).loc Cert.InBwdXRefIdeal.main_arg2)
          ∧ r.2.mem ((c.tc : Thread Cert.InBwdXRefIdeal.nD Cert.InBwdXRefIdeal.τ).loc Cert.InBwdXRefIdeal.main_arg3) = m' ((c.tc : Thread Cert.InBwdXRefIdeal.nD Cert.InBwdXRefIdeal.τ).loc Cert.InBwdXRefIdeal.main_arg3)
          ∧ r.2.mem ((c.tc : Thread Cert.InBwdXRefIdeal.nD Cert.InBwdXRefIdeal.τ).loc Cert.InBwdXRefIdeal.main_arg4) = m' ((c.tc : Thread Cert.InBwdXRefIdeal.nD Cert.InBwdXRefIdeal.τ).loc Cert.InBwdXRefIdeal.main_arg4)
          ∧ r.2.mem ((c.tc : Thread Cert.InBwdXRefIdeal.nD Cert.InBwdXRefIdeal.τ).loc Cert.InBwdXRefIdeal.main_arg5) = m' ((c.tc : Thread Cert.InBwdXRefIdeal.nD Cert.InBwdXRefIdeal.τ).loc Cert.InBwdXRefIdeal.main_arg5))

def preserves_GradInA_GradInAIdeal : Prop :=
  True

def algebraic_GradInAIdeal_GradInARefIdeal [hGradInAIdeal : Cert.GradInAIdeal.Facts] [hGradInARefIdeal : Cert.GradInARefIdeal.Facts] : Prop :=
  ∀ (m : (ℓ : Loc Cert.GradInAIdeal.nD Cert.GradInAIdeal.τ Cert.GradInAIdeal.sig) → Buf (Elt Ideal) ℓ) (g : Dev Cert.GradInAIdeal.nD → PrngReg)
    (m' : (ℓ : Loc Cert.GradInARefIdeal.nD Cert.GradInARefIdeal.τ Cert.GradInARefIdeal.sig) → Buf (Elt Ideal) ℓ) (g' : Dev Cert.GradInARefIdeal.nD → PrngReg), Pre_GradInAIdeal m →
    (∀ c : Dev Cert.GradInAIdeal.nD,
      m' ((c.tc : Thread Cert.GradInARefIdeal.nD Cert.GradInARefIdeal.τ).loc Cert.GradInARefIdeal.main_arg0) = m ((c.tc : Thread Cert.GradInAIdeal.nD Cert.GradInAIdeal.τ).loc Cert.GradInAIdeal.main_arg0)
      ∧ m' ((c.tc : Thread Cert.GradInARefIdeal.nD Cert.GradInARefIdeal.τ).loc Cert.GradInARefIdeal.main_arg1) = m ((c.tc : Thread Cert.GradInAIdeal.nD Cert.GradInAIdeal.τ).loc Cert.GradInAIdeal.main_arg1)
      ∧ m' ((c.tc : Thread Cert.GradInARefIdeal.nD Cert.GradInARefIdeal.τ).loc Cert.GradInARefIdeal.main_arg2) = m ((c.tc : Thread Cert.GradInAIdeal.nD Cert.GradInAIdeal.τ).loc Cert.GradInAIdeal.main_arg2)
      ∧ m' ((c.tc : Thread Cert.GradInARefIdeal.nD Cert.GradInARefIdeal.τ).loc Cert.GradInARefIdeal.main_arg3) = m ((c.tc : Thread Cert.GradInAIdeal.nD Cert.GradInAIdeal.τ).loc Cert.GradInAIdeal.main_arg3)
      ∧ m' ((c.tc : Thread Cert.GradInARefIdeal.nD Cert.GradInARefIdeal.τ).loc Cert.GradInARefIdeal.main_arg4) = m ((c.tc : Thread Cert.GradInAIdeal.nD Cert.GradInAIdeal.τ).loc Cert.GradInAIdeal.main_arg4)) →
    ∃ (v0 : (c : Dev Cert.GradInAIdeal.nD) → Buf (Elt Ideal) ((c.tc : Thread Cert.GradInAIdeal.nD Cert.GradInAIdeal.τ).loc Cert.GradInAIdeal.main_v0)),
      θ_run (Cert.GradInAIdeal.defs (F := Ideal)) (onTc (τ := Cert.GradInAIdeal.τ) (Cert.GradInAIdeal.main (F := Ideal))) ⟨m, fun _ => 0, g⟩ (fun r => ∀ c : Dev Cert.GradInAIdeal.nD,
          r.2.mem ((c.tc : Thread Cert.GradInAIdeal.nD Cert.GradInAIdeal.τ).loc Cert.GradInAIdeal.main_v0) = v0 c
          ∧ r.2.mem ((c.tc : Thread Cert.GradInAIdeal.nD Cert.GradInAIdeal.τ).loc Cert.GradInAIdeal.main_arg0) = m ((c.tc : Thread Cert.GradInAIdeal.nD Cert.GradInAIdeal.τ).loc Cert.GradInAIdeal.main_arg0)
          ∧ r.2.mem ((c.tc : Thread Cert.GradInAIdeal.nD Cert.GradInAIdeal.τ).loc Cert.GradInAIdeal.main_arg1) = m ((c.tc : Thread Cert.GradInAIdeal.nD Cert.GradInAIdeal.τ).loc Cert.GradInAIdeal.main_arg1)
          ∧ r.2.mem ((c.tc : Thread Cert.GradInAIdeal.nD Cert.GradInAIdeal.τ).loc Cert.GradInAIdeal.main_arg2) = m ((c.tc : Thread Cert.GradInAIdeal.nD Cert.GradInAIdeal.τ).loc Cert.GradInAIdeal.main_arg2)
          ∧ r.2.mem ((c.tc : Thread Cert.GradInAIdeal.nD Cert.GradInAIdeal.τ).loc Cert.GradInAIdeal.main_arg3) = m ((c.tc : Thread Cert.GradInAIdeal.nD Cert.GradInAIdeal.τ).loc Cert.GradInAIdeal.main_arg3)
          ∧ r.2.mem ((c.tc : Thread Cert.GradInAIdeal.nD Cert.GradInAIdeal.τ).loc Cert.GradInAIdeal.main_arg4) = m ((c.tc : Thread Cert.GradInAIdeal.nD Cert.GradInAIdeal.τ).loc Cert.GradInAIdeal.main_arg4))
      ∧ θ_run (Cert.GradInARefIdeal.defs (F := Ideal)) (onTc (τ := Cert.GradInARefIdeal.τ) (Cert.GradInARefIdeal.main (F := Ideal))) ⟨m', fun _ => 0, g'⟩ (fun r => ∀ c : Dev Cert.GradInARefIdeal.nD,
          r.2.mem ((c.tc : Thread Cert.GradInARefIdeal.nD Cert.GradInARefIdeal.τ).loc Cert.GradInARefIdeal.main_v14) = v0 c
          ∧ r.2.mem ((c.tc : Thread Cert.GradInARefIdeal.nD Cert.GradInARefIdeal.τ).loc Cert.GradInARefIdeal.main_arg0) = m' ((c.tc : Thread Cert.GradInARefIdeal.nD Cert.GradInARefIdeal.τ).loc Cert.GradInARefIdeal.main_arg0)
          ∧ r.2.mem ((c.tc : Thread Cert.GradInARefIdeal.nD Cert.GradInARefIdeal.τ).loc Cert.GradInARefIdeal.main_arg1) = m' ((c.tc : Thread Cert.GradInARefIdeal.nD Cert.GradInARefIdeal.τ).loc Cert.GradInARefIdeal.main_arg1)
          ∧ r.2.mem ((c.tc : Thread Cert.GradInARefIdeal.nD Cert.GradInARefIdeal.τ).loc Cert.GradInARefIdeal.main_arg2) = m' ((c.tc : Thread Cert.GradInARefIdeal.nD Cert.GradInARefIdeal.τ).loc Cert.GradInARefIdeal.main_arg2)
          ∧ r.2.mem ((c.tc : Thread Cert.GradInARefIdeal.nD Cert.GradInARefIdeal.τ).loc Cert.GradInARefIdeal.main_arg3) = m' ((c.tc : Thread Cert.GradInARefIdeal.nD Cert.GradInARefIdeal.τ).loc Cert.GradInARefIdeal.main_arg3)
          ∧ r.2.mem ((c.tc : Thread Cert.GradInARefIdeal.nD Cert.GradInARefIdeal.τ).loc Cert.GradInARefIdeal.main_arg4) = m' ((c.tc : Thread Cert.GradInARefIdeal.nD Cert.GradInARefIdeal.τ).loc Cert.GradInARefIdeal.main_arg4))

def preserves_GradInB_GradInBIdeal : Prop :=
  True

def algebraic_GradInBIdeal_GradInBRefIdeal [hGradInBIdeal : Cert.GradInBIdeal.Facts] [hGradInBRefIdeal : Cert.GradInBRefIdeal.Facts] : Prop :=
  ∀ (m : (ℓ : Loc Cert.GradInBIdeal.nD Cert.GradInBIdeal.τ Cert.GradInBIdeal.sig) → Buf (Elt Ideal) ℓ) (g : Dev Cert.GradInBIdeal.nD → PrngReg)
    (m' : (ℓ : Loc Cert.GradInBRefIdeal.nD Cert.GradInBRefIdeal.τ Cert.GradInBRefIdeal.sig) → Buf (Elt Ideal) ℓ) (g' : Dev Cert.GradInBRefIdeal.nD → PrngReg), Pre_GradInBIdeal m →
    (∀ c : Dev Cert.GradInBIdeal.nD,
      m' ((c.tc : Thread Cert.GradInBRefIdeal.nD Cert.GradInBRefIdeal.τ).loc Cert.GradInBRefIdeal.main_arg0) = m ((c.tc : Thread Cert.GradInBIdeal.nD Cert.GradInBIdeal.τ).loc Cert.GradInBIdeal.main_arg0)
      ∧ m' ((c.tc : Thread Cert.GradInBRefIdeal.nD Cert.GradInBRefIdeal.τ).loc Cert.GradInBRefIdeal.main_arg1) = m ((c.tc : Thread Cert.GradInBIdeal.nD Cert.GradInBIdeal.τ).loc Cert.GradInBIdeal.main_arg1)
      ∧ m' ((c.tc : Thread Cert.GradInBRefIdeal.nD Cert.GradInBRefIdeal.τ).loc Cert.GradInBRefIdeal.main_arg2) = m ((c.tc : Thread Cert.GradInBIdeal.nD Cert.GradInBIdeal.τ).loc Cert.GradInBIdeal.main_arg2)) →
    ∃ (v0 : (c : Dev Cert.GradInBIdeal.nD) → Buf (Elt Ideal) ((c.tc : Thread Cert.GradInBIdeal.nD Cert.GradInBIdeal.τ).loc Cert.GradInBIdeal.main_v0)),
      θ_run (Cert.GradInBIdeal.defs (F := Ideal)) (onTc (τ := Cert.GradInBIdeal.τ) (Cert.GradInBIdeal.main (F := Ideal))) ⟨m, fun _ => 0, g⟩ (fun r => ∀ c : Dev Cert.GradInBIdeal.nD,
          r.2.mem ((c.tc : Thread Cert.GradInBIdeal.nD Cert.GradInBIdeal.τ).loc Cert.GradInBIdeal.main_v0) = v0 c
          ∧ r.2.mem ((c.tc : Thread Cert.GradInBIdeal.nD Cert.GradInBIdeal.τ).loc Cert.GradInBIdeal.main_arg0) = m ((c.tc : Thread Cert.GradInBIdeal.nD Cert.GradInBIdeal.τ).loc Cert.GradInBIdeal.main_arg0)
          ∧ r.2.mem ((c.tc : Thread Cert.GradInBIdeal.nD Cert.GradInBIdeal.τ).loc Cert.GradInBIdeal.main_arg1) = m ((c.tc : Thread Cert.GradInBIdeal.nD Cert.GradInBIdeal.τ).loc Cert.GradInBIdeal.main_arg1)
          ∧ r.2.mem ((c.tc : Thread Cert.GradInBIdeal.nD Cert.GradInBIdeal.τ).loc Cert.GradInBIdeal.main_arg2) = m ((c.tc : Thread Cert.GradInBIdeal.nD Cert.GradInBIdeal.τ).loc Cert.GradInBIdeal.main_arg2))
      ∧ θ_run (Cert.GradInBRefIdeal.defs (F := Ideal)) (onTc (τ := Cert.GradInBRefIdeal.τ) (Cert.GradInBRefIdeal.main (F := Ideal))) ⟨m', fun _ => 0, g'⟩ (fun r => ∀ c : Dev Cert.GradInBRefIdeal.nD,
          r.2.mem ((c.tc : Thread Cert.GradInBRefIdeal.nD Cert.GradInBRefIdeal.τ).loc Cert.GradInBRefIdeal.main_v14) = v0 c
          ∧ r.2.mem ((c.tc : Thread Cert.GradInBRefIdeal.nD Cert.GradInBRefIdeal.τ).loc Cert.GradInBRefIdeal.main_arg0) = m' ((c.tc : Thread Cert.GradInBRefIdeal.nD Cert.GradInBRefIdeal.τ).loc Cert.GradInBRefIdeal.main_arg0)
          ∧ r.2.mem ((c.tc : Thread Cert.GradInBRefIdeal.nD Cert.GradInBRefIdeal.τ).loc Cert.GradInBRefIdeal.main_arg1) = m' ((c.tc : Thread Cert.GradInBRefIdeal.nD Cert.GradInBRefIdeal.τ).loc Cert.GradInBRefIdeal.main_arg1)
          ∧ r.2.mem ((c.tc : Thread Cert.GradInBRefIdeal.nD Cert.GradInBRefIdeal.τ).loc Cert.GradInBRefIdeal.main_arg2) = m' ((c.tc : Thread Cert.GradInBRefIdeal.nD Cert.GradInBRefIdeal.τ).loc Cert.GradInBRefIdeal.main_arg2))

def preserves_InBwdA_InBwdAIdeal : Prop :=
  True

def algebraic_InBwdAIdeal_InBwdARefIdeal_pre_norm_finite_a [hInBwdAIdeal : Cert.InBwdAIdeal.Facts] [hInBwdARefIdeal : Cert.InBwdARefIdeal.Facts] [hPre_norm_finite_a : Cert.Pre_norm_finite_a.Facts] : Prop :=
  ∀ (m : (ℓ : Loc Cert.InBwdAIdeal.nD Cert.InBwdAIdeal.τ Cert.InBwdAIdeal.sig) → Buf (Elt Ideal) ℓ) (g : Dev Cert.InBwdAIdeal.nD → PrngReg)
    (m' : (ℓ : Loc Cert.InBwdARefIdeal.nD Cert.InBwdARefIdeal.τ Cert.InBwdARefIdeal.sig) → Buf (Elt Ideal) ℓ) (g' : Dev Cert.InBwdARefIdeal.nD → PrngReg), Pre_InBwdAIdeal_norm_finite_a m →
    (∀ c : Dev Cert.InBwdAIdeal.nD,
      m' ((c.tc : Thread Cert.InBwdARefIdeal.nD Cert.InBwdARefIdeal.τ).loc Cert.InBwdARefIdeal.main_arg0) = m ((c.tc : Thread Cert.InBwdAIdeal.nD Cert.InBwdAIdeal.τ).loc Cert.InBwdAIdeal.main_arg0)
      ∧ m' ((c.tc : Thread Cert.InBwdARefIdeal.nD Cert.InBwdARefIdeal.τ).loc Cert.InBwdARefIdeal.main_arg1) = m ((c.tc : Thread Cert.InBwdAIdeal.nD Cert.InBwdAIdeal.τ).loc Cert.InBwdAIdeal.main_arg1)
      ∧ m' ((c.tc : Thread Cert.InBwdARefIdeal.nD Cert.InBwdARefIdeal.τ).loc Cert.InBwdARefIdeal.main_arg2) = m ((c.tc : Thread Cert.InBwdAIdeal.nD Cert.InBwdAIdeal.τ).loc Cert.InBwdAIdeal.main_arg2)
      ∧ m' ((c.tc : Thread Cert.InBwdARefIdeal.nD Cert.InBwdARefIdeal.τ).loc Cert.InBwdARefIdeal.main_arg3) = m ((c.tc : Thread Cert.InBwdAIdeal.nD Cert.InBwdAIdeal.τ).loc Cert.InBwdAIdeal.main_arg3)
      ∧ m' ((c.tc : Thread Cert.InBwdARefIdeal.nD Cert.InBwdARefIdeal.τ).loc Cert.InBwdARefIdeal.main_arg4) = m ((c.tc : Thread Cert.InBwdAIdeal.nD Cert.InBwdAIdeal.τ).loc Cert.InBwdAIdeal.main_arg4)
      ∧ m' ((c.tc : Thread Cert.InBwdARefIdeal.nD Cert.InBwdARefIdeal.τ).loc Cert.InBwdARefIdeal.main_arg5) = m ((c.tc : Thread Cert.InBwdAIdeal.nD Cert.InBwdAIdeal.τ).loc Cert.InBwdAIdeal.main_arg5)
      ∧ m' ((c.tc : Thread Cert.InBwdARefIdeal.nD Cert.InBwdARefIdeal.τ).loc Cert.InBwdARefIdeal.main_arg6) = m ((c.tc : Thread Cert.InBwdAIdeal.nD Cert.InBwdAIdeal.τ).loc Cert.InBwdAIdeal.main_arg6)
      ∧ m' ((c.tc : Thread Cert.InBwdARefIdeal.nD Cert.InBwdARefIdeal.τ).loc Cert.InBwdARefIdeal.main_arg7) = m ((c.tc : Thread Cert.InBwdAIdeal.nD Cert.InBwdAIdeal.τ).loc Cert.InBwdAIdeal.main_arg7)) →
    ∃ (v0 : (c : Dev Cert.InBwdAIdeal.nD) → Buf (Elt Ideal) ((c.tc : Thread Cert.InBwdAIdeal.nD Cert.InBwdAIdeal.τ).loc Cert.InBwdAIdeal.main_v0_0)) (v1 : (c : Dev Cert.InBwdAIdeal.nD) → Buf (Elt Ideal) ((c.tc : Thread Cert.InBwdAIdeal.nD Cert.InBwdAIdeal.τ).loc Cert.InBwdAIdeal.main_v0_1)) (v2 : (c : Dev Cert.InBwdAIdeal.nD) → Buf (Elt Ideal) ((c.tc : Thread Cert.InBwdAIdeal.nD Cert.InBwdAIdeal.τ).loc Cert.InBwdAIdeal.main_v0_2)) (v3 : (c : Dev Cert.InBwdAIdeal.nD) → Buf (Elt Ideal) ((c.tc : Thread Cert.InBwdAIdeal.nD Cert.InBwdAIdeal.τ).loc Cert.InBwdAIdeal.main_v0_3)),
      θ_run (Cert.InBwdAIdeal.defs (F := Ideal)) (onTc (τ := Cert.InBwdAIdeal.τ) (Cert.InBwdAIdeal.main (F := Ideal))) ⟨m, fun _ => 0, g⟩ (fun r => ∀ c : Dev Cert.InBwdAIdeal.nD,
          r.2.mem ((c.tc : Thread Cert.InBwdAIdeal.nD Cert.InBwdAIdeal.τ).loc Cert.InBwdAIdeal.main_v0_0) = v0 c
          ∧ r.2.mem ((c.tc : Thread Cert.InBwdAIdeal.nD Cert.InBwdAIdeal.τ).loc Cert.InBwdAIdeal.main_v0_1) = v1 c
          ∧ r.2.mem ((c.tc : Thread Cert.InBwdAIdeal.nD Cert.InBwdAIdeal.τ).loc Cert.InBwdAIdeal.main_v0_2) = v2 c
          ∧ r.2.mem ((c.tc : Thread Cert.InBwdAIdeal.nD Cert.InBwdAIdeal.τ).loc Cert.InBwdAIdeal.main_v0_3) = v3 c
          ∧ r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
          ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
          ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2)
          ∧ r.2.mem ((c.tc : Thread Cert.InBwdAIdeal.nD Cert.InBwdAIdeal.τ).loc Cert.InBwdAIdeal.main_arg3) = m ((c.tc : Thread Cert.InBwdAIdeal.nD Cert.InBwdAIdeal.τ).loc Cert.InBwdAIdeal.main_arg3)
          ∧ r.2.mem ((c.tc : Thread Cert.InBwdAIdeal.nD Cert.InBwdAIdeal.τ).loc Cert.InBwdAIdeal.main_arg4) = m ((c.tc : Thread Cert.InBwdAIdeal.nD Cert.InBwdAIdeal.τ).loc Cert.InBwdAIdeal.main_arg4)
          ∧ r.2.mem ((c.tc : Thread Cert.InBwdAIdeal.nD Cert.InBwdAIdeal.τ).loc Cert.InBwdAIdeal.main_arg5) = m ((c.tc : Thread Cert.InBwdAIdeal.nD Cert.InBwdAIdeal.τ).loc Cert.InBwdAIdeal.main_arg5)
          ∧ r.2.mem ((c.tc : Thread Cert.InBwdAIdeal.nD Cert.InBwdAIdeal.τ).loc Cert.InBwdAIdeal.main_arg6) = m ((c.tc : Thread Cert.InBwdAIdeal.nD Cert.InBwdAIdeal.τ).loc Cert.InBwdAIdeal.main_arg6)
          ∧ r.2.mem ((c.tc : Thread Cert.InBwdAIdeal.nD Cert.InBwdAIdeal.τ).loc Cert.InBwdAIdeal.main_arg7) = m ((c.tc : Thread Cert.InBwdAIdeal.nD Cert.InBwdAIdeal.τ).loc Cert.InBwdAIdeal.main_arg7))
      ∧ θ_run (Cert.InBwdARefIdeal.defs (F := Ideal)) (onTc (τ := Cert.InBwdARefIdeal.τ) (Cert.InBwdARefIdeal.main (F := Ideal))) ⟨m', fun _ => 0, g'⟩ (fun r => ∀ c : Dev Cert.InBwdARefIdeal.nD,
          r.2.mem ((c.tc : Thread Cert.InBwdARefIdeal.nD Cert.InBwdARefIdeal.τ).loc Cert.InBwdARefIdeal.main_v75) = v0 c
          ∧ r.2.mem ((c.tc : Thread Cert.InBwdARefIdeal.nD Cert.InBwdARefIdeal.τ).loc Cert.InBwdARefIdeal.main_v76) = v1 c
          ∧ r.2.mem ((c.tc : Thread Cert.InBwdARefIdeal.nD Cert.InBwdARefIdeal.τ).loc Cert.InBwdARefIdeal.main_v49) = v2 c
          ∧ r.2.mem ((c.tc : Thread Cert.InBwdARefIdeal.nD Cert.InBwdARefIdeal.τ).loc Cert.InBwdARefIdeal.main_v46) = v3 c
          ∧ r.2.mem ((c.tc : Thread Cert.InBwdARefIdeal.nD Cert.InBwdARefIdeal.τ).loc Cert.InBwdARefIdeal.main_arg0) = m' ((c.tc : Thread Cert.InBwdARefIdeal.nD Cert.InBwdARefIdeal.τ).loc Cert.InBwdARefIdeal.main_arg0)
          ∧ r.2.mem ((c.tc : Thread Cert.InBwdARefIdeal.nD Cert.InBwdARefIdeal.τ).loc Cert.InBwdARefIdeal.main_arg1) = m' ((c.tc : Thread Cert.InBwdARefIdeal.nD Cert.InBwdARefIdeal.τ).loc Cert.InBwdARefIdeal.main_arg1)
          ∧ r.2.mem ((c.tc : Thread Cert.InBwdARefIdeal.nD Cert.InBwdARefIdeal.τ).loc Cert.InBwdARefIdeal.main_arg2) = m' ((c.tc : Thread Cert.InBwdARefIdeal.nD Cert.InBwdARefIdeal.τ).loc Cert.InBwdARefIdeal.main_arg2)
          ∧ r.2.mem ((c.tc : Thread Cert.InBwdARefIdeal.nD Cert.InBwdARefIdeal.τ).loc Cert.InBwdARefIdeal.main_arg3) = m' ((c.tc : Thread Cert.InBwdARefIdeal.nD Cert.InBwdARefIdeal.τ).loc Cert.InBwdARefIdeal.main_arg3)
          ∧ r.2.mem ((c.tc : Thread Cert.InBwdARefIdeal.nD Cert.InBwdARefIdeal.τ).loc Cert.InBwdARefIdeal.main_arg4) = m' ((c.tc : Thread Cert.InBwdARefIdeal.nD Cert.InBwdARefIdeal.τ).loc Cert.InBwdARefIdeal.main_arg4)
          ∧ r.2.mem ((c.tc : Thread Cert.InBwdARefIdeal.nD Cert.InBwdARefIdeal.τ).loc Cert.InBwdARefIdeal.main_arg5) = m' ((c.tc : Thread Cert.InBwdARefIdeal.nD Cert.InBwdARefIdeal.τ).loc Cert.InBwdARefIdeal.main_arg5)
          ∧ r.2.mem ((c.tc : Thread Cert.InBwdARefIdeal.nD Cert.InBwdARefIdeal.τ).loc Cert.InBwdARefIdeal.main_arg6) = m' ((c.tc : Thread Cert.InBwdARefIdeal.nD Cert.InBwdARefIdeal.τ).loc Cert.InBwdARefIdeal.main_arg6)
          ∧ r.2.mem ((c.tc : Thread Cert.InBwdARefIdeal.nD Cert.InBwdARefIdeal.τ).loc Cert.InBwdARefIdeal.main_arg7) = m' ((c.tc : Thread Cert.InBwdARefIdeal.nD Cert.InBwdARefIdeal.τ).loc Cert.InBwdARefIdeal.main_arg7))

def preserves_InBwdB_InBwdBIdeal : Prop :=
  True

def algebraic_InBwdBIdeal_InBwdBRefIdeal_pre_norm_finite_b [hInBwdBIdeal : Cert.InBwdBIdeal.Facts] [hInBwdBRefIdeal : Cert.InBwdBRefIdeal.Facts] [hPre_norm_finite_b : Cert.Pre_norm_finite_b.Facts] : Prop :=
  ∀ (m : (ℓ : Loc Cert.InBwdBIdeal.nD Cert.InBwdBIdeal.τ Cert.InBwdBIdeal.sig) → Buf (Elt Ideal) ℓ) (g : Dev Cert.InBwdBIdeal.nD → PrngReg)
    (m' : (ℓ : Loc Cert.InBwdBRefIdeal.nD Cert.InBwdBRefIdeal.τ Cert.InBwdBRefIdeal.sig) → Buf (Elt Ideal) ℓ) (g' : Dev Cert.InBwdBRefIdeal.nD → PrngReg), Pre_InBwdBIdeal_norm_finite_b m →
    (∀ c : Dev Cert.InBwdBIdeal.nD,
      m' ((c.tc : Thread Cert.InBwdBRefIdeal.nD Cert.InBwdBRefIdeal.τ).loc Cert.InBwdBRefIdeal.main_arg0) = m ((c.tc : Thread Cert.InBwdBIdeal.nD Cert.InBwdBIdeal.τ).loc Cert.InBwdBIdeal.main_arg0)
      ∧ m' ((c.tc : Thread Cert.InBwdBRefIdeal.nD Cert.InBwdBRefIdeal.τ).loc Cert.InBwdBRefIdeal.main_arg1) = m ((c.tc : Thread Cert.InBwdBIdeal.nD Cert.InBwdBIdeal.τ).loc Cert.InBwdBIdeal.main_arg1)
      ∧ m' ((c.tc : Thread Cert.InBwdBRefIdeal.nD Cert.InBwdBRefIdeal.τ).loc Cert.InBwdBRefIdeal.main_arg2) = m ((c.tc : Thread Cert.InBwdBIdeal.nD Cert.InBwdBIdeal.τ).loc Cert.InBwdBIdeal.main_arg2)
      ∧ m' ((c.tc : Thread Cert.InBwdBRefIdeal.nD Cert.InBwdBRefIdeal.τ).loc Cert.InBwdBRefIdeal.main_arg3) = m ((c.tc : Thread Cert.InBwdBIdeal.nD Cert.InBwdBIdeal.τ).loc Cert.InBwdBIdeal.main_arg3)
      ∧ m' ((c.tc : Thread Cert.InBwdBRefIdeal.nD Cert.InBwdBRefIdeal.τ).loc Cert.InBwdBRefIdeal.main_arg4) = m ((c.tc : Thread Cert.InBwdBIdeal.nD Cert.InBwdBIdeal.τ).loc Cert.InBwdBIdeal.main_arg4)
      ∧ m' ((c.tc : Thread Cert.InBwdBRefIdeal.nD Cert.InBwdBRefIdeal.τ).loc Cert.InBwdBRefIdeal.main_arg5) = m ((c.tc : Thread Cert.InBwdBIdeal.nD Cert.InBwdBIdeal.τ).loc Cert.InBwdBIdeal.main_arg5)) →
    ∃ (v0 : (c : Dev Cert.InBwdBIdeal.nD) → Buf (Elt Ideal) ((c.tc : Thread Cert.InBwdBIdeal.nD Cert.InBwdBIdeal.τ).loc Cert.InBwdBIdeal.main_v0_0)) (v1 : (c : Dev Cert.InBwdBIdeal.nD) → Buf (Elt Ideal) ((c.tc : Thread Cert.InBwdBIdeal.nD Cert.InBwdBIdeal.τ).loc Cert.InBwdBIdeal.main_v0_1)) (v2 : (c : Dev Cert.InBwdBIdeal.nD) → Buf (Elt Ideal) ((c.tc : Thread Cert.InBwdBIdeal.nD Cert.InBwdBIdeal.τ).loc Cert.InBwdBIdeal.main_v0_2)) (v3 : (c : Dev Cert.InBwdBIdeal.nD) → Buf (Elt Ideal) ((c.tc : Thread Cert.InBwdBIdeal.nD Cert.InBwdBIdeal.τ).loc Cert.InBwdBIdeal.main_v0_3)),
      θ_run (Cert.InBwdBIdeal.defs (F := Ideal)) (onTc (τ := Cert.InBwdBIdeal.τ) (Cert.InBwdBIdeal.main (F := Ideal))) ⟨m, fun _ => 0, g⟩ (fun r => ∀ c : Dev Cert.InBwdBIdeal.nD,
          r.2.mem ((c.tc : Thread Cert.InBwdBIdeal.nD Cert.InBwdBIdeal.τ).loc Cert.InBwdBIdeal.main_v0_0) = v0 c
          ∧ r.2.mem ((c.tc : Thread Cert.InBwdBIdeal.nD Cert.InBwdBIdeal.τ).loc Cert.InBwdBIdeal.main_v0_1) = v1 c
          ∧ r.2.mem ((c.tc : Thread Cert.InBwdBIdeal.nD Cert.InBwdBIdeal.τ).loc Cert.InBwdBIdeal.main_v0_2) = v2 c
          ∧ r.2.mem ((c.tc : Thread Cert.InBwdBIdeal.nD Cert.InBwdBIdeal.τ).loc Cert.InBwdBIdeal.main_v0_3) = v3 c
          ∧ r.2.mem ((c.tc : Thread Cert.InBwdBIdeal.nD Cert.InBwdBIdeal.τ).loc Cert.InBwdBIdeal.main_arg0) = m ((c.tc : Thread Cert.InBwdBIdeal.nD Cert.InBwdBIdeal.τ).loc Cert.InBwdBIdeal.main_arg0)
          ∧ r.2.mem ((c.tc : Thread Cert.InBwdBIdeal.nD Cert.InBwdBIdeal.τ).loc Cert.InBwdBIdeal.main_arg1) = m ((c.tc : Thread Cert.InBwdBIdeal.nD Cert.InBwdBIdeal.τ).loc Cert.InBwdBIdeal.main_arg1)
          ∧ r.2.mem ((c.tc : Thread Cert.InBwdBIdeal.nD Cert.InBwdBIdeal.τ).loc Cert.InBwdBIdeal.main_arg2) = m ((c.tc : Thread Cert.InBwdBIdeal.nD Cert.InBwdBIdeal.τ).loc Cert.InBwdBIdeal.main_arg2)
          ∧ r.2.mem ((c.tc : Thread Cert.InBwdBIdeal.nD Cert.InBwdBIdeal.τ).loc Cert.InBwdBIdeal.main_arg3) = m ((c.tc : Thread Cert.InBwdBIdeal.nD Cert.InBwdBIdeal.τ).loc Cert.InBwdBIdeal.main_arg3)
          ∧ r.2.mem ((c.tc : Thread Cert.InBwdBIdeal.nD Cert.InBwdBIdeal.τ).loc Cert.InBwdBIdeal.main_arg4) = m ((c.tc : Thread Cert.InBwdBIdeal.nD Cert.InBwdBIdeal.τ).loc Cert.InBwdBIdeal.main_arg4)
          ∧ r.2.mem ((c.tc : Thread Cert.InBwdBIdeal.nD Cert.InBwdBIdeal.τ).loc Cert.InBwdBIdeal.main_arg5) = m ((c.tc : Thread Cert.InBwdBIdeal.nD Cert.InBwdBIdeal.τ).loc Cert.InBwdBIdeal.main_arg5))
      ∧ θ_run (Cert.InBwdBRefIdeal.defs (F := Ideal)) (onTc (τ := Cert.InBwdBRefIdeal.τ) (Cert.InBwdBRefIdeal.main (F := Ideal))) ⟨m', fun _ => 0, g'⟩ (fun r => ∀ c : Dev Cert.InBwdBRefIdeal.nD,
          r.2.mem ((c.tc : Thread Cert.InBwdBRefIdeal.nD Cert.InBwdBRefIdeal.τ).loc Cert.InBwdBRefIdeal.main_v75) = v0 c
          ∧ r.2.mem ((c.tc : Thread Cert.InBwdBRefIdeal.nD Cert.InBwdBRefIdeal.τ).loc Cert.InBwdBRefIdeal.main_v76) = v1 c
          ∧ r.2.mem ((c.tc : Thread Cert.InBwdBRefIdeal.nD Cert.InBwdBRefIdeal.τ).loc Cert.InBwdBRefIdeal.main_v49) = v2 c
          ∧ r.2.mem ((c.tc : Thread Cert.InBwdBRefIdeal.nD Cert.InBwdBRefIdeal.τ).loc Cert.InBwdBRefIdeal.main_v46) = v3 c
          ∧ r.2.mem ((c.tc : Thread Cert.InBwdBRefIdeal.nD Cert.InBwdBRefIdeal.τ).loc Cert.InBwdBRefIdeal.main_arg0) = m' ((c.tc : Thread Cert.InBwdBRefIdeal.nD Cert.InBwdBRefIdeal.τ).loc Cert.InBwdBRefIdeal.main_arg0)
          ∧ r.2.mem ((c.tc : Thread Cert.InBwdBRefIdeal.nD Cert.InBwdBRefIdeal.τ).loc Cert.InBwdBRefIdeal.main_arg1) = m' ((c.tc : Thread Cert.InBwdBRefIdeal.nD Cert.InBwdBRefIdeal.τ).loc Cert.InBwdBRefIdeal.main_arg1)
          ∧ r.2.mem ((c.tc : Thread Cert.InBwdBRefIdeal.nD Cert.InBwdBRefIdeal.τ).loc Cert.InBwdBRefIdeal.main_arg2) = m' ((c.tc : Thread Cert.InBwdBRefIdeal.nD Cert.InBwdBRefIdeal.τ).loc Cert.InBwdBRefIdeal.main_arg2)
          ∧ r.2.mem ((c.tc : Thread Cert.InBwdBRefIdeal.nD Cert.InBwdBRefIdeal.τ).loc Cert.InBwdBRefIdeal.main_arg3) = m' ((c.tc : Thread Cert.InBwdBRefIdeal.nD Cert.InBwdBRefIdeal.τ).loc Cert.InBwdBRefIdeal.main_arg3)
          ∧ r.2.mem ((c.tc : Thread Cert.InBwdBRefIdeal.nD Cert.InBwdBRefIdeal.τ).loc Cert.InBwdBRefIdeal.main_arg4) = m' ((c.tc : Thread Cert.InBwdBRefIdeal.nD Cert.InBwdBRefIdeal.τ).loc Cert.InBwdBRefIdeal.main_arg4)
          ∧ r.2.mem ((c.tc : Thread Cert.InBwdBRefIdeal.nD Cert.InBwdBRefIdeal.τ).loc Cert.InBwdBRefIdeal.main_arg5) = m' ((c.tc : Thread Cert.InBwdBRefIdeal.nD Cert.InBwdBRefIdeal.τ).loc Cert.InBwdBRefIdeal.main_arg5))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)
      ∧ m' ((c.tc : Thread Cert.DownFwdRefIdeal.nD Cert.DownFwdRefIdeal.τ).loc Cert.DownFwdRefIdeal.main_arg6) = m ((c.tc : Thread Cert.DownFwdIdeal.nD Cert.DownFwdIdeal.τ).loc Cert.DownFwdIdeal.main_arg6)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
          ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v27) = v0 c
          ∧ r.2.mem ((c.tc : Thread Cert.DownFwdRefIdeal.nD Cert.DownFwdRefIdeal.τ).loc Cert.DownFwdRefIdeal.main_v50) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5)
          ∧ r.2.mem ((c.tc : Thread Cert.DownFwdRefIdeal.nD Cert.DownFwdRefIdeal.τ).loc Cert.DownFwdRefIdeal.main_arg6) = m' ((c.tc : Thread Cert.DownFwdRefIdeal.nD Cert.DownFwdRefIdeal.τ).loc Cert.DownFwdRefIdeal.main_arg6))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)
      ∧ m' ((c.tc : Thread Cert.OutFwdRefIdeal.nD Cert.OutFwdRefIdeal.τ).loc Cert.OutFwdRefIdeal.main_arg6) = m ((c.tc : Thread Cert.OutFwdIdeal.nD Cert.OutFwdIdeal.τ).loc Cert.OutFwdIdeal.main_arg6)
      ∧ m' ((c.tc : Thread Cert.OutFwdRefIdeal.nD Cert.OutFwdRefIdeal.τ).loc Cert.OutFwdRefIdeal.main_arg7) = m ((c.tc : Thread Cert.OutFwdIdeal.nD Cert.OutFwdIdeal.τ).loc Cert.OutFwdIdeal.main_arg7)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6)
          ∧ r.2.mem ((c.tc : Thread Cert.OutFwdIdeal.nD Cert.OutFwdIdeal.τ).loc Cert.OutFwdIdeal.main_arg7) = m ((c.tc : Thread Cert.OutFwdIdeal.nD Cert.OutFwdIdeal.τ).loc Cert.OutFwdIdeal.main_arg7))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v28) = v0 c
          ∧ r.2.mem ((c.tc : Thread Cert.OutFwdRefIdeal.nD Cert.OutFwdRefIdeal.τ).loc Cert.OutFwdRefIdeal.main_v51) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5)
          ∧ r.2.mem ((c.tc : Thread Cert.OutFwdRefIdeal.nD Cert.OutFwdRefIdeal.τ).loc Cert.OutFwdRefIdeal.main_arg6) = m' ((c.tc : Thread Cert.OutFwdRefIdeal.nD Cert.OutFwdRefIdeal.τ).loc Cert.OutFwdRefIdeal.main_arg6)
          ∧ r.2.mem ((c.tc : Thread Cert.OutFwdRefIdeal.nD Cert.OutFwdRefIdeal.τ).loc Cert.OutFwdRefIdeal.main_arg7) = m' ((c.tc : Thread Cert.OutFwdRefIdeal.nD Cert.OutFwdRefIdeal.τ).loc Cert.OutFwdRefIdeal.main_arg7))

def preserves_OutFwdX_OutFwdXIdeal : Prop :=
  True

def algebraic_OutFwdXIdeal_OutFwdXRefIdeal [hOutFwdXIdeal : Cert.OutFwdXIdeal.Facts] [hOutFwdXRefIdeal : Cert.OutFwdXRefIdeal.Facts] : Prop :=
  ∀ (m : (ℓ : Loc Cert.OutFwdXIdeal.nD Cert.OutFwdXIdeal.τ Cert.OutFwdXIdeal.sig) → Buf (Elt Ideal) ℓ) (g : Dev Cert.OutFwdXIdeal.nD → PrngReg)
    (m' : (ℓ : Loc Cert.OutFwdXRefIdeal.nD Cert.OutFwdXRefIdeal.τ Cert.OutFwdXRefIdeal.sig) → Buf (Elt Ideal) ℓ) (g' : Dev Cert.OutFwdXRefIdeal.nD → PrngReg), Pre_OutFwdXIdeal m →
    (∀ c : Dev Cert.OutFwdXIdeal.nD,
      m' ((c.tc : Thread Cert.OutFwdXRefIdeal.nD Cert.OutFwdXRefIdeal.τ).loc Cert.OutFwdXRefIdeal.main_arg0) = m ((c.tc : Thread Cert.OutFwdXIdeal.nD Cert.OutFwdXIdeal.τ).loc Cert.OutFwdXIdeal.main_arg0)
      ∧ m' ((c.tc : Thread Cert.OutFwdXRefIdeal.nD Cert.OutFwdXRefIdeal.τ).loc Cert.OutFwdXRefIdeal.main_arg1) = m ((c.tc : Thread Cert.OutFwdXIdeal.nD Cert.OutFwdXIdeal.τ).loc Cert.OutFwdXIdeal.main_arg1)
      ∧ m' ((c.tc : Thread Cert.OutFwdXRefIdeal.nD Cert.OutFwdXRefIdeal.τ).loc Cert.OutFwdXRefIdeal.main_arg2) = m ((c.tc : Thread Cert.OutFwdXIdeal.nD Cert.OutFwdXIdeal.τ).loc Cert.OutFwdXIdeal.main_arg2)
      ∧ m' ((c.tc : Thread Cert.OutFwdXRefIdeal.nD Cert.OutFwdXRefIdeal.τ).loc Cert.OutFwdXRefIdeal.main_arg3) = m ((c.tc : Thread Cert.OutFwdXIdeal.nD Cert.OutFwdXIdeal.τ).loc Cert.OutFwdXIdeal.main_arg3)
      ∧ m' ((c.tc : Thread Cert.OutFwdXRefIdeal.nD Cert.OutFwdXRefIdeal.τ).loc Cert.OutFwdXRefIdeal.main_arg4) = m ((c.tc : Thread Cert.OutFwdXIdeal.nD Cert.OutFwdXIdeal.τ).loc Cert.OutFwdXIdeal.main_arg4)
      ∧ m' ((c.tc : Thread Cert.OutFwdXRefIdeal.nD Cert.OutFwdXRefIdeal.τ).loc Cert.OutFwdXRefIdeal.main_arg5) = m ((c.tc : Thread Cert.OutFwdXIdeal.nD Cert.OutFwdXIdeal.τ).loc Cert.OutFwdXIdeal.main_arg5)) →
    ∃ (v0 : (c : Dev Cert.OutFwdXIdeal.nD) → Buf (Elt Ideal) ((c.tc : Thread Cert.OutFwdXIdeal.nD Cert.OutFwdXIdeal.τ).loc Cert.OutFwdXIdeal.main_v0_0)) (v1 : (c : Dev Cert.OutFwdXIdeal.nD) → Buf (Elt Ideal) ((c.tc : Thread Cert.OutFwdXIdeal.nD Cert.OutFwdXIdeal.τ).loc Cert.OutFwdXIdeal.main_v0_1)),
      θ_run (Cert.OutFwdXIdeal.defs (F := Ideal)) (onTc (τ := Cert.OutFwdXIdeal.τ) (Cert.OutFwdXIdeal.main (F := Ideal))) ⟨m, fun _ => 0, g⟩ (fun r => ∀ c : Dev Cert.OutFwdXIdeal.nD,
          r.2.mem ((c.tc : Thread Cert.OutFwdXIdeal.nD Cert.OutFwdXIdeal.τ).loc Cert.OutFwdXIdeal.main_v0_0) = v0 c
          ∧ r.2.mem ((c.tc : Thread Cert.OutFwdXIdeal.nD Cert.OutFwdXIdeal.τ).loc Cert.OutFwdXIdeal.main_v0_1) = v1 c
          ∧ r.2.mem ((c.tc : Thread Cert.OutFwdXIdeal.nD Cert.OutFwdXIdeal.τ).loc Cert.OutFwdXIdeal.main_arg0) = m ((c.tc : Thread Cert.OutFwdXIdeal.nD Cert.OutFwdXIdeal.τ).loc Cert.OutFwdXIdeal.main_arg0)
          ∧ r.2.mem ((c.tc : Thread Cert.OutFwdXIdeal.nD Cert.OutFwdXIdeal.τ).loc Cert.OutFwdXIdeal.main_arg1) = m ((c.tc : Thread Cert.OutFwdXIdeal.nD Cert.OutFwdXIdeal.τ).loc Cert.OutFwdXIdeal.main_arg1)
          ∧ r.2.mem ((c.tc : Thread Cert.OutFwdXIdeal.nD Cert.OutFwdXIdeal.τ).loc Cert.OutFwdXIdeal.main_arg2) = m ((c.tc : Thread Cert.OutFwdXIdeal.nD Cert.OutFwdXIdeal.τ).loc Cert.OutFwdXIdeal.main_arg2)
          ∧ r.2.mem ((c.tc : Thread Cert.OutFwdXIdeal.nD Cert.OutFwdXIdeal.τ).loc Cert.OutFwdXIdeal.main_arg3) = m ((c.tc : Thread Cert.OutFwdXIdeal.nD Cert.OutFwdXIdeal.τ).loc Cert.OutFwdXIdeal.main_arg3)
          ∧ r.2.mem ((c.tc : Thread Cert.OutFwdXIdeal.nD Cert.OutFwdXIdeal.τ).loc Cert.OutFwdXIdeal.main_arg4) = m ((c.tc : Thread Cert.OutFwdXIdeal.nD Cert.OutFwdXIdeal.τ).loc Cert.OutFwdXIdeal.main_arg4)
          ∧ r.2.mem ((c.tc : Thread Cert.OutFwdXIdeal.nD Cert.OutFwdXIdeal.τ).loc Cert.OutFwdXIdeal.main_arg5) = m ((c.tc : Thread Cert.OutFwdXIdeal.nD Cert.OutFwdXIdeal.τ).loc Cert.OutFwdXIdeal.main_arg5))
      ∧ θ_run (Cert.OutFwdXRefIdeal.defs (F := Ideal)) (onTc (τ := Cert.OutFwdXRefIdeal.τ) (Cert.OutFwdXRefIdeal.main (F := Ideal))) ⟨m', fun _ => 0, g'⟩ (fun r => ∀ c : Dev Cert.OutFwdXRefIdeal.nD,
          r.2.mem ((c.tc : Thread Cert.OutFwdXRefIdeal.nD Cert.OutFwdXRefIdeal.τ).loc Cert.OutFwdXRefIdeal.main_v6) = v0 c
          ∧ r.2.mem ((c.tc : Thread Cert.OutFwdXRefIdeal.nD Cert.OutFwdXRefIdeal.τ).loc Cert.OutFwdXRefIdeal.main_v29) = v1 c
          ∧ r.2.mem ((c.tc : Thread Cert.OutFwdXRefIdeal.nD Cert.OutFwdXRefIdeal.τ).loc Cert.OutFwdXRefIdeal.main_arg0) = m' ((c.tc : Thread Cert.OutFwdXRefIdeal.nD Cert.OutFwdXRefIdeal.τ).loc Cert.OutFwdXRefIdeal.main_arg0)
          ∧ r.2.mem ((c.tc : Thread Cert.OutFwdXRefIdeal.nD Cert.OutFwdXRefIdeal.τ).loc Cert.OutFwdXRefIdeal.main_arg1) = m' ((c.tc : Thread Cert.OutFwdXRefIdeal.nD Cert.OutFwdXRefIdeal.τ).loc Cert.OutFwdXRefIdeal.main_arg1)
          ∧ r.2.mem ((c.tc : Thread Cert.OutFwdXRefIdeal.nD Cert.OutFwdXRefIdeal.τ).loc Cert.OutFwdXRefIdeal.main_arg2) = m' ((c.tc : Thread Cert.OutFwdXRefIdeal.nD Cert.OutFwdXRefIdeal.τ).loc Cert.OutFwdXRefIdeal.main_arg2)
          ∧ r.2.mem ((c.tc : Thread Cert.OutFwdXRefIdeal.nD Cert.OutFwdXRefIdeal.τ).loc Cert.OutFwdXRefIdeal.main_arg3) = m' ((c.tc : Thread Cert.OutFwdXRefIdeal.nD Cert.OutFwdXRefIdeal.τ).loc Cert.OutFwdXRefIdeal.main_arg3)
          ∧ r.2.mem ((c.tc : Thread Cert.OutFwdXRefIdeal.nD Cert.OutFwdXRefIdeal.τ).loc Cert.OutFwdXRefIdeal.main_arg4) = m' ((c.tc : Thread Cert.OutFwdXRefIdeal.nD Cert.OutFwdXRefIdeal.τ).loc Cert.OutFwdXRefIdeal.main_arg4)
          ∧ r.2.mem ((c.tc : Thread Cert.OutFwdXRefIdeal.nD Cert.OutFwdXRefIdeal.τ).loc Cert.OutFwdXRefIdeal.main_arg5) = m' ((c.tc : Thread Cert.OutFwdXRefIdeal.nD Cert.OutFwdXRefIdeal.τ).loc Cert.OutFwdXRefIdeal.main_arg5))

def preserves_InFwdA_InFwdAIdeal : Prop :=
  True

def algebraic_InFwdAIdeal_InFwdARefIdeal [hInFwdAIdeal : Cert.InFwdAIdeal.Facts] [hInFwdARefIdeal : Cert.InFwdARefIdeal.Facts] : Prop :=
  ∀ (m : (ℓ : Loc Cert.InFwdAIdeal.nD Cert.InFwdAIdeal.τ Cert.InFwdAIdeal.sig) → Buf (Elt Ideal) ℓ) (g : Dev Cert.InFwdAIdeal.nD → PrngReg)
    (m' : (ℓ : Loc Cert.InFwdARefIdeal.nD Cert.InFwdARefIdeal.τ Cert.InFwdARefIdeal.sig) → Buf (Elt Ideal) ℓ) (g' : Dev Cert.InFwdARefIdeal.nD → PrngReg), Pre_InFwdAIdeal m →
    (∀ c : Dev Cert.InFwdAIdeal.nD,
      m' ((c.tc : Thread Cert.InFwdARefIdeal.nD Cert.InFwdARefIdeal.τ).loc Cert.InFwdARefIdeal.main_arg0) = m ((c.tc : Thread Cert.InFwdAIdeal.nD Cert.InFwdAIdeal.τ).loc Cert.InFwdAIdeal.main_arg0)
      ∧ m' ((c.tc : Thread Cert.InFwdARefIdeal.nD Cert.InFwdARefIdeal.τ).loc Cert.InFwdARefIdeal.main_arg1) = m ((c.tc : Thread Cert.InFwdAIdeal.nD Cert.InFwdAIdeal.τ).loc Cert.InFwdAIdeal.main_arg1)) →
    ∃ (v0 : (c : Dev Cert.InFwdAIdeal.nD) → Buf (Elt Ideal) ((c.tc : Thread Cert.InFwdAIdeal.nD Cert.InFwdAIdeal.τ).loc Cert.InFwdAIdeal.main_v0_0)) (v1 : (c : Dev Cert.InFwdAIdeal.nD) → Buf (Elt Ideal) ((c.tc : Thread Cert.InFwdAIdeal.nD Cert.InFwdAIdeal.τ).loc Cert.InFwdAIdeal.main_v0_1)),
      θ_run (Cert.InFwdAIdeal.defs (F := Ideal)) (onTc (τ := Cert.InFwdAIdeal.τ) (Cert.InFwdAIdeal.main (F := Ideal))) ⟨m, fun _ => 0, g⟩ (fun r => ∀ c : Dev Cert.InFwdAIdeal.nD,
          r.2.mem ((c.tc : Thread Cert.InFwdAIdeal.nD Cert.InFwdAIdeal.τ).loc Cert.InFwdAIdeal.main_v0_0) = v0 c
          ∧ r.2.mem ((c.tc : Thread Cert.InFwdAIdeal.nD Cert.InFwdAIdeal.τ).loc Cert.InFwdAIdeal.main_v0_1) = v1 c
          ∧ r.2.mem ((c.tc : Thread Cert.InFwdAIdeal.nD Cert.InFwdAIdeal.τ).loc Cert.InFwdAIdeal.main_arg0) = m ((c.tc : Thread Cert.InFwdAIdeal.nD Cert.InFwdAIdeal.τ).loc Cert.InFwdAIdeal.main_arg0)
          ∧ r.2.mem ((c.tc : Thread Cert.InFwdAIdeal.nD Cert.InFwdAIdeal.τ).loc Cert.InFwdAIdeal.main_arg1) = m ((c.tc : Thread Cert.InFwdAIdeal.nD Cert.InFwdAIdeal.τ).loc Cert.InFwdAIdeal.main_arg1))
      ∧ θ_run (Cert.InFwdARefIdeal.defs (F := Ideal)) (onTc (τ := Cert.InFwdARefIdeal.τ) (Cert.InFwdARefIdeal.main (F := Ideal))) ⟨m', fun _ => 0, g'⟩ (fun r => ∀ c : Dev Cert.InFwdARefIdeal.nD,
          r.2.mem ((c.tc : Thread Cert.InFwdARefIdeal.nD Cert.InFwdARefIdeal.τ).loc Cert.InFwdARefIdeal.main_v20) = v0 c
          ∧ r.2.mem ((c.tc : Thread Cert.InFwdARefIdeal.nD Cert.InFwdARefIdeal.τ).loc Cert.InFwdARefIdeal.main_v16) = v1 c
          ∧ r.2.mem ((c.tc : Thread Cert.InFwdARefIdeal.nD Cert.InFwdARefIdeal.τ).loc Cert.InFwdARefIdeal.main_arg0) = m' ((c.tc : Thread Cert.InFwdARefIdeal.nD Cert.InFwdARefIdeal.τ).loc Cert.InFwdARefIdeal.main_arg0)
          ∧ r.2.mem ((c.tc : Thread Cert.InFwdARefIdeal.nD Cert.InFwdARefIdeal.τ).loc Cert.InFwdARefIdeal.main_arg1) = m' ((c.tc : Thread Cert.InFwdARefIdeal.nD Cert.InFwdARefIdeal.τ).loc Cert.InFwdARefIdeal.main_arg1))

def preserves_InFwdB_InFwdBIdeal : Prop :=
  True

def algebraic_InFwdBIdeal_InFwdBRefIdeal [hInFwdBIdeal : Cert.InFwdBIdeal.Facts] [hInFwdBRefIdeal : Cert.InFwdBRefIdeal.Facts] : Prop :=
  ∀ (m : (ℓ : Loc Cert.InFwdBIdeal.nD Cert.InFwdBIdeal.τ Cert.InFwdBIdeal.sig) → Buf (Elt Ideal) ℓ) (g : Dev Cert.InFwdBIdeal.nD → PrngReg)
    (m' : (ℓ : Loc Cert.InFwdBRefIdeal.nD Cert.InFwdBRefIdeal.τ Cert.InFwdBRefIdeal.sig) → Buf (Elt Ideal) ℓ) (g' : Dev Cert.InFwdBRefIdeal.nD → PrngReg), Pre_InFwdBIdeal m →
    (∀ c : Dev Cert.InFwdBIdeal.nD,
      m' ((c.tc : Thread Cert.InFwdBRefIdeal.nD Cert.InFwdBRefIdeal.τ).loc Cert.InFwdBRefIdeal.main_arg0) = m ((c.tc : Thread Cert.InFwdBIdeal.nD Cert.InFwdBIdeal.τ).loc Cert.InFwdBIdeal.main_arg0)
      ∧ m' ((c.tc : Thread Cert.InFwdBRefIdeal.nD Cert.InFwdBRefIdeal.τ).loc Cert.InFwdBRefIdeal.main_arg1) = m ((c.tc : Thread Cert.InFwdBIdeal.nD Cert.InFwdBIdeal.τ).loc Cert.InFwdBIdeal.main_arg1)) →
    ∃ (v0 : (c : Dev Cert.InFwdBIdeal.nD) → Buf (Elt Ideal) ((c.tc : Thread Cert.InFwdBIdeal.nD Cert.InFwdBIdeal.τ).loc Cert.InFwdBIdeal.main_v0_0)) (v1 : (c : Dev Cert.InFwdBIdeal.nD) → Buf (Elt Ideal) ((c.tc : Thread Cert.InFwdBIdeal.nD Cert.InFwdBIdeal.τ).loc Cert.InFwdBIdeal.main_v0_1)),
      θ_run (Cert.InFwdBIdeal.defs (F := Ideal)) (onTc (τ := Cert.InFwdBIdeal.τ) (Cert.InFwdBIdeal.main (F := Ideal))) ⟨m, fun _ => 0, g⟩ (fun r => ∀ c : Dev Cert.InFwdBIdeal.nD,
          r.2.mem ((c.tc : Thread Cert.InFwdBIdeal.nD Cert.InFwdBIdeal.τ).loc Cert.InFwdBIdeal.main_v0_0) = v0 c
          ∧ r.2.mem ((c.tc : Thread Cert.InFwdBIdeal.nD Cert.InFwdBIdeal.τ).loc Cert.InFwdBIdeal.main_v0_1) = v1 c
          ∧ r.2.mem ((c.tc : Thread Cert.InFwdBIdeal.nD Cert.InFwdBIdeal.τ).loc Cert.InFwdBIdeal.main_arg0) = m ((c.tc : Thread Cert.InFwdBIdeal.nD Cert.InFwdBIdeal.τ).loc Cert.InFwdBIdeal.main_arg0)
          ∧ r.2.mem ((c.tc : Thread Cert.InFwdBIdeal.nD Cert.InFwdBIdeal.τ).loc Cert.InFwdBIdeal.main_arg1) = m ((c.tc : Thread Cert.InFwdBIdeal.nD Cert.InFwdBIdeal.τ).loc Cert.InFwdBIdeal.main_arg1))
      ∧ θ_run (Cert.InFwdBRefIdeal.defs (F := Ideal)) (onTc (τ := Cert.InFwdBRefIdeal.τ) (Cert.InFwdBRefIdeal.main (F := Ideal))) ⟨m', fun _ => 0, g'⟩ (fun r => ∀ c : Dev Cert.InFwdBRefIdeal.nD,
          r.2.mem ((c.tc : Thread Cert.InFwdBRefIdeal.nD Cert.InFwdBRefIdeal.τ).loc Cert.InFwdBRefIdeal.main_v20) = v0 c
          ∧ r.2.mem ((c.tc : Thread Cert.InFwdBRefIdeal.nD Cert.InFwdBRefIdeal.τ).loc Cert.InFwdBRefIdeal.main_v16) = v1 c
          ∧ r.2.mem ((c.tc : Thread Cert.InFwdBRefIdeal.nD Cert.InFwdBRefIdeal.τ).loc Cert.InFwdBRefIdeal.main_arg0) = m' ((c.tc : Thread Cert.InFwdBRefIdeal.nD Cert.InFwdBRefIdeal.τ).loc Cert.InFwdBRefIdeal.main_arg0)
          ∧ r.2.mem ((c.tc : Thread Cert.InFwdBRefIdeal.nD Cert.InFwdBRefIdeal.τ).loc Cert.InFwdBRefIdeal.main_arg1) = m' ((c.tc : Thread Cert.InFwdBRefIdeal.nD Cert.InFwdBRefIdeal.τ).loc Cert.InFwdBRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v6) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_GradMem_GradMemIdeal : Prop :=
  True

def algebraic_GradMemIdeal_GradMemRefIdeal [hGradMemIdeal : Cert.GradMemIdeal.Facts] [hGradMemRefIdeal : Cert.GradMemRefIdeal.Facts] : Prop :=
  ∀ (m : (ℓ : Loc Cert.GradMemIdeal.nD Cert.GradMemIdeal.τ Cert.GradMemIdeal.sig) → Buf (Elt Ideal) ℓ) (g : Dev Cert.GradMemIdeal.nD → PrngReg)
    (m' : (ℓ : Loc Cert.GradMemRefIdeal.nD Cert.GradMemRefIdeal.τ Cert.GradMemRefIdeal.sig) → Buf (Elt Ideal) ℓ) (g' : Dev Cert.GradMemRefIdeal.nD → PrngReg), Pre_GradMemIdeal m →
    (∀ c : Dev Cert.GradMemIdeal.nD,
      m' ((c.tc : Thread Cert.GradMemRefIdeal.nD Cert.GradMemRefIdeal.τ).loc Cert.GradMemRefIdeal.main_arg0) = m ((c.tc : Thread Cert.GradMemIdeal.nD Cert.GradMemIdeal.τ).loc Cert.GradMemIdeal.main_arg0)
      ∧ m' ((c.tc : Thread Cert.GradMemRefIdeal.nD Cert.GradMemRefIdeal.τ).loc Cert.GradMemRefIdeal.main_arg1) = m ((c.tc : Thread Cert.GradMemIdeal.nD Cert.GradMemIdeal.τ).loc Cert.GradMemIdeal.main_arg1)) →
    ∃ (v0 : (c : Dev Cert.GradMemIdeal.nD) → Buf (Elt Ideal) ((c.tc : Thread Cert.GradMemIdeal.nD Cert.GradMemIdeal.τ).loc Cert.GradMemIdeal.main_v0)),
      θ_run (Cert.GradMemIdeal.defs (F := Ideal)) (onTc (τ := Cert.GradMemIdeal.τ) (Cert.GradMemIdeal.main (F := Ideal))) ⟨m, fun _ => 0, g⟩ (fun r => ∀ c : Dev Cert.GradMemIdeal.nD,
          r.2.mem ((c.tc : Thread Cert.GradMemIdeal.nD Cert.GradMemIdeal.τ).loc Cert.GradMemIdeal.main_v0) = v0 c
          ∧ r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
          ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ θ_run (Cert.GradMemRefIdeal.defs (F := Ideal)) (onTc (τ := Cert.GradMemRefIdeal.τ) (Cert.GradMemRefIdeal.main (F := Ideal))) ⟨m', fun _ => 0, g'⟩ (fun r => ∀ c : Dev Cert.GradMemRefIdeal.nD,
          r.2.mem ((c.tc : Thread Cert.GradMemRefIdeal.nD Cert.GradMemRefIdeal.τ).loc Cert.GradMemRefIdeal.main_v12) = v0 c
          ∧ r.2.mem ((c.tc : Thread Cert.GradMemRefIdeal.nD Cert.GradMemRefIdeal.τ).loc Cert.GradMemRefIdeal.main_arg0) = m' ((c.tc : Thread Cert.GradMemRefIdeal.nD Cert.GradMemRefIdeal.τ).loc Cert.GradMemRefIdeal.main_arg0)
          ∧ r.2.mem ((c.tc : Thread Cert.GradMemRefIdeal.nD Cert.GradMemRefIdeal.τ).loc Cert.GradMemRefIdeal.main_arg1) = m' ((c.tc : Thread Cert.GradMemRefIdeal.nD Cert.GradMemRefIdeal.τ).loc Cert.GradMemRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)) (v2 : (c : Dev Cert.UpFwdIdeal.nD) → Buf (Elt Ideal) ((c.tc : Thread Cert.UpFwdIdeal.nD Cert.UpFwdIdeal.τ).loc Cert.UpFwdIdeal.main_v0_2)) (v3 : (c : Dev Cert.UpFwdIdeal.nD) → Buf (Elt Ideal) ((c.tc : Thread Cert.UpFwdIdeal.nD Cert.UpFwdIdeal.τ).loc Cert.UpFwdIdeal.main_v0_3)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_v0_2) = v2 c
          ∧ r.2.mem ((c.tc : Thread Cert.UpFwdIdeal.nD Cert.UpFwdIdeal.τ).loc Cert.UpFwdIdeal.main_v0_3) = v3 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v43) = v0 c
          ∧ r.2.mem ((c.tc : Thread Cert.UpFwdRefIdeal.nD Cert.UpFwdRefIdeal.τ).loc Cert.UpFwdRefIdeal.main_v44) = v1 c
          ∧ r.2.mem ((c.tc : Thread Cert.UpFwdRefIdeal.nD Cert.UpFwdRefIdeal.τ).loc Cert.UpFwdRefIdeal.main_v46) = v2 c
          ∧ r.2.mem ((c.tc : Thread Cert.UpFwdRefIdeal.nD Cert.UpFwdRefIdeal.τ).loc Cert.UpFwdRefIdeal.main_v47) = v3 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def Claim : Prop :=
  ∃ (hKernel : Cert.Kernel.Facts) (hKernelIdeal : Cert.KernelIdeal.Facts) (hReferenceIdeal : Cert.ReferenceIdeal.Facts) (hDownBwd : Cert.DownBwd.Facts) (hDownBwdIdeal : Cert.DownBwdIdeal.Facts) (hDownBwdRefIdeal : Cert.DownBwdRefIdeal.Facts) (hGradDown : Cert.GradDown.Facts) (hGradDownIdeal : Cert.GradDownIdeal.Facts) (hGradDownRefIdeal : Cert.GradDownRefIdeal.Facts) (hGradGate : Cert.GradGate.Facts) (hGradGateIdeal : Cert.GradGateIdeal.Facts) (hGradGateRefIdeal : Cert.GradGateRefIdeal.Facts) (hGradUp : Cert.GradUp.Facts) (hGradUpIdeal : Cert.GradUpIdeal.Facts) (hGradUpRefIdeal : Cert.GradUpRefIdeal.Facts) (hUpBwd : Cert.UpBwd.Facts) (hUpBwdIdeal : Cert.UpBwdIdeal.Facts) (hUpBwdRefIdeal : Cert.UpBwdRefIdeal.Facts) (hOutBwd : Cert.OutBwd.Facts) (hOutBwdIdeal : Cert.OutBwdIdeal.Facts) (hOutBwdRefIdeal : Cert.OutBwdRefIdeal.Facts) (hGradOut : Cert.GradOut.Facts) (hGradOutIdeal : Cert.GradOutIdeal.Facts) (hGradOutRefIdeal : Cert.GradOutRefIdeal.Facts) (hInBwdX : Cert.InBwdX.Facts) (hInBwdXIdeal : Cert.InBwdXIdeal.Facts) (hInBwdXRefIdeal : Cert.InBwdXRefIdeal.Facts) (hGradInA : Cert.GradInA.Facts) (hGradInAIdeal : Cert.GradInAIdeal.Facts) (hGradInARefIdeal : Cert.GradInARefIdeal.Facts) (hGradInB : Cert.GradInB.Facts) (hGradInBIdeal : Cert.GradInBIdeal.Facts) (hGradInBRefIdeal : Cert.GradInBRefIdeal.Facts) (hInBwdA : Cert.InBwdA.Facts) (hInBwdAIdeal : Cert.InBwdAIdeal.Facts) (hInBwdARefIdeal : Cert.InBwdARefIdeal.Facts) (hInBwdB : Cert.InBwdB.Facts) (hInBwdBIdeal : Cert.InBwdBIdeal.Facts) (hInBwdBRefIdeal : Cert.InBwdBRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hOutFwdX : Cert.OutFwdX.Facts) (hOutFwdXIdeal : Cert.OutFwdXIdeal.Facts) (hOutFwdXRefIdeal : Cert.OutFwdXRefIdeal.Facts) (hInFwdA : Cert.InFwdA.Facts) (hInFwdAIdeal : Cert.InFwdAIdeal.Facts) (hInFwdARefIdeal : Cert.InFwdARefIdeal.Facts) (hInFwdB : Cert.InFwdB.Facts) (hInFwdBIdeal : Cert.InFwdBIdeal.Facts) (hInFwdBRefIdeal : Cert.InFwdBRefIdeal.Facts) (hMemFwd : Cert.MemFwd.Facts) (hMemFwdIdeal : Cert.MemFwdIdeal.Facts) (hMemFwdRefIdeal : Cert.MemFwdRefIdeal.Facts) (hGradMem : Cert.GradMem.Facts) (hGradMemIdeal : Cert.GradMemIdeal.Facts) (hGradMemRefIdeal : Cert.GradMemRefIdeal.Facts) (hUpFwd : Cert.UpFwd.Facts) (hUpFwdIdeal : Cert.UpFwdIdeal.Facts) (hUpFwdRefIdeal : Cert.UpFwdRefIdeal.Facts) (hPre_scores_finite : Cert.Pre_scores_finite.Facts) (hPre_factors_finite : Cert.Pre_factors_finite.Facts) (hPre_norm_finite : Cert.Pre_norm_finite.Facts) (hPre_norm_finite_a : Cert.Pre_norm_finite_a.Facts) (hPre_norm_finite_b : Cert.Pre_norm_finite_b.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_DownBwd (hDownBwd := hDownBwd)
    ∧ quiescent_DownBwdIdeal (hDownBwdIdeal := hDownBwdIdeal)
    ∧ quiescent_DownBwdIdeal_pre_factors_finite (hDownBwdIdeal := hDownBwdIdeal) (hPre_factors_finite := hPre_factors_finite)
    ∧ quiescent_DownBwdRefIdeal (hDownBwdRefIdeal := hDownBwdRefIdeal)
    ∧ quiescent_DownBwdRefIdeal_pre_factors_finite (hDownBwdRefIdeal := hDownBwdRefIdeal) (hPre_factors_finite := hPre_factors_finite)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradGate (hGradGate := hGradGate)
    ∧ quiescent_GradGateIdeal (hGradGateIdeal := hGradGateIdeal)
    ∧ quiescent_GradGateRefIdeal (hGradGateRefIdeal := hGradGateRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_UpBwd (hUpBwd := hUpBwd)
    ∧ quiescent_UpBwdIdeal (hUpBwdIdeal := hUpBwdIdeal)
    ∧ quiescent_UpBwdIdeal_pre_norm_finite (hUpBwdIdeal := hUpBwdIdeal) (hPre_norm_finite := hPre_norm_finite)
    ∧ quiescent_UpBwdRefIdeal (hUpBwdRefIdeal := hUpBwdRefIdeal)
    ∧ quiescent_UpBwdRefIdeal_pre_norm_finite (hUpBwdRefIdeal := hUpBwdRefIdeal) (hPre_norm_finite := hPre_norm_finite)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_InBwdX (hInBwdX := hInBwdX)
    ∧ quiescent_InBwdXIdeal (hInBwdXIdeal := hInBwdXIdeal)
    ∧ quiescent_InBwdXRefIdeal (hInBwdXRefIdeal := hInBwdXRefIdeal)
    ∧ quiescent_GradInA (hGradInA := hGradInA)
    ∧ quiescent_GradInAIdeal (hGradInAIdeal := hGradInAIdeal)
    ∧ quiescent_GradInARefIdeal (hGradInARefIdeal := hGradInARefIdeal)
    ∧ quiescent_GradInB (hGradInB := hGradInB)
    ∧ quiescent_GradInBIdeal (hGradInBIdeal := hGradInBIdeal)
    ∧ quiescent_GradInBRefIdeal (hGradInBRefIdeal := hGradInBRefIdeal)
    ∧ quiescent_InBwdA (hInBwdA := hInBwdA)
    ∧ quiescent_InBwdAIdeal (hInBwdAIdeal := hInBwdAIdeal)
    ∧ quiescent_InBwdAIdeal_pre_norm_finite_a (hInBwdAIdeal := hInBwdAIdeal) (hPre_norm_finite_a := hPre_norm_finite_a)
    ∧ quiescent_InBwdARefIdeal (hInBwdARefIdeal := hInBwdARefIdeal)
    ∧ quiescent_InBwdARefIdeal_pre_norm_finite_a (hInBwdARefIdeal := hInBwdARefIdeal) (hPre_norm_finite_a := hPre_norm_finite_a)
    ∧ quiescent_InBwdB (hInBwdB := hInBwdB)
    ∧ quiescent_InBwdBIdeal (hInBwdBIdeal := hInBwdBIdeal)
    ∧ quiescent_InBwdBIdeal_pre_norm_finite_b (hInBwdBIdeal := hInBwdBIdeal) (hPre_norm_finite_b := hPre_norm_finite_b)
    ∧ quiescent_InBwdBRefIdeal (hInBwdBRefIdeal := hInBwdBRefIdeal)
    ∧ quiescent_InBwdBRefIdeal_pre_norm_finite_b (hInBwdBRefIdeal := hInBwdBRefIdeal) (hPre_norm_finite_b := hPre_norm_finite_b)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutFwdX (hOutFwdX := hOutFwdX)
    ∧ quiescent_OutFwdXIdeal (hOutFwdXIdeal := hOutFwdXIdeal)
    ∧ quiescent_OutFwdXRefIdeal (hOutFwdXRefIdeal := hOutFwdXRefIdeal)
    ∧ quiescent_InFwdA (hInFwdA := hInFwdA)
    ∧ quiescent_InFwdAIdeal (hInFwdAIdeal := hInFwdAIdeal)
    ∧ quiescent_InFwdARefIdeal (hInFwdARefIdeal := hInFwdARefIdeal)
    ∧ quiescent_InFwdB (hInFwdB := hInFwdB)
    ∧ quiescent_InFwdBIdeal (hInFwdBIdeal := hInFwdBIdeal)
    ∧ quiescent_InFwdBRefIdeal (hInFwdBRefIdeal := hInFwdBRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_GradMem (hGradMem := hGradMem)
    ∧ quiescent_GradMemIdeal (hGradMemIdeal := hGradMemIdeal)
    ∧ quiescent_GradMemRefIdeal (hGradMemRefIdeal := hGradMemRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_DownBwd_DownBwdIdeal
    ∧ algebraic_DownBwdIdeal_DownBwdRefIdeal_pre_factors_finite (hDownBwdIdeal := hDownBwdIdeal) (hDownBwdRefIdeal := hDownBwdRefIdeal) (hPre_factors_finite := hPre_factors_finite)
    ∧ preserves_GradDown_GradDownIdeal
    ∧ algebraic_GradDownIdeal_GradDownRefIdeal (hGradDownIdeal := hGradDownIdeal) (hGradDownRefIdeal := hGradDownRefIdeal)
    ∧ preserves_GradGate_GradGateIdeal
    ∧ algebraic_GradGateIdeal_GradGateRefIdeal (hGradGateIdeal := hGradGateIdeal) (hGradGateRefIdeal := hGradGateRefIdeal)
    ∧ preserves_GradUp_GradUpIdeal
    ∧ algebraic_GradUpIdeal_GradUpRefIdeal (hGradUpIdeal := hGradUpIdeal) (hGradUpRefIdeal := hGradUpRefIdeal)
    ∧ preserves_UpBwd_UpBwdIdeal
    ∧ algebraic_UpBwdIdeal_UpBwdRefIdeal_pre_norm_finite (hUpBwdIdeal := hUpBwdIdeal) (hUpBwdRefIdeal := hUpBwdRefIdeal) (hPre_norm_finite := hPre_norm_finite)
    ∧ preserves_OutBwd_OutBwdIdeal
    ∧ algebraic_OutBwdIdeal_OutBwdRefIdeal (hOutBwdIdeal := hOutBwdIdeal) (hOutBwdRefIdeal := hOutBwdRefIdeal)
    ∧ preserves_GradOut_GradOutIdeal
    ∧ algebraic_GradOutIdeal_GradOutRefIdeal (hGradOutIdeal := hGradOutIdeal) (hGradOutRefIdeal := hGradOutRefIdeal)
    ∧ preserves_InBwdX_InBwdXIdeal
    ∧ algebraic_InBwdXIdeal_InBwdXRefIdeal (hInBwdXIdeal := hInBwdXIdeal) (hInBwdXRefIdeal := hInBwdXRefIdeal)
    ∧ preserves_GradInA_GradInAIdeal
    ∧ algebraic_GradInAIdeal_GradInARefIdeal (hGradInAIdeal := hGradInAIdeal) (hGradInARefIdeal := hGradInARefIdeal)
    ∧ preserves_GradInB_GradInBIdeal
    ∧ algebraic_GradInBIdeal_GradInBRefIdeal (hGradInBIdeal := hGradInBIdeal) (hGradInBRefIdeal := hGradInBRefIdeal)
    ∧ preserves_InBwdA_InBwdAIdeal
    ∧ algebraic_InBwdAIdeal_InBwdARefIdeal_pre_norm_finite_a (hInBwdAIdeal := hInBwdAIdeal) (hInBwdARefIdeal := hInBwdARefIdeal) (hPre_norm_finite_a := hPre_norm_finite_a)
    ∧ preserves_InBwdB_InBwdBIdeal
    ∧ algebraic_InBwdBIdeal_InBwdBRefIdeal_pre_norm_finite_b (hInBwdBIdeal := hInBwdBIdeal) (hInBwdBRefIdeal := hInBwdBRefIdeal) (hPre_norm_finite_b := hPre_norm_finite_b)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutFwdX_OutFwdXIdeal
    ∧ algebraic_OutFwdXIdeal_OutFwdXRefIdeal (hOutFwdXIdeal := hOutFwdXIdeal) (hOutFwdXRefIdeal := hOutFwdXRefIdeal)
    ∧ preserves_InFwdA_InFwdAIdeal
    ∧ algebraic_InFwdAIdeal_InFwdARefIdeal (hInFwdAIdeal := hInFwdAIdeal) (hInFwdARefIdeal := hInFwdARefIdeal)
    ∧ preserves_InFwdB_InFwdBIdeal
    ∧ algebraic_InFwdBIdeal_InFwdBRefIdeal (hInFwdBIdeal := hInFwdBIdeal) (hInFwdBRefIdeal := hInFwdBRefIdeal)
    ∧ preserves_MemFwd_MemFwdIdeal
    ∧ algebraic_MemFwdIdeal_MemFwdRefIdeal (hMemFwdIdeal := hMemFwdIdeal) (hMemFwdRefIdeal := hMemFwdRefIdeal)
    ∧ preserves_GradMem_GradMemIdeal
    ∧ algebraic_GradMemIdeal_GradMemRefIdeal (hGradMemIdeal := hGradMemIdeal) (hGradMemRefIdeal := hGradMemRefIdeal)
    ∧ preserves_UpFwd_UpFwdIdeal
    ∧ algebraic_UpFwdIdeal_UpFwdRefIdeal (hUpFwdIdeal := hUpFwdIdeal) (hUpFwdRefIdeal := hUpFwdRefIdeal)
-- ==== Pre_factors_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : FVec F S8192x1024 .f32) (main_v17 : IVec S_ 1) : IVec S_ 1 :=
  let main_v18 : FVec F S8192x1024 .f32 := Host.absf main_v3
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  let main_c_5 : IVec S_ 1 := constantI S_ 1 1#1
  let main_v21 : IVec S_ 1 := (fun x v => Host.reduce IntOp.andi x v reducesTo_S8192x1024_S_d0_1 h_S_) main_v20 main_c_5
  let main_v22 : IVec S_ 1 := andi main_v17 main_v21
  main_v22

def fn {F : FTy → Type} [FloatOps F] (main_arg0 : FVec F S8192x1024 .bf16) (main_arg1 : FVec F S1024x2816 .bf16) (main_arg2 : FVec F S1024x2816 .bf16) (main_arg3 : FVec F S2816x1024 .bf16) (main_arg4 : FVec F S8192x1024 .bf16) : IVec S_ 1 :=
  let main_v0 : FVec F S8192x1024 .f32 := (extf .f32 · bitsLt_bf16_f32) main_arg0
  let main_v1 : FVec F S1024x2816 .f32 := (extf .f32 · bitsLt_bf16_f32) main_arg2
  let main_v2 : FVec F S2816x1024 .f32 := (extf .f32 · bitsLt_bf16_f32) main_arg3
  let main_v3 : FVec F S8192x1024 .f32 := (extf .f32 · bitsLt_bf16_f32) main_arg4
  let main_v4 : FVec F S8192x1024 .f32 := Host.absf main_v0
  let main_cst : FVec F S_ .f32 := constant S_ .f32 0x7F800000#32
  let main_v5 : FVec F S8192x1024 .f32 := broadcastInDim S8192x1024 ![] bcast_S_S8192x1024 main_cst
  let main_v6 : IVec S8192x1024 1 := cmpf .olt main_v4 main_v5
  let main_c : IVec S_ 1 := constantI S_ 1 1#1
  let main_v7 : IVec S_ 1 := (fun x v => Host.reduce IntOp.andi x v reducesTo_S8192x1024_S_d0_1 h_S_) main_v6 main_c
  let main_v8 : FVec F S1024x2816 .f32 := Host.absf main_v1
  let main_cst_0 : FVec F S_ .f32 := constant S_ .f32 0x7F800000#32
  let main_v9 : FVec F S1024x2816 .f32 := broadcastInDim S1024x2816 ![] bcast_S_S1024x2816 main_cst_0
  let main_v10 : IVec S1024x2816 1 := cmpf .olt main_v8 main_v9
  let main_c_1 : IVec S_ 1 := constantI S_ 1 1#1
  let main_v11 : IVec S_ 1 := (fun x v => Host.reduce IntOp.andi x v reducesTo_S1024x2816_S_d0_1 h_S_) main_v10 main_c_1
  let main_v12 : IVec S_ 1 := andi main_v7 main_v11
  let main_v13 : FVec F S2816x1024 .f32 := Host.absf main_v2
  let main_cst_2 : FVec F S_ .f32 := constant S_ .f32 0x7F800000#32
  let main_v14 : FVec F S2816x1024 .f32 := broadcastInDim S2816x1024 ![] bcast_S_S2816x1024 main_cst_2
  let main_v15 : IVec S2816x1024 1 := cmpf .olt main_v13 main_v14
  let main_c_3 : IVec S_ 1 := constantI S_ 1 1#1
  let main_v16 : IVec S_ 1 := (fun x v => Host.reduce IntOp.andi x v reducesTo_S2816x1024_S_d0_1 h_S_) main_v15 main_c_3
  let main_v17 : IVec S_ 1 := andi main_v12 main_v16
  fn_part1 (F := F) main_v3 main_v17
-- ==== Pre_norm_finite.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S8192x5632 .bf16) (main_arg1 : FVec F S1024x5632 .bf16) (main_arg2 : FVec F S8192x1024 .f32) (main_arg3 : FVec F S8192x1024 .f32) (main_arg4 : FVec F S1x1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg4
  let main_cst_4 : FVec F S_ .f32 := constant S_ .f32 0x7F800000#32
  fn_part1 (F := F) main_v15 main_v16 main_cst_4
-- ==== Pre_norm_finite_a.lean ====
abbrev S8192x768 : Shape := ⟨2, ![8192, 768]⟩
abbrev S8192x256 : Shape := ⟨2, ![8192, 256]⟩
abbrev S1024x2560 : Shape := ⟨2, ![1024, 2560]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v33 : IVec S_ 1) (main_v34 : FVec F S1x1024 .f32) (main_cst_10 : FVec F S_ .f32) : IVec S_ 1 :=
  let main_v35 : FVec F S1x1024 .f32 := broadcastInDim S1x1024 ![] bcast_S_S1x1024 main_cst_10
  let main_v36 : IVec S1x1024 1 := cmpf .olt main_v34 main_v35
  let main_c_11 : IVec S_ 1 := constantI S_ 1 1#1
  let main_v37 : IVec S_ 1 := (fun x v => Host.reduce IntOp.andi x v reducesTo_S1x1024_S_d0_1 h_S_) main_v36 main_c_11
  let main_v38 : IVec S_ 1 := andi main_v33 main_v37
  main_v38

def fn_part1 {F : FTy → Type} [FloatOps F] (main_arg4 : FVec F S1024x2560 .bf16) (main_arg5 : FVec F S8192x1024 .f32) (main_arg7 : FVec F S1x1024 .f32) (main_v16 : IVec S_ 1) (main_v17 : FVec F S8192x256 .f32) : IVec S_ 1 :=
  let main_v18 : FVec F S8192x256 .f32 := Host.absf main_v17
  let main_cst_4 : FVec F S_ .f32 := constant S_ .f32 0x7F800000#32
  let main_v19 : FVec F S8192x256 .f32 := broadcastInDim S8192x256 ![] bcast_S_S8192x256 main_cst_4
  let main_v20 : IVec S8192x256 1 := cmpf .olt main_v18 main_v19
  let main_c_5 : IVec S_ 1 := constantI S_ 1 1#1
  let main_v21 : IVec S_ 1 := (fun x v => Host.reduce IntOp.andi x v reducesTo_S8192x256_S_d0_1 h_S_) main_v20 main_c_5
  let main_v22 : IVec S_ 1 := andi main_v16 main_v21
  let main_v23 : FVec F S1024x2560 .f32 := (extf .f32 · bitsLt_bf16_f32) main_arg4
  let main_v24 : FVec F S1024x2560 .f32 := Host.absf main_v23
  let main_cst_6 : FVec F S_ .f32 := constant S_ .f32 0x7F800000#32
  let main_v25 : FVec F S1024x2560 .f32 := broadcastInDim S1024x2560 ![] bcast_S_S1024x2560 main_cst_6
  let main_v26 : IVec S1024x2560 1 := cmpf .olt main_v24 main_v25
  let main_c_7 : IVec S_ 1 := constantI S_ 1 1#1
  let main_v27 : IVec S_ 1 := (fun x v => Host.reduce IntOp.andi x v reducesTo_S1024x2560_S_d0_1 h_S_) main_v26 main_c_7
  let main_v28 : IVec S_ 1 := andi main_v22 main_v27
  let main_v29 : FVec F S8192x1024 .f32 := Host.absf main_arg5
  let main_cst_8 : FVec F S_ .f32 := constant S_ .f32 0x7F800000#32
  let main_v30 : FVec F S8192x1024 .f32 := broadcastInDim S8192x1024 ![] bcast_S_S8192x1024 main_cst_8
  let main_v31 : IVec S8192x1024 1 := cmpf .olt main_v29 main_v30
  let main_c_9 : IVec S_ 1 := constantI S_ 1 1#1
  let main_v32 : IVec S_ 1 := (fun x v => Host.reduce IntOp.andi x v reducesTo_S8192x1024_S_d0_1 h_S_) main_v31 main_c_9
  let main_v33 : IVec S_ 1 := andi main_v28 main_v32
  let main_v34 : FVec F S1x1024 .f32 := Host.absf main_arg7
  let main_cst_10 : FVec F S_ .f32 := constant S_ .f32 0x7F800000#32
  fn_part2 (F := F) main_v33 main_v34 main_cst_10

def fn {F : FTy → Type} [FloatOps F] (main_arg0 : FVec F S8192x768 .bf16) (main_arg1 : FVec F S8192x768 .bf16) (main_arg2 : FVec F S8192x768 .bf16) (main_arg3 : FVec F S8192x256 .bf16) (main_arg4 : FVec F S1024x2560 .bf16) (main_arg5 : FVec F S8192x1024 .f32) (main_arg6 : FVec F S8192x1024 .f32) (main_arg7 : FVec F S1x1024 .f32) : IVec S_ 1 :=
  let main_v0 : FVec F S8192x768 .f32 := (extf .f32 · bitsLt_bf16_f32) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_c : IVec S_ 1 := constantI S_ 1 1#1
  let main_v4 : IVec S_ 1 := (fun x v => Host.reduce IntOp.andi x v reducesTo_S8192x768_S_d0_1 h_S_) main_v3 main_c
  let main_v5 : FVec F S8192x768 .f32 := (extf .f32 · bitsLt_bf16_f32) main_arg1
  let main_v6 : FVec F S8192x768 .f32 := Host.absf main_v5
  let main_cst_0 : FVec F S_ .f32 := constant S_ .f32 0x7F800000#32
  let main_v7 : FVec F S8192x768 .f32 := broadcastInDim S8192x768 ![] bcast_S_S8192x768 main_cst_0
  let main_v8 : IVec S8192x768 1 := cmpf .olt main_v6 main_v7
  let main_c_1 : IVec S_ 1 := constantI S_ 1 1#1
  let main_v9 : IVec S_ 1 := (fun x v => Host.reduce IntOp.andi x v reducesTo_S8192x768_S_d0_1 h_S_) main_v8 main_c_1
  let main_v10 : IVec S_ 1 := andi main_v4 main_v9
  let main_v11 : FVec F S8192x768 .f32 := (extf .f32 · bitsLt_bf16_f32) main_arg2
  let main_v12 : FVec F S8192x768 .f32 := Host.absf main_v11
  let main_cst_2 : FVec F S_ .f32 := constant S_ .f32 0x7F800000#32
  let main_v13 : FVec F S8192x768 .f32 := broadcastInDim S8192x768 ![] bcast_S_S8192x768 main_cst_2
  let main_v14 : IVec S8192x768 1 := cmpf .olt main_v12 main_v13
  let main_c_3 : IVec S_ 1 := constantI S_ 1 1#1
  let main_v15 : IVec S_ 1 := (fun x v => Host.reduce IntOp.andi x v reducesTo_S8192x768_S_d0_1 h_S_) main_v14 main_c_3
  let main_v16 : IVec S_ 1 := andi main_v10 main_v15
  let main_v17 : FVec F S8192x256 .f32 := (extf .f32 · bitsLt_bf16_f32) main_arg3
  fn_part1 (F := F) main_arg4 main_arg5 main_arg7 main_v16 main_v17
-- ==== Pre_norm_finite_b.lean ====
abbrev S8192x1536 : Shape := ⟨2, ![8192, 1536]⟩
abbrev S8192x256 : Shape := ⟨2, ![8192, 256]⟩
abbrev S1024x1792 : Shape := ⟨2, ![1024, 1792]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x1792 : S_.BroadcastsInDim S1024x1792 (![] : Fin 0 → Fin S1024x1792.rank)
  reducesTo_S1024x1792_S_d0_1 : S1024x1792.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S1x1024 .f32 := Host.absf main_arg5
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_c_7 : IVec S_ 1 := constantI S_ 1 1#1
  let main_v25 : IVec S_ 1 := (fun x v => Host.reduce IntOp.andi x v reducesTo_S1x1024_S_d0_1 h_S_) main_v24 main_c_7
  let main_v26 : IVec S_ 1 := andi main_v21 main_v25
  main_v26

def fn {F : FTy → Type} [FloatOps F] (main_arg0 : FVec F S8192x1536 .bf16) (main_arg1 : FVec F S8192x256 .bf16) (main_arg2 : FVec F S1024x1792 .bf16) (main_arg3 : FVec F S8192x1024 .f32) (main_arg4 : FVec F S8192x1024 .f32) (main_arg5 : FVec F S1x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S1024x1792 .f32 := (extf .f32 · bitsLt_bf16_f32) main_arg2
  let main_v12 : FVec F S1024x1792 .f32 := Host.absf main_v11
  let main_cst_2 : FVec F S_ .f32 := constant S_ .f32 0x7F800000#32
  let main_v13 : FVec F S1024x1792 .f32 := broadcastInDim S1024x1792 ![] bcast_S_S1024x1792 main_cst_2
  let main_v14 : IVec S1024x1792 1 := cmpf .olt main_v12 main_v13
  let main_c_3 : IVec S_ 1 := constantI S_ 1 1#1
  let main_v15 : IVec S_ 1 := (fun x v => Host.reduce IntOp.andi x v reducesTo_S1024x1792_S_d0_1 h_S_) main_v14 main_c_3
  let main_v16 : IVec S_ 1 := andi main_v10 main_v15
  let main_v17 : FVec F S8192x1024 .f32 := Host.absf main_arg3
  fn_part1 (F := F) main_arg5 main_v16 main_v17
-- ==== Pre_scores_finite.lean ====
abbrev S8192x2560 : Shape := ⟨2, ![8192, 2560]⟩
abbrev S1024x512 : Shape := ⟨2, ![1024, 512]⟩
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩

class Facts : Prop where
  slices_S8192x2560_S8192x256_0_2304 : S8192x2560.Slices ![0, 2304] S8192x256
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  h_S_ : 0 < S_.numel
  slices_S1024x512_S1024x256_0_0 : S1024x512.Slices ![0, 0] S1024x256
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S8192x2560 .bf16) (main_arg1 : FVec F S1024x512 .bf16) (main_arg2 : FVec F S8192x1024 .bf16) : IVec S_ 1 :=
  let main_v0 : FVec F S8192x256 .bf16 := (extractStridedSlice S8192x256 ![0, 2304] · slices_S8192x2560_S8192x256_0_2304) main_arg0
  let main_v1 : FVec F S8192x256 .f32 := (extf .f32 · bitsLt_bf16_f32) main_v0
  let main_v2 : FVec F S8192x256 .f32 := Host.absf main_v1
  let main_cst : FVec F S_ .f32 := constant S_ .f32 0x7F800000#32
  let main_v3 : FVec F S8192x256 .f32 := broadcastInDim S8192x256 ![] bcast_S_S8192x256 main_cst
  let main_v4 : IVec S8192x256 1 := cmpf .olt main_v2 main_v3
  let main_c : IVec S_ 1 := constantI S_ 1 1#1
  let main_v5 : IVec S_ 1 := (fun x v => Host.reduce IntOp.andi x v reducesTo_S8192x256_S_d0_1 h_S_) main_v4 main_c
  let main_v6 : FVec F S1024x256 .bf16 := (extractStridedSlice S1024x256 ![0, 0] · slices_S1024x512_S1024x256_0_0) main_arg1
  let main_v7 : FVec F S1024x256 .f32 := (extf .f32 · bitsLt_bf16_f32) main_v6
  let main_v8 : FVec F S1024x256 .f32 := Host.absf main_v7
  let main_cst_0 : FVec F S_ .f32 := constant S_ .f32 0x7F800000#32
  let main_v9 : FVec F S1024x256 .f32 := broadcastInDim S1024x256 ![] bcast_S_S1024x256 main_cst_0
  let main_v10 : IVec S1024x256 1 := cmpf .olt main_v8 main_v9
  let main_c_1 : IVec S_ 1 := constantI S_ 1 1#1
  let main_v11 : IVec S_ 1 := (fun x v => Host.reduce IntOp.andi x v reducesTo_S1024x256_S_d0_1 h_S_) main_v10 main_c_1
  let main_v12 : IVec S_ 1 := andi main_v5 main_v11
  main_v12
-- ==== Kernel.lean ====
abbrev S8192x2560 : Shape := ⟨2, ![8192, 2560]⟩
abbrev S1024x512 : Shape := ⟨2, ![1024, 512]⟩
abbrev S8192x1024 : Shape := ⟨2, ![8192, 1024]⟩
abbrev S8192x256 : Shape := ⟨2, ![8192, 256]⟩
abbrev S2048x256 : Shape := ⟨2, ![2048, 256]⟩
abbrev S256x512 : Shape := ⟨2, ![256, 512]⟩
abbrev S2048x128 : Shape := ⟨2, ![2048, 128]⟩
abbrev S1x128 : Shape := ⟨2, ![1, 128]⟩
abbrev S256x128 : Shape := ⟨2, ![256, 128]⟩
abbrev S2048 : Shape := ⟨1, ![2048]⟩
abbrev S2048x1 : Shape := ⟨2, ![2048, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2560, .bf16⟩
  | .hbm, ⟨1, _⟩ => ⟨S1024x512, .bf16⟩
  | .hbm, ⟨2, _⟩ => ⟨S8192x1024, .bf16⟩
  | .hbm, ⟨3, _⟩ => ⟨S8192x256, .bf16⟩
  | .hbm, ⟨4, _⟩ => ⟨S1024x512, .f32⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S256x512, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S256x512, .f32⟩
  | .local _ .vmem, ⟨9, _⟩ => ⟨S256x512, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x2560 : Shape := ⟨2, ![8192, 2560]⟩
abbrev S1024x512 : Shape := ⟨2, ![1024, 512]⟩
abbrev S8192x1024 : Shape := ⟨2, ![8192, 1024]⟩
abbrev S8192x256 : Shape := ⟨2, ![8192, 256]⟩
abbrev S4x2048x4x64 : Shape := ⟨4, ![4, 2048, 4, 64]⟩
abbrev S1024x256 : Shape := ⟨2, ![1024, 256]⟩
abbrev S4x256x4x64 : Shape := ⟨4, ![4, 256, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩

abbrev nBuf : Space → Nat
  | .hbm => 89
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x512, .bf16⟩
  | .hbm, ⟨2, _⟩ => ⟨S8192x1024, .bf16⟩
  | .hbm, ⟨3, _⟩ => ⟨S8192x256, .bf16⟩
  | .hbm, ⟨4, _⟩ => ⟨S8192x256, .f32⟩
  | .hbm, ⟨5, _⟩ => ⟨S4x2048x4x64, .f32⟩
  | .hbm, ⟨6, _⟩ => ⟨S1024x256, .bf16⟩
  | .hbm, ⟨7, _⟩ => ⟨S1024x256, .f32⟩
  | .hbm, ⟨8, _⟩ => ⟨S4x256x4x64, .f32⟩
  | .hbm, ⟨9, _⟩ => ⟨S1024x256, .bf16⟩
  | .hbm, ⟨10, _⟩ => ⟨S1024x256, .f32⟩
  | .hbm, ⟨11, _⟩ => ⟨S4x256x4x64, .f32⟩
  | .hbm, ⟨12, _⟩ => ⟨S8192x256, .bf16⟩
  | .hbm, ⟨13, _⟩ => ⟨S8192x256, .f32⟩
  | .hbm, ⟨14, _⟩ => ⟨S4x2048x4x64, .f32⟩
  | .hbm, ⟨15, _⟩ => ⟨S4x4x2048x256, .f32⟩
  | .hbm, ⟨16, _⟩ => ⟨S_, .f32⟩
  | .hbm, ⟨17, _⟩ => ⟨S4x4x2048x256, .f32⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .i1⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S_, .f32⟩
  | .hbm, ⟨28, _⟩ => ⟨S4x4x2048, .f32⟩
  | .hbm, ⟨29, _⟩ => ⟨S4x4x2048, .f32⟩
  | .hbm, ⟨30, _⟩ => ⟨S_, .f32⟩
  | .hbm, ⟨31, _⟩ => ⟨S4x4x2048, .f32⟩
  | .hbm, ⟨32, _⟩ => ⟨S4x4x2048, .i1⟩
  | .hbm, ⟨33, _⟩ => ⟨S_, .f32⟩
  | .hbm, ⟨34, _⟩ => ⟨S4x4x2048, .f32⟩
  | .hbm, ⟨35, _⟩ => ⟨S4x4x2048, .i1⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S_, .f32⟩
  | .hbm, ⟨41, _⟩ => ⟨S4x4x2048, .f32⟩
  | .hbm, ⟨42, _⟩ => ⟨S4x4x2048, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x256, .f32⟩
  | .hbm, ⟨48, _⟩ => ⟨S_, .f32⟩
  | .hbm, ⟨49, _⟩ => ⟨S4x4x2048, .f32⟩
  | .hbm, ⟨50, _⟩ => ⟨S4x4x2048x1, .f32⟩
  | .hbm, ⟨51, _⟩ => ⟨S4x4x2048x256, .f32⟩
  | .hbm, ⟨52, _⟩ => ⟨S4x4x2048x256, .f32⟩
  | .hbm, ⟨53, _⟩ => ⟨S4x4x2048x1, .f32⟩
  | .hbm, ⟨54, _⟩ => ⟨S_, .f32⟩
  | .hbm, ⟨55, _⟩ => ⟨S4x4x2048x1, .f32⟩
  | .hbm, ⟨56, _⟩ => ⟨S4x4x2048x1, .f32⟩
  | .hbm, ⟨57, _⟩ => ⟨S4x4x64x2048, .f32⟩
  | .hbm, ⟨58, _⟩ => ⟨S4x2048x4x64, .f32⟩
  | .hbm, ⟨59, _⟩ => ⟨S4x4x64x2048, .f32⟩
  | .hbm, ⟨60, _⟩ => ⟨S4x4x2048x256, .f32⟩
  | .hbm, ⟨61, _⟩ => ⟨S4x4x64x256, .f32⟩
  | .hbm, ⟨62, _⟩ => ⟨S4x256x4x64, .f32⟩
  | .hbm, ⟨63, _⟩ => ⟨S4x4x2048x256, .f32⟩
  | .hbm, ⟨64, _⟩ => ⟨S4x4x2048x256, .f32⟩
  | .hbm, ⟨65, _⟩ => ⟨S4x4x2048x256, .f32⟩
  | .hbm, ⟨66, _⟩ => ⟨S_, .f32⟩
  | .hbm, ⟨67, _⟩ => ⟨S4x4x2048, .f32⟩
  | .hbm, ⟨68, _⟩ => ⟨S4x4x2048x1, .f32⟩
  | .hbm, ⟨69, _⟩ => ⟨S4x4x2048x1, .f32⟩
  | .hbm, ⟨70, _⟩ => ⟨S4x4x2048x256, .f32⟩
  | .hbm, ⟨71, _⟩ => ⟨S4x4x2048x256, .f32⟩
  | .hbm, ⟨72, _⟩ => ⟨S_, .f32⟩
  | .hbm, ⟨73, _⟩ => ⟨S4x4x2048, .f32⟩
  | .hbm, ⟨74, _⟩ => ⟨S4x4x2048x256, .f32⟩
  | .hbm, ⟨75, _⟩ => ⟨S4x4x2048x256, .f32⟩
  | .hbm, ⟨76, _⟩ => ⟨S4x4x2048x256, .f32⟩
  | .hbm, ⟨77, _⟩ => ⟨S_, .f32⟩
  | .hbm, ⟨78, _⟩ => ⟨S4x4x2048x256, .f32⟩
  | .hbm, ⟨79, _⟩ => ⟨S4x4x2048x256, .f32⟩
  | .hbm, ⟨80, _⟩ => ⟨S4x4x256x64, .f32⟩
  | .hbm, ⟨81, _⟩ => ⟨S4x256x4x64, .f32⟩
  | .hbm, ⟨82, _⟩ => ⟨S4x4x2048x64, .f32⟩
  | .hbm, ⟨83, _⟩ => ⟨S4x2048x4x64, .f32⟩
  | .hbm, ⟨84, _⟩ => ⟨S1024x256, .f32⟩
  | .hbm, ⟨85, _⟩ => ⟨S1024x256, .f32⟩
  | .hbm, ⟨86, _⟩ => ⟨S1024x512, .f32⟩
  | .hbm, ⟨87, _⟩ => ⟨S8192x256, .f32⟩
  | .hbm, ⟨88, _⟩ => ⟨S8192x256, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== DownBwd.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x5632 : Shape := ⟨2, ![8192, 5632]⟩
abbrev S512x1024 : Shape := ⟨2, ![512, 1024]⟩
abbrev S512x2816 : Shape := ⟨2, ![512, 2816]⟩
abbrev S512x5632 : Shape := ⟨2, ![512, 5632]⟩
abbrev S1408x1024 : Shape := ⟨2, ![1408, 1024]⟩
abbrev S512x1408 : Shape := ⟨2, ![512, 1408]⟩

abbrev nBuf : Space → Nat
  | .hbm => 30
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .bf16⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .bf16⟩
  | .hbm, ⟨26, _⟩ => ⟨S8192x2816, .bf16⟩
  | .hbm, ⟨27, _⟩ => ⟨S8192x2816, .f32⟩
  | .hbm, ⟨28, _⟩ => ⟨S8192x2816, .bf16⟩
  | .hbm, ⟨29, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownBwdRefIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S8192x1024, .bf16⟩
  | .hbm, ⟨5, _⟩ => ⟨S8192x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x1024, .f32⟩
  | .hbm, ⟨27, _⟩ => ⟨S1024x2816, .f32⟩
  | .hbm, ⟨28, _⟩ => ⟨S2816x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x5632, .f32⟩
  | .hbm, ⟨37, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== GradDown.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 29
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .bf16⟩
  | .hbm, ⟨25, _⟩ => ⟨S8192x2816, .bf16⟩
  | .hbm, ⟨26, _⟩ => ⟨S8192x2816, .f32⟩
  | .hbm, ⟨27, _⟩ => ⟨S8192x2816, .bf16⟩
  | .hbm, ⟨28, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S8192x1024 : Shape := ⟨2, ![8192, 1024]⟩
abbrev S1024x2816 : Shape := ⟨2, ![1024, 2816]⟩
abbrev S_ : Shape := ⟨0, ![]⟩
abbrev S2816x1024 : Shape := ⟨2, ![2816, 1024]⟩
abbrev S8192x2816 : Shape := ⟨2, ![8192, 2816]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .bf16⟩
  | .hbm, ⟨4, _⟩ => ⟨S8192x1024, .f32⟩
  | .hbm, ⟨5, _⟩ => ⟨S1024x2816, .f32⟩
  | .hbm, ⟨6, _⟩ => ⟨S1024x2816, .f32⟩
  | .hbm, ⟨7, _⟩ => ⟨S8192x1024, .f32⟩
  | .hbm, ⟨8, _⟩ => ⟨S_, .f32⟩
  | .hbm, ⟨9, _⟩ => ⟨S2816x1024, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== GradGate.lean ====
abbrev S8192x1024 : Shape := ⟨2, ![8192, 1024]⟩
abbrev S8192x5632 : Shape := ⟨2, ![8192, 5632]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGateRefIdeal.lean ====
abbrev S8192x1024 : Shape := ⟨2, ![8192, 1024]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x2816, .bf16⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S8192x1024, .f32⟩
  | .hbm, ⟨11, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradUp.lean ====
abbrev S8192x1024 : Shape := ⟨2, ![8192, 1024]⟩
abbrev S8192x5632 : Shape := ⟨2, ![8192, 5632]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S8192x1024 : Shape := ⟨2, ![8192, 1024]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x2816, .bf16⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S8192x1024, .f32⟩
  | .hbm, ⟨11, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpBwd.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== UpBwdRefIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S8192x2816, .bf16⟩
  | .hbm, ⟨10, _⟩ => ⟨S8192x2816, .f32⟩
  | .hbm, ⟨11, _⟩ => ⟨S8192x2816, .bf16⟩
  | .hbm, ⟨12, _⟩ => ⟨S8192x2816, .f32⟩
  | .hbm, ⟨13, _⟩ => ⟨S_, .f32⟩
  | .hbm, ⟨14, _⟩ => ⟨S1x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== OutBwd.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBwdRefIdeal.lean ====
abbrev S8192x1024 : Shape := ⟨2, ![8192, 1024]⟩
abbrev S1024x1024 : Shape := ⟨2, ![1024, 1024]⟩
abbrev S_ : Shape := ⟨0, ![]⟩
abbrev S8192x768 : Shape := ⟨2, ![8192, 768]⟩
abbrev S8192x256 : Shape := ⟨2, ![8192, 256]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x768, .f32⟩
  | .hbm, ⟨4, _⟩ => ⟨S_, .f32⟩
  | .hbm, ⟨5, _⟩ => ⟨S8192x256, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x768, .f32⟩
  | .hbm, ⟨12, _⟩ => ⟨S8192x256, .f32⟩
  | .hbm, ⟨13, _⟩ => ⟨S8192x1024, .f32⟩
  | .hbm, ⟨14, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== GradOut.lean ====
abbrev S8192x1024 : Shape := ⟨2, ![8192, 1024]⟩
abbrev S8192x768 : Shape := ⟨2, ![8192, 768]⟩
abbrev S8192x256 : Shape := ⟨2, ![8192, 256]⟩
abbrev S1024x1024 : Shape := ⟨2, ![1024, 1024]⟩
abbrev S1024x768 : Shape := ⟨2, ![1024, 768]⟩
abbrev S1024x256 : Shape := ⟨2, ![1024, 256]⟩
abbrev S768x1024 : Shape := ⟨2, ![768, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x256, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x256, .bf16⟩
  | .local _ .vmem, ⟨5, _⟩ => ⟨S1024x256, .bf16⟩
  | .local _ .vmem, ⟨6, _⟩ => ⟨S1024x1024, .bf16⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GradOutRefIdeal.lean ====
abbrev S8192x1024 : Shape := ⟨2, ![8192, 1024]⟩
abbrev S8192x768 : Shape := ⟨2, ![8192, 768]⟩
abbrev S8192x256 : Shape := ⟨2, ![8192, 256]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x256, .bf16⟩
  | .hbm, ⟨3, _⟩ => ⟨S_, .f32⟩
  | .hbm, ⟨4, _⟩ => ⟨S1024x1024, .f32⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InBwdX.lean ====
abbrev S8192x768 : Shape := ⟨2, ![8192, 768]⟩
abbrev S8192x256 : Shape := ⟨2, ![8192, 256]⟩
abbrev S1024x2560 : Shape := ⟨2, ![1024, 2560]⟩
abbrev S8192x1024 : Shape := ⟨2, ![8192, 1024]⟩
abbrev S512x768 : Shape := ⟨2, ![512, 768]⟩
abbrev S512x256 : Shape := ⟨2, ![512, 256]⟩
abbrev S512x1024 : Shape := ⟨2, ![512, 1024]⟩
abbrev S1024x768 : Shape := ⟨2, ![1024, 768]⟩
abbrev S1024x256 : Shape := ⟨2, ![1024, 256]⟩

abbrev nBuf : Space → Nat
  | .hbm => 7
  | .vmem => 13
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x256, .bf16⟩
  | .hbm, ⟨4, _⟩ => ⟨S1024x2560, .bf16⟩
  | .hbm, ⟨5, _⟩ => ⟨S8192x1024, .f32⟩
  | .hbm, ⟨6, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x256, .bf16⟩
  | .local _ .vmem, ⟨7, _⟩ => ⟨S512x256, .bf16⟩
  | .local _ .vmem, ⟨8, _⟩ => ⟨S1024x2560, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InBwdXRefIdeal.lean ====
abbrev S8192x768 : Shape := ⟨2, ![8192, 768]⟩
abbrev S8192x256 : Shape := ⟨2, ![8192, 256]⟩
abbrev S1024x2560 : Shape := ⟨2, ![1024, 2560]⟩
abbrev S8192x1024 : Shape := ⟨2, ![8192, 1024]⟩
abbrev S_ : Shape := ⟨0, ![]⟩
abbrev S8192x2560 : Shape := ⟨2, ![8192, 2560]⟩

abbrev nBuf : Space → Nat
  | .hbm => 27
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x256, .bf16⟩
  | .hbm, ⟨4, _⟩ => ⟨S1024x2560, .bf16⟩
  | .hbm, ⟨5, _⟩ => ⟨S8192x1024, .f32⟩
  | .hbm, ⟨6, _⟩ => ⟨S8192x768, .f32⟩
  | .hbm, ⟨7, _⟩ => ⟨S8192x768, .f32⟩
  | .hbm, ⟨8, _⟩ => ⟨S8192x768, .f32⟩
  | .hbm, ⟨9, _⟩ => ⟨S8192x256, .f32⟩
  | .hbm, ⟨10, _⟩ => ⟨S_, .f32⟩
  | .hbm, ⟨11, _⟩ => ⟨S8192x1024, .f32⟩
  | .hbm, ⟨12, _⟩ => ⟨S1024x2560, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x2560, .f32⟩
  | .hbm, ⟨17, _⟩ => ⟨S8192x768, .f32⟩
  | .hbm, ⟨18, _⟩ => ⟨S8192x768, .f32⟩
  | .hbm, ⟨19, _⟩ => ⟨S8192x768, .f32⟩
  | .hbm, ⟨20, _⟩ => ⟨S8192x256, .f32⟩
  | .hbm, ⟨21, _⟩ => ⟨S8192x2560, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== GradInA.lean ====
abbrev S8192x1024 : Shape := ⟨2, ![8192, 1024]⟩
abbrev S8192x768 : Shape := ⟨2, ![8192, 768]⟩
abbrev S8192x256 : Shape := ⟨2, ![8192, 256]⟩
abbrev S1024x2560 : Shape := ⟨2, ![1024, 2560]⟩
abbrev S1024x1024 : Shape := ⟨2, ![1024, 1024]⟩
abbrev S1024x768 : Shape := ⟨2, ![1024, 768]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S8192x768, .bf16⟩
  | .hbm, ⟨4, _⟩ => ⟨S8192x256, .bf16⟩
  | .hbm, ⟨5, _⟩ => ⟨S1024x2560, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x256, .bf16⟩
  | .local _ .vmem, ⟨9, _⟩ => ⟨S1024x256, .bf16⟩
  | .local _ .vmem, ⟨10, _⟩ => ⟨S1024x2560, .bf16⟩
  | .local _ .vmem, ⟨11, _⟩ => ⟨S1024x2560, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradInARefIdeal.lean ====
abbrev S8192x1024 : Shape := ⟨2, ![8192, 1024]⟩
abbrev S8192x768 : Shape := ⟨2, ![8192, 768]⟩
abbrev S8192x256 : Shape := ⟨2, ![8192, 256]⟩
abbrev S_ : Shape := ⟨0, ![]⟩
abbrev S1024x2560 : Shape := ⟨2, ![1024, 2560]⟩
abbrev S8192x2560 : Shape := ⟨2, ![8192, 2560]⟩
abbrev S2560x1024 : Shape := ⟨2, ![2560, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x768, .bf16⟩
  | .hbm, ⟨3, _⟩ => ⟨S8192x768, .bf16⟩
  | .hbm, ⟨4, _⟩ => ⟨S8192x256, .bf16⟩
  | .hbm, ⟨5, _⟩ => ⟨S8192x768, .f32⟩
  | .hbm, ⟨6, _⟩ => ⟨S8192x768, .f32⟩
  | .hbm, ⟨7, _⟩ => ⟨S8192x768, .f32⟩
  | .hbm, ⟨8, _⟩ => ⟨S8192x256, .f32⟩
  | .hbm, ⟨9, _⟩ => ⟨S_, .f32⟩
  | .hbm, ⟨10, _⟩ => ⟨S1024x2560, .f32⟩
  | .hbm, ⟨11, _⟩ => ⟨S8192x1024, .f32⟩
  | .hbm, ⟨12, _⟩ => ⟨S8192x2560, .f32⟩
  | .hbm, ⟨13, _⟩ => ⟨S8192x768, .f32⟩
  | .hbm, ⟨14, _⟩ => ⟨S8192x768, .f32⟩
  | .hbm, ⟨15, _⟩ => ⟨S8192x768, .f32⟩
  | .hbm, ⟨16, _⟩ => ⟨S8192x256, .f32⟩
  | .hbm, ⟨17, _⟩ => ⟨S8192x2560, .f32⟩
  | .hbm, ⟨18, _⟩ => ⟨S2560x1024, .f32⟩
  | .hbm, ⟨19, _⟩ => ⟨S1024x2560, .f32⟩
  | .hbm, ⟨20, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GradInB.lean ====
abbrev S8192x1024 : Shape := ⟨2, ![8192, 1024]⟩
abbrev S8192x1536 : Shape := ⟨2, ![8192, 1536]⟩
abbrev S8192x256 : Shape := ⟨2, ![8192, 256]⟩
abbrev S1024x1792 : Shape := ⟨2, ![1024, 1792]⟩
abbrev S1024x1024 : Shape := ⟨2, ![1024, 1024]⟩
abbrev S1024x1536 : Shape := ⟨2, ![1024, 1536]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x256, .bf16⟩
  | .hbm, ⟨3, _⟩ => ⟨S1024x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x256, .bf16⟩
  | .local _ .vmem, ⟨5, _⟩ => ⟨S1024x256, .bf16⟩
  | .local _ .vmem, ⟨6, _⟩ => ⟨S1024x1792, .bf16⟩
  | .local _ .vmem, ⟨7, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GradInBRefIdeal.lean ====
abbrev S8192x1024 : Shape := ⟨2, ![8192, 1024]⟩
abbrev S8192x1536 : Shape := ⟨2, ![8192, 1536]⟩
abbrev S8192x256 : Shape := ⟨2, ![8192, 256]⟩
abbrev S8192x768 : Shape := ⟨2, ![8192, 768]⟩
abbrev S_ : Shape := ⟨0, ![]⟩
abbrev S1024x1792 : Shape := ⟨2, ![1024, 1792]⟩
abbrev S8192x1792 : Shape := ⟨2, ![8192, 1792]⟩
abbrev S1792x1024 : Shape := ⟨2, ![1792, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x256, .bf16⟩
  | .hbm, ⟨3, _⟩ => ⟨S8192x768, .bf16⟩
  | .hbm, ⟨4, _⟩ => ⟨S8192x768, .bf16⟩
  | .hbm, ⟨5, _⟩ => ⟨S8192x768, .f32⟩
  | .hbm, ⟨6, _⟩ => ⟨S8192x768, .f32⟩
  | .hbm, ⟨7, _⟩ => ⟨S8192x256, .f32⟩
  | .hbm, ⟨8, _⟩ => ⟨S_, .f32⟩
  | .hbm, ⟨9, _⟩ => ⟨S1024x1792, .f32⟩
  | .hbm, ⟨10, _⟩ => ⟨S8192x1024, .f32⟩
  | .hbm, ⟨11, _⟩ => ⟨S8192x1792, .f32⟩
  | .hbm, ⟨12, _⟩ => ⟨S8192x768, .f32⟩
  | .hbm, ⟨13, _⟩ => ⟨S8192x768, .f32⟩
  | .hbm, ⟨14, _⟩ => ⟨S8192x256, .f32⟩
  | .hbm, ⟨15, _⟩ => ⟨S8192x1792, .f32⟩
  | .hbm, ⟨16, _⟩ => ⟨S1792x1024, .f32⟩
  | .hbm, ⟨17, _⟩ => ⟨S1024x1792, .f32⟩
  | .hbm, ⟨18, _⟩ => ⟨S1024x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== InBwdA.lean ====
abbrev S8192x768 : Shape := ⟨2, ![8192, 768]⟩
abbrev S8192x256 : Shape := ⟨2, ![8192, 256]⟩
abbrev S1024x2560 : Shape := ⟨2, ![1024, 2560]⟩
abbrev S8192x1024 : Shape := ⟨2, ![8192, 1024]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S1024x768 : Shape := ⟨2, ![1024, 768]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x256, .bf16⟩
  | .hbm, ⟨4, _⟩ => ⟨S1024x2560, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x256, .bf16⟩
  | .local _ .vmem, ⟨7, _⟩ => ⟨S512x256, .bf16⟩
  | .local _ .vmem, ⟨8, _⟩ => ⟨S1024x2560, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InBwdARefIdeal.lean ====
abbrev S8192x768 : Shape := ⟨2, ![8192, 768]⟩
abbrev S8192x256 : Shape := ⟨2, ![8192, 256]⟩
abbrev S1024x2560 : Shape := ⟨2, ![1024, 2560]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x256, .bf16⟩
  | .hbm, ⟨4, _⟩ => ⟨S1024x2560, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x768, .f32⟩
  | .hbm, ⟨9, _⟩ => ⟨S8192x768, .f32⟩
  | .hbm, ⟨10, _⟩ => ⟨S8192x768, .f32⟩
  | .hbm, ⟨11, _⟩ => ⟨S8192x256, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024x2560, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x2560, .f32⟩
  | .hbm, ⟨53, _⟩ => ⟨S8192x768, .f32⟩
  | .hbm, ⟨54, _⟩ => ⟨S8192x768, .f32⟩
  | .hbm, ⟨55, _⟩ => ⟨S8192x768, .f32⟩
  | .hbm, ⟨56, _⟩ => ⟨S8192x256, .f32⟩
  | .hbm, ⟨57, _⟩ => ⟨S8192x2560, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x1024, .f32⟩
  | .hbm, ⟨102, _⟩ => ⟨S8192x1024, .f32⟩
  | .hbm, ⟨103, _⟩ => ⟨S8192x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== InBwdB.lean ====
abbrev S8192x1536 : Shape := ⟨2, ![8192, 1536]⟩
abbrev S8192x256 : Shape := ⟨2, ![8192, 256]⟩
abbrev S1024x1792 : Shape := ⟨2, ![1024, 1792]⟩
abbrev S8192x1024 : Shape := ⟨2, ![8192, 1024]⟩
abbrev S1x1024 : Shape := ⟨2, ![1, 1024]⟩
abbrev S512x1536 : Shape := ⟨2, ![512, 1536]⟩
abbrev S512x256 : Shape := ⟨2, ![512, 256]⟩
abbrev S512x1024 : Shape := ⟨2, ![512, 1024]⟩
abbrev S1024x1536 : Shape := ⟨2, ![1024, 1536]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1536, .bf16⟩
  | .hbm, ⟨1, _⟩ => ⟨S8192x256, .bf16⟩
  | .hbm, ⟨2, _⟩ => ⟨S1024x1792, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x256, .bf16⟩
  | .local _ .vmem, ⟨3, _⟩ => ⟨S512x256, .bf16⟩
  | .local _ .vmem, ⟨4, _⟩ => ⟨S1024x1792, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InBwdBRefIdeal.lean ====
abbrev S8192x1536 : Shape := ⟨2, ![8192, 1536]⟩
abbrev S8192x256 : Shape := ⟨2, ![8192, 256]⟩
abbrev S1024x1792 : Shape := ⟨2, ![1024, 1792]⟩
abbrev S8192x1024 : Shape := ⟨2, ![8192, 1024]⟩
abbrev S1x1024 : Shape := ⟨2, ![1, 1024]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S8192x1792 : Shape := ⟨2, ![8192, 1792]⟩
abbrev S1024 : Shape := ⟨1, ![1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x256, .bf16⟩
  | .hbm, ⟨2, _⟩ => ⟨S1024x1792, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x768, .bf16⟩
  | .hbm, ⟨7, _⟩ => ⟨S8192x768, .bf16⟩
  | .hbm, ⟨8, _⟩ => ⟨S8192x768, .f32⟩
  | .hbm, ⟨9, _⟩ => ⟨S8192x768, .f32⟩
  | .hbm, ⟨10, _⟩ => ⟨S8192x256, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1024x1792, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1792, .f32⟩
  | .hbm, ⟨52, _⟩ => ⟨S8192x768, .f32⟩
  | .hbm, ⟨53, _⟩ => ⟨S8192x768, .f32⟩
  | .hbm, ⟨54, _⟩ => ⟨S8192x256, .f32⟩
  | .hbm, ⟨55, _⟩ => ⟨S8192x1792, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x2816, .f32⟩
  | .hbm, ⟨8, _⟩ => ⟨S2816x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== OutFwd.lean ====
abbrev S8192x768 : Shape := ⟨2, ![8192, 768]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x256, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutFwdRefIdeal.lean ====
abbrev S8192x768 : Shape := ⟨2, ![8192, 768]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x256, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== OutFwdX.lean ====
abbrev S8192x768 : Shape := ⟨2, ![8192, 768]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x768, .bf16⟩
  | .hbm, ⟨1, _⟩ => ⟨S8192x256, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdXRefIdeal.lean ====
abbrev S8192x768 : Shape := ⟨2, ![8192, 768]⟩
abbrev S8192x256 : Shape := ⟨2, ![8192, 256]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x256, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== InFwdA.lean ====
abbrev S8192x1024 : Shape := ⟨2, ![8192, 1024]⟩
abbrev S8x1024x320 : Shape := ⟨3, ![8, 1024, 320]⟩
abbrev S8192x2560 : Shape := ⟨2, ![8192, 2560]⟩
abbrev S1024x2560 : Shape := ⟨2, ![1024, 2560]⟩
abbrev S512x1024 : Shape := ⟨2, ![512, 1024]⟩
abbrev S512x2560 : Shape := ⟨2, ![512, 2560]⟩
abbrev S1x1024x320 : Shape := ⟨3, ![1, 1024, 320]⟩
abbrev S1024x320 : Shape := ⟨2, ![1024, 320]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8x1024x320, .bf16⟩
  | .hbm, ⟨2, _⟩ => ⟨S8192x2560, .bf16⟩
  | .hbm, ⟨3, _⟩ => ⟨S1024x2560, .bf16⟩
  | .local _ .vmem, ⟨0, _⟩ => ⟨S512x1024, .bf16⟩
  | .local _ .vmem, ⟨1, _⟩ => ⟨S512x1024, .bf16⟩
  | .local _ .vmem, ⟨2, _⟩ => ⟨S8x1024x320, .bf16⟩
  | .local _ .vmem, ⟨3, _⟩ => ⟨S512x2560, .bf16⟩
  | .local _ .vmem, ⟨4, _⟩ => ⟨S512x2560, .bf16⟩
  | .local _ .vmem, ⟨5, _⟩ => ⟨S1024x2560, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== InFwdARefIdeal.lean ====
abbrev S8192x1024 : Shape := ⟨2, ![8192, 1024]⟩
abbrev S8x1024x320 : Shape := ⟨3, ![8, 1024, 320]⟩
abbrev S1x1024x320 : Shape := ⟨3, ![1, 1024, 320]⟩
abbrev S1024x320 : Shape := ⟨2, ![1024, 320]⟩
abbrev S1024x2560 : Shape := ⟨2, ![1024, 2560]⟩
abbrev S8192x2560 : Shape := ⟨2, ![8192, 2560]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x320, .bf16⟩
  | .hbm, ⟨2, _⟩ => ⟨S1x1024x320, .bf16⟩
  | .hbm, ⟨3, _⟩ => ⟨S1024x320, .bf16⟩
  | .hbm, ⟨4, _⟩ => ⟨S1x1024x320, .bf16⟩
  | .hbm, ⟨5, _⟩ => ⟨S1024x320, .bf16⟩
  | .hbm, ⟨6, _⟩ => ⟨S1x1024x320, .bf16⟩
  | .hbm, ⟨7, _⟩ => ⟨S1024x320, .bf16⟩
  | .hbm, ⟨8, _⟩ => ⟨S1x1024x320, .bf16⟩
  | .hbm, ⟨9, _⟩ => ⟨S1024x320, .bf16⟩
  | .hbm, ⟨10, _⟩ => ⟨S1x1024x320, .bf16⟩
  | .hbm, ⟨11, _⟩ => ⟨S1024x320, .bf16⟩
  | .hbm, ⟨12, _⟩ => ⟨S1x1024x320, .bf16⟩
  | .hbm, ⟨13, _⟩ => ⟨S1024x320, .bf16⟩
  | .hbm, ⟨14, _⟩ => ⟨S1x1024x320, .bf16⟩
  | .hbm, ⟨15, _⟩ => ⟨S1024x320, .bf16⟩
  | .hbm, ⟨16, _⟩ => ⟨S1x1024x320, .bf16⟩
  | .hbm, ⟨17, _⟩ => ⟨S1024x320, .bf16⟩
  | .hbm, ⟨18, _⟩ => ⟨S1024x2560, .bf16⟩
  | .hbm, ⟨19, _⟩ => ⟨S8192x1024, .f32⟩
  | .hbm, ⟨20, _⟩ => ⟨S1024x2560, .f32⟩
  | .hbm, ⟨21, _⟩ => ⟨S8192x2560, .f32⟩
  | .hbm, ⟨22, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== InFwdB.lean ====
abbrev S8192x1024 : Shape := ⟨2, ![8192, 1024]⟩
abbrev S8x1024x224 : Shape := ⟨3, ![8, 1024, 224]⟩
abbrev S8192x1792 : Shape := ⟨2, ![8192, 1792]⟩
abbrev S1024x1792 : Shape := ⟨2, ![1024, 1792]⟩
abbrev S512x1024 : Shape := ⟨2, ![512, 1024]⟩
abbrev S512x1792 : Shape := ⟨2, ![512, 1792]⟩
abbrev S1x1024x224 : Shape := ⟨3, ![1, 1024, 224]⟩
abbrev S1024x224 : Shape := ⟨2, ![1024, 224]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8x1024x224, .bf16⟩
  | .hbm, ⟨2, _⟩ => ⟨S8192x1792, .bf16⟩
  | .hbm, ⟨3, _⟩ => ⟨S1024x1792, .bf16⟩
  | .local _ .vmem, ⟨0, _⟩ => ⟨S512x1024, .bf16⟩
  | .local _ .vmem, ⟨1, _⟩ => ⟨S512x1024, .bf16⟩
  | .local _ .vmem, ⟨2, _⟩ => ⟨S8x1024x224, .bf16⟩
  | .local _ .vmem, ⟨3, _⟩ => ⟨S512x1792, .bf16⟩
  | .local _ .vmem, ⟨4, _⟩ => ⟨S512x1792, .bf16⟩
  | .local _ .vmem, ⟨5, _⟩ => ⟨S1024x1792, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== InFwdBRefIdeal.lean ====
abbrev S8192x1024 : Shape := ⟨2, ![8192, 1024]⟩
abbrev S8x1024x224 : Shape := ⟨3, ![8, 1024, 224]⟩
abbrev S1x1024x224 : Shape := ⟨3, ![1, 1024, 224]⟩
abbrev S1024x224 : Shape := ⟨2, ![1024, 224]⟩
abbrev S1024x1792 : Shape := ⟨2, ![1024, 1792]⟩
abbrev S8192x1792 : Shape := ⟨2, ![8192, 1792]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x224, .bf16⟩
  | .hbm, ⟨2, _⟩ => ⟨S1x1024x224, .bf16⟩
  | .hbm, ⟨3, _⟩ => ⟨S1024x224, .bf16⟩
  | .hbm, ⟨4, _⟩ => ⟨S1x1024x224, .bf16⟩
  | .hbm, ⟨5, _⟩ => ⟨S1024x224, .bf16⟩
  | .hbm, ⟨6, _⟩ => ⟨S1x1024x224, .bf16⟩
  | .hbm, ⟨7, _⟩ => ⟨S1024x224, .bf16⟩
  | .hbm, ⟨8, _⟩ => ⟨S1x1024x224, .bf16⟩
  | .hbm, ⟨9, _⟩ => ⟨S1024x224, .bf16⟩
  | .hbm, ⟨10, _⟩ => ⟨S1x1024x224, .bf16⟩
  | .hbm, ⟨11, _⟩ => ⟨S1024x224, .bf16⟩
  | .hbm, ⟨12, _⟩ => ⟨S1x1024x224, .bf16⟩
  | .hbm, ⟨13, _⟩ => ⟨S1024x224, .bf16⟩
  | .hbm, ⟨14, _⟩ => ⟨S1x1024x224, .bf16⟩
  | .hbm, ⟨15, _⟩ => ⟨S1024x224, .bf16⟩
  | .hbm, ⟨16, _⟩ => ⟨S1x1024x224, .bf16⟩
  | .hbm, ⟨17, _⟩ => ⟨S1024x224, .bf16⟩
  | .hbm, ⟨18, _⟩ => ⟨S1024x1792, .bf16⟩
  | .hbm, ⟨19, _⟩ => ⟨S8192x1024, .f32⟩
  | .hbm, ⟨20, _⟩ => ⟨S1024x1792, .f32⟩
  | .hbm, ⟨21, _⟩ => ⟨S8192x1792, .f32⟩
  | .hbm, ⟨22, _⟩ => ⟨S8192x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== MemFwd.lean ====
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemFwdRefIdeal.lean ====
abbrev S1024x1024 : Shape := ⟨2, ![1024, 1024]⟩
abbrev S1024x512 : Shape := ⟨2, ![1024, 512]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S1024x256, .f32⟩
  | .hbm, ⟨6, _⟩ => ⟨S1024x256, .f32⟩
  | .hbm, ⟨7, _⟩ => ⟨S1024x512, .f32⟩
  | .hbm, ⟨8, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== GradMem.lean ====
abbrev S1024x1024 : Shape := ⟨2, ![1024, 1024]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x512, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradMemRefIdeal.lean ====
abbrev S1024x1024 : Shape := ⟨2, ![1024, 1024]⟩
abbrev S1024x512 : Shape := ⟨2, ![1024, 512]⟩
abbrev S1024x256 : Shape := ⟨2, ![1024, 256]⟩
abbrev S_ : Shape := ⟨0, ![]⟩
abbrev S512x1024 : Shape := ⟨2, ![512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x512, .bf16⟩
  | .hbm, ⟨2, _⟩ => ⟨S1024x256, .bf16⟩
  | .hbm, ⟨3, _⟩ => ⟨S1024x256, .f32⟩
  | .hbm, ⟨4, _⟩ => ⟨S1024x256, .bf16⟩
  | .hbm, ⟨5, _⟩ => ⟨S1024x256, .f32⟩
  | .hbm, ⟨6, _⟩ => ⟨S_, .f32⟩
  | .hbm, ⟨7, _⟩ => ⟨S1024x512, .f32⟩
  | .hbm, ⟨8, _⟩ => ⟨S1024x1024, .f32⟩
  | .hbm, ⟨9, _⟩ => ⟨S1024x512, .f32⟩
  | .hbm, ⟨10, _⟩ => ⟨S1024x256, .f32⟩
  | .hbm, ⟨11, _⟩ => ⟨S1024x256, .f32⟩
  | .hbm, ⟨12, _⟩ => ⟨S1024x512, .f32⟩
  | .hbm, ⟨13, _⟩ => ⟨S512x1024, .f32⟩
  | .hbm, ⟨14, _⟩ => ⟨S1024x512, .f32⟩
  | .hbm, ⟨15, _⟩ => ⟨S1024x512, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== UpFwd.lean ====
abbrev S8192x1024 : Shape := ⟨2, ![8192, 1024]⟩
abbrev S8x1024x352 : Shape := ⟨3, ![8, 1024, 352]⟩
abbrev S8192x2816 : Shape := ⟨2, ![8192, 2816]⟩
abbrev S1024x5632 : Shape := ⟨2, ![1024, 5632]⟩
abbrev S256x1024 : Shape := ⟨2, ![256, 1024]⟩
abbrev S256x2816 : Shape := ⟨2, ![256, 2816]⟩
abbrev S_ : Shape := ⟨0, ![]⟩
abbrev S1x1024x352 : Shape := ⟨3, ![1, 1024, 352]⟩
abbrev S1024x352 : Shape := ⟨2, ![1024, 352]⟩
abbrev S1024x1408 : Shape := ⟨2, ![1024, 1408]⟩
abbrev S256x1408 : Shape := ⟨2, ![256, 1408]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8x1024x352, .bf16⟩
  | .hbm, ⟨2, _⟩ => ⟨S8x1024x352, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .hbm, ⟨6, _⟩ => ⟨S1024x5632, .bf16⟩
  | .local _ .vmem, ⟨0, _⟩ => ⟨S256x1024, .bf16⟩
  | .local _ .vmem, ⟨1, _⟩ => ⟨S256x1024, .bf16⟩
  | .local _ .vmem, ⟨2, _⟩ => ⟨S8x1024x352, .bf16⟩
  | .local _ .vmem, ⟨3, _⟩ => ⟨S8x1024x352, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S1024x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpFwdRefIdeal.lean ====
abbrev S8192x1024 : Shape := ⟨2, ![8192, 1024]⟩
abbrev S8x1024x352 : Shape := ⟨3, ![8, 1024, 352]⟩
abbrev S1x1024x352 : Shape := ⟨3, ![1, 1024, 352]⟩
abbrev S1024x352 : Shape := ⟨2, ![1024, 352]⟩
abbrev S1024x2816 : Shape := ⟨2, ![1024, 2816]⟩
abbrev S8192x2816 : Shape := ⟨2, ![8192, 2816]⟩
abbrev S_ : Shape := ⟨0, ![]⟩
abbrev S1024x5632 : Shape := ⟨2, ![1024, 5632]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x352, .bf16⟩
  | .hbm, ⟨2, _⟩ => ⟨S8x1024x352, .bf16⟩
  | .hbm, ⟨3, _⟩ => ⟨S1x1024x352, .bf16⟩
  | .hbm, ⟨4, _⟩ => ⟨S1024x352, .bf16⟩
  | .hbm, ⟨5, _⟩ => ⟨S1x1024x352, .bf16⟩
  | .hbm, ⟨6, _⟩ => ⟨S1024x352, .bf16⟩
  | .hbm, ⟨7, _⟩ => ⟨S1x1024x352, .bf16⟩
  | .hbm, ⟨8, _⟩ => ⟨S1024x352, .bf16⟩
  | .hbm, ⟨9, _⟩ => ⟨S1x1024x352, .bf16⟩
  | .hbm, ⟨10, _⟩ => ⟨S1024x352, .bf16⟩
  | .hbm, ⟨11, _⟩ => ⟨S1x1024x352, .bf16⟩
  | .hbm, ⟨12, _⟩ => ⟨S1024x352, .bf16⟩
  | .hbm, ⟨13, _⟩ => ⟨S1x1024x352, .bf16⟩
  | .hbm, ⟨14, _⟩ => ⟨S1024x352, .bf16⟩
  | .hbm, ⟨15, _⟩ => ⟨S1x1024x352, .bf16⟩
  | .hbm, ⟨16, _⟩ => ⟨S1024x352, .bf16⟩
  | .hbm, ⟨17, _⟩ => ⟨S1x1024x352, .bf16⟩
  | .hbm, ⟨18, _⟩ => ⟨S1024x352, .bf16⟩
  | .hbm, ⟨19, _⟩ => ⟨S1024x2816, .bf16⟩
  | .hbm, ⟨20, _⟩ => ⟨S1x1024x352, .bf16⟩
  | .hbm, ⟨21, _⟩ => ⟨S1024x352, .bf16⟩
  | .hbm, ⟨22, _⟩ => ⟨S1x1024x352, .bf16⟩
  | .hbm, ⟨23, _⟩ => ⟨S1024x352, .bf16⟩
  | .hbm, ⟨24, _⟩ => ⟨S1x1024x352, .bf16⟩
  | .hbm, ⟨25, _⟩ => ⟨S1024x352, .bf16⟩
  | .hbm, ⟨26, _⟩ => ⟨S1x1024x352, .bf16⟩
  | .hbm, ⟨27, _⟩ => ⟨S1024x352, .bf16⟩
  | .hbm, ⟨28, _⟩ => ⟨S1x1024x352, .bf16⟩
  | .hbm, ⟨29, _⟩ => ⟨S1024x352, .bf16⟩
  | .hbm, ⟨30, _⟩ => ⟨S1x1024x352, .bf16⟩
  | .hbm, ⟨31, _⟩ => ⟨S1024x352, .bf16⟩
  | .hbm, ⟨32, _⟩ => ⟨S1x1024x352, .bf16⟩
  | .hbm, ⟨33, _⟩ => ⟨S1024x352, .bf16⟩
  | .hbm, ⟨34, _⟩ => ⟨S1x1024x352, .bf16⟩
  | .hbm, ⟨35, _⟩ => ⟨S1024x352, .bf16⟩
  | .hbm, ⟨36, _⟩ => ⟨S1024x2816, .bf16⟩
  | .hbm, ⟨37, _⟩ => ⟨S8192x1024, .f32⟩
  | .hbm, ⟨38, _⟩ => ⟨S1024x2816, .f32⟩
  | .hbm, ⟨39, _⟩ => ⟨S8192x2816, .f32⟩
  | .hbm, ⟨40, _⟩ => ⟨S1024x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .bf16⟩
  | .hbm, ⟨63, _⟩ => ⟨S8192x2816, .bf16⟩
  | .hbm, ⟨64, _⟩ => ⟨S8192x2816, .f32⟩
  | .hbm, ⟨65, _⟩ => ⟨S8192x2816, .bf16⟩
  | .hbm, ⟨66, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v39_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v39_1 : Ref sig .tc := ⟨.hbm, 53, rfl⟩
abbrev main_v39_0 : Ref sig .tc := ⟨.hbm, 54, rfl⟩
abbrev main_cst : Ref sig .tc := ⟨.hbm, 55, rfl⟩
abbrev main_v40 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Proof.Heads.lean ====
/-
  One pair of memory heads, as the kernel's body computes it: two heads of 64 lanes side by side in 128 lanes, each
  product taken over all 128 lanes with the other head's lanes put to zero.
-/
module

public import proofs.«01_k».proof.Proof.Gen.KernelIdeal.Value
public import Idealize.ShloMosaic.Lib.Pointwise

@[expose] public section

noncomputable section

namespace Cert.MemBwd

open Cert.KernelIdeal Cert.KernelIdeal.Gen Idealize.ShloMosaic

/-- The lanes of the first head of a pair. -/
def firstLanes : IVec S1x128 1 := cmpi .slt (iota .tc S1x128 32 [1] iota_S1x128_d1_w32) (broadcast S1x128 64#32)

/-- The zero block that the other head's lanes are taken from: over the rows of the queries. -/
def zeroQ : FVec Ideal S2048x128 .bf16 := broadcast S2048x128 (Scalar.ofBits .bf16 0x0000#16)

/-- The same over the memory rows. -/
def zeroK : FVec Ideal S256x128 .bf16 := broadcast S256x128 (Scalar.ofBits .bf16 0x0000#16)

/-- The lanes of the first head, the rest zero (query rows). -/
def firstQ (x : FVec Ideal S2048x128 .bf16) : FVec Ideal S2048x128 .bf16 :=
  select (broadcastTo S2048x128 (shapeCast S1x128 firstLanes shapeCasts_S1x128_S1x128) broadcasts_S1x128_S2048x128) x zeroQ

/-- The lanes of the second head, the rest zero (query rows). -/
def secondQ (x : FVec Ideal S2048x128 .bf16) : FVec Ideal S2048x128 .bf16 :=
  select (broadcastTo S2048x128 (shapeCast S1x128 firstLanes shapeCasts_S1x128_S1x128) broadcasts_S1x128_S2048x128) zeroQ x

/-- The lanes of the first head, the rest zero (memory rows). -/
def firstK (x : FVec Ideal S256x128 .bf16) : FVec Ideal S256x128 .bf16 :=
  select (broadcastTo S256x128 (shapeCast S1x128 firstLanes shapeCasts_S1x128_S1x128) broadcasts_S1x128_S256x128) x zeroK

/-- The lanes of the second head, the rest zero (memory rows). -/
def secondK (x : FVec Ideal S256x128 .bf16) : FVec Ideal S256x128 .bf16 :=
  select (broadcastTo S256x128 (shapeCast S1x128 firstLanes shapeCasts_S1x128_S1x128) broadcasts_S1x128_S256x128) zeroK x

/-- The sum over the memory rows, put back beside every memory row. -/
def rowSum (x : FVec Ideal S2048x256 .f32) : FVec Ideal S2048x256 .f32 :=
  broadcastTo S2048x256 (shapeCast S2048x1 (multiReduction .add [1] S2048 x 0x00000000#32 reduces_S2048x256_S2048 (.inl rfl) rfl)
    shapeCasts_S2048_S2048x1) broadcasts_S2048x1_S2048x256

/-- The maximum over the memory rows, put back beside every memory row. -/
def rowMax (x : FVec Ideal S2048x256 .f32) : FVec Ideal S2048x256 .f32 :=
  broadcastTo S2048x256 (shapeCast S2048x1 (multiReduction .maximumf [1] S2048 x 0xFF800000#32 reduces_S2048x256_S2048 (.inl rfl) rfl)
    shapeCasts_S2048_S2048x1) broadcasts_S2048x1_S2048x256

/-- One eighth, the scale of the scores, at every score. -/
def eighth : FVec Ideal S2048x256 .f32 := broadcast S2048x256 (Scalar.ofBits .f32 0x3E000000#32)

/-- Every query row against every memory row. -/
def against (q : FVec Ideal S2048x128 .bf16) (k : FVec Ideal S256x128 .bf16) : FVec Ideal S2048x256 .f32 :=
  matmul dot_S2048x128_S256x128_S2048x256_1_1_0_0_n_n none q k (constant S2048x256 .f32 0x00000000#32)

/-- The exponentials of the scores less their maximum. -/
def exps (q : FVec Ideal S2048x128 .bf16) (k : FVec Ideal S256x128 .bf16) : FVec Ideal S2048x256 .f32 :=
  exp (subf (mulf (against q k) eighth) (rowMax (mulf (against q k) eighth)))

/-- The softmax of the scores. -/
def probs (q : FVec Ideal S2048x128 .bf16) (k : FVec Ideal S256x128 .bf16) : FVec Ideal S2048x256 .f32 :=
  divf (exps q k) (rowSum (exps q k))

/-- The gradient of the scores before the scale, from the softmax and the gradient of the softmax. -/
def softmaxGrad (p dp : FVec Ideal S2048x256 .f32) : FVec Ideal S2048x256 .bf16 :=
  truncf .bf16 (mulf (mulf p (subf dp (rowSum (mulf p dp)))) eighth) bitsLt_bf16_f32

/-- The scores' gradient of the first head of a pair. -/
def ds1 (q : FVec Ideal S2048x128 .bf16) (k v : FVec Ideal S256x128 .bf16) (d : FVec Ideal S2048x128 .bf16) : FVec Ideal S2048x256 .bf16 :=
  softmaxGrad (probs (firstQ q) k) (against (firstQ d) v)

/-- The scores' gradient of the second head of a pair. -/
def ds2 (q : FVec Ideal S2048x128 .bf16) (k v : FVec Ideal S256x128 .bf16) (d : FVec Ideal S2048x128 .bf16) : FVec Ideal S2048x256 .bf16 :=
  softmaxGrad (probs (secondQ q) k) (against (secondQ d) v)

/-- Weights over the memory rows, applied to the memory rows. -/
def overMemory (w : FVec Ideal S2048x256 .bf16) (k : FVec Ideal S256x128 .bf16) : FVec Ideal S2048x128 .f32 :=
  matmul dot_S2048x256_S256x128_S2048x128_1_0_0_1_n_n none w k (constant S2048x128 .f32 0x00000000#32)

/-- The same weights, applied to the query rows. -/
def overQueries (w : FVec Ideal S2048x256 .bf16) (q : FVec Ideal S2048x128 .bf16) : FVec Ideal S256x128 .f32 :=
  matmul dot_S2048x256_S2048x128_S256x128_0_0_1_1_n_n none w q (constant S256x128 .f32 0x00000000#32)

/-- The queries' gradient of a pair. -/
def dqPair (q : FVec Ideal S2048x128 .bf16) (k v : FVec Ideal S256x128 .bf16) (d : FVec Ideal S2048x128 .bf16) : FVec Ideal S2048x128 .bf16 :=
  truncf .bf16 (addf (overMemory (ds1 q k v d) (firstK k)) (overMemory (ds2 q k v d) (secondK k))) bitsLt_bf16_f32

/-- What a pair adds to its memory keys' gradient. -/
def dkPair (q : FVec Ideal S2048x128 .bf16) (k v : FVec Ideal S256x128 .bf16) (d : FVec Ideal S2048x128 .bf16) : FVec Ideal S256x128 .f32 :=
  addf (overQueries (ds1 q k v d) (firstQ q)) (overQueries (ds2 q k v d) (secondQ q))

/-- What a pair adds to its memory values' gradient. -/
def dvPair (q : FVec Ideal S2048x128 .bf16) (k : FVec Ideal S256x128 .bf16) (d : FVec Ideal S2048x128 .bf16) : FVec Ideal S256x128 .f32 :=
  addf (overQueries (truncf .bf16 (probs (firstQ q) k) bitsLt_bf16_f32) (firstQ d))
    (overQueries (truncf .bf16 (probs (secondQ q) k) bitsLt_bf16_f32) (secondQ d))

end Cert.MemBwd
-- ==== Proof.Outputs.lean ====
/-
  What one grid point leaves in its two output blocks, as the stores of its body: the two pairs of heads of the queries'
  gradient, and the two pairs of the memory keys' and values' gradients, which are added to a block of zeros.
-/
module

public import proofs.«01_k».proof.Proof.Heads
public import Idealize.ShloMosaic.Lib.Pipeline.ValueKit
public import Idealize.ShloMosaic.Lib.Pipeline.ReadBack

@[expose] public section

set_option maxRecDepth 16384

noncomputable section

namespace Cert.MemBwd

open Cert.KernelIdeal Cert.KernelIdeal.Gen Idealize.ShloMosaic Idealize.ShloMosaic.TcCoe Idealize.SL.Sem

/-- Lanes 0 to 127 of a block of queries. -/
abbrev ldQ0 (x : Vec Ideal S2048x256 .bf16) : FVec Ideal S2048x128 .bf16 :=
  View.ld (Val := Elt Ideal) x (Rect.unit ![0, 0] ![2048, 128] inb_S2048x256_S2048x128_0_0)
/-- Lanes 128 to 255 of a block of queries. -/
abbrev ldQ1 (x : Vec Ideal S2048x256 .bf16) : FVec Ideal S2048x128 .bf16 :=
  View.ld (Val := Elt Ideal) x (Rect.unit ![0, 128] ![2048, 128] inb_S2048x256_S2048x128_0_128)
/-- Lanes 0 to 127 of a block of memory rows: keys of the first pair. -/
abbrev ldK0 (x : Vec Ideal S256x512 .bf16) : FVec Ideal S256x128 .bf16 :=
  View.ld (Val := Elt Ideal) x (Rect.unit ![0, 0] ![256, 128] inb_S256x512_S256x128_0_0)
/-- Lanes 128 to 255 of a block of memory rows: keys of the second pair. -/
abbrev ldK1 (x : Vec Ideal S256x512 .bf16) : FVec Ideal S256x128 .bf16 :=
  View.ld (Val := Elt Ideal) x (Rect.unit ![0, 128] ![256, 128] inb_S256x512_S256x128_0_128)
/-- Lanes 256 to 383 of a block of memory rows: values of the first pair. -/
abbrev ldV0 (x : Vec Ideal S256x512 .bf16) : FVec Ideal S256x128 .bf16 :=
  View.ld (Val := Elt Ideal) x (Rect.unit ![0, 256] ![256, 128] inb_S256x512_S256x128_0_256)
/-- Lanes 384 to 511 of a block of memory rows: values of the second pair. -/
abbrev ldV1 (x : Vec Ideal S256x512 .bf16) : FVec Ideal S256x128 .bf16 :=
  View.ld (Val := Elt Ideal) x (Rect.unit ![0, 384] ![256, 128] inb_S256x512_S256x128_0_384)

/-- A sum begun at the zeros of the output block. -/
def addZero (off : Fin 2 → Nat) (h : ∀ a, off a + S256x128.size a ≤ S256x512.size a) (x : FVec Ideal S256x128 .f32) : FVec Ideal S256x128 .f32 :=
  addf (shapeCast S256x128 (View.ld (Val := Elt Ideal) (e' := .f32) (k0_pay1 (F := Ideal) : S256x512.Idx → Elt Ideal .f32) (Rect.unit (s := S256x512) off ![256, 128] h) : FVec Ideal S256x128 .f32)
    shapeCasts_S256x128_S256x128) x

variable (c : Dev nD) (i : grid0.Coords) (arg2 : Memref sig .tc .vmem S2048x256 .bf16) (harg2 : arg2.IsWhole)
  (arg3 : Memref sig .tc .vmem S256x512 .bf16) (harg3 : arg3.IsWhole) (arg4 : Memref sig .tc .vmem S2048x256 .bf16) (harg4 : arg4.IsWhole)
  (arg5 : Memref sig .tc .vmem S2048x256 .bf16) (harg5 : arg5.IsWhole) (arg6 : Memref sig .tc .vmem S256x512 .f32) (harg6 : arg6.IsWhole)
  (hc0 : cond0_0 i) (x0 : Vec Ideal S2048x256 .bf16) (x1 : Vec Ideal S256x512 .bf16) (x2 : Vec Ideal S2048x256 .bf16)

/-- The block of the queries' gradient: one store for each pair. -/
theorem out3_eq : out0_A_3 (F := Ideal) c i arg2 harg2 arg3 harg3 arg4 harg4 arg5 harg5 arg6 harg6 hc0 x0 x1 x2 =
    View.canon [⟨Rect.unit ![0, 128] ![2048, 128] inb_S2048x256_S2048x128_0_128, dqPair (ldQ1 x0) (ldK1 x1) (ldV1 x1) (ldQ1 x2)⟩,
      ⟨Rect.unit ![0, 0] ![2048, 128] inb_S2048x256_S2048x128_0_0, dqPair (ldQ0 x0) (ldK0 x1) (ldV0 x1) (ldQ0 x2)⟩] := by
  frame_open
  frame_out
  rfl

/-- The block of the memory rows' gradients: zeros, then each pair's keys and values. -/
theorem out4_eq : out0_A_4 (F := Ideal) c i arg2 harg2 arg3 harg3 arg4 harg4 arg5 harg5 arg6 harg6 hc0 x0 x1 x2 =
    View.canon [⟨Rect.unit ![0, 384] ![256, 128] inb_S256x512_S256x128_0_384, addZero _ inb_S256x512_S256x128_0_384 (dvPair (ldQ1 x0) (ldK1 x1) (ldQ1 x2))⟩,
      ⟨Rect.unit ![0, 128] ![256, 128] inb_S256x512_S256x128_0_128, addZero _ inb_S256x512_S256x128_0_128 (dkPair (ldQ1 x0) (ldK1 x1) (ldV1 x1) (ldQ1 x2))⟩,
      ⟨Rect.unit ![0, 256] ![256, 128] inb_S256x512_S256x128_0_256, addZero _ inb_S256x512_S256x128_0_256 (dvPair (ldQ0 x0) (ldK0 x1) (ldQ0 x2))⟩,
      ⟨Rect.unit ![0, 0] ![256, 128] inb_S256x512_S256x128_0_0, addZero _ inb_S256x512_S256x128_0_0 (dkPair (ldQ0 x0) (ldK0 x1) (ldV0 x1) (ldQ0 x2))⟩,
      ⟨Rect.unit ![0, 0] ![256, 512] inb_S256x512_S256x512_0_0, k0_pay1 (F := Ideal)⟩] := by
  frame_open
  simp (disch := decide) only [↓ View.readCov_skip, ↓ View.readCov_cons_toLoadRect, ↓ View.readCov_fill]
  frame_out
  rfl

end Cert.MemBwd
-- ==== Proof.Head.lean ====
/-
  One head of the memory attention in plain terms: `n` query rows and `k` memory rows of 64 lanes, the softmax of their
  scores and the gradient of the scores, in the kernel's form and in the form that differentiating the softmax gives.
  The two are equal wherever the queries and the keys are finite; the values and the incoming gradient may be anything.
-/
module

public import Idealize.ShloMosaic.Lib.Pointwise
public import Idealize.ShloMosaic.Lib.IdealHost

@[expose] public section

noncomputable section

namespace Cert.MemBwd

open Idealize.ShloMosaic

/-- Rows of one head. -/
abbrev Rows (n : Nat) := Fin n → Fin 64 → EReal

/-- The scale of the scores. -/
def scale : EReal := Ideal.ofBits .f32 0x3E000000#32

/-- What a maximum starts from. -/
def lowest : EReal := Ideal.ofBits .f32 0xFF800000#32

section
variable {n k : Nat} (q d : Rows n) (key v : Rows k) (r : Fin n) (j : Fin k)

def score : EReal := (∑ l, q r l * key j l) * scale

def peak : EReal := Finset.univ.fold max lowest fun i => score q key r i

def expo : EReal := Ideal.exp (score q key r j - peak q key r)

def total : EReal := ∑ i, expo q key r i

def prob : EReal := Ideal.div (expo q key r j) (total q key r)

/-- The gradient of the softmax's result. -/
def dprob : EReal := ∑ l, d r l * v j l

/-- The gradient of the scores, as the kernel computes it. -/
def dscore : EReal := prob q key r j * (dprob d v r j - ∑ i, prob q key r i * dprob d v r i) * scale

/-- The maximum as the reference takes it. -/
def peak' : EReal := max lowest (peak q key r)

def expo' : EReal := Ideal.exp (score q key r j - peak' q key r)

def total' : EReal := ∑ i, expo' q key r i

def prob' : EReal := Ideal.div (expo' q key r j) (total' q key r)

/-- The gradient of the scores, as differentiating the reference's softmax gives it. -/
def dscore' : EReal :=
  (Ideal.div (dprob d v r j) (total' q key r)
    + -∑ i, dprob d v r i * Ideal.div 1 (total' q key r * total' q key r) * expo' q key r i) * expo' q key r j * scale

end

/-! ## The two forms -/

theorem lowest_eq : lowest = ⊥ := by
  simp [lowest, Ideal.ofBits, Ideal.ieee]

theorem scale_eq : scale = ((1 / 8 : ℝ) : EReal) := by
  unfold scale
  simp [Ideal.ofBits, Ideal.ieee, -EReal.coe_mul]; norm_num

/-- A nonnegative finite factor goes into a sum of any terms. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- A sum of reals, taken in the extended reals. -/
theorem coe_sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section
variable {n k : Nat} (q d : Rows n) (key v : Rows k) (r : Fin n) (j : Fin k)

theorem peak'_eq : peak' q key r = peak q key r := by
  unfold peak'; rw [lowest_eq]; exact max_eq_right bot_le

theorem expo'_eq : expo' q key r j = expo q key r j := by
  unfold expo' expo; rw [peak'_eq]

theorem total'_eq : total' q key r = total q key r := by
  unfold total' total; exact Finset.sum_congr rfl fun i _ => expo'_eq q key r i

theorem prob'_eq : prob' q key r j = prob q key r j := by
  unfold prob' prob; rw [expo'_eq, total'_eq]

variable (hq : ∀ l, ∃ x : ℝ, q r l = x) (hk : ∀ i l, ∃ x : ℝ, key i l = x)
include hq hk j

theorem score_real : ∃ x : ℝ, score q key r j = x := by
  choose a ha using hq
  choose b hb using hk
  refine ⟨(∑ l, a l * b j l) * (1 / 8), ?_⟩
  unfold score
  rw [scale_eq]
  simp only [ha, hb, ← EReal.coe_mul, coe_sum_real]

theorem peak_real : ∃ x : ℝ, peak q key r = x := by
  have hlt : peak q key r < ⊤ := by
    unfold peak
    rw [Finset.fold_max_lt, lowest_eq]
    refine ⟨bot_lt_top, fun i _ => ?_⟩
    obtain ⟨x, hx⟩ := score_real q key r i hq hk
    rw [hx]; exact EReal.coe_lt_top x
  have hgt : ⊥ < peak q key r := by
    obtain ⟨x, hx⟩ := score_real q key r j hq hk
    refine lt_of_lt_of_le (EReal.bot_lt_coe x) ?_
    unfold peak
    rw [Finset.le_fold_max]
    exact .inr ⟨j, Finset.mem_univ j, hx.ge⟩
  exact ⟨_, (EReal.coe_toReal hlt.ne hgt.ne').symm⟩

/-- Every exponential is a positive real. -/
theorem expo_real : ∃ x : ℝ, 0 < x ∧ expo q key r j = x := by
  obtain ⟨x, hx⟩ := score_real q key r j hq hk
  obtain ⟨y, hy⟩ := peak_real q key r j hq hk
  refine ⟨Real.exp (x - y), Real.exp_pos _, ?_⟩
  unfold expo
  rw [hx, hy, ← EReal.coe_sub, Ideal.exp_coe]

/-- Their sum is a positive real. -/
theorem total_real : ∃ x : ℝ, 0 < x ∧ total q key r = x := by
  choose e he0 he using fun i => expo_real q key r i hq hk
  refine ⟨∑ i, e i, Finset.sum_pos (fun i _ => he0 i) ⟨j, Finset.mem_univ j⟩, ?_⟩
  unfold total
  simp only [he, coe_sum_real]

/-- The kernel's gradient of the scores is the reference's. -/
theorem dscore_eq : dscore q d key v r j = dscore' q d key v r j := by
  obtain ⟨S, hS, hT⟩ := total_real q key r j hq hk
  choose e he0 he using fun i => expo_real q key r i hq hk
  unfold dscore dscore' prob
  simp only [expo'_eq, total'_eq, hT, he]
  have hS' : S * S ≠ 0 := (mul_pos hS hS).ne'
  rw [← EReal.coe_mul]
  simp only [Ideal.div_coe hS.ne', Ideal.div_coe hS', one_mul]
  generalize dprob d v r = f
  have hw : (0 : EReal) ≤ ((1 / S : ℝ) : EReal) := EReal.coe_nonneg.mpr (by positivity)
  have hwt : ((1 / S : ℝ) : EReal) ≠ ⊤ := EReal.coe_ne_top _
  congr 1
  have hsum : ∑ i, f i * ((1 / (S * S) : ℝ) : EReal) * (e i : EReal)
      = ((1 / S : ℝ) : EReal) * ∑ i, (e i : EReal) * ((1 / S : ℝ) : EReal) * f i := by
    rw [mul_sum_of_nonneg _ _ hw hwt]
    refine Finset.sum_congr rfl fun i _ => ?_
    rw [show (1 / (S * S) : ℝ) = 1 / S * (1 / S) by ring, EReal.coe_mul]
    ac_rfl
  rw [hsum, sub_eq_add_neg, ← mul_neg, mul_comm (f j), ← EReal.left_distrib_of_nonneg_of_ne_top hw hwt]
  ac_rfl

end

end Cert.MemBwd
-- ==== Proof.PairValue.lean ====
/-
  The kernel's pair of heads at an index: each half of its 128 lanes is one head's gradient, since the lanes put to zero
  add nothing to a product.
-/
module

public import proofs.«01_k».proof.Proof.Head
public import proofs.«01_k».proof.Proof.Heads

@[expose] public section

set_option maxRecDepth 16384

noncomputable section

namespace Cert.MemBwd

open Cert.KernelIdeal Cert.KernelIdeal.Gen Idealize.ShloMosaic

/-- Lane `l` of the first head of a pair. -/
def lane1 (l : Fin 64) : Fin 128 := ⟨l, by omega⟩
/-- Lane `l` of the second head of a pair. -/
def lane2 (l : Fin 64) : Fin 128 := ⟨64 + l, by omega⟩

/-- A sum over a pair's lanes is the sum over either head's. -/
theorem sum_lanes (f : Fin 128 → EReal) : ∑ x, f x = ∑ l, f (lane1 l) + ∑ l, f (lane2 l) :=
  Fin.sum_univ_add (a := 64) (b := 64) f

theorem select_lane {α : Type} (l : Fin 128) (a b : α) :
    Scalar.select (IntOp.cmpi .slt (BitVec.ofNat 32 l) 64#32) a b = if (l : Nat) < 64 then a else b := by
  have h : ∀ l : Fin 128, (IntOp.cmpi .slt (BitVec.ofNat 32 l) 64#32 = 1#1) = ((l : Nat) < 64) := by decide +kernel
  show (if IntOp.cmpi .slt (BitVec.ofNat 32 l) 64#32 = 1#1 then a else b) = _
  simp only [h]

section
variable (x : FVec Ideal S2048x128 .bf16) (r : Fin 2048) (l : Fin 64)

theorem firstQ1 : firstQ x (ix2 r (lane1 l)) = x (ix2 r (lane1 l)) := by
  pointwise [firstQ, firstLanes, zeroQ]
  rw [select_lane, if_pos (show ((lane1 l : Fin 128) : Nat) < 64 from l.isLt)]

theorem firstQ2 : firstQ x (ix2 r (lane2 l)) = 0 := by
  pointwise [firstQ, firstLanes, zeroQ]
  rw [select_lane, if_neg (show ¬ ((lane2 l : Fin 128) : Nat) < 64 from by simp [lane2])]

theorem secondQ1 : secondQ x (ix2 r (lane1 l)) = 0 := by
  pointwise [secondQ, firstLanes, zeroQ]
  rw [select_lane, if_pos (show ((lane1 l : Fin 128) : Nat) < 64 from l.isLt)]

theorem secondQ2 : secondQ x (ix2 r (lane2 l)) = x (ix2 r (lane2 l)) := by
  pointwise [secondQ, firstLanes, zeroQ]
  rw [select_lane, if_neg (show ¬ ((lane2 l : Fin 128) : Nat) < 64 from by simp [lane2])]

end

section
variable (x : FVec Ideal S256x128 .bf16) (j : Fin 256) (l : Fin 64)

theorem firstK1 : firstK x (ix2 j (lane1 l)) = x (ix2 j (lane1 l)) := by
  pointwise [firstK, firstLanes, zeroK]
  rw [select_lane, if_pos (show ((lane1 l : Fin 128) : Nat) < 64 from l.isLt)]

theorem firstK2 : firstK x (ix2 j (lane2 l)) = 0 := by
  pointwise [firstK, firstLanes, zeroK]
  rw [select_lane, if_neg (show ¬ ((lane2 l : Fin 128) : Nat) < 64 from by simp [lane2])]

theorem secondK1 : secondK x (ix2 j (lane1 l)) = 0 := by
  pointwise [secondK, firstLanes, zeroK]
  rw [select_lane, if_pos (show ((lane1 l : Fin 128) : Nat) < 64 from l.isLt)]

theorem secondK2 : secondK x (ix2 j (lane2 l)) = x (ix2 j (lane2 l)) := by
  pointwise [secondK, firstLanes, zeroK]
  rw [select_lane, if_neg (show ¬ ((lane2 l : Fin 128) : Nat) < 64 from by simp [lane2])]

end

/-- The rows of the first head of a pair. -/
def head1 {n : Nat} (x : (⟨2, ![n, 128]⟩ : Shape).Idx → EReal) : Rows n := fun r l => x (ix2 r (lane1 l))
/-- The rows of the second head of a pair. -/
def head2 {n : Nat} (x : (⟨2, ![n, 128]⟩ : Shape).Idx → EReal) : Rows n := fun r l => x (ix2 r (lane2 l))

section
variable (q d : FVec Ideal S2048x128 .bf16) (k v : FVec Ideal S256x128 .bf16) (r : Fin 2048) (j : Fin 256) (l : Fin 64)

theorem against_apply : against q k (ix2 r j) = ∑ x, q (ix2 r x) * k (ix2 j x) := by
  pointwise [against]

theorem against1 : against (firstQ q) k (ix2 r j) = ∑ l, head1 q r l * head1 k j l := by
  rw [against_apply, sum_lanes]
  simp only [firstQ1, firstQ2, zero_mul, Finset.sum_const_zero, add_zero]
  rfl

theorem against2 : against (secondQ q) k (ix2 r j) = ∑ l, head2 q r l * head2 k j l := by
  rw [against_apply, sum_lanes]
  simp only [secondQ1, secondQ2, zero_mul, Finset.sum_const_zero, zero_add]
  rfl

/-- The softmax of scores given as one head's products. -/
theorem probs_apply (A : Rows 2048) (B : Rows 256) (h : ∀ r j, against q k (ix2 r j) = ∑ l, A r l * B j l) : probs q k (ix2 r j) = prob A B r j := by
  pointwise [probs, exps, rowSum, rowMax, eighth, h]
  unfold prob total expo peak score scale lowest
  with_reducible rfl

theorem softmaxGrad_apply (p dp : FVec Ideal S2048x256 .f32) :
    softmaxGrad p dp (ix2 r j) = p (ix2 r j) * (dp (ix2 r j) - ∑ x, p (ix2 r x) * dp (ix2 r x)) * scale := by
  pointwise [softmaxGrad, rowSum, eighth]
  unfold scale
  with_reducible rfl

theorem ds1_apply : ds1 q k v d (ix2 r j) = dscore (head1 q) (head1 d) (head1 k) (head1 v) r j := by
  unfold ds1 dscore dprob
  simp only [softmaxGrad_apply, probs_apply _ _ _ _ (head1 q) (head1 k) (against1 q k), against1]

theorem ds2_apply : ds2 q k v d (ix2 r j) = dscore (head2 q) (head2 d) (head2 k) (head2 v) r j := by
  unfold ds2 dscore dprob
  simp only [softmaxGrad_apply, probs_apply _ _ _ _ (head2 q) (head2 k) (against2 q k), against2]

/-! ## The three gradients of a pair -/

theorem dqPair1 : dqPair q k v d (ix2 r (lane1 l)) = ∑ j, dscore (head1 q) (head1 d) (head1 k) (head1 v) r j * head1 k j l := by
  pointwise [dqPair, overMemory, ds1_apply, ds2_apply, firstK1, secondK1]
  simp only [mul_zero, Finset.sum_const_zero, add_zero]
  rfl

theorem dqPair2 : dqPair q k v d (ix2 r (lane2 l)) = ∑ j, dscore (head2 q) (head2 d) (head2 k) (head2 v) r j * head2 k j l := by
  pointwise [dqPair, overMemory, ds1_apply, ds2_apply, firstK2, secondK2]
  simp only [mul_zero, Finset.sum_const_zero, zero_add]
  rfl

theorem dkPair1 : dkPair q k v d (ix2 j (lane1 l)) = ∑ r, dscore (head1 q) (head1 d) (head1 k) (head1 v) r j * head1 q r l := by
  pointwise [dkPair, overQueries, ds1_apply, ds2_apply, firstQ1, secondQ1]
  simp only [mul_zero, Finset.sum_const_zero, add_zero]
  rfl

theorem dkPair2 : dkPair q k v d (ix2 j (lane2 l)) = ∑ r, dscore (head2 q) (head2 d) (head2 k) (head2 v) r j * head2 q r l := by
  pointwise [dkPair, overQueries, ds1_apply, ds2_apply, firstQ2, secondQ2]
  simp only [mul_zero, Finset.sum_const_zero, zero_add]
  rfl

theorem dvPair1 : dvPair q k d (ix2 j (lane1 l)) = ∑ r, prob (head1 q) (head1 k) r j * head1 d r l := by
  pointwise [dvPair, overQueries, probs_apply _ _ _ _ (head1 q) (head1 k) (against1 q k), firstQ1, secondQ1]
  simp only [mul_zero, Finset.sum_const_zero, add_zero]
  rfl

theorem dvPair2 : dvPair q k d (ix2 j (lane2 l)) = ∑ r, prob (head2 q) (head2 k) r j * head2 d r l := by
  pointwise [dvPair, overQueries, probs_apply _ _ _ _ (head2 q) (head2 k) (against2 q k), firstQ2, secondQ2]
  simp only [mul_zero, Finset.sum_const_zero, zero_add]
  rfl

end

end Cert.MemBwd
-- ==== Proof.Columns.lean ====
/-
  A block stored column range by column range, read at an index: the last store whose columns hold the index gives it.
-/
module

public import Idealize.ShloMosaic.Lib.Pointwise
public import Idealize.ShloMosaic.Lib.Pipeline.ValueKit

@[expose] public section

noncomputable section

namespace Cert.Columns

open Idealize.ShloMosaic

variable {Val : EltTy → Type} [∀ e, Nonempty (Val e)] {e : EltTy} {n w W off : Nat}
  (inb : ∀ a, (![0, off] : Fin 2 → Nat) a + (![n, w] : Fin 2 → Nat) a ≤ (⟨2, ![n, W]⟩ : Shape).size a)

/-- Inside the store's columns the block holds its payload. -/
theorem canon_hit (pay : (Rect.unit (s := ⟨2, ![n, W]⟩) ![0, off] ![n, w] inb).shape.Idx → Val e) (L : List (View.Piece Val ⟨2, ![n, W]⟩ e))
    (r : Fin n) (x : Fin w) (y : Fin W) (hy : (y : Nat) = off + x) :
    View.canon (⟨Rect.unit (s := ⟨2, ![n, W]⟩) ![0, off] ![n, w] inb, pay⟩ :: L) (ix2 r y) = pay (ix2 r x) := by
  have h : (ix2 r y : (⟨2, ![n, W]⟩ : Shape).Idx) = (Rect.unit (s := ⟨2, ![n, W]⟩) ![0, off] ![n, w] inb).emb (ix2 r x) := by
    funext a
    match a with
    | ⟨0, _⟩ => exact Fin.ext (by show (r : Nat) = 0 + 1 * (r : Nat); omega)
    | ⟨1, _⟩ => exact Fin.ext (by show (y : Nat) = off + 1 * (x : Nat); omega)
  rw [h]; exact View.canon_cons_emb _ _ _ _

/-- Outside them it holds what the earlier stores left. -/
theorem canon_miss (pay : (Rect.unit (s := ⟨2, ![n, W]⟩) ![0, off] ![n, w] inb).shape.Idx → Val e) (L : List (View.Piece Val ⟨2, ![n, W]⟩ e))
    (r : Fin n) (y : Fin W) (hy : (y : Nat) < off ∨ off + w ≤ y) :
    View.canon (⟨Rect.unit (s := ⟨2, ![n, W]⟩) ![0, off] ![n, w] inb, pay⟩ :: L) (ix2 r y) = View.canon L (ix2 r y) := by
  refine View.canon_cons_of_not_mem _ _ fun hm => ?_
  rw [Rect.mem_set_unit] at hm
  have h1 : off ≤ (y : Nat) ∧ (y : Nat) < off + w := hm 1
  omega

/-- A load of some columns reads the block at these columns. -/
theorem ld_columns (v : Vec Ideal ⟨2, ![n, W]⟩ e) (r : Fin n) (x : Fin w) (y : Fin W) (hy : (y : Nat) = off + x) :
    View.ld v (Rect.unit (s := ⟨2, ![n, W]⟩) ![0, off] ![n, w] inb) (ix2 r x) = v (ix2 r y) :=
  View.ld_unit_apply_of v _ _ inb _ (ix2 r y) fun a => match a with
    | ⟨0, _⟩ => by show (r : Nat) = 0 + (r : Nat); omega
    | ⟨1, _⟩ => hy

/-- A load of some columns after stores reads what the stores left there. -/
theorem read_columns {sig : RefSig} {κ : Kind} {sp : Space} (b : View sig κ sp ⟨2, ![n, W]⟩ e) (L : List (View.Piece Val ⟨2, ![n, W]⟩ e))
    (r : Fin n) (x : Fin w) (y : Fin W) (hy : (y : Nat) = off + x) :
    b.readCov L (Rect.unit (s := ⟨2, ![n, W]⟩) ![0, off] ![n, w] inb).toLoadRect (ix2 r x) = View.canon L (ix2 r y) := by
  rw [View.readCov_eq_canon']
  refine congrArg (View.canon L) (funext fun a => ?_)
  match a with
  | ⟨0, _⟩ => exact Fin.ext (by show 0 + 1 * (r : Nat) = (r : Nat); omega)
  | ⟨1, _⟩ => exact Fin.ext (by show off + 1 * (x : Nat) = (y : Nat); omega)

/-- A load of the whole block after stores reads what they left. -/
theorem read_whole {sig : RefSig} {κ : Kind} {sp : Space} (b : View sig κ sp ⟨2, ![n, W]⟩ e) (L : List (View.Piece Val ⟨2, ![n, W]⟩ e))
    (inb : ∀ a, (![0, 0] : Fin 2 → Nat) a + (![n, W] : Fin 2 → Nat) a ≤ (⟨2, ![n, W]⟩ : Shape).size a) :
    b.readCov L (Rect.unit (s := ⟨2, ![n, W]⟩) ![0, 0] ![n, W] inb).toLoadRect = View.canon L := by
  funext y
  have h : y = ix2 (y 0) (y 1) := by
    funext a
    match a with
    | ⟨0, _⟩ => rfl
    | ⟨1, _⟩ => rfl
  rw [h]
  exact read_columns inb b L (y 0) (y 1) (y 1) (by omega)

end Cert.Columns
-- ==== Proof.BlockValue.lean ====
/-
  What one grid point leaves in its two output blocks, at an index: every head's gradient of its queries, its memory keys
  and its memory values, over the heads of the point's own blocks.
-/
module

public import proofs.«01_k».proof.Proof.Outputs
public import proofs.«01_k».proof.Proof.PairValue
public import proofs.«01_k».proof.Proof.Columns

@[expose] public section

set_option maxRecDepth 16384

noncomputable section

namespace Cert.MemBwd

open Cert.KernelIdeal Cert.KernelIdeal.Gen Idealize.ShloMosaic Idealize.ShloMosaic.TcCoe Idealize.SL.Sem
open Cert.Columns

/-- Head `h`'s rows of a block of queries. -/
def blockQ (x : Vec Ideal S2048x256 .bf16) (h : Fin 4) : Rows 2048 := fun r l => x (ix2 r ⟨h * 64 + l, by omega⟩)
/-- Head `h`'s keys of a block of memory rows. -/
def blockK (x : Vec Ideal S256x512 .bf16) (h : Fin 4) : Rows 256 := fun j l => x (ix2 j ⟨h * 64 + l, by omega⟩)
/-- Head `h`'s values of a block of memory rows. -/
def blockV (x : Vec Ideal S256x512 .bf16) (h : Fin 4) : Rows 256 := fun j l => x (ix2 j ⟨256 + (h * 64 + l), by omega⟩)

theorem Q0 (x : Vec Ideal S2048x256 .bf16) : head1 (ldQ0 x) = blockQ x 0 := by
  funext r l; unfold head1 blockQ lane1 ldQ0; pointwise!
theorem Q1 (x : Vec Ideal S2048x256 .bf16) : head2 (ldQ0 x) = blockQ x 1 := by
  funext r l; unfold head2 blockQ lane2 ldQ0; pointwise!
theorem Q2 (x : Vec Ideal S2048x256 .bf16) : head1 (ldQ1 x) = blockQ x 2 := by
  funext r l; unfold head1 blockQ lane1 ldQ1; pointwise!
theorem Q3 (x : Vec Ideal S2048x256 .bf16) : head2 (ldQ1 x) = blockQ x 3 := by
  funext r l; unfold head2 blockQ lane2 ldQ1; pointwise!
theorem K0 (x : Vec Ideal S256x512 .bf16) : head1 (ldK0 x) = blockK x 0 := by
  funext r l; unfold head1 blockK lane1 ldK0; pointwise!
theorem K1 (x : Vec Ideal S256x512 .bf16) : head2 (ldK0 x) = blockK x 1 := by
  funext r l; unfold head2 blockK lane2 ldK0; pointwise!
theorem K2 (x : Vec Ideal S256x512 .bf16) : head1 (ldK1 x) = blockK x 2 := by
  funext r l; unfold head1 blockK lane1 ldK1; pointwise!
theorem K3 (x : Vec Ideal S256x512 .bf16) : head2 (ldK1 x) = blockK x 3 := by
  funext r l; unfold head2 blockK lane2 ldK1; pointwise!

theorem V0 (x : Vec Ideal S256x512 .bf16) : head1 (ldV0 x) = blockV x 0 := by
  funext r l; unfold head1 blockV lane1 ldV0; pointwise!
theorem V1 (x : Vec Ideal S256x512 .bf16) : head2 (ldV0 x) = blockV x 1 := by
  funext r l; unfold head2 blockV lane2 ldV0; pointwise!
theorem V2 (x : Vec Ideal S256x512 .bf16) : head1 (ldV1 x) = blockV x 2 := by
  funext r l; unfold head1 blockV lane1 ldV1; pointwise!
theorem V3 (x : Vec Ideal S256x512 .bf16) : head2 (ldV1 x) = blockV x 3 := by
  funext r l; unfold head2 blockV lane2 ldV1; pointwise!

/-- A sum begun at zeros is the sum. -/
theorem addZero_apply (off : Fin 2 → Nat) (h) (x : FVec Ideal S256x128 .f32) (j : Fin 256) (l : Fin 128) : addZero off h x (ix2 j l) = x (ix2 j l) := by
  pointwise [addZero, k0_pay1]

section
variable (x0 : Vec Ideal S2048x256 .bf16) (x1 : Vec Ideal S256x512 .bf16) (x2 : Vec Ideal S2048x256 .bf16) (h : Fin 4) (r : Fin 2048) (j : Fin 256) (l : Fin 64)

/-- The queries' gradient at a lane of head `h`. -/
def dqBlock : EReal := ∑ j, dscore (blockQ x0 h) (blockQ x2 h) (blockK x1 h) (blockV x1 h) r j * blockK x1 h j l
/-- The memory keys' gradient at a lane of head `h`. -/
def dkBlock : EReal := ∑ r, dscore (blockQ x0 h) (blockQ x2 h) (blockK x1 h) (blockV x1 h) r j * blockQ x0 h r l
/-- The memory values' gradient at a lane of head `h`. -/
def dvBlock : EReal := ∑ r, prob (blockQ x0 h) (blockK x1 h) r j * blockQ x2 h r l

end

variable (c : Dev nD) (i : grid0.Coords) (arg2 : Memref sig .tc .vmem S2048x256 .bf16) (harg2 : arg2.IsWhole)
  (arg3 : Memref sig .tc .vmem S256x512 .bf16) (harg3 : arg3.IsWhole) (arg4 : Memref sig .tc .vmem S2048x256 .bf16) (harg4 : arg4.IsWhole)
  (arg5 : Memref sig .tc .vmem S2048x256 .bf16) (harg5 : arg5.IsWhole) (arg6 : Memref sig .tc .vmem S256x512 .f32) (harg6 : arg6.IsWhole)
  (hc0 : cond0_0 i) (x0 : Vec Ideal S2048x256 .bf16) (x1 : Vec Ideal S256x512 .bf16) (x2 : Vec Ideal S2048x256 .bf16)
  (r : Fin 2048) (j : Fin 256) (l : Fin 64)

theorem out3_apply : ∀ h : Fin 4, out0_A_3 (F := Ideal) c i arg2 harg2 arg3 harg3 arg4 harg4 arg5 harg5 arg6 harg6 hc0 x0 x1 x2
    (ix2 r ⟨h * 64 + l, by omega⟩) = dqBlock x0 x1 x2 h r l
  | 0 => by
    rw [out3_eq]
    refine (canon_miss _ _ _ r _ (.inl (by show 0 * 64 + (l : Nat) < 128; omega))).trans ?_
    refine (canon_hit _ _ _ r (lane1 l) _ (by simp [lane1])).trans ?_
    rw [dqPair1, Q0, Q0, K0, V0]; rfl
  | 1 => by
    rw [out3_eq]
    refine (canon_miss _ _ _ r _ (.inl (by show 1 * 64 + (l : Nat) < 128; omega))).trans ?_
    refine (canon_hit _ _ _ r (lane2 l) _ (by simp [lane2])).trans ?_
    rw [dqPair2, Q1, Q1, K1, V1]; rfl
  | 2 => by
    rw [out3_eq]
    refine (canon_hit _ _ _ r (lane1 l) _ (by simp [lane1])).trans ?_
    rw [dqPair1, Q2, Q2, K2, V2]; rfl
  | 3 => by
    rw [out3_eq]
    refine (canon_hit _ _ _ r (lane2 l) _ (by simp [lane2]; omega)).trans ?_
    rw [dqPair2, Q3, Q3, K3, V3]; rfl

theorem out4_key : ∀ h : Fin 4, out0_A_4 (F := Ideal) c i arg2 harg2 arg3 harg3 arg4 harg4 arg5 harg5 arg6 harg6 hc0 x0 x1 x2
    (ix2 j ⟨h * 64 + l, by omega⟩) = dkBlock x0 x1 x2 h j l
  | 0 => by
    rw [out4_eq]
    refine (canon_miss _ _ _ j _ (.inl (by show 0 * 64 + (l : Nat) < 384; omega))).trans ?_
    refine (canon_miss _ _ _ j _ (.inl (by show 0 * 64 + (l : Nat) < 128; omega))).trans ?_
    refine (canon_miss _ _ _ j _ (.inl (by show 0 * 64 + (l : Nat) < 256; omega))).trans ?_
    refine (canon_hit _ _ _ j (lane1 l) _ (by simp [lane1])).trans ?_
    rw [addZero_apply, dkPair1, Q0, Q0, K0, V0]; rfl
  | 1 => by
    rw [out4_eq]
    refine (canon_miss _ _ _ j _ (.inl (by show 1 * 64 + (l : Nat) < 384; omega))).trans ?_
    refine (canon_miss _ _ _ j _ (.inl (by show 1 * 64 + (l : Nat) < 128; omega))).trans ?_
    refine (canon_miss _ _ _ j _ (.inl (by show 1 * 64 + (l : Nat) < 256; omega))).trans ?_
    refine (canon_hit _ _ _ j (lane2 l) _ (by simp [lane2])).trans ?_
    rw [addZero_apply, dkPair2, Q1, Q1, K1, V1]; rfl
  | 2 => by
    rw [out4_eq]
    refine (canon_miss _ _ _ j _ (.inl (by show 2 * 64 + (l : Nat) < 384; omega))).trans ?_
    refine (canon_hit _ _ _ j (lane1 l) _ (by simp [lane1])).trans ?_
    rw [addZero_apply, dkPair1, Q2, Q2, K2, V2]; rfl
  | 3 => by
    rw [out4_eq]
    refine (canon_miss _ _ _ j _ (.inl (by show 3 * 64 + (l : Nat) < 384; omega))).trans ?_
    refine (canon_hit _ _ _ j (lane2 l) _ (by simp [lane2]; omega)).trans ?_
    rw [addZero_apply, dkPair2, Q3, Q3, K3, V3]; rfl

theorem out4_value : ∀ h : Fin 4, out0_A_4 (F := Ideal) c i arg2 harg2 arg3 harg3 arg4 harg4 arg5 harg5 arg6 harg6 hc0 x0 x1 x2
    (ix2 j ⟨256 + (h * 64 + l), by omega⟩) = dvBlock x0 x1 x2 h j l
  | 0 => by
    rw [out4_eq]
    refine (canon_miss _ _ _ j _ (.inl (by show 256 + (0 * 64 + (l : Nat)) < 384; omega))).trans ?_
    refine (canon_miss _ _ _ j _ (.inr (by show 128 + 128 ≤ 256 + (0 * 64 + (l : Nat)); omega))).trans ?_
    refine (canon_hit _ _ _ j (lane1 l) _ (by simp [lane1])).trans ?_
    rw [addZero_apply, dvPair1, Q0, Q0, K0]; rfl
  | 1 => by
    rw [out4_eq]
    refine (canon_miss _ _ _ j _ (.inl (by show 256 + (1 * 64 + (l : Nat)) < 384; omega))).trans ?_
    refine (canon_miss _ _ _ j _ (.inr (by show 128 + 128 ≤ 256 + (1 * 64 + (l : Nat)); omega))).trans ?_
    refine (canon_hit _ _ _ j (lane2 l) _ (by simp [lane2])).trans ?_
    rw [addZero_apply, dvPair2, Q1, Q1, K1]; rfl
  | 2 => by
    rw [out4_eq]
    refine (canon_hit _ _ _ j (lane1 l) _ (by simp [lane1]; omega)).trans ?_
    rw [addZero_apply, dvPair1, Q2, Q2, K2]; rfl
  | 3 => by
    rw [out4_eq]
    refine (canon_hit _ _ _ j (lane2 l) _ (by simp [lane2]; omega)).trans ?_
    rw [addZero_apply, dvPair2, Q3, Q3, K3]; rfl

end Cert.MemBwd
-- ==== Proof.RefTerms.lean ====
/-
  The reference's results as terms over the four heads' rows: scores, exponentials, softmax, the gradient of the scores
  and the three products with it.
-/
module

public import proofs.«01_k».proof.Proof.Head
public import proofs.«01_k».proof.Proof.Gen.ReferenceIdeal.Run
public import Idealize.ShloMosaic.Lib.Tactic.CleanTypes

@[expose] public section

set_option maxRecDepth 16384

noncomputable section

namespace Cert.MemBwd.Ref

open Cert.ReferenceIdeal Cert.ReferenceIdeal.Gen Idealize.ShloMosaic Idealize.ShloMosaic.TcCoe Idealize.SL.Sem

/-- Query rows of four heads for each of the four sequences. -/
abbrev Tq := FVec Ideal S4x2048x4x64 .f32
/-- Memory rows of four heads for each of the four sequences. -/
abbrev Tk := FVec Ideal S4x256x4x64 .f32
/-- One number for every query row, memory row and head. -/
abbrev Ts := FVec Ideal S4x4x2048x256 .f32

def scales : Ts := broadcastInDim S4x4x2048x256 ![] bcast_S_S4x4x2048x256 (constant S_ .f32 0x3E000000#32)

def scores (q : Tq) (k : Tk) : Ts := mulf (Host.dotGeneral dot_S4x2048x4x64_S4x256x4x64_S4x4x2048x256_3_3_1_1_02_02 none q k) scales

/-- One number for every query row and head, put beside every memory row. -/
def spread (x : FVec Ideal S4x4x2048 .f32) : Ts :=
  broadcastInDim S4x4x2048x256 ![0, 1, 2, 3] bcast_S4x4x2048x1_S4x4x2048x256_0_1_2_3 (broadcastInDim S4x4x2048x1 ![0, 1, 2] bcast_S4x4x2048_S4x4x2048x1_0_1_2
    (maximumf (broadcastInDim S4x4x2048 ![] bcast_S_S4x4x2048 (constant S_ .f32 0xFF800000#32)) x))

def rowMax (x : Ts) : FVec Ideal S4x4x2048 .f32 :=
  Host.reduce FloatOps.maximumf x (constant S_ .f32 0xFF800000#32) reducesTo_S4x4x2048x256_S4x4x2048_d3 h_S_

def peaks (q : Tq) (k : Tk) : Ts := spread (rowMax (scores q k))

def expos (q : Tq) (k : Tk) : Ts := Host.exp (subf (scores q k) (peaks q k))

/-- The sum of a row of exponentials. -/
def totals (q : Tq) (k : Tk) : FVec Ideal S4x4x2048x1 .f32 :=
  broadcastInDim S4x4x2048x1 ![0, 1, 2] bcast_S4x4x2048_S4x4x2048x1_0_1_2
    (Host.reduceAdd (expos q k) (constant S_ .f32 0x00000000#32) reducesTo_S4x4x2048x256_S4x4x2048_d3 h_S_)

/-- One number for every query row, put beside every memory row. -/
def beside (x : FVec Ideal S4x4x2048x1 .f32) : Ts := broadcastInDim S4x4x2048x256 ![0, 1, 2, 3] bcast_S4x4x2048x1_S4x4x2048x256_0_1_2_3 x

def probs (q : Tq) (k : Tk) : Ts := Host.divf (expos q k) (beside (totals q k))

/-- The incoming gradient with its lanes before its rows. -/
def turned (d : Tq) : FVec Ideal S4x4x64x2048 .f32 := transpose S4x4x64x2048 [0, 2, 3, 1] d transposes_S4x2048x4x64_S4x4x64x2048_0_2_3_1

def dprobs (d : Tq) (v : Tk) : Ts := Host.dotGeneral dot_S4x4x64x2048_S4x256x4x64_S4x4x2048x256_2_3_3_1_01_02 none (turned d) v

def invSquares (q : Tq) (k : Tk) : Ts :=
  beside (Host.divf (broadcastInDim S4x4x2048x1 ![] bcast_S_S4x4x2048x1 (constant S_ .f32 0x3F800000#32)) (mulf (totals q k) (totals q k)))

/-- The part of the gradient that comes through the sum of the exponentials. -/
def throughTotal (q d : Tq) (k v : Tk) : Ts :=
  broadcastInDim S4x4x2048x256 ![0, 1, 2] bcast_S4x4x2048_S4x4x2048x256_0_1_2
    (Host.reduceAdd (Host.negf (shapeCast _ (Host.reduceAdd (mulf (mulf (dprobs d v) (invSquares q k)) (expos q k)) (constant S_ .f32 0x00000000#32)
      reducesTo_S4x4x2048x256_S4x4x2048_d3 h_S_) shapeCasts_S4x4x2048_S4x4x2048x1)) (constant S_ .f32 0x00000000#32) reducesTo_S4x4x2048x1_S4x4x2048_d3 h_S_)

def dscores (q d : Tq) (k v : Tk) : Ts :=
  mulf (mulf (addf (Host.divf (dprobs d v) (beside (totals q k))) (throughTotal q d k v)) (expos q k)) scales

def dq (q d : Tq) (k v : Tk) : FVec Ideal S8192x256 .bf16 :=
  truncf .bf16 (shapeCast _ (transpose S4x2048x4x64 [0, 2, 1, 3] (Host.dotGeneral dot_S4x4x2048x256_S4x256x4x64_S4x4x2048x64_3_1_2_3_01_02 none
    (dscores q d k v) k) transposes_S4x4x2048x64_S4x2048x4x64_0_2_1_3) shapeCasts_S4x2048x4x64_S8192x256) bitsLt_bf16_f32

def dk (q d : Tq) (k v : Tk) : FVec Ideal S1024x256 .f32 :=
  shapeCast _ (transpose S4x256x4x64 [0, 2, 1, 3] (Host.dotGeneral dot_S4x4x2048x256_S4x2048x4x64_S4x4x256x64_2_1_3_3_01_02 none
    (dscores q d k v) q) transposes_S4x4x256x64_S4x256x4x64_0_2_1_3) shapeCasts_S4x256x4x64_S1024x256

def dv (q d : Tq) (k : Tk) : FVec Ideal S1024x256 .f32 :=
  shapeCast _ (transpose S4x256x4x64 [0, 3, 1, 2] (Host.dotGeneral dot_S4x4x64x2048_S4x4x2048x256_S4x4x64x256_3_2_2_3_01_01 none
    (turned d) (probs q k)) transposes_S4x4x64x256_S4x256x4x64_0_3_1_2) shapeCasts_S4x256x4x64_S1024x256

/-- The keys' gradient beside the values'. -/
def dkv (q d : Tq) (k v : Tk) : FVec Ideal S1024x512 .f32 :=
  concatenate S1024x512 1 [⟨S1024x256, dk q d k v⟩, ⟨S1024x256, dv q d k⟩] concatenates_S1024x256_S1024x256_S1024x512_d1

/-! ## The four operands, from the arguments -/

def queries (h : FVec Ideal S8192x2560 .bf16) : Tq :=
  shapeCast _ (extf .f32 (extractStridedSlice S8192x256 ![0, 2304] h slices_S8192x2560_S8192x256_0_2304) bitsLt_bf16_f32) shapeCasts_S8192x256_S4x2048x4x64

def keys (mkv : FVec Ideal S1024x512 .bf16) : Tk :=
  shapeCast _ (extf .f32 (extractStridedSlice S1024x256 ![0, 0] mkv slices_S1024x512_S1024x256_0_0) bitsLt_bf16_f32) shapeCasts_S1024x256_S4x256x4x64

def values (mkv : FVec Ideal S1024x512 .bf16) : Tk :=
  shapeCast _ (extf .f32 (extractStridedSlice S1024x256 ![0, 256] mkv slices_S1024x512_S1024x256_0_256) bitsLt_bf16_f32) shapeCasts_S1024x256_S4x256x4x64

def incoming (dcat : FVec Ideal S8192x1024 .bf16) : Tq :=
  shapeCast _ (extf .f32 (extractStridedSlice S8192x256 ![0, 768] dcat slices_S8192x1024_S8192x256_0_768) bitsLt_bf16_f32) shapeCasts_S8192x256_S4x2048x4x64

variable (m : (ℓ : Loc nD τ sig) → Buf (Elt Ideal) ℓ) (c : Dev nD)

/-- The first result of the reference. -/
theorem out0_eq : Value.res_out0 (F := Ideal) m c = dq (queries (m ((c.tc : Thread nD τ).loc main_arg0))) (incoming (m ((c.tc : Thread nD τ).loc main_arg2)))
    (keys (m ((c.tc : Thread nD τ).loc main_arg1))) (values (m ((c.tc : Thread nD τ).loc main_arg1))) := rfl

/-- The second result of the reference. -/
theorem out1_eq : Value.res_out1 (F := Ideal) m c = dkv (queries (m ((c.tc : Thread nD τ).loc main_arg0))) (incoming (m ((c.tc : Thread nD τ).loc main_arg2)))
    (keys (m ((c.tc : Thread nD τ).loc main_arg1))) (values (m ((c.tc : Thread nD τ).loc main_arg1))) := rfl

end Cert.MemBwd.Ref
-- ==== Proof.RefValue.lean ====
/-
  The reference's results at an index, in terms of one head's rows.
-/
module

public import proofs.«01_k».proof.Proof.RefTerms

@[expose] public section

set_option maxRecDepth 16384

noncomputable section

namespace Cert.MemBwd.Ref

open Cert.ReferenceIdeal Cert.ReferenceIdeal.Gen Idealize.ShloMosaic Idealize.ShloMosaic.TcCoe Idealize.SL.Sem

/-- One head's query rows in one sequence. -/
def headQ (q : Tq) (b : Fin 4) (h : Fin 4) : Rows 2048 := fun r l => q (ix4 b r h l)
/-- One head's memory rows in one sequence. -/
def headK (k : Tk) (b : Fin 4) (h : Fin 4) : Rows 256 := fun j l => k (ix4 b j h l)

variable (q d : Tq) (k v : Tk) (b h : Fin 4) (r : Fin 2048) (j : Fin 256)

theorem scores_apply : scores q k (ix4 b h r j) = score (headQ q b h) (headK k b h) r j := by
  pointwise [scores, scales]
  rfl

/-- The maximum over the memory rows. -/
theorem rowMax_apply (x : Ts) : rowMax x (ix3 b h r) = Finset.univ.fold max lowest fun i : Fin 256 => x (ix4 b h r i) := by
  pointwise [rowMax]
  unfold lowest
  with_reducible rfl

theorem spread_apply (x : FVec Ideal S4x4x2048 .f32) : spread x (ix4 b h r j) = max lowest (x (ix3 b h r)) := by
  pointwise [spread]
  unfold lowest
  with_reducible rfl

theorem peaks_apply : peaks q k (ix4 b h r j) = peak' (headQ q b h) (headK k b h) r := by
  unfold peaks peak' peak
  rw [spread_apply, rowMax_apply]
  simp only [scores_apply]

theorem expos_apply : expos q k (ix4 b h r j) = expo' (headQ q b h) (headK k b h) r j := by
  pointwise [expos, scores_apply, peaks_apply]
  rfl

theorem totals_apply : totals q k (ix4 b h r 0) = total' (headQ q b h) (headK k b h) r := by
  pointwise [totals, expos_apply]
  rfl

theorem probs_apply : probs q k (ix4 b h r j) = prob' (headQ q b h) (headK k b h) r j := by
  pointwise [probs, beside, expos_apply, totals_apply]
  rfl

theorem dprobs_apply : dprobs d v (ix4 b h r j) = dprob (headQ d b h) (headK v b h) r j := by
  pointwise [dprobs, turned]
  rfl

theorem dscores_apply : dscores q d k v (ix4 b h r j) = dscore' (headQ q b h) (headQ d b h) (headK k b h) (headK v b h) r j := by
  pointwise [dscores, throughTotal, invSquares, scales, beside, expos_apply, totals_apply, dprobs_apply]
  simp only [Finset.univ_unique, Finset.sum_singleton]
  rfl

/-! ## The results: row `r` of the queries' gradient is query row `r % 2048` of sequence `r / 2048`, and lane `l` is lane `l % 64` of head `l / 64` -/

section
variable (b h : Fin 4) (r : Fin 2048) (j : Fin 256) (l : Fin 64)

theorem dq_apply : dq q d k v (ix2 ⟨b * 2048 + r, by omega⟩ ⟨h * 64 + l, by omega⟩) =
    ∑ j, dscore' (headQ q b h) (headQ d b h) (headK k b h) (headK v b h) r j * headK k b h j l := by
  pointwise [dq, dscores_apply]
  rfl

theorem dk_apply : dk q d k v (ix2 ⟨b * 256 + j, by omega⟩ ⟨h * 64 + l, by omega⟩) =
    ∑ r, dscore' (headQ q b h) (headQ d b h) (headK k b h) (headK v b h) r j * headQ q b h r l := by
  pointwise [dk, dscores_apply]
  rfl

theorem dv_apply : dv q d k (ix2 ⟨b * 256 + j, by omega⟩ ⟨h * 64 + l, by omega⟩) =
    ∑ r, headQ d b h r l * prob' (headQ q b h) (headK k b h) r j := by
  pointwise [dv, turned, probs_apply]
  rfl

theorem dkv_key : dkv q d k v (ix2 ⟨b * 256 + j, by omega⟩ ⟨h * 64 + l, by omega⟩) = dk q d k v (ix2 ⟨b * 256 + j, by omega⟩ ⟨h * 64 + l, by omega⟩) := by
  pointwise [dkv]
  exact dif_pos (show (h : Nat) * 64 + (l : Nat) < 256 by omega)

theorem dkv_value : dkv q d k v (ix2 ⟨b * 256 + j, by omega⟩ ⟨256 + (h * 64 + l), by omega⟩) = dv q d k (ix2 ⟨b * 256 + j, by omega⟩ ⟨h * 64 + l, by omega⟩) := by
  pointwise [dkv]

/-! ## The operands -/

theorem queries_apply (x : FVec Ideal S8192x2560 .bf16) : queries x (ix4 b r h l) = x (ix2 ⟨b * 2048 + r, by omega⟩ ⟨2304 + (h * 64 + l), by omega⟩) := by
  pointwise [queries]

theorem keys_apply (x : FVec Ideal S1024x512 .bf16) : keys x (ix4 b j h l) = x (ix2 ⟨b * 256 + j, by omega⟩ ⟨h * 64 + l, by omega⟩) := by
  pointwise [keys]

theorem values_apply (x : FVec Ideal S1024x512 .bf16) : values x (ix4 b j h l) = x (ix2 ⟨b * 256 + j, by omega⟩ ⟨256 + (h * 64 + l), by omega⟩) := by
  pointwise [values]

theorem incoming_apply (x : FVec Ideal S8192x1024 .bf16) : incoming x (ix4 b r h l) = x (ix2 ⟨b * 2048 + r, by omega⟩ ⟨768 + (h * 64 + l), by omega⟩) := by
  pointwise [incoming]

end

end Cert.MemBwd.Ref
-- ==== Proof.Final.lean ====
/-
  The two result arrays of the kernel are the reference's two results, where the memory queries and the memory keys are
  finite: grid point `b` holds sequence `b`, whose heads are the reference's heads of that sequence.
-/
module

public import proofs.«01_k».proof.Proof.BlockValue
public import proofs.«01_k».proof.Proof.RefValue

@[expose] public section

set_option maxRecDepth 16384

noncomputable section

namespace Cert.MemBwd

open Cert.KernelIdeal Cert.KernelIdeal.Gen Idealize.ShloMosaic Idealize.ShloMosaic.TcCoe Idealize.SL.Sem

variable (m : (ℓ : Loc nD τ sig) → Buf (Elt Ideal) ℓ) (c : Dev nD)

/-- The activations that hold the memory queries. -/
abbrev arg0 : FVec Ideal S8192x2560 .bf16 := m ((c.tc : Thread nD τ).loc main_arg0)
/-- The memory keys and values. -/
abbrev arg1 : FVec Ideal S1024x512 .bf16 := m ((c.tc : Thread nD τ).loc main_arg1)
/-- The gradient of the layer's concatenated attention results. -/
abbrev arg2 : FVec Ideal S8192x1024 .bf16 := m ((c.tc : Thread nD τ).loc main_arg2)

theorem index0 : ∀ t : Fin cfg0.N, win0_0.index t = ![t.val, 9] := by decide +kernel
theorem index1 : ∀ t : Fin cfg0.N, win0_1.index t = ![t.val, 0] := by decide +kernel
theorem index2 : ∀ t : Fin cfg0.N, win0_2.index t = ![t.val, 3] := by decide +kernel
theorem index3 : ∀ t : Fin cfg0.N, win0_3.index t = ![t.val, 0] := by decide +kernel
theorem index4 : ∀ t : Fin cfg0.N, win0_4.index t = ![t.val, 0] := by decide +kernel

theorem lt_four (t : Fin cfg0.N) : t.val < 4 := lt_of_lt_of_le t.isLt (by decide +kernel)

/-- Grid point `t` as a sequence of the batch. -/
def seqOf (t : Fin cfg0.N) : Fin 4 := ⟨t.val, lt_four t⟩

section
variable (t : Fin cfg0.N) (h : Fin 4)

theorem queries_block : blockQ (iblk m c 0 t) h = Ref.headQ (Ref.queries (arg0 m c)) (seqOf t) h := by
  have := lt_four t
  funext r l
  unfold blockQ Ref.headQ
  rw [Ref.queries_apply]
  blk_ext [iblk, V, index0, seqOf]

theorem incoming_block : blockQ (iblk m c 2 t) h = Ref.headQ (Ref.incoming (arg2 m c)) (seqOf t) h := by
  have := lt_four t
  funext r l
  unfold blockQ Ref.headQ
  rw [Ref.incoming_apply]
  blk_ext [iblk, V, index2, seqOf]

theorem keys_block : blockK (iblk m c 1 t) h = Ref.headK (Ref.keys (arg1 m c)) (seqOf t) h := by
  have := lt_four t
  funext r l
  unfold blockK Ref.headK
  rw [Ref.keys_apply]
  blk_ext [iblk, V, index1, seqOf]

theorem values_block : blockV (iblk m c 1 t) h = Ref.headK (Ref.values (arg1 m c)) (seqOf t) h := by
  have := lt_four t
  funext r l
  unfold blockV Ref.headK
  rw [Ref.values_apply]
  blk_ext [iblk, V, index1, seqOf]

end

/-- A lane of the memory rows' left half is a lane of a head. -/
theorem key_lane (y : Fin 512) : y.val < 256 → ∃ (h : Fin 4) (l : Fin 64), y = ⟨h * 64 + l, by omega⟩ :=
  fun hy => ⟨⟨y / 64, by omega⟩, ⟨y % 64, Nat.mod_lt _ (by decide)⟩, Fin.ext (by show y.val = y.val / 64 * 64 + y.val % 64; omega)⟩

/-- A lane of the right half likewise. -/
theorem value_lane (y : Fin 512) : ¬ y.val < 256 → ∃ (h : Fin 4) (l : Fin 64), y = ⟨256 + (h * 64 + l), by omega⟩ :=
  fun hy => ⟨⟨(y - 256) / 64, by omega⟩, ⟨(y - 256) % 64, Nat.mod_lt _ (by decide)⟩,
    Fin.ext (by show y.val = 256 + ((y.val - 256) / 64 * 64 + (y.val - 256) % 64); omega)⟩

/-- A lane of the queries is a lane of a head. -/
theorem query_lane (y : Fin 256) : ∃ (h : Fin 4) (l : Fin 64), y = ⟨h * 64 + l, by omega⟩ :=
  ⟨⟨y / 64, by omega⟩, ⟨y % 64, Nat.mod_lt _ (by decide)⟩, Fin.ext (by show y.val = y.val / 64 * 64 + y.val % 64; omega)⟩

/-- The memory queries and the memory keys are finite. -/
structure Finite : Prop where
  q : ∀ b h r l, ∃ x : ℝ, Ref.headQ (Ref.queries (arg0 m c)) b h r l = x
  k : ∀ b h j l, ∃ x : ℝ, Ref.headK (Ref.keys (arg1 m c)) b h j l = x

variable {m c} (fin : Finite m c)
include fin

theorem final3 : (dats m 0 c).arrAt 3 cfg0.N
    = Ref.dq (Ref.queries (arg0 m c)) (Ref.incoming (arg2 m c)) (Ref.keys (arg1 m c)) (Ref.values (arg1 m c)) := by
  refine (dats m 0 c).arrAt_eq_of_covers 3 _ (by decide +kernel) fun t hf y => ?_
  blk_simp
  rw [after0_3]
  unfold outsAt0
  idx_vars y
  have ht := lt_four t
  have hE : ((View.whole main_v0_0).slice (win0_3.rect t)).emb (ix2 y0 y1) = ix2 ⟨(seqOf t) * 2048 + y0, by omega⟩ y1 := by
    blk_ext [index3, seqOf]
  rw [hE]
  obtain ⟨h, l, rfl⟩ := query_lane y1
  refine (out3_apply c (grid0.coords t) (ms0_0 t) (hs0_0 t) (ms0_1 t) (hs0_1 t) (ms0_2 t) (hs0_2 t) (ms0_3 t) (hs0_3 t) (ms0_4 t) (hs0_4 t) (hcond0_0 t)
    (iblk m c 0 t) (iblk m c 1 t) (iblk m c 2 t) y0 l h).trans ?_
  rw [Ref.dq_apply]
  unfold dqBlock
  rw [queries_block, incoming_block, keys_block, values_block]
  exact Finset.sum_congr rfl fun j _ => by rw [dscore_eq _ _ _ _ _ _ (fin.q _ _ _) (fin.k _ _)]

theorem final4 : (dats m 0 c).arrAt 4 cfg0.N
    = Ref.dkv (Ref.queries (arg0 m c)) (Ref.incoming (arg2 m c)) (Ref.keys (arg1 m c)) (Ref.values (arg1 m c)) := by
  refine (dats m 0 c).arrAt_eq_of_covers 4 _ (by decide +kernel) fun t hf y => ?_
  blk_simp
  rw [after0_4]
  unfold outsAt0
  idx_vars y
  have ht := lt_four t
  have hE : ((View.whole main_v0_1).slice (win0_4.rect t)).emb (ix2 y0 y1) = ix2 ⟨(seqOf t) * 256 + y0, by omega⟩ y1 := by
    blk_ext [index4, seqOf]
  rw [hE]
  by_cases hk : y1.val < 256
  · obtain ⟨h, l, rfl⟩ := key_lane y1 hk
    refine (out4_key c (grid0.coords t) (ms0_0 t) (hs0_0 t) (ms0_1 t) (hs0_1 t) (ms0_2 t) (hs0_2 t) (ms0_3 t) (hs0_3 t) (ms0_4 t) (hs0_4 t) (hcond0_0 t)
      (iblk m c 0 t) (iblk m c 1 t) (iblk m c 2 t) y0 l h).trans ?_
    rw [Ref.dkv_key, Ref.dk_apply]
    unfold dkBlock
    rw [queries_block, incoming_block, keys_block, values_block]
    exact Finset.sum_congr rfl fun r _ => by rw [dscore_eq _ _ _ _ _ _ (fin.q _ _ _) (fin.k _ _)]
  · obtain ⟨h, l, rfl⟩ := value_lane y1 hk
    refine (out4_value c (grid0.coords t) (ms0_0 t) (hs0_0 t) (ms0_1 t) (hs0_1 t) (ms0_2 t) (hs0_2 t) (ms0_3 t) (hs0_3 t) (ms0_4 t) (hs0_4 t) (hcond0_0 t)
      (iblk m c 0 t) (iblk m c 1 t) (iblk m c 2 t) y0 l h).trans ?_
    rw [Ref.dkv_value, Ref.dv_apply]
    unfold dvBlock
    rw [queries_block, incoming_block, keys_block]
    exact Finset.sum_congr rfl fun r _ => by rw [prob'_eq, mul_comm]

end Cert.MemBwd
-- ==== Proof.Reals.lean ====
/-
  What a precondition says of one number.
-/
module

public import Idealize.ShloMosaic.Lib.Pointwise

@[expose] public section

noncomputable section

namespace Cert

open Idealize.ShloMosaic

/-- A number whose absolute value lies under infinity is a real number. -/
theorem real_of_abs_lt (x : EReal) (h : BitVec.ofBool (decide (FloatOps.absf (F := Ideal) (φ := .f32) x < Ideal.ofBits FTy.f32 0x7F800000#32)) = 1#1) :
    ∃ r : ℝ, x = r := by
  have top : Ideal.ofBits FTy.f32 0x7F800000#32 = (⊤ : EReal) := by simp [Ideal.ofBits, Ideal.ieee]
  induction x using EReal.rec with
  | coe r => exact ⟨r, rfl⟩
  | bot =>
    have : FloatOps.absf (F := Ideal) (φ := .f32) (⊥ : EReal) = (⊤ : EReal) := by simp [FloatOps.absf]
    rw [top, this] at h; simp at h
  | top =>
    have : FloatOps.absf (F := Ideal) (φ := .f32) (⊤ : EReal) = (⊤ : EReal) := by simp [FloatOps.absf]
    rw [top, this] at h; simp at h

end Cert
-- ==== Proof.Precondition.lean ====
module

public import proofs.«01_k».proof.Defs
public import proofs.«01_k».proof.Proof.Final
public import proofs.«01_k».proof.Proof.Gen.Pre_scores_finite
public import proofs.«01_k».proof.Proof.Reals
public import Idealize.ShloMosaic.Lib.ReduceAll

/-!
  The precondition read: the memory queries and the memory keys are real numbers.
-/

@[expose] public section
set_option maxRecDepth 16384
noncomputable section
namespace Cert.MemBwd
open Cert.KernelIdeal Cert.KernelIdeal.Gen Idealize.ShloMosaic Idealize.ShloMosaic.TcCoe Idealize.SL.Sem
attribute [local instance] Cert.Pre_scores_finite.Gen.facts

/-- The precondition says that the two slices hold real numbers alone. -/
theorem slices_real (x0 : FVec Ideal S8192x2560 .bf16) (x1 : FVec Ideal S1024x512 .bf16) (x2)
    (h : Cert.Pre_scores_finite.fn (F := Ideal) x0 x1 x2 = fun _ => 1#1) :
    (∀ (i : Fin 8192) (j : Fin 256), ∃ r : ℝ, x0 (ix2 i ⟨2304 + j, by omega⟩) = r) ∧
      ∀ (i : Fin 1024) (j : Fin 256), ∃ r : ℝ, x1 (ix2 i ⟨j, by omega⟩) = r := by
  have h := congrFun h ix0
  unfold Cert.Pre_scores_finite.fn at h
  dsimp only at h
  obtain ⟨hq, hk⟩ := IntOp.andi_eq_one.1 h
  have hq := fun i j => Host.reduce_andi_all _ _ _ _ _ hq (ix2 i j)
  have hk := fun i j => Host.reduce_andi_all _ _ _ _ _ hk (ix2 i j)
  pointwise at hq
  pointwise at hk
  exact ⟨fun i j => Cert.real_of_abs_lt _ (hq i j), fun i j => Cert.real_of_abs_lt _ (hk i j)⟩

/-- Under the precondition the queries and the keys of every head are finite. -/
theorem finite_of_pre (m : (ℓ : Loc nD τ sig) → Buf (Elt Ideal) ℓ) (c : Dev nD)
    (h : Cert.Pre_scores_finite.fn (F := Ideal) (arg0 m c) (arg1 m c) (arg2 m c) = fun _ => 1#1) : Finite m c where
  q b hd r l := by
    obtain ⟨x, hx⟩ := (slices_real _ _ _ h).1 ⟨b * 2048 + r, by omega⟩ ⟨hd * 64 + l, by omega⟩
    exact ⟨x, (Ref.queries_apply b hd r l (arg0 m c)).trans hx⟩
  k b hd j l := by
    obtain ⟨x, hx⟩ := (slices_real _ _ _ h).2 ⟨b * 256 + j, by omega⟩ ⟨hd * 64 + l, by omega⟩
    exact ⟨x, (Ref.keys_apply b hd j l (arg1 m c)).trans hx⟩

end Cert.MemBwd
-- ==== Proof.MemClaim.lean ====
/-
  The gradient of the memory cross-attention: the kernel's two arrays are the reference's.
-/
module

public import proofs.«01_k».proof.Defs
public import proofs.«01_k».proof.Proof.Precondition
public import proofs.«01_k».proof.Proof.Gen.Kernel
public import proofs.«01_k».proof.Proof.Gen.KernelIdeal.Value
public import proofs.«01_k».proof.Proof.Gen.ReferenceIdeal.Run
public import Idealize.ShloMosaic.Lib.Quiescent

@[expose] public section

noncomputable section

namespace Cert.MemBwd

open Idealize.ShloMosaic Idealize.ShloMosaic.TcCoe Idealize.SL.Sem

attribute [local instance] Cert.KernelIdeal.Gen.facts Cert.ReferenceIdeal.Gen.facts Cert.Pre_scores_finite.Gen.facts

/-- The reference leaves its arguments as they were; it has no semaphores. -/
theorem frame_reference : Cert.quiescent_ReferenceIdeal := fun m g _ =>
  (θ_run _ _ _).mono (fun r h => ⟨fun c => (h c).2.2, sem_eq_zero_of_no_sems rfl r.2⟩) (Cert.ReferenceIdeal.Value.run m g)

set_option smartUnfolding false in
/-- The kernel's frame on float words: the run that holds of any float values, at words. -/
theorem frame_words : Cert.quiescent_Kernel (hKernel := Cert.Kernel.Gen.facts) := fun m ρ _ =>
  Cert.KernelIdeal.Gen.frame (F := Bits) m ρ

/-- Where the queries and the keys are finite, kernel and reference end with the same two arrays. -/
theorem algebraic : Cert.algebraic_KernelIdeal_ReferenceIdeal_pre_scores_finite := by
  intro m g m' g' pre same
  refine ⟨_, _, Cert.KernelIdeal.Value.run_blocks m g, (θ_run _ _ _).mono (fun r h c => ?_) (Cert.ReferenceIdeal.Value.run m' g')⟩
  obtain ⟨h0, h1, ha⟩ := h c
  obtain ⟨s0, s1, s2⟩ := same c
  have fin := finite_of_pre m c (pre c)
  refine ⟨(h0.trans (Ref.out0_eq m' c)).trans ?_, (h1.trans (Ref.out1_eq m' c)).trans ?_, ha⟩
  · rw [s0, s1, s2]; exact (final3 fin).symm
  · rw [s0, s1, s2]; exact (final4 fin).symm

end Cert.MemBwd
-- ==== Proof.Gate.lean ====
/-
  The gate of the feed-forward block on one lane: the sigmoid, and the two forms of its derivative.
-/
module

public import Idealize.ShloMosaic.Lib.Pointwise

@[expose] public section

noncomputable section

namespace Cert.Ffn

open Idealize.ShloMosaic

/-- The sigmoid. -/
def sigm (g : EReal) : EReal := Ideal.div 1 (1 + Ideal.exp (-g))

theorem sigm_bot : sigm ⊥ = 0 := by
  have h : (1 : EReal) + ⊤ = ⊤ := by exact EReal.coe_add_top 1
  have e : Ideal.exp (-⊥) = ⊤ := rfl
  simp [sigm, Ideal.div, e, h]

theorem sigm_top : sigm ⊤ = 1 := by
  have e : Ideal.exp (-⊤) = 0 := rfl
  simp [sigm, Ideal.div, e]

/-- At a real number the sigmoid is a real number. -/
theorem sigm_coe (g : ℝ) : ∃ s : ℝ, sigm (g : EReal) = s := by
  refine ⟨1 * (1 / (1 + Real.exp (-g))), ?_⟩
  have hne : (1 + Real.exp (-g)) ≠ 0 := by positivity
  have h : (1 : EReal) + Ideal.exp (-(g : EReal)) = ((1 + Real.exp (-g) : ℝ) : EReal) := by
    rw [← EReal.coe_neg, EReal.coe_add, EReal.coe_one]; rfl
  rw [sigm, h, Ideal.div_coe hne, ← EReal.coe_one, ← EReal.coe_mul]

/-- The derivative of `g · sigm g` times a real number, factored and as the sum of its two terms; `g` may be infinite. -/
theorem gate_eq (d u g : EReal) (h : ∃ c : ℝ, d * u = c) :
    d * (u * (sigm g * (1 + g * (1 - sigm g)))) = d * u * sigm g + g * (d * u) * (sigm g * (1 - sigm g)) := by
  obtain ⟨c, h⟩ := h
  rw [← mul_assoc, h]
  induction g using EReal.rec with
  | bot => simp [sigm_bot]
  | top =>
    have e : (1 : EReal) - 1 = 0 := by rw [← EReal.coe_one, ← EReal.coe_sub]; simp
    simp [sigm_top, e]
  | coe g =>
    obtain ⟨s, hs⟩ := sigm_coe g
    rw [hs, ← EReal.coe_one]
    simp only [← EReal.coe_mul, ← EReal.coe_add, ← EReal.coe_sub]
    congr 1
    ring

/-- A sum of products of real numbers is a real number. -/
theorem real_sum {ι : Type} (s : Finset ι) (f g : ι → EReal) (hf : ∀ i, ∃ x : ℝ, f i = x) (hg : ∀ i, ∃ x : ℝ, g i = x) :
    ∃ x : ℝ, ∑ i ∈ s, f i * g i = x := by
  classical
  induction s using Finset.induction_on with
  | empty => exact ⟨0, by simp⟩
  | insert a s ha ih =>
    obtain ⟨x, hx⟩ := ih
    obtain ⟨p, hp⟩ := hf a
    obtain ⟨q, hq⟩ := hg a
    exact ⟨p * q + x, by rw [Finset.sum_insert ha, hx, hp, hq, EReal.coe_add, EReal.coe_mul]⟩

end Cert.Ffn
-- ==== Proof.FfnBlock.lean ====
/-
  The gradient of the feed-forward block's gate and up results, as the kernel computes it: 512 rows at a grid point, in four
  stores of 1408 columns.
-/
module

public import proofs.«01_k».proof.Proof.Gen.DownBwdIdeal.Value
public import proofs.«01_k».proof.Proof.Columns
public import proofs.«01_k».proof.Proof.Gate
public import Idealize.ShloMosaic.Lib.Pipeline.ValueKit
public import Idealize.ShloMosaic.Lib.Pipeline.ReadBack

@[expose] public section

set_option maxRecDepth 16384

noncomputable section

namespace Cert.Ffn

open Cert.DownBwdIdeal Cert.DownBwdIdeal.Gen Cert.Columns Idealize.ShloMosaic Idealize.ShloMosaic.TcCoe Idealize.SL.Sem

section Block
variable (x0 : Vec Ideal S512x1024 .bf16) (x1 : Vec Ideal S2816x1024 .bf16) (x2 x3 : Vec Ideal S512x2816 .bf16)

/-- The left half of a block: the products of the gradient, times the saved derivative of the gate. -/
theorem block_left (r : Fin 512) (l : Fin 2816) : out0_4 x0 x1 x2 x3 (ix2 r ⟨l, by omega⟩) = (∑ k : Fin 1024, x0 (ix2 r k) * x1 (ix2 l k)) * x2 (ix2 r l) := by
  unfold out0_4
  by_cases h : l.val < 1408
  · refine (canon_miss (off := 4224) _ _ _ r _ (Or.inl (by show l.val < 4224; omega))).trans ?_
    refine (canon_miss (off := 1408) _ _ _ r _ (Or.inl (by show l.val < 1408; omega))).trans ?_
    refine (canon_miss (off := 2816) _ _ _ r _ (Or.inl (by show l.val < 2816; omega))).trans ?_
    refine (canon_hit (off := 0) _ _ _ r (⟨l, h⟩ : Fin 1408) _ (by show l.val = 0 + l.val; omega)).trans ?_
    pointwise [k0_pay2, k0_pay1]
  · refine (canon_miss (off := 4224) _ _ _ r _ (Or.inl (by show l.val < 4224; omega))).trans ?_
    refine (canon_hit (off := 1408) _ _ _ r (⟨l - 1408, by omega⟩ : Fin 1408) _ (by show l.val = 1408 + (l.val - 1408); omega)).trans ?_
    have e : (⟨1408 + (l.val - 1408), by omega⟩ : Fin 2816) = l := Fin.ext (by show 1408 + (l.val - 1408) = l.val; omega)
    pointwise [k0_pay5, k0_pay4]
    simp only [e]

/-- The right half of a block: the products of the gradient, times the saved value of the gate. -/
theorem block_right (r : Fin 512) (l : Fin 2816) :
    out0_4 x0 x1 x2 x3 (ix2 r ⟨2816 + l, by omega⟩) = (∑ k : Fin 1024, x0 (ix2 r k) * x1 (ix2 l k)) * x3 (ix2 r l) := by
  unfold out0_4
  by_cases h : l.val < 1408
  · refine (canon_miss (off := 4224) _ _ _ r _ (Or.inl (by show 2816 + l.val < 4224; omega))).trans ?_
    refine (canon_miss (off := 1408) _ _ _ r _ (Or.inr (by show 1408 + 1408 ≤ 2816 + l.val; omega))).trans ?_
    refine (canon_hit (off := 2816) _ _ _ r (⟨l, h⟩ : Fin 1408) _ rfl).trans ?_
    pointwise [k0_pay3, k0_pay1]
  · refine (canon_hit (off := 4224) _ _ _ r (⟨l - 1408, by omega⟩ : Fin 1408) _ (by show 2816 + l.val = 4224 + (l.val - 1408); omega)).trans ?_
    have e : (⟨1408 + (l.val - 1408), by omega⟩ : Fin 2816) = l := Fin.ext (by show 1408 + (l.val - 1408) = l.val; omega)
    pointwise [k0_pay6, k0_pay4]
    simp only [e]

end Block

variable (m : (ℓ : Loc nD τ sig) → Buf (Elt Ideal) ℓ) (c : Dev nD)

/-- The block's input. -/
abbrev argX : FVec Ideal S8192x1024 .bf16 := m ((c.tc : Thread nD τ).loc main_arg0)
/-- The gate projection. -/
abbrev argGate : FVec Ideal S1024x2816 .bf16 := m ((c.tc : Thread nD τ).loc main_arg1)
/-- The up projection. -/
abbrev argUp : FVec Ideal S1024x2816 .bf16 := m ((c.tc : Thread nD τ).loc main_arg2)
/-- The down projection. -/
abbrev argDown : FVec Ideal S2816x1024 .bf16 := m ((c.tc : Thread nD τ).loc main_arg3)
/-- The incoming gradient. -/
abbrev argDy : FVec Ideal S8192x1024 .bf16 := m ((c.tc : Thread nD τ).loc main_arg4)

/-- One projection of one row, at one hidden lane. -/
def lane (x : FVec Ideal S8192x1024 .bf16) (w : FVec Ideal S1024x2816 .bf16) (r : Fin 8192) (l : Fin 2816) : EReal :=
  ∑ k : Fin 1024, x (ix2 r k) * w (ix2 k l)

/-- The saved derivative of the gate times the up result. -/
theorem saved_derivative (r : Fin 8192) (l : Fin 2816) : (V m c main_v16 : FVec Ideal S8192x2816 .bf16) (ix2 r l) =
    lane (argX m c) (argUp m c) r l * (sigm (lane (argX m c) (argGate m c) r l) *
      (1 + lane (argX m c) (argGate m c) r l * (1 - sigm (lane (argX m c) (argGate m c) r l)))) := by
  entry_read
  pointwise []
  rfl

/-- The saved value of the gate. -/
theorem saved_value (r : Fin 8192) (l : Fin 2816) : (V m c main_v17 : FVec Ideal S8192x2816 .bf16) (ix2 r l) =
    lane (argX m c) (argGate m c) r l * sigm (lane (argX m c) (argGate m c) r l) := by
  entry_read
  pointwise []
  rfl

end Cert.Ffn
-- ==== Proof.FfnRef.lean ====
/-
  The gradient of the feed-forward block's gate and up results, as the reference computes it, read at an index.
-/
module

public import proofs.«01_k».proof.Proof.Gen.DownBwdRefIdeal.Run
public import Idealize.ShloMosaic.Lib.Pointwise
public import proofs.«01_k».proof.Proof.Gate

@[expose] public section

set_option maxRecDepth 16384

noncomputable section

namespace Cert.Ffn.Ref

open Cert.DownBwdRefIdeal Cert.DownBwdRefIdeal.Gen Idealize.ShloMosaic Idealize.ShloMosaic.TcCoe Idealize.SL.Sem

/-- Rows by hidden lanes. -/
abbrev Hidden := FVec Ideal S8192x2816 .f32

/-- The block's input through one of its two first projections. -/
def through (x : FVec Ideal S8192x1024 .bf16) (w : FVec Ideal S1024x2816 .bf16) : Hidden :=
  Host.dotGeneral dot_S8192x1024_S1024x2816_S8192x2816_1_0_0_1_n_n none (extf .f32 x bitsLt_bf16_f32) (extf .f32 w bitsLt_bf16_f32)
/-- The incoming gradient back through the down projection. -/
def back (dy : FVec Ideal S8192x1024 .bf16) (w : FVec Ideal S2816x1024 .bf16) : Hidden :=
  Host.dotGeneral dot_S8192x1024_S2816x1024_S8192x2816_1_1_0_0_n_n none (extf .f32 dy bitsLt_bf16_f32) (extf .f32 w bitsLt_bf16_f32)
/-- Ones. -/
def ones : Hidden := broadcastInDim S8192x2816 ![] bcast_S_S8192x2816 (constant S_ .f32 0x3F800000#32)
/-- The sigmoid of every lane. -/
def sigmoid (g : Hidden) : Hidden := Host.divf ones (addf ones (Host.exp (Host.negf g)))
/-- The gate's gradient. -/
def dgate (g u d : Hidden) : Hidden :=
  addf (mulf (mulf d u) (sigmoid g)) (mulf (mulf g (mulf d u)) (mulf (sigmoid g) (subf ones (sigmoid g))))
/-- The up projection's gradient. -/
def dup (g d : Hidden) : Hidden := mulf (mulf g (sigmoid g)) d
/-- Both, side by side. -/
def both (g u d : Hidden) : FVec Ideal S8192x5632 .bf16 :=
  truncf .bf16 (concatenate S8192x5632 1 [⟨S8192x2816, dgate g u d⟩, ⟨S8192x2816, dup g d⟩] concatenates_S8192x2816_S8192x2816_S8192x5632_d1) bitsLt_bf16_f32

/-- The reference's run, its result by these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = both (through (m ((c.tc : Thread nD τ).loc main_arg0)) (m ((c.tc : Thread nD τ).loc main_arg1)))
        (through (m ((c.tc : Thread nD τ).loc main_arg0)) (m ((c.tc : Thread nD τ).loc main_arg2))) (back (m ((c.tc : Thread nD τ).loc main_arg4)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

variable (g u d : Hidden) (r : Fin 8192) (l : Fin 2816)

theorem through_apply (x : FVec Ideal S8192x1024 .bf16) (w : FVec Ideal S1024x2816 .bf16) :
    through x w (ix2 r l) = ∑ k : Fin 1024, x (ix2 r k) * w (ix2 k l) := by
  pointwise [through]

theorem back_apply (dy : FVec Ideal S8192x1024 .bf16) (w : FVec Ideal S2816x1024 .bf16) :
    back dy w (ix2 r l) = ∑ k : Fin 1024, dy (ix2 r k) * w (ix2 l k) := by
  pointwise [back]

theorem sigmoid_apply : sigmoid g (ix2 r l) = sigm (g (ix2 r l)) := by
  pointwise [sigmoid, ones]
  rfl

theorem dgate_apply : dgate g u d (ix2 r l) = d (ix2 r l) * u (ix2 r l) * sigm (g (ix2 r l))
    + g (ix2 r l) * (d (ix2 r l) * u (ix2 r l)) * (sigm (g (ix2 r l)) * (1 - sigm (g (ix2 r l)))) := by
  pointwise [dgate, ones, sigmoid_apply]

theorem dup_apply : dup g d (ix2 r l) = g (ix2 r l) * sigm (g (ix2 r l)) * d (ix2 r l) := by
  pointwise [dup, sigmoid_apply]

theorem both_left : both g u d (ix2 r ⟨l, by omega⟩) = dgate g u d (ix2 r l) := by
  pointwise [both]

theorem both_right : both g u d (ix2 r ⟨2816 + l, by omega⟩) = dup g d (ix2 r l) := by
  pointwise [both]

end Cert.Ffn.Ref
-- ==== Proof.FfnFinal.lean ====
/-
  The kernel's array of the gate's and up result's gradients is the reference's, where the factors are finite.
-/
module

public import proofs.«01_k».proof.Defs
public import proofs.«01_k».proof.Proof.FfnBlock
public import proofs.«01_k».proof.Proof.FfnRef
public import proofs.«01_k».proof.Proof.Reals
public import proofs.«01_k».proof.Proof.Gen.Pre_factors_finite
public import proofs.«01_k».proof.Proof.Gen.DownBwd
public import Idealize.ShloMosaic.Lib.ReduceAll
public import Idealize.ShloMosaic.Lib.Quiescent

@[expose] public section

set_option maxRecDepth 16384

noncomputable section

namespace Cert.Ffn

open Cert.DownBwdIdeal Cert.DownBwdIdeal.Gen Idealize.ShloMosaic Idealize.ShloMosaic.TcCoe Idealize.SL.Sem

attribute [local instance] Cert.DownBwdRefIdeal.Gen.facts Cert.Pre_factors_finite.Gen.facts

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel

theorem lt_sixteen (t : Fin cfg0.N) : t.val < 16 := lt_of_lt_of_le t.isLt (by decide +kernel)

variable (m : (ℓ : Loc nD τ sig) → Buf (Elt Ideal) ℓ) (c : Dev nD)

/-- Row `r` of grid point `t`. -/
def rowOf (t : Fin cfg0.N) (r : Fin 512) : Fin 8192 := ⟨t.val * 512 + r, by have := lt_sixteen t; omega⟩

section
variable (t : Fin cfg0.N) (r : Fin 512)

theorem dy_block (k : Fin 1024) : (iblk m c 0 t : Vec Ideal S512x1024 .bf16) (ix2 r k) = argDy m c (ix2 (rowOf t r) k) := by
  blk_ext [iblk, V, index0, rowOf]

theorem down_block (l : Fin 2816) (k : Fin 1024) : (iblk m c 1 t : Vec Ideal S2816x1024 .bf16) (ix2 l k) = argDown m c (ix2 l k) := by
  blk_ext [iblk, V, index1]

theorem derivative_block (l : Fin 2816) : (iblk m c 2 t : Vec Ideal S512x2816 .bf16) (ix2 r l) = (V m c main_v16 : FVec Ideal S8192x2816 .bf16) (ix2 (rowOf t r) l) := by
  unfold iblk
  blk_ext [index2, rowOf]

theorem value_block (l : Fin 2816) : (iblk m c 3 t : Vec Ideal S512x2816 .bf16) (ix2 r l) = (V m c main_v17 : FVec Ideal S8192x2816 .bf16) (ix2 (rowOf t r) l) := by
  unfold iblk
  blk_ext [index3, rowOf]

end

/-- Every argument but the gate projection is finite. -/
structure Finite : Prop where
  x : ∀ r k, ∃ v : ℝ, argX m c (ix2 r k) = v
  up : ∀ k l, ∃ v : ℝ, argUp m c (ix2 k l) = v
  down : ∀ l k, ∃ v : ℝ, argDown m c (ix2 l k) = v
  dy : ∀ r k, ∃ v : ℝ, argDy m c (ix2 r k) = v

/-- The reference's result at the kernel's arguments. -/
abbrev expected : FVec Ideal S8192x5632 .bf16 :=
  Ref.both (Ref.through (argX m c) (argGate m c)) (Ref.through (argX m c) (argUp m c)) (Ref.back (argDy m c) (argDown m c))

theorem final (fin : Finite m c) : (dats m 0 c).arrAt 4 cfg0.N = expected m c := by
  refine (dats m 0 c).arrAt_eq_of_covers 4 _ (by decide +kernel) fun t hf y => ?_
  blk_simp
  rw [after0_4]
  idx_vars y
  have hE : ((View.whole main_v20).slice (win0_4.rect t)).emb (ix2 y0 y1) = ix2 (rowOf t y0) y1 := by
    blk_ext [index4, rowOf]
  rw [hE]
  obtain ⟨l, rfl⟩ | ⟨l, rfl⟩ : (∃ l : Fin 2816, y1 = ⟨l, by omega⟩) ∨ ∃ l : Fin 2816, y1 = ⟨2816 + l, by omega⟩ := by
    by_cases h : y1.val < 2816
    · exact Or.inl ⟨⟨y1, h⟩, rfl⟩
    · exact Or.inr ⟨⟨y1 - 2816, by omega⟩, Fin.ext (by show y1.val = 2816 + (y1.val - 2816); omega)⟩
  · refine (block_left (iblk m c 0 t) (iblk m c 1 t) (iblk m c 2 t) (iblk m c 3 t) y0 l).trans ?_
    rw [derivative_block, saved_derivative]
    simp only [dy_block, down_block]
    refine (gate_eq _ _ _ ?_).trans ?_
    · obtain ⟨d, hd⟩ := real_sum Finset.univ (fun k : Fin 1024 => argDy m c (ix2 (rowOf t y0) k)) (fun k => argDown m c (ix2 l k)) (fun k => fin.dy _ k) (fun k => fin.down _ k)
      obtain ⟨u, hu⟩ := real_sum Finset.univ (fun k : Fin 1024 => argX m c (ix2 (rowOf t y0) k)) (fun k => argUp m c (ix2 k l)) (fun k => fin.x _ k) (fun k => fin.up k _)
      exact ⟨d * u, by unfold lane; rw [hd, hu, EReal.coe_mul]⟩
    · unfold expected
      rw [Ref.both_left, Ref.dgate_apply, Ref.back_apply, Ref.through_apply, Ref.through_apply]
      rfl
  · refine (block_right (iblk m c 0 t) (iblk m c 1 t) (iblk m c 2 t) (iblk m c 3 t) y0 l).trans ?_
    rw [value_block, saved_value]
    simp only [dy_block, down_block]
    unfold expected
    rw [Ref.both_right, Ref.dup_apply, Ref.back_apply, Ref.through_apply, mul_comm]
    rfl

/-- The precondition says that these four arguments hold real numbers alone. -/
theorem finite_of_pre (h : Cert.Pre_factors_finite.fn (F := Ideal) (argX m c) (argGate m c) (argUp m c) (argDown m c) (argDy m c) = fun _ => 1#1) : Finite m c := by
  have h := congrFun h ix0
  unfold Cert.Pre_factors_finite.fn at h
  dsimp only at h
  obtain ⟨h, hdy⟩ := IntOp.andi_eq_one.1 h
  obtain ⟨h, hdown⟩ := IntOp.andi_eq_one.1 h
  obtain ⟨hx, hup⟩ := IntOp.andi_eq_one.1 h
  have hx := fun i j => Host.reduce_andi_all _ _ _ _ _ hx (ix2 i j)
  have hup := fun i j => Host.reduce_andi_all _ _ _ _ _ hup (ix2 i j)
  have hdown := fun i j => Host.reduce_andi_all _ _ _ _ _ hdown (ix2 i j)
  have hdy := fun i j => Host.reduce_andi_all _ _ _ _ _ hdy (ix2 i j)
  pointwise at hx
  pointwise at hup
  pointwise at hdown
  pointwise at hdy
  exact ⟨fun i j => real_of_abs_lt _ (hx i j), fun i j => real_of_abs_lt _ (hup i j), fun i j => real_of_abs_lt _ (hdown i j), fun i j => real_of_abs_lt _ (hdy i j)⟩

/-- The reference leaves its arguments as they were; it has no semaphores. -/
theorem frame_reference : Cert.quiescent_DownBwdRefIdeal := fun m g _ =>
  (θ_run _ _ _).mono (fun r h => ⟨fun c => (h c).2, sem_eq_zero_of_no_sems rfl r.2⟩) (Ref.run m g)

set_option smartUnfolding false in
/-- The frame of the kernel on float words: the same run as that of its ideal program, which holds of any float values. -/
theorem frame_words : Cert.quiescent_DownBwd (hDownBwd := Cert.DownBwd.Gen.facts) := fun m ρ _ =>
  Cert.DownBwdIdeal.Gen.frame (F := Bits) m ρ

/-- Where the factors are finite, kernel and reference end with the same array. -/
theorem algebraic : Cert.algebraic_DownBwdIdeal_DownBwdRefIdeal_pre_factors_finite := by
  intro m g m' g' pre same
  refine ⟨_, Value.run_blocks m g, (θ_run _ _ _).mono (fun r h c => ?_) (Ref.run m' g')⟩
  obtain ⟨s0, s1, s2, s3, s4⟩ := same c
  refine ⟨(h c).1.trans ?_, (h c).2⟩
  rw [s0, s1, s2, s3, s4]
  exact (final m c (finite_of_pre m c (pre c))).symm

end Cert.Ffn
-- ==== Proof.Tiles.lean ====
/-
  A product summed tile by tile along the contracted axis, over the points of a grid.
-/
module

public import Idealize.ShloMosaic.Lib.Pipeline.ValueKit
public import Idealize.ShloMosaic.PureOps.Ideal

@[expose] public section

noncomputable section

namespace Cert

open Idealize.ShloMosaic

/-- A buffer that is filled with the point's sum at the first of every `J` points, and to which every other point adds
    its own sum, holds at the last of the `J` points the sum over the whole contracted axis: `g t k` is the summand of
    point `t` at its lane `k`, and `G (t / J)` that of the run of points at the whole axis. -/
theorem sum_of_tiles {N J n L : ℕ} [NeZero J] {ι : Type} (hL : L = J * n) (f : (t : ℕ) → t < N → ι → EReal)
    (g : Fin N → Fin n → ι → EReal) (G : ℕ → Fin L → ι → EReal)
    (first : ∀ t : Fin N, t.val % J = 0 → ∀ i, f t.val t.isLt i = ∑ k : Fin n, g t k i)
    (later : ∀ t : Fin N, ¬t.val % J = 0 → ∀ i, f t.val t.isLt i = f (t.val - 1) (Nat.lt_of_le_of_lt (Nat.sub_le _ _) t.isLt) i + ∑ k : Fin n, g t k i)
    (tile : ∀ (t : Fin N) (k : Fin n) (i : ι) (h : t.val % J * n + k.val < L), g t k i = G (t.val / J) ⟨t.val % J * n + k.val, h⟩ i)
    (t : Fin N) (last : t.val % J = J - 1) (i : ι) :
    f t.val t.isLt i = ∑ l : Fin L, G (t.val / J) l i := by
  have h := Pipeline.eq_sum_fin_of_reset_step_apply_of_flush f J (fun _ => 0) (fun t i => ∑ k : Fin n, g t k i)
    (fun t h i => by rw [first t h i, zero_add]) (fun t h i => later t h i) t last i
  rw [h, zero_add]
  refine Fin.sum_mul_add_congr (fun s k hl => ?_) hL
  have hJ : 0 < J := Nat.pos_of_ne_zero (NeZero.ne J)
  have hm : (J * (t.val / J) + s.val) % J = s.val := by rw [Nat.mul_add_mod, Nat.mod_eq_of_lt s.isLt]
  have hd : (J * (t.val / J) + s.val) / J = t.val / J := by
    rw [Nat.mul_add_div hJ, Nat.div_eq_of_lt s.isLt, Nat.add_zero]
  refine (tile _ k i (by dsimp only; rw [hm]; exact hl)).trans ?_
  simp only [hm, hd]

end Cert
-- ==== Proof.DownGrad.lean ====
/-
  The gradient of the down projection: the kernel's array is the product of the transposed hidden values and the
  incoming gradient.
-/
module

public import proofs.«01_k».proof.Defs
public import proofs.«01_k».proof.Proof.Tiles
public import proofs.«01_k».proof.Proof.Gate
public import proofs.«01_k».proof.Proof.Gen.GradDown
public import proofs.«01_k».proof.Proof.Gen.GradDownIdeal.Value
public import proofs.«01_k».proof.Proof.Gen.GradDownRefIdeal.Run
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.DownGrad

open Cert.GradDownIdeal Cert.GradDownIdeal.Gen Idealize.ShloMosaic Idealize.ShloMosaic.TcCoe Idealize.SL.Sem

attribute [local instance] Cert.GradDownRefIdeal.Gen.facts

variable (m : (ℓ : Loc nD τ sig) → Buf (Elt Ideal) ℓ) (c : Dev nD)

/-- The feed-forward block's input. -/
abbrev argX : FVec Ideal S8192x1024 .bf16 := m ((c.tc : Thread nD τ).loc main_arg0)
/-- The gate projection. -/
abbrev argGate : FVec Ideal S1024x2816 .bf16 := m ((c.tc : Thread nD τ).loc main_arg1)
/-- The up projection. -/
abbrev argUp : FVec Ideal S1024x2816 .bf16 := m ((c.tc : Thread nD τ).loc main_arg2)
/-- The incoming gradient. -/
abbrev argDy : FVec Ideal S8192x1024 .bf16 := m ((c.tc : Thread nD τ).loc main_arg3)

/-- The hidden value of one token at one lane: the gate's value times the up result. -/
def hidden (x : FVec Ideal S8192x1024 .bf16) (g u : FVec Ideal S1024x2816 .bf16) (r : Fin 8192) (l : Fin 2816) : EReal :=
  (∑ k : Fin 1024, x (ix2 r k) * g (ix2 k l)) * Cert.Ffn.sigm (∑ k : Fin 1024, x (ix2 r k) * g (ix2 k l)) * (∑ k : Fin 1024, x (ix2 r k) * u (ix2 k l))

/-- The hidden values that the host prepares for the kernel. -/
theorem prepared (r : Fin 8192) (l : Fin 2816) :
    (V m c main_v19 : FVec Ideal S8192x2816 .bf16) (ix2 r l) = hidden (argX m c) (argGate m c) (argUp m c) r l := by
  entry_read
  pointwise []
  rfl

/-- A point's product, added to what the buffer held. -/
theorem step_apply (acc : Vec Ideal S1408x1024 .f32) (x0 : Vec Ideal S2048x1408 .bf16) (x1 : Vec Ideal S2048x1024 .bf16) (i : S1408x1024.Idx) :
    k0_pay2 acc x0 x1 i = acc i + ∑ k : Fin 2048, x0 (ix2 k (i 0)) * x1 (ix2 k (i 1)) := by
  idx_vars i
  pointwise [k0_pay2]

theorem start_apply (i : S1408x1024.Idx) : k0_pay1 (F := Ideal) i = 0 := by
  idx_vars i
  pointwise [k0_pay1]

/-- A point's block of the hidden values. -/
abbrev hBlock (t : Fin cfg0.N) : Vec Ideal S2048x1408 .bf16 := iblk m c 0 t
/-- A point's block of the gradient. -/
abbrev dBlock (t : Fin cfg0.N) : Vec Ideal S2048x1024 .bf16 := iblk m c 1 t

/-- The accumulator read back is what was left in it. -/
theorem held (v : Vec Ideal S1408x1024 .f32) : View.read (Elt Ideal) (View.whole cc0_scratch0) ((Memref.isWhole_whole cc0_scratch0).unread v) = v :=
  (Memref.isWhole_whole cc0_scratch0).read_unread v

/-- The first point of a run leaves its own sum in the accumulator. -/
theorem first (t : Fin cfg0.N) (h : t.val % 4 = 0) (i : S1408x1024.Idx) :
    (outsAt0 m c t.val t.isLt).2 i = ∑ k : Fin 2048, hBlock m c t (ix2 k (i 0)) * dBlock m c t (ix2 k (i 1)) := by
  rw [outsAt0_A m c t h (by omega)]
  dsimp only
  frame_out
  rw [step_apply, start_apply, zero_add]

/-- Every other point adds its sum. -/
theorem later (t : Fin cfg0.N) (h : ¬t.val % 4 = 0) (i : S1408x1024.Idx) :
    (outsAt0 m c t.val t.isLt).2 i = (outsAt0 m c (t.val - 1) (Nat.lt_of_le_of_lt (Nat.sub_le _ _) t.isLt)).2 i
      + ∑ k : Fin 2048, hBlock m c t (ix2 k (i 0)) * dBlock m c t (ix2 k (i 1)) := by
  by_cases h3 : t.val % 4 = 3
  · rw [outsAt0_C m c t h h3]
    dsimp only
    frame_out
    rw [step_apply]
    exact congrArg (· + _) (congrFun (held _) i)
  · rw [outsAt0_B m c t h h3]
    dsimp only
    frame_out
    rw [step_apply]
    exact congrArg (· + _) (congrFun (held _) i)

/-- The last point of a run writes the accumulator out. -/
theorem written (t : Fin cfg0.N) (h : t.val % 4 = 3) : (outsAt0 m c t.val t.isLt).1 = (outsAt0 m c t.val t.isLt).2 := by
  rw [outsAt0_C m c t (by omega) h]
  dsimp only
  frame_out
  rfl

theorem index0 : ∀ t : Fin cfg0.N, win0_0.index t = ![t.val % 4, t.val / 4] := by decide +kernel
theorem index1 : ∀ t : Fin cfg0.N, win0_1.index t = ![t.val % 4, 0] := by decide +kernel
theorem index2 : ∀ t : Fin cfg0.N, win0_2.index t = ![t.val / 4, 0] := by decide +kernel

theorem lt_eight (t : Fin cfg0.N) : t.val < 8 := lt_of_lt_of_le t.isLt (by decide +kernel)

/-- The product over all tokens, at one element. -/
def product (h : Fin 8192 → Fin 2816 → EReal) (d : FVec Ideal S8192x1024 .bf16) (i : Fin 2816) (j : Fin 1024) : EReal :=
  ∑ k : Fin 8192, h k i * d (ix2 k j)

/-- All of these products, as an array. -/
def products (h : Fin 8192 → Fin 2816 → EReal) (d : FVec Ideal S8192x1024 .bf16) : FVec Ideal S2816x1024 .bf16 :=
  fun y => product h d (y 0) (y 1)

/-- The kernel's hidden values. -/
abbrev hiddens : Fin 8192 → Fin 2816 → EReal := hidden (argX m c) (argGate m c) (argUp m c)

/-- The accumulator at the last point of a run. -/
theorem total (t : Fin cfg0.N) (h : t.val % 4 = 3) (i : Fin 1408) (j : Fin 1024) :
    (outsAt0 m c t.val t.isLt).2 (ix2 i j) = product (hiddens m c) (argDy m c) ⟨t.val / 4 * 1408 + i, by have := lt_eight t; omega⟩ j := by
  have ht := lt_eight t
  refine (sum_of_tiles (J := 4) (L := 8192) rfl (fun n h => (outsAt0 m c n h).2)
    (fun t k i => hBlock m c t (ix2 k (i 0)) * dBlock m c t (ix2 k (i 1)))
    (fun q l i => if hq : q < 2 then hiddens m c l ⟨q * 1408 + (i 0).val, by have h1 : (i 0).val < 1408 := (i 0).isLt; omega⟩ * argDy m c (ix2 l (i 1)) else 0)
    (first m c) (later m c) (fun t k i hl => ?_) t h (ix2 i j)).trans ?_
  · have := lt_eight t
    dsimp only
    rw [dif_pos (by omega)]
    idx_vars i
    refine congrArg₂ (· * ·) ?_ ?_
    · refine Eq.trans ?_ (prepared m c _ _)
      unfold hBlock iblk
      blk_ext [index0]
    · blk_ext [iblk, V, index1]
  · simp only [dif_pos (show t.val / 4 < 2 by omega)]
    rfl

/-- The array of the kernel. -/
theorem final : (dats m 0 c).arrAt 2 cfg0.N = products (hiddens m c) (argDy m c) := by
  refine (dats m 0 c).arrAt_eq_of_covers 2 _ (by decide +kernel) fun t hf y => ?_
  have h := (flush0_2 t).mp hf
  have ht := lt_eight t
  blk_simp
  rw [after0_2, written m c t h]
  idx_vars y
  have hE : ((View.whole main_v20).slice (win0_2.rect t)).emb (ix2 y0 y1) = ix2 ⟨t.val / 4 * 1408 + y0, by omega⟩ y1 := by
    blk_ext [index2]
  rw [hE]
  exact total m c t h y0 y1

/-- The hidden values of the reference. -/
def reference_hidden (x : FVec Ideal S8192x1024 .bf16) (g u : FVec Ideal S1024x2816 .bf16) : FVec Ideal GradDownRefIdeal.S8192x2816 .f32 :=
  mulf (mulf (Host.dotGeneral GradDownRefIdeal.dot_S8192x1024_S1024x2816_S8192x2816_1_0_0_1_n_n none (extf .f32 x GradDownRefIdeal.Gen.facts.bitsLt_bf16_f32) (extf .f32 g GradDownRefIdeal.Gen.facts.bitsLt_bf16_f32))
    (Host.divf (broadcastInDim GradDownRefIdeal.S8192x2816 ![] GradDownRefIdeal.Gen.facts.bcast_S_S8192x2816 (constant GradDownRefIdeal.S_ .f32 0x3F800000#32))
      (addf (broadcastInDim GradDownRefIdeal.S8192x2816 ![] GradDownRefIdeal.Gen.facts.bcast_S_S8192x2816 (constant GradDownRefIdeal.S_ .f32 0x3F800000#32))
        (Host.exp (Host.negf (Host.dotGeneral GradDownRefIdeal.dot_S8192x1024_S1024x2816_S8192x2816_1_0_0_1_n_n none (extf .f32 x GradDownRefIdeal.Gen.facts.bitsLt_bf16_f32) (extf .f32 g GradDownRefIdeal.Gen.facts.bitsLt_bf16_f32)))))))
    (Host.dotGeneral GradDownRefIdeal.dot_S8192x1024_S1024x2816_S8192x2816_1_0_0_1_n_n none (extf .f32 x GradDownRefIdeal.Gen.facts.bitsLt_bf16_f32) (extf .f32 u GradDownRefIdeal.Gen.facts.bitsLt_bf16_f32))

theorem reference_hidden_apply (x : FVec Ideal S8192x1024 .bf16) (g u : FVec Ideal S1024x2816 .bf16) (r : Fin 8192) (l : Fin 2816) :
    reference_hidden x g u (ix2 r l) = hidden x g u r l := by
  pointwise [reference_hidden]
  rfl

/-- The reference's result, at one element. -/
theorem reference_apply (x d : FVec Ideal S8192x1024 .bf16) (g u : FVec Ideal S1024x2816 .bf16) (i : Fin 2816) (j : Fin 1024) :
    (truncf .bf16 (transpose GradDownRefIdeal.S2816x1024 [1, 0] (Host.dotGeneral GradDownRefIdeal.dot_S8192x1024_S8192x2816_S1024x2816_0_0_1_1_n_n none
      (extf .f32 d GradDownRefIdeal.Gen.facts.bitsLt_bf16_f32) (reference_hidden x g u))
      GradDownRefIdeal.Gen.facts.transposes_S1024x2816_S2816x1024_1_0) GradDownRefIdeal.Gen.facts.bitsLt_bf16_f32 : FVec Ideal GradDownRefIdeal.S2816x1024 .bf16) (ix2 i j)
      = product (hidden x g u) d i j := by
  pointwise [reference_hidden_apply]
  exact Finset.sum_congr rfl fun k _ => mul_comm _ _

/-- The reference leaves its arguments as they were; it has no semaphores. -/
theorem frame_reference : Cert.quiescent_GradDownRefIdeal := fun m g _ =>
  (θ_run _ _ _).mono (fun r h => ⟨fun c => (h c).2, sem_eq_zero_of_no_sems rfl r.2⟩) (Cert.GradDownRefIdeal.Value.run m g)

set_option smartUnfolding false in
/-- The kernel's frame on float words: the run that holds of any float values, at words. -/
theorem frame_words : Cert.quiescent_GradDown (hGradDown := Cert.GradDown.Gen.facts) := fun m ρ _ =>
  Cert.GradDownIdeal.Gen.frame (F := Bits) m ρ

/-- Kernel and reference end with the same array. -/
theorem algebraic : Cert.algebraic_GradDownIdeal_GradDownRefIdeal := by
  intro m g m' g' _ same
  refine ⟨_, Value.run_blocks m g, (θ_run _ _ _).mono (fun r h c => ?_) (Cert.GradDownRefIdeal.Value.run m' g')⟩
  obtain ⟨s0, s1, s2, s3⟩ := same c
  refine ⟨(h c).1.trans ?_, (h c).2⟩
  rw [s0, s1, s2, s3]
  funext y
  idx_vars y
  exact (reference_apply _ _ _ _ y0 y1).trans (congrFun (final m c) (ix2 y0 y1)).symm

end Cert.DownGrad
-- ==== Proof.GateGrad.lean ====
/-
  The gradient of the gate projection: the kernel's array is the product of the transposed input and the gate's gradient.
-/
module

public import proofs.«01_k».proof.Defs
public import proofs.«01_k».proof.Proof.Tiles
public import proofs.«01_k».proof.Proof.Gen.GradGate
public import proofs.«01_k».proof.Proof.Gen.GradGateIdeal.Value
public import proofs.«01_k».proof.Proof.Gen.GradGateRefIdeal.Run
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.GateGrad

open Cert.GradGateIdeal Cert.GradGateIdeal.Gen Idealize.ShloMosaic Idealize.ShloMosaic.TcCoe Idealize.SL.Sem

attribute [local instance] Cert.GradGateRefIdeal.Gen.facts

variable (m : (ℓ : Loc nD τ sig) → Buf (Elt Ideal) ℓ) (c : Dev nD)

/-- The feed-forward block's input. -/
abbrev argX : FVec Ideal S8192x1024 .bf16 := m ((c.tc : Thread nD τ).loc main_arg0)
/-- The gradients of the gate and of the up result, side by side. -/
abbrev argD : FVec Ideal S8192x5632 .bf16 := m ((c.tc : Thread nD τ).loc main_arg1)

/-- A point's product, added to what the buffer held. -/
theorem step_apply (acc : Vec Ideal S1024x1408 .f32) (x0 : Vec Ideal S2048x1024 .bf16) (x1 : Vec Ideal S2048x1408 .bf16) (i : S1024x1408.Idx) :
    k0_pay2 acc x0 x1 i = acc i + ∑ k : Fin 2048, x0 (ix2 k (i 0)) * x1 (ix2 k (i 1)) := by
  idx_vars i
  pointwise [k0_pay2]

theorem start_apply (i : S1024x1408.Idx) : k0_pay1 (F := Ideal) i = 0 := by
  idx_vars i
  pointwise [k0_pay1]

/-- A point's block of the input. -/
abbrev xBlock (t : Fin cfg0.N) : Vec Ideal S2048x1024 .bf16 := iblk m c 0 t
/-- A point's block of the gradient. -/
abbrev dBlock (t : Fin cfg0.N) : Vec Ideal S2048x1408 .bf16 := iblk m c 1 t

/-- The accumulator read back is what was left in it. -/
theorem held (v : Vec Ideal S1024x1408 .f32) : View.read (Elt Ideal) (View.whole cc0_scratch0) ((Memref.isWhole_whole cc0_scratch0).unread v) = v :=
  (Memref.isWhole_whole cc0_scratch0).read_unread v

/-- The first point of a run leaves its own sum in the accumulator. -/
theorem first (t : Fin cfg0.N) (h : t.val % 4 = 0) (i : S1024x1408.Idx) :
    (outsAt0 m c t.val t.isLt).2 i = ∑ k : Fin 2048, xBlock m c t (ix2 k (i 0)) * dBlock m c t (ix2 k (i 1)) := by
  rw [outsAt0_A m c t h (by omega)]
  dsimp only
  frame_out
  rw [step_apply, start_apply, zero_add]

/-- Every other point adds its sum. -/
theorem later (t : Fin cfg0.N) (h : ¬t.val % 4 = 0) (i : S1024x1408.Idx) :
    (outsAt0 m c t.val t.isLt).2 i = (outsAt0 m c (t.val - 1) (Nat.lt_of_le_of_lt (Nat.sub_le _ _) t.isLt)).2 i
      + ∑ k : Fin 2048, xBlock m c t (ix2 k (i 0)) * dBlock m c t (ix2 k (i 1)) := by
  by_cases h3 : t.val % 4 = 3
  · rw [outsAt0_C m c t h h3]
    dsimp only
    frame_out
    rw [step_apply]
    exact congrArg (· + _) (congrFun (held _) i)
  · rw [outsAt0_B m c t h h3]
    dsimp only
    frame_out
    rw [step_apply]
    exact congrArg (· + _) (congrFun (held _) i)

/-- The last point of a run writes the accumulator out. -/
theorem written (t : Fin cfg0.N) (h : t.val % 4 = 3) : (outsAt0 m c t.val t.isLt).1 = (outsAt0 m c t.val t.isLt).2 := by
  rw [outsAt0_C m c t (by omega) h]
  dsimp only
  frame_out
  rfl

theorem index0 : ∀ t : Fin cfg0.N, win0_0.index t = ![t.val % 4, 0] := by decide +kernel
theorem index1 : ∀ t : Fin cfg0.N, win0_1.index t = ![t.val % 4, t.val / 4] := by decide +kernel
theorem index2 : ∀ t : Fin cfg0.N, win0_2.index t = ![0, t.val / 4] := by decide +kernel

theorem lt_eight (t : Fin cfg0.N) : t.val < 8 := lt_of_lt_of_le t.isLt (by decide +kernel)

/-- The product over all tokens, at one element. -/
def product (x : FVec Ideal S8192x1024 .bf16) (d : FVec Ideal S8192x5632 .bf16) (i : Fin 1024) (j : Fin 2816) : EReal :=
  ∑ k : Fin 8192, x (ix2 k i) * d (ix2 k ⟨j, by omega⟩)

/-- All of these products, as an array. -/
def products (x : FVec Ideal S8192x1024 .bf16) (d : FVec Ideal S8192x5632 .bf16) : FVec Ideal S1024x2816 .bf16 :=
  fun y => product x d (y 0) (y 1)

/-- The accumulator at the last point of a run. -/
theorem total (t : Fin cfg0.N) (h : t.val % 4 = 3) (i : Fin 1024) (j : Fin 1408) :
    (outsAt0 m c t.val t.isLt).2 (ix2 i j) = product (argX m c) (argD m c) i ⟨t.val / 4 * 1408 + j, by have := lt_eight t; omega⟩ := by
  have ht := lt_eight t
  refine (sum_of_tiles (J := 4) (L := 8192) rfl (fun n h => (outsAt0 m c n h).2)
    (fun t k i => xBlock m c t (ix2 k (i 0)) * dBlock m c t (ix2 k (i 1)))
    (fun q l i => if hq : q < 2 then argX m c (ix2 l (i 0)) * argD m c (ix2 l ⟨q * 1408 + (i 1).val, by have h1 : (i 1).val < 1408 := (i 1).isLt; omega⟩) else 0)
    (first m c) (later m c) (fun t k i hl => ?_) t h (ix2 i j)).trans ?_
  · have := lt_eight t
    dsimp only
    rw [dif_pos (by omega)]
    idx_vars i
    refine congrArg₂ (· * ·) ?_ ?_
    · blk_ext [iblk, V, index0]
    · blk_ext [iblk, V, index1]
  · simp only [dif_pos (show t.val / 4 < 2 by omega)]
    rfl

/-- The array of the kernel. -/
theorem final : (dats m 0 c).arrAt 2 cfg0.N = products (argX m c) (argD m c) := by
  refine (dats m 0 c).arrAt_eq_of_covers 2 _ (by decide +kernel) fun t hf y => ?_
  have h := (flush0_2 t).mp hf
  have ht := lt_eight t
  blk_simp
  rw [after0_2, written m c t h]
  idx_vars y
  have hE : ((View.whole main_v0).slice (win0_2.rect t)).emb (ix2 y0 y1) = ix2 y0 ⟨t.val / 4 * 1408 + y1, by omega⟩ := by
    blk_ext [index2]
  rw [hE]
  exact total m c t h y0 y1

/-- The reference's result, at one element. -/
theorem reference_apply (x : FVec Ideal S8192x1024 .bf16) (d : FVec Ideal S8192x5632 .bf16) (i : Fin 1024) (j : Fin 2816) :
    (truncf .bf16 (transpose GradGateRefIdeal.S1024x2816 [1, 0] (Host.dotGeneral GradGateRefIdeal.dot_S8192x2816_S8192x1024_S2816x1024_0_0_1_1_n_n none
      (extf .f32 (extractStridedSlice GradGateRefIdeal.S8192x2816 ![0, 0] d GradGateRefIdeal.Gen.facts.slices_S8192x5632_S8192x2816_0_0) GradGateRefIdeal.Gen.facts.bitsLt_bf16_f32)
      (extf .f32 x GradGateRefIdeal.Gen.facts.bitsLt_bf16_f32)) GradGateRefIdeal.Gen.facts.transposes_S2816x1024_S1024x2816_1_0) GradGateRefIdeal.Gen.facts.bitsLt_bf16_f32 : FVec Ideal GradGateRefIdeal.S1024x2816 .bf16) (ix2 i j)
      = product x d i j := by
  pointwise []
  refine Finset.sum_congr rfl fun k _ => ?_
  rw [mul_comm]

/-- The reference leaves its arguments as they were; it has no semaphores. -/
theorem frame_reference : Cert.quiescent_GradGateRefIdeal := fun m g _ =>
  (θ_run _ _ _).mono (fun r h => ⟨fun c => (h c).2, sem_eq_zero_of_no_sems rfl r.2⟩) (Cert.GradGateRefIdeal.Value.run m g)

set_option smartUnfolding false in
/-- The kernel's frame on float words: the run that holds of any float values, at words. -/
theorem frame_words : Cert.quiescent_GradGate (hGradGate := Cert.GradGate.Gen.facts) := fun m ρ _ =>
  Cert.GradGateIdeal.Gen.frame (F := Bits) m ρ

/-- Kernel and reference end with the same array. -/
theorem algebraic : Cert.algebraic_GradGateIdeal_GradGateRefIdeal := by
  intro m g m' g' _ same
  refine ⟨_, Value.run_blocks m g, (θ_run _ _ _).mono (fun r h c => ?_) (Cert.GradGateRefIdeal.Value.run m' g')⟩
  obtain ⟨s0, s1⟩ := same c
  refine ⟨(h c).1.trans ?_, (h c).2⟩
  rw [s0, s1]
  funext y
  idx_vars y
  exact (reference_apply _ _ y0 y1).trans (congrFun (final m c) (ix2 y0 y1)).symm

end Cert.GateGrad
-- ==== Proof.UpGrad.lean ====
/-
  The gradient of the up projection: the kernel's array is the product of the transposed input and the up result's gradient.
-/
module

public import proofs.«01_k».proof.Defs
public import proofs.«01_k».proof.Proof.Tiles
public import proofs.«01_k».proof.Proof.Gen.GradUp
public import proofs.«01_k».proof.Proof.Gen.GradUpIdeal.Value
public import proofs.«01_k».proof.Proof.Gen.GradUpRefIdeal.Run
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.UpGrad

open Cert.GradUpIdeal Cert.GradUpIdeal.Gen Idealize.ShloMosaic Idealize.ShloMosaic.TcCoe Idealize.SL.Sem

attribute [local instance] Cert.GradUpRefIdeal.Gen.facts

variable (m : (ℓ : Loc nD τ sig) → Buf (Elt Ideal) ℓ) (c : Dev nD)

/-- The feed-forward block's input. -/
abbrev argX : FVec Ideal S8192x1024 .bf16 := m ((c.tc : Thread nD τ).loc main_arg0)
/-- The gradients of the gate and of the up result, side by side. -/
abbrev argD : FVec Ideal S8192x5632 .bf16 := m ((c.tc : Thread nD τ).loc main_arg1)

/-- A point's product, added to what the buffer held. -/
theorem step_apply (acc : Vec Ideal S1024x1408 .f32) (x0 : Vec Ideal S2048x1024 .bf16) (x1 : Vec Ideal S2048x1408 .bf16) (i : S1024x1408.Idx) :
    k0_pay2 acc x0 x1 i = acc i + ∑ k : Fin 2048, x0 (ix2 k (i 0)) * x1 (ix2 k (i 1)) := by
  idx_vars i
  pointwise [k0_pay2]

theorem start_apply (i : S1024x1408.Idx) : k0_pay1 (F := Ideal) i = 0 := by
  idx_vars i
  pointwise [k0_pay1]

/-- A point's block of the input. -/
abbrev xBlock (t : Fin cfg0.N) : Vec Ideal S2048x1024 .bf16 := iblk m c 0 t
/-- A point's block of the gradient. -/
abbrev dBlock (t : Fin cfg0.N) : Vec Ideal S2048x1408 .bf16 := iblk m c 1 t

/-- The accumulator read back is what was left in it. -/
theorem held (v : Vec Ideal S1024x1408 .f32) : View.read (Elt Ideal) (View.whole cc0_scratch0) ((Memref.isWhole_whole cc0_scratch0).unread v) = v :=
  (Memref.isWhole_whole cc0_scratch0).read_unread v

/-- The first point of a run leaves its own sum in the accumulator. -/
theorem first (t : Fin cfg0.N) (h : t.val % 4 = 0) (i : S1024x1408.Idx) :
    (outsAt0 m c t.val t.isLt).2 i = ∑ k : Fin 2048, xBlock m c t (ix2 k (i 0)) * dBlock m c t (ix2 k (i 1)) := by
  rw [outsAt0_A m c t h (by omega)]
  dsimp only
  frame_out
  rw [step_apply, start_apply, zero_add]

/-- Every other point adds its sum. -/
theorem later (t : Fin cfg0.N) (h : ¬t.val % 4 = 0) (i : S1024x1408.Idx) :
    (outsAt0 m c t.val t.isLt).2 i = (outsAt0 m c (t.val - 1) (Nat.lt_of_le_of_lt (Nat.sub_le _ _) t.isLt)).2 i
      + ∑ k : Fin 2048, xBlock m c t (ix2 k (i 0)) * dBlock m c t (ix2 k (i 1)) := by
  by_cases h3 : t.val % 4 = 3
  · rw [outsAt0_C m c t h h3]
    dsimp only
    frame_out
    rw [step_apply]
    exact congrArg (· + _) (congrFun (held _) i)
  · rw [outsAt0_B m c t h h3]
    dsimp only
    frame_out
    rw [step_apply]
    exact congrArg (· + _) (congrFun (held _) i)

/-- The last point of a run writes the accumulator out. -/
theorem written (t : Fin cfg0.N) (h : t.val % 4 = 3) : (outsAt0 m c t.val t.isLt).1 = (outsAt0 m c t.val t.isLt).2 := by
  rw [outsAt0_C m c t (by omega) h]
  dsimp only
  frame_out
  rfl

theorem index0 : ∀ t : Fin cfg0.N, win0_0.index t = ![t.val % 4, 0] := by decide +kernel
theorem index1 : ∀ t : Fin cfg0.N, win0_1.index t = ![t.val % 4, 2 + t.val / 4] := by decide +kernel
theorem index2 : ∀ t : Fin cfg0.N, win0_2.index t = ![0, t.val / 4] := by decide +kernel

theorem lt_eight (t : Fin cfg0.N) : t.val < 8 := lt_of_lt_of_le t.isLt (by decide +kernel)

/-- The product over all tokens, at one element. -/
def product (x : FVec Ideal S8192x1024 .bf16) (d : FVec Ideal S8192x5632 .bf16) (i : Fin 1024) (j : Fin 2816) : EReal :=
  ∑ k : Fin 8192, x (ix2 k i) * d (ix2 k ⟨2816 + j, by omega⟩)

/-- All of these products, as an array. -/
def products (x : FVec Ideal S8192x1024 .bf16) (d : FVec Ideal S8192x5632 .bf16) : FVec Ideal S1024x2816 .bf16 :=
  fun y => product x d (y 0) (y 1)

/-- The accumulator at the last point of a run. -/
theorem total (t : Fin cfg0.N) (h : t.val % 4 = 3) (i : Fin 1024) (j : Fin 1408) :
    (outsAt0 m c t.val t.isLt).2 (ix2 i j) = product (argX m c) (argD m c) i ⟨t.val / 4 * 1408 + j, by have := lt_eight t; omega⟩ := by
  have ht := lt_eight t
  refine (sum_of_tiles (J := 4) (L := 8192) rfl (fun n h => (outsAt0 m c n h).2)
    (fun t k i => xBlock m c t (ix2 k (i 0)) * dBlock m c t (ix2 k (i 1)))
    (fun q l i => if hq : q < 2 then argX m c (ix2 l (i 0)) * argD m c (ix2 l ⟨2816 + (q * 1408 + (i 1).val), by have h1 : (i 1).val < 1408 := (i 1).isLt; omega⟩) else 0)
    (first m c) (later m c) (fun t k i hl => ?_) t h (ix2 i j)).trans ?_
  · have := lt_eight t
    dsimp only
    rw [dif_pos (by omega)]
    idx_vars i
    refine congrArg₂ (· * ·) ?_ ?_
    · blk_ext [iblk, V, index0]
    · blk_ext [iblk, V, index1]
  · simp only [dif_pos (show t.val / 4 < 2 by omega)]
    rfl

/-- The array of the kernel. -/
theorem final : (dats m 0 c).arrAt 2 cfg0.N = products (argX m c) (argD m c) := by
  refine (dats m 0 c).arrAt_eq_of_covers 2 _ (by decide +kernel) fun t hf y => ?_
  have h := (flush0_2 t).mp hf
  have ht := lt_eight t
  blk_simp
  rw [after0_2, written m c t h]
  idx_vars y
  have hE : ((View.whole main_v0).slice (win0_2.rect t)).emb (ix2 y0 y1) = ix2 y0 ⟨t.val / 4 * 1408 + y1, by omega⟩ := by
    blk_ext [index2]
  rw [hE]
  exact total m c t h y0 y1

/-- The reference's result, at one element. -/
theorem reference_apply (x : FVec Ideal S8192x1024 .bf16) (d : FVec Ideal S8192x5632 .bf16) (i : Fin 1024) (j : Fin 2816) :
    (truncf .bf16 (transpose GradUpRefIdeal.S1024x2816 [1, 0] (Host.dotGeneral GradUpRefIdeal.dot_S8192x2816_S8192x1024_S2816x1024_0_0_1_1_n_n none
      (extf .f32 (extractStridedSlice GradUpRefIdeal.S8192x2816 ![0, 2816] d GradUpRefIdeal.Gen.facts.slices_S8192x5632_S8192x2816_0_2816) GradUpRefIdeal.Gen.facts.bitsLt_bf16_f32)
      (extf .f32 x GradUpRefIdeal.Gen.facts.bitsLt_bf16_f32)) GradUpRefIdeal.Gen.facts.transposes_S2816x1024_S1024x2816_1_0) GradUpRefIdeal.Gen.facts.bitsLt_bf16_f32 : FVec Ideal GradUpRefIdeal.S1024x2816 .bf16) (ix2 i j)
      = product x d i j := by
  pointwise []
  refine Finset.sum_congr rfl fun k _ => ?_
  rw [mul_comm]

/-- The reference leaves its arguments as they were; it has no semaphores. -/
theorem frame_reference : Cert.quiescent_GradUpRefIdeal := fun m g _ =>
  (θ_run _ _ _).mono (fun r h => ⟨fun c => (h c).2, sem_eq_zero_of_no_sems rfl r.2⟩) (Cert.GradUpRefIdeal.Value.run m g)

set_option smartUnfolding false in
/-- The kernel's frame on float words: the run that holds of any float values, at words. -/
theorem frame_words : Cert.quiescent_GradUp (hGradUp := Cert.GradUp.Gen.facts) := fun m ρ _ =>
  Cert.GradUpIdeal.Gen.frame (F := Bits) m ρ

/-- Kernel and reference end with the same array. -/
theorem algebraic : Cert.algebraic_GradUpIdeal_GradUpRefIdeal := by
  intro m g m' g' _ same
  refine ⟨_, Value.run_blocks m g, (θ_run _ _ _).mono (fun r h c => ?_) (Cert.GradUpRefIdeal.Value.run m' g')⟩
  obtain ⟨s0, s1⟩ := same c
  refine ⟨(h c).1.trans ?_, (h c).2⟩
  rw [s0, s1]
  funext y
  idx_vars y
  exact (reference_apply _ _ y0 y1).trans (congrFun (final m c) (ix2 y0 y1)).symm

end Cert.UpGrad
-- ==== Proof.NormRow.lean ====
/-
  The gradient of a layer norm along one row of 1024 numbers: the kernel's formula and the reference's, and that they agree
  where the gradient and the gain are real numbers.
-/
module

public import Idealize.ShloMosaic.Lib.Pointwise

@[expose] public section

noncomputable section

namespace Cert.Norm

open Idealize.ShloMosaic

/-- A row of the model's width. -/
abbrev Row := Fin 1024 → EReal

/-- The width, as both programs write it. -/
abbrev width : EReal := Ideal.ofBits FTy.f32 0x44800000#32
/-- What is added to the variance. -/
abbrev eps : EReal := Ideal.ofBits FTy.f32 0x3727C5AC#32

theorem width_eq : width = ((1024 : ℝ) : EReal) := by
  simp [width, Ideal.ofBits, Ideal.ieee]
  rw [← EReal.coe_mul]
  congr 1
  norm_num

theorem eps_eq : ∃ e : ℝ, 0 < e ∧ eps = (e : EReal) := by
  refine ⟨_, ?_, by simp [eps, Ideal.ofBits, Ideal.ieee]; rfl⟩
  positivity

theorem two_eq : Ideal.ofBits FTy.f32 0x40000000#32 = ((2 : ℝ) : EReal) := by
  simp [Ideal.ofBits, Ideal.ieee]
  rw [← EReal.coe_mul]
  congr 1
  norm_num

theorem half_eq : Ideal.ofBits FTy.f32 0xBF000000#32 = ((-1 / 2 : ℝ) : EReal) := by
  simp [Ideal.ofBits, Ideal.ieee]
  rw [← EReal.coe_mul, ← EReal.coe_neg]
  congr 1
  norm_num

variable (r g d : Row)

/-- A row's mean. -/
def mean : EReal := Ideal.div (∑ l, r l) width
/-- A row less its mean. -/
def centred (l : Fin 1024) : EReal := r l - mean r
/-- A row's variance, and a little. -/
def spread : EReal := Ideal.div (∑ l, centred r l * centred r l) width + eps
/-- One over the standard deviation. -/
def rate : EReal := Ideal.rsqrt (spread r)
/-- The normed row. -/
def normed (l : Fin 1024) : EReal := centred r l * rate r

/-- The gradient of the row as the kernel computes it, from the gradient of the norm's result and the gain. -/
def byKernel (l : Fin 1024) : EReal :=
  rate r * (d l * g l - Ideal.div (∑ k, d k * g k) width - normed r l * Ideal.div (∑ k, d k * g k * normed r k) width)

/-- The gradient of the variance, for each number of the row, as the reference computes it. -/
def ofVariance : EReal :=
  Ideal.div ((∑ k, centred r k * (d k * g k)) * (Ideal.ofBits FTy.f32 0xBF000000#32 * Ideal.div (rate r) (spread r))) width
/-- The gradient of the row as the reference computes it: through the row itself, through the variance, through the mean. -/
def byReference (l : Fin 1024) : EReal :=
  d l * g l * rate r + ofVariance r g d * (Ideal.ofBits FTy.f32 0x40000000#32 * centred r l)
    + Ideal.div ((∑ k, -(d k * g k * rate r)) + ∑ k, -(ofVariance r g d * (Ideal.ofBits FTy.f32 0x40000000#32 * centred r k))) width

theorem coe_sum (f : Fin 1024 → ℝ) : ∑ l, (f l : EReal) = ((∑ l, f l : ℝ) : EReal) := by
  classical
  induction (Finset.univ : Finset (Fin 1024)) using Finset.induction_on with
  | empty => simp
  | insert a s ha ih => rw [Finset.sum_insert ha, Finset.sum_insert ha, ih, EReal.coe_add]

theorem div_width (x : ℝ) : Ideal.div (x : EReal) width = ((x / 1024 : ℝ) : EReal) := by
  rw [width_eq, Ideal.div_coe (by norm_num), ← EReal.coe_mul]
  congr 1
  ring

section Reals
variable (r g d : Fin 1024 → ℝ)

theorem mean_coe : mean (fun l => (r l : EReal)) = (((∑ l, r l) / 1024 : ℝ) : EReal) := by
  rw [mean, coe_sum, div_width]

theorem centred_coe (l : Fin 1024) : centred (fun l => (r l : EReal)) l = ((r l - (∑ k, r k) / 1024 : ℝ) : EReal) := by
  rw [centred, mean_coe, EReal.coe_sub]

theorem centred_sum : ∑ l, (r l - (∑ k, r k) / 1024) = 0 := by
  rw [Finset.sum_sub_distrib, Finset.sum_const, Finset.card_univ, Fintype.card_fin, nsmul_eq_mul]
  push_cast
  ring

/-- The spread of real numbers is a positive real number. -/
theorem spread_coe : ∃ v : ℝ, 0 < v ∧ spread (fun l => (r l : EReal)) = (v : EReal) := by
  obtain ⟨e, he, h⟩ := eps_eq
  refine ⟨(∑ l, (r l - (∑ k, r k) / 1024) * (r l - (∑ k, r k) / 1024)) / 1024 + e, ?_, ?_⟩
  · have : 0 ≤ ∑ l, (r l - (∑ k, r k) / 1024) * (r l - (∑ k, r k) / 1024) := Finset.sum_nonneg fun l _ => mul_self_nonneg _
    positivity
  · simp only [spread, centred_coe, ← EReal.coe_mul]
    rw [coe_sum, div_width, h, EReal.coe_add]

/-- Both formulas give the same number. -/
theorem agree_real (l : Fin 1024) : byKernel (fun l => (r l : EReal)) (fun l => (g l : EReal)) (fun l => (d l : EReal)) l
    = byReference (fun l => (r l : EReal)) (fun l => (g l : EReal)) (fun l => (d l : EReal)) l := by
  obtain ⟨v, hv, h⟩ := spread_coe r
  have hs : rate (fun l => (r l : EReal)) = (((Real.sqrt v)⁻¹ : ℝ) : EReal) := by
    rw [rate, h, Ideal.rsqrt_coe, if_neg (not_lt.2 hv.le), if_neg hv.ne']
  have hdiv : Ideal.div (((Real.sqrt v)⁻¹ : ℝ) : EReal) (v : EReal) = (((Real.sqrt v)⁻¹ * (Real.sqrt v)⁻¹ * (Real.sqrt v)⁻¹ : ℝ) : EReal) := by
    rw [Ideal.div_coe hv.ne', ← EReal.coe_mul]
    congr 1
    have : v = Real.sqrt v * Real.sqrt v := (Real.mul_self_sqrt hv.le).symm
    rw [mul_assoc, ← mul_inv, ← this, one_div]
  have h0 := centred_sum r
  generalize (Real.sqrt v)⁻¹ = s at hs hdiv
  simp only [byKernel, byReference, ofVariance, normed, hs, h, hdiv, centred_coe, half_eq, two_eq]
  simp only [← EReal.coe_mul, ← EReal.coe_sub, ← EReal.coe_neg, coe_sum, div_width, ← EReal.coe_add]
  congr 1
  have hA : ∑ k, d k * g k * ((r k - (∑ k, r k) / 1024) * s) = (∑ k, (r k - (∑ k, r k) / 1024) * (d k * g k)) * s := by
    rw [Finset.sum_mul]
    exact Finset.sum_congr rfl fun k _ => by ring
  have hU : ∑ k, -(d k * g k * s) = -((∑ k, d k * g k) * s) := by
    rw [Finset.sum_neg_distrib, Finset.sum_mul]
  have hC : ∀ y : ℝ, ∑ k, -(y * (2 * (r k - (∑ k, r k) / 1024))) = 0 := fun y => by
    rw [Finset.sum_neg_distrib, ← Finset.mul_sum, ← Finset.mul_sum, h0]
    ring
  rw [hA, hU, hC]
  ring

end Reals

/-- A sum with a term `⊥` is `⊥`. -/
theorem sum_bot {f : Fin 1024 → EReal} {l : Fin 1024} (h : f l = ⊥) : ∑ k, f k = ⊥ := by
  rw [← Finset.add_sum_erase _ _ (Finset.mem_univ l), h, EReal.bot_add]

/-- A sum with a term `⊤` and none `⊥` is `⊤`. -/
theorem sum_top {f : Fin 1024 → EReal} {l : Fin 1024} (h : f l = ⊤) (hb : ∀ k, f k ≠ ⊥) : ∑ k, f k = ⊤ := by
  classical
  rw [← Finset.add_sum_erase _ _ (Finset.mem_univ l), h]
  refine EReal.top_add_of_ne_bot ?_
  generalize Finset.univ.erase l = s
  induction s using Finset.induction_on with
  | empty => simp
  | insert a s ha ih =>
    rw [Finset.sum_insert ha]
    exact fun hc => (EReal.add_eq_bot_iff.1 hc).elim (hb a) ih

theorem div_top : Ideal.div ⊤ width = ⊤ := by
  rw [width_eq, Ideal.div_coe (by norm_num)]
  exact EReal.top_mul_coe_of_pos (by norm_num)

theorem div_bot : Ideal.div ⊥ width = ⊥ := by
  rw [width_eq, Ideal.div_coe (by norm_num)]
  exact EReal.bot_mul_coe_of_pos (by norm_num)

/-- A number of a row that is not real is `⊥` less the mean, for some such number. -/
theorem centred_bot {r : Row} (h : ¬∀ l, ∃ x : ℝ, r l = x) : ∃ l, centred r l = ⊥ := by
  by_cases hb : ∃ l, r l = ⊥
  · obtain ⟨l, hl⟩ := hb
    exact ⟨l, by rw [centred, hl, sub_eq_add_neg, EReal.bot_add]⟩
  · push Not at hb h
    obtain ⟨l, hl⟩ := h
    have ht : r l = ⊤ := by
      induction hr : r l using EReal.rec with
      | bot => exact absurd hr (hb l)
      | coe x => exact absurd hr (hl x)
      | top => rfl
    exact ⟨l, by rw [centred, mean, sum_top ht hb, div_top, sub_eq_add_neg, EReal.neg_top, EReal.add_bot]⟩

/-- The spread of a row that is not all real numbers is `⊤`. -/
theorem spread_top {r : Row} (h : ¬∀ l, ∃ x : ℝ, r l = x) : spread r = ⊤ := by
  obtain ⟨l, hl⟩ := centred_bot h
  have hs : ∀ x : EReal, x * x ≠ ⊥ := fun x => by
    induction x using EReal.rec with
    | bot => simp
    | coe x => rw [← EReal.coe_mul]; exact EReal.coe_ne_bot _
    | top => simp
  obtain ⟨e, _, he⟩ := eps_eq
  rw [spread, sum_top (l := l) (by rw [hl, EReal.bot_mul_bot]) fun k => hs _, div_top, he, EReal.top_add_coe]

theorem rate_top {r : Row} (h : ¬∀ l, ∃ x : ℝ, r l = x) : rate r = 0 := by
  rw [rate, spread_top h]
  rfl

/-- Where the gradient and the gain are real numbers, the two formulas agree: a row that is not all real numbers has no
    gradient in either. -/
theorem agree (hg : ∀ l, ∃ x : ℝ, g l = x) (hd : ∀ l, ∃ x : ℝ, d l = x) (l : Fin 1024) : byKernel r g d l = byReference r g d l := by
  by_cases hr : ∀ l, ∃ x : ℝ, r l = x
  · choose r' hr using hr
    choose g' hg using hg
    choose d' hd using hd
    obtain rfl : r = fun l => (r' l : EReal) := funext hr
    obtain rfl : g = fun l => (g' l : EReal) := funext hg
    obtain rfl : d = fun l => (d' l : EReal) := funext hd
    exact agree_real r' g' d' l
  · have h0 := rate_top hr
    have hq : Ideal.div 0 (spread r) = 0 := by
      rw [spread_top hr]
      simp [Ideal.div]
    have hz : Ideal.div 0 width = 0 := by simpa using div_width 0
    simp only [byKernel, byReference, ofVariance, h0, hq, hz, mul_zero, zero_mul, neg_zero, Finset.sum_const_zero, add_zero]

end Cert.Norm
-- ==== Proof.NormBlock.lean ====
/-
  The gradient of a layer norm over a block of 512 tokens, in the operations of the kernels, read at an index.
-/
module

public import proofs.«01_k».proof.Proof.Gen.UpBwdIdeal
public import proofs.«01_k».proof.Proof.NormRow

@[expose] public section

set_option maxRecDepth 16384

noncomputable section

namespace Cert.Norm.Block

open Cert.UpBwdIdeal Cert.UpBwdIdeal.Gen Idealize.ShloMosaic Idealize.ShloMosaic.TcCoe Idealize.SL.Sem

/-- A block's tokens by lanes. -/
abbrev Rows := FVec Ideal S512x1024 .f32
/-- A number for every token of the block, as a column. -/
abbrev Col := FVec Ideal S512x1 .f32
/-- A number for every lane, as a row. -/
abbrev Lanes := FVec Ideal S1x1024 .f32

/-- The mean of every row. -/
def means (v : Rows) : Col :=
  divf (shapeCast S512x1 (multiReduction .add [1] S512 v 0x00000000#32 reduces_S512x1024_S512 (.inl rfl) rfl) shapeCasts_S512_S512x1)
    (broadcast S512x1 (Scalar.ofBits .f32 0x44800000#32))
/-- A column over all lanes. -/
def wide (v : Col) : Rows := broadcastTo S512x1024 v broadcasts_S512x1_S512x1024
/-- Every row less its mean. -/
def centre (r : Rows) : Rows := subf r (wide (means r))
/-- One over every row's standard deviation. -/
def rates (r : Rows) : Col := rsqrt (addf (means (mulf (centre r) (centre r))) (broadcast S512x1 (Scalar.ofBits .f32 0x3727C5AC#32)))
/-- The normed rows. -/
def norms (r : Rows) : Rows := mulf (centre r) (wide (rates r))
/-- The gradient of the result times the gain. -/
def gained (g : Lanes) (d : Rows) : Rows := mulf d (broadcastTo S512x1024 g broadcasts_S1x1024_S512x1024)
/-- The gradient of the rows. -/
def back (r : Rows) (g : Lanes) (d : Rows) : Rows :=
  mulf (wide (rates r)) (subf (subf (gained g d) (wide (means (gained g d)))) (mulf (norms r) (wide (means (mulf (gained g d) (norms r))))))
/-- Rows summed over the block, added to a buffer. -/
def addRows (v : Rows) (acc : Lanes) : Lanes :=
  addf (shapeCast S1x1024 acc shapeCasts_S1x1024_S1x1024)
    (shapeCast S1x1024 (multiReduction .add [0] S1024 v 0x00000000#32 reduces_S512x1024_S1024 (.inl rfl) rfl) shapeCasts_S1024_S1x1024)

/-- A token's row. -/
def row (v : Rows) (i : Fin 512) : Row := fun l => v (ix2 i l)
/-- The one row there is. -/
def lane (v : Lanes) : Row := fun l => v (ix2 0 l)

variable (r : Rows) (g : Lanes) (d : Rows) (i : Fin 512) (l : Fin 1024)

theorem means_apply (v : Rows) (j : Fin 1) : means v (ix2 i j) = Ideal.div (∑ k, v (ix2 i k)) width := by
  pointwise [means]

theorem wide_apply (v : Col) : wide v (ix2 i l) = v (ix2 i 0) := by
  pointwise [wide]

theorem centre_apply : centre r (ix2 i l) = centred (row r i) l := by
  pointwise [centre, wide_apply, means_apply]
  rfl

theorem rates_apply (j : Fin 1) : rates r (ix2 i j) = rate (row r i) := by
  pointwise [rates, means_apply, centre_apply]
  rfl

theorem norms_apply : norms r (ix2 i l) = normed (row r i) l := by
  pointwise [norms, centre_apply, wide_apply, rates_apply]
  rfl

theorem gained_apply : gained g d (ix2 i l) = row d i l * lane g l := by
  pointwise [gained]
  rfl

/-- The kernel's gradient of the rows, at an index. -/
theorem back_apply : back r g d (ix2 i l) = byKernel (row r i) (lane g) (row d i) l := by
  pointwise [back, wide_apply, rates_apply, means_apply, gained_apply, norms_apply]
  rfl

theorem addRows_apply (v : Rows) (acc : Lanes) (j : Fin 1) : addRows v acc (ix2 j l) = acc (ix2 j l) + ∑ k : Fin 512, v (ix2 k l) := by
  pointwise [addRows]

/-- A block's part of the gain's gradient. -/
theorem addGain_apply (acc : Lanes) (j : Fin 1) :
    addRows (mulf d (norms r)) acc (ix2 j l) = acc (ix2 j l) + ∑ k : Fin 512, row d k l * normed (row r k) l := by
  rw [addRows_apply]
  pointwise [norms_apply]
  rfl

end Cert.Norm.Block
-- ==== Proof.NormRef.lean ====
/-
  The gradient of a layer norm over all tokens, in the operations of the reference, read at an index.
-/
module

public import proofs.«01_k».proof.Proof.Gen.UpBwdRefIdeal
public import proofs.«01_k».proof.Proof.NormRow

@[expose] public section

set_option maxRecDepth 16384

noncomputable section

namespace Cert.Norm.Ref

open Cert.UpBwdRefIdeal Cert.UpBwdRefIdeal.Gen Idealize.ShloMosaic Idealize.ShloMosaic.TcCoe Idealize.SL.Sem

/-- Tokens by lanes. -/
abbrev Rows := FVec Ideal S8192x1024 .f32
/-- A number for every token, as a column. -/
abbrev Col := FVec Ideal S8192x1 .f32
/-- A number for every lane, as a row. -/
abbrev Lanes := FVec Ideal S1x1024 .f32

/-- The sum of every row. -/
def sums (v : Rows) : FVec Ideal S8192 .f32 := Host.reduceAdd v (constant S_ .f32 0x00000000#32) reducesTo_S8192x1024_S8192_d1 h_S_
/-- The sum of every row, as a column. -/
def sumCol (v : Rows) : Col := shapeCast _ (sums v) shapeCasts_S8192_S8192x1
/-- The width, in every row. -/
def widths : Col := broadcastInDim S8192x1 ![] bcast_S_S8192x1 (constant S_ .f32 0x44800000#32)
/-- The mean of every row. -/
def means (v : Rows) : Col := Host.divf (broadcastInDim S8192x1 ![0] bcast_S8192_S8192x1_0 (sums v)) widths
/-- A column over all lanes. -/
def wide (v : Col) : Rows := broadcastInDim S8192x1024 ![0, 1] bcast_S8192x1_S8192x1024_0_1 v
/-- A column over all lanes, by way of the sum of its one lane. -/
def widen (v : Col) : Rows :=
  broadcastInDim S8192x1024 ![0] bcast_S8192_S8192x1024_0 (Host.reduceAdd v (constant S_ .f32 0x00000000#32) reducesTo_S8192x1_S8192_d1 h_S_)
/-- Every row less its mean. -/
def centre (r : Rows) : Rows := subf r (wide (means r))
/-- Every row's variance, and a little. -/
def spreads (r : Rows) : Col := addf (means (mulf (centre r) (centre r))) (broadcastInDim S8192x1 ![] bcast_S_S8192x1 (constant S_ .f32 0x3727C5AC#32))
/-- One over every row's standard deviation. -/
def rates (r : Rows) : Col := Host.rsqrt (spreads r)
/-- The normed rows. -/
def norms (r : Rows) : Rows := mulf (centre r) (wide (rates r))
/-- The gradient of the result times the gain. -/
def gained (g : Lanes) (d : Rows) : Rows := mulf d (broadcastInDim S8192x1024 ![0, 1] bcast_S1x1024_S8192x1024_0_1 g)
/-- The gradient through the row itself. -/
def viaRow (r : Rows) (g : Lanes) (d : Rows) : Rows := mulf (gained g d) (wide (rates r))
/-- The gradient of the variance. -/
def variances (r : Rows) (g : Lanes) (d : Rows) : Col :=
  Host.divf (mulf (sumCol (mulf (centre r) (gained g d)))
    (mulf (broadcastInDim S8192x1 ![] bcast_S_S8192x1 (constant S_ .f32 0xBF000000#32)) (Host.divf (rates r) (spreads r)))) widths
/-- The gradient through the variance. -/
def viaVariance (r : Rows) (g : Lanes) (d : Rows) : Rows :=
  mulf (widen (variances r g d)) (mulf (broadcastInDim S8192x1024 ![] bcast_S_S8192x1024 (constant S_ .f32 0x40000000#32)) (centre r))
/-- The gradient through the mean. -/
def viaMean (r : Rows) (g : Lanes) (d : Rows) : Rows :=
  widen (Host.divf (addf (sumCol (Host.negf (viaRow r g d))) (sumCol (Host.negf (viaVariance r g d)))) widths)
/-- The gradient of the rows. -/
def back (r : Rows) (g : Lanes) (d : Rows) : Rows := addf (addf (viaRow r g d) (viaVariance r g d)) (viaMean r g d)
/-- A number for every lane: the sum over all tokens. -/
def overTokens (v : Rows) : Lanes := shapeCast _ (Host.reduceAdd v (constant S_ .f32 0x00000000#32) reducesTo_S8192x1024_S1024_d0 h_S_) shapeCasts_S1024_S1x1024
/-- The gradient of the gain. -/
def gain (r d : Rows) : Lanes := overTokens (mulf (norms r) d)
/-- The gradient of the shift. -/
def shift (d : Rows) : Lanes := overTokens d

/-- A token's row. -/
def row (v : Rows) (i : Fin 8192) : Row := fun l => v (ix2 i l)
/-- The one row there is. -/
def lane (v : Lanes) : Row := fun l => v (ix2 0 l)

variable (r : Rows) (g : Lanes) (d : Rows) (i : Fin 8192) (l : Fin 1024)

theorem sums_apply (v : Rows) : sums v (ix1 i) = ∑ k, v (ix2 i k) := by
  pointwise [sums]

theorem sumCol_apply (v : Rows) (j : Fin 1) : sumCol v (ix2 i j) = ∑ k, v (ix2 i k) := by
  pointwise [sumCol, sums]

theorem widths_apply (j : Fin 1) : widths (ix2 i j) = width := by
  pointwise [widths]

theorem means_apply (v : Rows) (j : Fin 1) : means v (ix2 i j) = Ideal.div (∑ k, v (ix2 i k)) width := by
  pointwise [means, sums, widths]

theorem wide_apply (v : Col) : wide v (ix2 i l) = v (ix2 i 0) := by
  pointwise [wide]

theorem widen_apply (v : Col) : widen v (ix2 i l) = v (ix2 i 0) := by
  pointwise [widen]
  exact Fin.sum_univ_one fun x => v (ix2 i x)

theorem centre_apply : centre r (ix2 i l) = centred (row r i) l := by
  pointwise [centre, wide_apply, means_apply]
  rfl

theorem spreads_apply (j : Fin 1) : spreads r (ix2 i j) = spread (row r i) := by
  pointwise [spreads, means_apply, centre_apply]
  rfl

theorem rates_apply (j : Fin 1) : rates r (ix2 i j) = rate (row r i) := by
  pointwise [rates, spreads_apply]
  rfl

theorem norms_apply : norms r (ix2 i l) = normed (row r i) l := by
  pointwise [norms, centre_apply, wide_apply, rates_apply]
  rfl

theorem gained_apply : gained g d (ix2 i l) = row d i l * lane g l := by
  pointwise [gained]
  rfl

theorem viaRow_apply : viaRow r g d (ix2 i l) = row d i l * lane g l * rate (row r i) := by
  pointwise [viaRow, gained_apply, wide_apply, rates_apply]

theorem variances_apply (j : Fin 1) : variances r g d (ix2 i j) = ofVariance (row r i) (lane g) (row d i) := by
  pointwise [variances, sumCol_apply, centre_apply, gained_apply, rates_apply, spreads_apply, widths_apply]
  rfl

theorem viaVariance_apply : viaVariance r g d (ix2 i l) = ofVariance (row r i) (lane g) (row d i) * (Ideal.ofBits FTy.f32 0x40000000#32 * centred (row r i) l) := by
  pointwise [viaVariance, widen_apply, variances_apply, centre_apply]

/-- The reference's gradient of the rows, at an index. -/
theorem back_apply : back r g d (ix2 i l) = byReference (row r i) (lane g) (row d i) l := by
  pointwise [back, viaMean, widen_apply, sumCol_apply, viaRow_apply, viaVariance_apply, widths_apply]
  rfl

theorem gain_apply (j : Fin 1) : gain r d (ix2 j l) = ∑ t : Fin 8192, normed (row r t) l * row d t l := by
  pointwise [gain, overTokens, norms_apply]
  rfl

theorem shift_apply (j : Fin 1) : shift d (ix2 j l) = ∑ t : Fin 8192, row d t l := by
  pointwise [shift, overTokens]
  rfl

end Cert.Norm.Ref
-- ==== Proof.UpBack.lean ====
/-
  The gradient back through the gate and up projections and the layer norm before them: one grid point of the kernel.
-/
module

public import proofs.«01_k».proof.Proof.NormBlock
public import proofs.«01_k».proof.Proof.NormRef
public import proofs.«01_k».proof.Proof.Tiles
public import proofs.«01_k».proof.Proof.Gen.UpBwdIdeal.Value
public import Idealize.ShloMosaic.Lib.Pipeline.ReadBack
public import Idealize.ShloMosaic.Lib.Pointwise

@[expose] public section

set_option maxRecDepth 16384

noncomputable section

namespace Cert.UpBack

open Cert.UpBwdIdeal Cert.UpBwdIdeal.Gen Idealize.ShloMosaic Idealize.ShloMosaic.TcCoe Idealize.SL.Sem Cert.Norm

variable (m : (ℓ : Loc nD τ sig) → Buf (Elt Ideal) ℓ) (c : Dev nD)

/-- The gradients of the gate and of the up result, side by side. -/
abbrev argD : FVec Ideal S8192x5632 .bf16 := m ((c.tc : Thread nD τ).loc main_arg0)
/-- The gate and the up projection, side by side. -/
abbrev argW : FVec Ideal S1024x5632 .bf16 := m ((c.tc : Thread nD τ).loc main_arg1)
/-- The gradient of the block's output. -/
abbrev argY : FVec Ideal S8192x1024 .f32 := m ((c.tc : Thread nD τ).loc main_arg2)
/-- The rows that were normed. -/
abbrev argR : FVec Ideal S8192x1024 .f32 := m ((c.tc : Thread nD τ).loc main_arg3)
/-- The gain. -/
abbrev argG : FVec Ideal S1x1024 .f32 := m ((c.tc : Thread nD τ).loc main_arg4)

/-- A point's block of the two gradients. -/
abbrev dBlock (t : Fin cfg0.N) : Vec Ideal S512x5632 .bf16 := iblk m c 0 t
/-- The projections, as every point has them. -/
abbrev wBlock (t : Fin cfg0.N) : Vec Ideal S1024x5632 .bf16 := iblk m c 1 t
/-- A point's block of the output's gradient. -/
abbrev yBlock (t : Fin cfg0.N) : Vec Ideal S512x1024 .f32 := iblk m c 2 t
/-- A point's block of the rows. -/
abbrev rBlock (t : Fin cfg0.N) : Vec Ideal S512x1024 .f32 := iblk m c 3 t
/-- The gain, as every point has it. -/
abbrev gBlock (t : Fin cfg0.N) : Vec Ideal S1x1024 .f32 := iblk m c 4 t

/-- The gradient of the normed rows of a block, as the kernel computes it. -/
def entering (t : Fin cfg0.N) : Vec Ideal S512x1024 .f32 := k0_pay5 (dBlock m c t) (wBlock m c t) (yBlock m c t)

/-- A point's gradient of its rows. -/
theorem rows_block (t : Fin cfg0.N) : (outsAt0 m c t.val t.isLt).1 = Block.back (rBlock m c t) (gBlock m c t) (entering m c t) := by
  by_cases h : t.val % 16 = 0
  · rw [outsAt0_A m c t h]
    dsimp only
    frame_out
    rfl
  · rw [outsAt0_B m c t h]
    dsimp only
    frame_out
    rfl

/-- The same at half the width. -/
theorem narrow_block (t : Fin cfg0.N) : (outsAt0 m c t.val t.isLt).2.1 = truncf .bf16 (Block.back (rBlock m c t) (gBlock m c t) (entering m c t)) bitsLt_bf16_f32 := by
  by_cases h : t.val % 16 = 0
  · rw [outsAt0_A m c t h]
    dsimp only
    frame_out
    rfl
  · rw [outsAt0_B m c t h]
    dsimp only
    frame_out
    rfl

theorem zeros_gain (i : S1x1024.Idx) : k0_pay9 (F := Ideal) i = 0 := by
  idx_vars i
  pointwise [k0_pay9]

theorem zeros_shift (i : S1x1024.Idx) : k0_pay10 (F := Ideal) i = 0 := by
  idx_vars i
  pointwise [k0_pay10]

/-- A point's part of the gain's gradient, at a row and a lane. -/
def gainPart (t : Fin cfg0.N) (k : Fin 512) (l : Fin 1024) : EReal :=
  Block.row (entering m c t) k l * normed (Block.row (rBlock m c t) k) l
/-- A point's part of the shift's gradient, at a row and a lane. -/
def shiftPart (t : Fin cfg0.N) (k : Fin 512) (l : Fin 1024) : EReal := Block.row (entering m c t) k l

/-- The first point leaves its own sum over its rows. -/
theorem gain_first (t : Fin cfg0.N) (h : t.val % 16 = 0) (l : Fin 1024) :
    (outsAt0 m c t.val t.isLt).2.2.1 (ix2 0 l) = ∑ k : Fin 512, gainPart m c t k l := by
  rw [outsAt0_A m c t h]
  dsimp only
  frame_out
  refine (Block.addGain_apply _ _ l _ 0).trans ?_
  rw [zeros_gain, zero_add]
  rfl

theorem shift_first (t : Fin cfg0.N) (h : t.val % 16 = 0) (l : Fin 1024) :
    (outsAt0 m c t.val t.isLt).2.2.2 (ix2 0 l) = ∑ k : Fin 512, shiftPart m c t k l := by
  rw [outsAt0_A m c t h]
  dsimp only
  frame_out
  refine (Block.addRows_apply l _ _ 0).trans ?_
  rw [zeros_shift, zero_add]
  rfl

/-- Every other point adds its sum. -/
theorem gain_later (t : Fin cfg0.N) (h : ¬t.val % 16 = 0) (l : Fin 1024) :
    (outsAt0 m c t.val t.isLt).2.2.1 (ix2 0 l) = (outsAt0 m c (t.val - 1) (Nat.lt_of_le_of_lt (Nat.sub_le _ _) t.isLt)).2.2.1 (ix2 0 l)
      + ∑ k : Fin 512, gainPart m c t k l := by
  rw [outsAt0_B m c t h]
  dsimp only
  frame_out
  refine (Block.addGain_apply _ _ l _ 0).trans ?_
  rfl

theorem shift_later (t : Fin cfg0.N) (h : ¬t.val % 16 = 0) (l : Fin 1024) :
    (outsAt0 m c t.val t.isLt).2.2.2 (ix2 0 l) = (outsAt0 m c (t.val - 1) (Nat.lt_of_le_of_lt (Nat.sub_le _ _) t.isLt)).2.2.2 (ix2 0 l)
      + ∑ k : Fin 512, shiftPart m c t k l := by
  rw [outsAt0_B m c t h]
  dsimp only
  frame_out
  refine (Block.addRows_apply l _ _ 0).trans ?_
  rfl

end Cert.UpBack
-- ==== Proof.Parts.lean ====
/-
  Products with several arrays side by side: the sums over their lanes, part by part, and the gradient back through a
  layer of dilated attention's first projection as its reference computes it.
-/
module

public import proofs.«01_k».proof.Proof.Gen.InBwdXRefIdeal
public import Idealize.ShloMosaic.Lib.Pointwise

@[expose] public section

set_option maxRecDepth 16384

noncomputable section

namespace Cert.Parts

open Idealize.ShloMosaic

/-- The factor of the residual. -/
abbrev alpha : EReal := Ideal.ofBits FTy.f32 0x3FD744FD#32

theorem alpha_real : ∃ v : ℝ, alpha = v := ⟨_, by simp [alpha, Ideal.ofBits, Ideal.ieee]; rfl⟩

/-- A sum over `a + b` lanes is that over the first `a` and that over the last `b`. -/
theorem sum_two {a b n : ℕ} (h : n = a + b) (f : Fin n → EReal) :
    ∑ k, f k = (∑ k : Fin a, f ⟨k, by omega⟩) + ∑ k : Fin b, f ⟨a + k, by omega⟩ := by
  subst h
  exact Fin.sum_univ_add f

/-- The lanes of the queries, the keys, the values and the memory queries. -/
theorem sum_four (f : Fin 2560 → EReal) :
    ∑ k, f k = (((∑ k : Fin 768, f ⟨k, by omega⟩) + ∑ k : Fin 768, f ⟨768 + k, by omega⟩) + ∑ k : Fin 768, f ⟨1536 + k, by omega⟩)
      + ∑ k : Fin 256, f ⟨2304 + k, by omega⟩ := by
  rw [sum_two (a := 2304) (b := 256) rfl f, sum_two (a := 1536) (b := 768) rfl (fun k : Fin 2304 => f ⟨k, by omega⟩),
    sum_two (a := 768) (b := 768) rfl (fun k : Fin 1536 => f ⟨k, by omega⟩)]

section Dilated

open Cert.InBwdXRefIdeal Cert.InBwdXRefIdeal.Gen

variable (dq dk dv : FVec Ideal S8192x768 .bf16) (dm : FVec Ideal S8192x256 .bf16) (w : FVec Ideal S1024x2560 .bf16) (y : FVec Ideal S8192x1024 .f32)

/-- The four gradients side by side. -/
def aside : FVec Ideal S8192x2560 .f32 :=
  concatenate S8192x2560 1 [⟨S8192x768, extf .f32 dq bitsLt_bf16_f32⟩, ⟨S8192x768, extf .f32 dk bitsLt_bf16_f32⟩, ⟨S8192x768, extf .f32 dv bitsLt_bf16_f32⟩, ⟨S8192x256, extf .f32 dm bitsLt_bf16_f32⟩]
    concatenates_S8192x768_S8192x768_S8192x768_S8192x256_S8192x2560_d1

/-- The gradient of the layer's input as the reference computes it. -/
def dilated : FVec Ideal S8192x1024 .f32 :=
  addf (Host.dotGeneral dot_S8192x2560_S1024x2560_S8192x1024_1_1_0_0_n_n none (aside dq dk dv dm) (extf .f32 w bitsLt_bf16_f32))
    (mulf (broadcastInDim S8192x1024 ![] bcast_S_S8192x1024 (constant S_ .f32 0x3FD744FD#32)) y)

variable (i : Fin 8192)

theorem aside_q (l : Fin 768) : aside dq dk dv dm (ix2 i ⟨l, by omega⟩) = dq (ix2 i l) := by
  pointwise [aside]
theorem aside_k (l : Fin 768) : aside dq dk dv dm (ix2 i ⟨768 + l, by omega⟩) = dk (ix2 i l) := by
  pointwise [aside]
theorem aside_v (l : Fin 768) : aside dq dk dv dm (ix2 i ⟨1536 + l, by omega⟩) = dv (ix2 i l) := by
  pointwise [aside]
  rw [dif_neg (by omega), dif_neg (by omega), dif_pos (by omega)]
  exact congrArg (fun x => dv (ix2 i x)) (Fin.ext (by show 1536 + l.val - 768 - 768 = l.val; omega))
theorem aside_m (l : Fin 256) : aside dq dk dv dm (ix2 i ⟨2304 + l, by omega⟩) = dm (ix2 i l) := by
  pointwise [aside]
  rw [dif_neg (by omega), dif_neg (by omega), dif_neg (by omega)]
  exact congrArg (fun x => dm (ix2 i x)) (Fin.ext (by show 2304 + l.val - 768 - 768 - 768 = l.val; omega))

/-- It is the residual's and the products with the projection's four parts. -/
theorem dilated_apply (l : Fin 1024) : dilated dq dk dv dm w y (ix2 i l) = alpha * y (ix2 i l)
    + ((((∑ k : Fin 768, dq (ix2 i k) * w (ix2 l ⟨k, by omega⟩)) + ∑ k : Fin 768, dk (ix2 i k) * w (ix2 l ⟨768 + k, by omega⟩))
      + ∑ k : Fin 768, dv (ix2 i k) * w (ix2 l ⟨1536 + k, by omega⟩)) + ∑ k : Fin 256, dm (ix2 i k) * w (ix2 l ⟨2304 + k, by omega⟩)) := by
  rw [add_comm (alpha * _)]
  pointwise [dilated]
  rw [sum_four]
  simp only [aside_q, aside_k, aside_v, aside_m]

end Dilated

end Cert.Parts
-- ==== Proof.UpBackFinal.lean ====
/-
  The gradient back through the gate and up projections and the layer norm before them: the kernel's four arrays are
  the reference's.
-/
module

public import proofs.«01_k».proof.Defs
public import proofs.«01_k».proof.Proof.UpBack
public import proofs.«01_k».proof.Proof.Parts
public import proofs.«01_k».proof.Proof.Gate
public import proofs.«01_k».proof.Proof.Reals
public import proofs.«01_k».proof.Proof.Gen.UpBwd
public import proofs.«01_k».proof.Proof.Gen.Pre_norm_finite
public import proofs.«01_k».proof.Proof.Gen.UpBwdRefIdeal.Run
public import Idealize.ShloMosaic.Lib.Claim
public import Idealize.ShloMosaic.Lib.Quiescent
public import Idealize.ShloMosaic.Lib.ReduceAll

@[expose] public section

set_option maxRecDepth 16384

noncomputable section

namespace Cert.UpBack

open Cert.UpBwdIdeal Cert.UpBwdIdeal.Gen Idealize.ShloMosaic Idealize.ShloMosaic.TcCoe Idealize.SL.Sem Cert.Norm Cert.Parts

attribute [local instance] Cert.UpBwdRefIdeal.Gen.facts Cert.Pre_norm_finite.Gen.facts

variable (m : (ℓ : Loc nD τ sig) → Buf (Elt Ideal) ℓ) (c : Dev nD)

/-- The gradient of the normed rows as the reference computes it: through each of the two projections, and the residual. -/
def joined (d : FVec Ideal S8192x5632 .bf16) (w : FVec Ideal S1024x5632 .bf16) (y : FVec Ideal S8192x1024 .f32) : Ref.Rows :=
  addf (addf
      (Host.dotGeneral UpBwdRefIdeal.dot_S8192x2816_S1024x2816_S8192x1024_1_1_0_0_n_n none
        (extf .f32 (extractStridedSlice UpBwdRefIdeal.S8192x2816 ![0, 2816] d UpBwdRefIdeal.Gen.facts.slices_S8192x5632_S8192x2816_0_2816) UpBwdRefIdeal.Gen.facts.bitsLt_bf16_f32)
        (extf .f32 (extractStridedSlice UpBwdRefIdeal.S1024x2816 ![0, 2816] w UpBwdRefIdeal.Gen.facts.slices_S1024x5632_S1024x2816_0_2816) UpBwdRefIdeal.Gen.facts.bitsLt_bf16_f32))
      (Host.dotGeneral UpBwdRefIdeal.dot_S8192x2816_S1024x2816_S8192x1024_1_1_0_0_n_n none
        (extf .f32 (extractStridedSlice UpBwdRefIdeal.S8192x2816 ![0, 0] d UpBwdRefIdeal.Gen.facts.slices_S8192x5632_S8192x2816_0_0) UpBwdRefIdeal.Gen.facts.bitsLt_bf16_f32)
        (extf .f32 (extractStridedSlice UpBwdRefIdeal.S1024x2816 ![0, 0] w UpBwdRefIdeal.Gen.facts.slices_S1024x5632_S1024x2816_0_0) UpBwdRefIdeal.Gen.facts.bitsLt_bf16_f32)))
    (mulf (broadcastInDim UpBwdRefIdeal.S8192x1024 ![] UpBwdRefIdeal.Gen.facts.bcast_S_S8192x1024 (constant UpBwdRefIdeal.S_ .f32 0x3FD744FD#32)) y)

theorem joined_apply (d : FVec Ideal S8192x5632 .bf16) (w : FVec Ideal S1024x5632 .bf16) (y : FVec Ideal S8192x1024 .f32) (i : Fin 8192) (l : Fin 1024) :
    joined d w y (ix2 i l) = alpha * y (ix2 i l) + ∑ k : Fin 5632, d (ix2 i k) * w (ix2 l k) := by
  have hs : ∑ k : Fin 5632, d (ix2 i k) * w (ix2 l k) = (∑ k : Fin 2816, d (ix2 i ⟨k, by omega⟩) * w (ix2 l ⟨k, by omega⟩))
      + ∑ k : Fin 2816, d (ix2 i ⟨2816 + k, by omega⟩) * w (ix2 l ⟨2816 + k, by omega⟩) :=
    sum_two (a := 2816) (b := 2816) (by norm_num) fun k => d (ix2 i k) * w (ix2 l k)
  rw [hs, add_comm (∑ k : Fin 2816, d (ix2 i ⟨k, _⟩) * w (ix2 l ⟨k, _⟩)), add_comm (alpha * _)]
  pointwise [joined]

/-- The reference's run, its results by these stages. -/
theorem run_reference (m : (ℓ : Loc UpBwdRefIdeal.nD UpBwdRefIdeal.τ UpBwdRefIdeal.sig) → Buf (Elt Ideal) ℓ) (ρ : Dev UpBwdRefIdeal.nD → PrngReg) :
    θ_run UpBwdRefIdeal.defs (onTc (τ := UpBwdRefIdeal.τ) (UpBwdRefIdeal.main (F := Ideal))) ⟨m, fun _ => 0, ρ⟩ fun r => ∀ c : Dev UpBwdRefIdeal.nD,
      r.2.mem ((c.tc : Thread UpBwdRefIdeal.nD UpBwdRefIdeal.τ).loc UpBwdRefIdeal.main_v76) = Ref.back (m ((c.tc : Thread UpBwdRefIdeal.nD UpBwdRefIdeal.τ).loc UpBwdRefIdeal.main_arg3)) (m ((c.tc : Thread UpBwdRefIdeal.nD UpBwdRefIdeal.τ).loc UpBwdRefIdeal.main_arg4))
          (joined (m ((c.tc : Thread UpBwdRefIdeal.nD UpBwdRefIdeal.τ).loc UpBwdRefIdeal.main_arg0)) (m ((c.tc : Thread UpBwdRefIdeal.nD UpBwdRefIdeal.τ).loc UpBwdRefIdeal.main_arg1)) (m ((c.tc : Thread UpBwdRefIdeal.nD UpBwdRefIdeal.τ).loc UpBwdRefIdeal.main_arg2)))
      ∧ r.2.mem ((c.tc : Thread UpBwdRefIdeal.nD UpBwdRefIdeal.τ).loc UpBwdRefIdeal.main_v77) = truncf .bf16 (Ref.back (m ((c.tc : Thread UpBwdRefIdeal.nD UpBwdRefIdeal.τ).loc UpBwdRefIdeal.main_arg3)) (m ((c.tc : Thread UpBwdRefIdeal.nD UpBwdRefIdeal.τ).loc UpBwdRefIdeal.main_arg4))
          (joined (m ((c.tc : Thread UpBwdRefIdeal.nD UpBwdRefIdeal.τ).loc UpBwdRefIdeal.main_arg0)) (m ((c.tc : Thread UpBwdRefIdeal.nD UpBwdRefIdeal.τ).loc UpBwdRefIdeal.main_arg1)) (m ((c.tc : Thread UpBwdRefIdeal.nD UpBwdRefIdeal.τ).loc UpBwdRefIdeal.main_arg2)))) UpBwdRefIdeal.Gen.facts.bitsLt_bf16_f32
      ∧ r.2.mem ((c.tc : Thread UpBwdRefIdeal.nD UpBwdRefIdeal.τ).loc UpBwdRefIdeal.main_v50) = Ref.gain (m ((c.tc : Thread UpBwdRefIdeal.nD UpBwdRefIdeal.τ).loc UpBwdRefIdeal.main_arg3))
          (joined (m ((c.tc : Thread UpBwdRefIdeal.nD UpBwdRefIdeal.τ).loc UpBwdRefIdeal.main_arg0)) (m ((c.tc : Thread UpBwdRefIdeal.nD UpBwdRefIdeal.τ).loc UpBwdRefIdeal.main_arg1)) (m ((c.tc : Thread UpBwdRefIdeal.nD UpBwdRefIdeal.τ).loc UpBwdRefIdeal.main_arg2)))
      ∧ r.2.mem ((c.tc : Thread UpBwdRefIdeal.nD UpBwdRefIdeal.τ).loc UpBwdRefIdeal.main_v47) = Ref.shift
          (joined (m ((c.tc : Thread UpBwdRefIdeal.nD UpBwdRefIdeal.τ).loc UpBwdRefIdeal.main_arg0)) (m ((c.tc : Thread UpBwdRefIdeal.nD UpBwdRefIdeal.τ).loc UpBwdRefIdeal.main_arg1)) (m ((c.tc : Thread UpBwdRefIdeal.nD UpBwdRefIdeal.τ).loc UpBwdRefIdeal.main_arg2)))
      ∧ r.2.mem ((c.tc : Thread UpBwdRefIdeal.nD UpBwdRefIdeal.τ).loc UpBwdRefIdeal.main_arg0) = m ((c.tc : Thread UpBwdRefIdeal.nD UpBwdRefIdeal.τ).loc UpBwdRefIdeal.main_arg0)
      ∧ r.2.mem ((c.tc : Thread UpBwdRefIdeal.nD UpBwdRefIdeal.τ).loc UpBwdRefIdeal.main_arg1) = m ((c.tc : Thread UpBwdRefIdeal.nD UpBwdRefIdeal.τ).loc UpBwdRefIdeal.main_arg1)
      ∧ r.2.mem ((c.tc : Thread UpBwdRefIdeal.nD UpBwdRefIdeal.τ).loc UpBwdRefIdeal.main_arg2) = m ((c.tc : Thread UpBwdRefIdeal.nD UpBwdRefIdeal.τ).loc UpBwdRefIdeal.main_arg2)
      ∧ r.2.mem ((c.tc : Thread UpBwdRefIdeal.nD UpBwdRefIdeal.τ).loc UpBwdRefIdeal.main_arg3) = m ((c.tc : Thread UpBwdRefIdeal.nD UpBwdRefIdeal.τ).loc UpBwdRefIdeal.main_arg3)
      ∧ r.2.mem ((c.tc : Thread UpBwdRefIdeal.nD UpBwdRefIdeal.τ).loc UpBwdRefIdeal.main_arg4) = m ((c.tc : Thread UpBwdRefIdeal.nD UpBwdRefIdeal.τ).loc UpBwdRefIdeal.main_arg4) :=
  UpBwdRefIdeal.Value.run m ρ

theorem index0 : ∀ t : Fin cfg0.N, win0_0.index t = ![t.val % 16, 0] := by decide +kernel
theorem index1 : ∀ t : Fin cfg0.N, win0_1.index t = ![0, 0] := by decide +kernel
theorem index2 : ∀ t : Fin cfg0.N, win0_2.index t = ![t.val % 16, 0] := by decide +kernel
theorem index3 : ∀ t : Fin cfg0.N, win0_3.index t = ![t.val % 16, 0] := by decide +kernel
theorem index4 : ∀ t : Fin cfg0.N, win0_4.index t = ![0, 0] := by decide +kernel
theorem index5 : ∀ t : Fin cfg0.N, win0_5.index t = ![t.val % 16, 0] := by decide +kernel
theorem index6 : ∀ t : Fin cfg0.N, win0_6.index t = ![t.val % 16, 0] := by decide +kernel
theorem index7 : ∀ t : Fin cfg0.N, win0_7.index t = ![0, 0] := by decide +kernel
theorem index8 : ∀ t : Fin cfg0.N, win0_8.index t = ![0, 0] := by decide +kernel

/-- The token of a point's row. -/
abbrev tokenOf (t : Fin cfg0.N) (k : Fin 512) : Fin 8192 := ⟨t.val % 16 * 512 + k.val, by have := Nat.mod_lt t.val (show 0 < 16 by omega); omega⟩

theorem dBlock_apply (t : Fin cfg0.N) (k : Fin 512) (l : Fin 5632) : dBlock m c t (ix2 k l) = argD m c (ix2 (tokenOf t k) l) := by
  blk_ext [iblk, V, index0]
theorem wBlock_apply (t : Fin cfg0.N) (k : Fin 1024) (l : Fin 5632) : wBlock m c t (ix2 k l) = argW m c (ix2 k l) := by
  blk_ext [iblk, V, index1]
theorem yBlock_apply (t : Fin cfg0.N) (k : Fin 512) (l : Fin 1024) : yBlock m c t (ix2 k l) = argY m c (ix2 (tokenOf t k) l) := by
  blk_ext [iblk, V, index2]
theorem rBlock_row (t : Fin cfg0.N) (k : Fin 512) : Block.row (rBlock m c t) k = Ref.row (argR m c) (tokenOf t k) := by
  funext l
  show rBlock m c t (ix2 k l) = argR m c (ix2 (tokenOf t k) l)
  blk_ext [iblk, V, index3]
theorem gBlock_lane (t : Fin cfg0.N) : Block.lane (gBlock m c t) = Ref.lane (argG m c) := by
  funext l
  show gBlock m c t (ix2 0 l) = argG m c (ix2 0 l)
  blk_ext [iblk, V, index4]

/-- The gradient of the normed rows, at the kernel's arguments. -/
abbrev entered : Ref.Rows := joined (argD m c) (argW m c) (argY m c)

theorem entering_row (t : Fin cfg0.N) (k : Fin 512) : Block.row (entering m c t) k = Ref.row (entered m c) (tokenOf t k) := by
  funext l
  refine Eq.trans ?_ (joined_apply _ _ _ (tokenOf t k) l).symm
  unfold Block.row entering
  pointwise [k0_pay5]
  simp only [dBlock_apply, yBlock_apply, wBlock_apply]

/-- The gradients that enter and their factors are finite. -/
structure Finite : Prop where
  d : ∀ r k, ∃ v : ℝ, argD m c (ix2 r k) = v
  w : ∀ k l, ∃ v : ℝ, argW m c (ix2 k l) = v
  y : ∀ r k, ∃ v : ℝ, argY m c (ix2 r k) = v
  g : ∀ k, ∃ v : ℝ, argG m c (ix2 0 k) = v

theorem entered_real (fin : Finite m c) (i : Fin 8192) (l : Fin 1024) : ∃ v : ℝ, entered m c (ix2 i l) = v := by
  obtain ⟨a, ha⟩ := alpha_real
  obtain ⟨y, hy⟩ := fin.y i l
  obtain ⟨s, hs⟩ := Ffn.real_sum Finset.univ (fun k : Fin 5632 => argD m c (ix2 i k)) (fun k => argW m c (ix2 l k)) (fun k => fin.d _ k) (fun k => fin.w _ k)
  refine ⟨a * y + s, ?_⟩
  rw [entered, joined_apply, hs, hy, ha, EReal.coe_add, EReal.coe_mul]

/-- A point's gradient of its rows is the reference's at their tokens. -/
theorem back_eq (fin : Finite m c) (t : Fin cfg0.N) (k : Fin 512) (l : Fin 1024) :
    Block.back (rBlock m c t) (gBlock m c t) (entering m c t) (ix2 k l) = Ref.back (argR m c) (argG m c) (entered m c) (ix2 (tokenOf t k) l) := by
  rw [Block.back_apply, Ref.back_apply, rBlock_row, gBlock_lane, entering_row]
  exact agree _ _ _ fin.g (fun l => entered_real m c fin _ l) l

theorem final_rows (fin : Finite m c) : (dats m 0 c).arrAt 5 cfg0.N = Ref.back (argR m c) (argG m c) (entered m c) := by
  refine (dats m 0 c).arrAt_eq_of_covers 5 _ (by decide +kernel) fun t hf y => ?_
  blk_simp
  rw [after0_5, rows_block]
  idx_vars y
  have hE : ((View.whole main_v0_0).slice (win0_5.rect t)).emb (ix2 y0 y1) = ix2 (tokenOf t y0) y1 := by
    blk_ext [index5]
  rw [hE]
  exact back_eq m c fin t y0 y1

theorem final_narrow (fin : Finite m c) :
    (dats m 0 c).arrAt 6 cfg0.N = (truncf .bf16 (Ref.back (argR m c) (argG m c) (entered m c)) UpBwdRefIdeal.Gen.facts.bitsLt_bf16_f32 : FVec Ideal S8192x1024 .bf16) := by
  refine (dats m 0 c).arrAt_eq_of_covers 6 _ (by decide +kernel) fun t hf y => ?_
  blk_simp
  rw [after0_6, narrow_block]
  idx_vars y
  have hE : ((View.whole main_v0_1).slice (win0_6.rect t)).emb (ix2 y0 y1) = ix2 (tokenOf t y0) y1 := by
    blk_ext [index6]
  rw [hE]
  exact back_eq m c fin t y0 y1

theorem final_gain : (dats m 0 c).arrAt 7 cfg0.N = Ref.gain (argR m c) (entered m c) := by
  refine (dats m 0 c).arrAt_eq_of_covers 7 _ (by decide +kernel) fun t hf y => ?_
  have h := (flush0_7 t).mp hf
  blk_simp
  rw [after0_7]
  idx_vars y
  obtain rfl : y0 = 0 := Subsingleton.elim _ _
  have hE : ((View.whole main_v0_2).slice (win0_7.rect t)).emb (ix2 0 y1) = ix2 0 y1 := by
    blk_ext [index7]
  rw [hE, Ref.gain_apply]
  refine sum_of_tiles (J := 16) (L := 8192) rfl (fun n h l => (outsAt0 m c n h).2.2.1 (ix2 0 l)) (gainPart m c)
    (fun _ i l => normed (Ref.row (argR m c) i) l * Ref.row (entered m c) i l) (gain_first m c) (gain_later m c) (fun t k l hl => ?_) t h y1
  rw [gainPart, rBlock_row, entering_row, mul_comm]

theorem final_shift : (dats m 0 c).arrAt 8 cfg0.N = Ref.shift (entered m c) := by
  refine (dats m 0 c).arrAt_eq_of_covers 8 _ (by decide +kernel) fun t hf y => ?_
  have h := (flush0_8 t).mp hf
  blk_simp
  rw [after0_8]
  idx_vars y
  obtain rfl : y0 = 0 := Subsingleton.elim _ _
  have hE : ((View.whole main_v0_3).slice (win0_8.rect t)).emb (ix2 0 y1) = ix2 0 y1 := by
    blk_ext [index8]
  rw [hE, Ref.shift_apply]
  refine sum_of_tiles (J := 16) (L := 8192) rfl (fun n h l => (outsAt0 m c n h).2.2.2 (ix2 0 l)) (shiftPart m c)
    (fun _ i l => Ref.row (entered m c) i l) (shift_first m c) (shift_later m c) (fun t k l hl => ?_) t h y1
  rw [shiftPart, entering_row]

/-- The precondition says that these four arguments hold real numbers alone. -/
theorem finite_of_pre (h : Cert.Pre_norm_finite.fn (F := Ideal) (argD m c) (argW m c) (argY m c) (argR m c) (argG m c) = fun _ => 1#1) : Finite m c := by
  have h := congrFun h ix0
  unfold Cert.Pre_norm_finite.fn at h
  dsimp only at h
  obtain ⟨h, hg⟩ := IntOp.andi_eq_one.1 h
  obtain ⟨h, hy⟩ := IntOp.andi_eq_one.1 h
  obtain ⟨hd, hw⟩ := IntOp.andi_eq_one.1 h
  have hd := fun i j => Host.reduce_andi_all _ _ _ _ _ hd (ix2 i j)
  have hw := fun i j => Host.reduce_andi_all _ _ _ _ _ hw (ix2 i j)
  have hy := fun i j => Host.reduce_andi_all _ _ _ _ _ hy (ix2 i j)
  have hg := fun i j => Host.reduce_andi_all _ _ _ _ _ hg (ix2 i j)
  pointwise at hd
  pointwise at hw
  pointwise at hy
  pointwise at hg
  exact ⟨fun i j => real_of_abs_lt _ (hd i j), fun i j => real_of_abs_lt _ (hw i j), fun i j => real_of_abs_lt _ (hy i j), fun j => real_of_abs_lt _ (hg j)⟩

/-- The reference leaves its arguments as they were; it has no semaphores. -/
theorem frame_reference : Cert.quiescent_UpBwdRefIdeal := fun m g _ =>
  (θ_run _ _ _).mono (fun r h => ⟨fun c => (h c).2.2.2.2, sem_eq_zero_of_no_sems rfl r.2⟩) (run_reference m g)

set_option smartUnfolding false in
/-- The frame of the kernel on float words: the same run as that of its ideal program, which holds of any float values. -/
theorem frame_words : Cert.quiescent_UpBwd (hUpBwd := Cert.UpBwd.Gen.facts) := fun m ρ _ =>
  Cert.UpBwdIdeal.Gen.frame (F := Bits) m ρ

/-- Where what enters and its factors are finite, kernel and reference end with the same four arrays. -/
theorem algebraic : Cert.algebraic_UpBwdIdeal_UpBwdRefIdeal_pre_norm_finite := by
  intro m g m' g' pre same
  refine ⟨_, _, _, _, Value.run_blocks m g, (θ_run _ _ _).mono (fun r h c => ?_) (run_reference m' g')⟩
  obtain ⟨s0, s1, s2, s3, s4⟩ := same c
  have fin := finite_of_pre m c (pre c)
  obtain ⟨h0, h1, h2, h3, h⟩ := h c
  rw [s0, s1, s2, s3] at h0 h1
  rw [s4] at h0 h1
  rw [s0, s1, s2] at h2 h3
  rw [s3] at h2
  exact ⟨h0.trans (final_rows m c fin).symm, h1.trans (final_narrow m c fin).symm, h2.trans (final_gain m c).symm, h3.trans (final_shift m c).symm, h⟩

end Cert.UpBack
-- ==== Proof.OutBack.lean ====
/-
  The gradient back through the output projection: the kernel's array is the reference's.
-/
module

public import proofs.«01_k».proof.Defs
public import proofs.«01_k».proof.Proof.Columns
public import proofs.«01_k».proof.Proof.Gen.OutBwd
public import proofs.«01_k».proof.Proof.Gen.OutBwdIdeal.Value
public import proofs.«01_k».proof.Proof.Gen.OutBwdRefIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.OutBack

open Cert.OutBwdIdeal Cert.OutBwdIdeal.Gen Cert.Columns Idealize.ShloMosaic Idealize.ShloMosaic.TcCoe Idealize.SL.Sem

attribute [local instance] Cert.OutBwdRefIdeal.Gen.facts

/-- The product of the gradient with the transposed projection, at one element. -/
def product (d : FVec Ideal S8192x1024 .bf16) (w : FVec Ideal S1024x1024 .bf16) (i : Fin 8192) (l : Fin 1024) : EReal :=
  ∑ k : Fin 1024, d (ix2 i k) * w (ix2 l k)

/-- All of these products, as an array. -/
def products (d : FVec Ideal S8192x1024 .bf16) (w : FVec Ideal S1024x1024 .bf16) : FVec Ideal S8192x1024 .bf16 :=
  fun y => product d w (y 0) (y 1)

/-- The product as the reference writes it. -/
def whole (d : FVec Ideal S8192x1024 .bf16) (w : FVec Ideal S1024x1024 .bf16) : FVec Ideal S8192x1024 .f32 :=
  Host.dotGeneral OutBwdRefIdeal.dot_S8192x1024_S1024x1024_S8192x1024_1_1_0_0_n_n none (extf .f32 d OutBwdRefIdeal.Gen.facts.bitsLt_bf16_f32) (extf .f32 w OutBwdRefIdeal.Gen.facts.bitsLt_bf16_f32)

/-- The gradients of the mixer's and of the memory attention's lanes, as the reference puts them side by side. -/
def sides (d : FVec Ideal S8192x1024 .bf16) (w : FVec Ideal S1024x1024 .bf16) : FVec Ideal S8192x1024 .bf16 :=
  truncf .bf16 (concatenate OutBwdRefIdeal.S8192x1024 1
    [⟨OutBwdRefIdeal.S8192x768, extractStridedSlice OutBwdRefIdeal.S8192x768 ![0, 0]
        (whole d w)
        OutBwdRefIdeal.Gen.facts.slices_S8192x1024_S8192x768_0_0⟩,
      ⟨OutBwdRefIdeal.S8192x256, extractStridedSlice OutBwdRefIdeal.S8192x256 ![0, 768]
        (whole d w)
        OutBwdRefIdeal.Gen.facts.slices_S8192x1024_S8192x256_0_768⟩]
    OutBwdRefIdeal.Gen.facts.concatenates_S8192x768_S8192x256_S8192x1024_d1) OutBwdRefIdeal.Gen.facts.bitsLt_bf16_f32

theorem sides_apply (d : FVec Ideal S8192x1024 .bf16) (w : FVec Ideal S1024x1024 .bf16) (i : Fin 8192) (l : Fin 1024) :
    sides d w (ix2 i l) = product d w i l := by
  obtain ⟨k, rfl⟩ | ⟨k, rfl⟩ : (∃ k : Fin 768, l = ⟨k, by omega⟩) ∨ ∃ k : Fin 256, l = ⟨768 + k, by omega⟩ := by
    by_cases h : l.val < 768
    · exact Or.inl ⟨⟨l, h⟩, rfl⟩
    · exact Or.inr ⟨⟨l - 768, by omega⟩, Fin.ext (by show l.val = 768 + (l.val - 768); omega)⟩
  · pointwise [sides, whole]
    rfl
  · pointwise [sides, whole]
    rfl

/-- A block of the kernel's result, at an index. -/
theorem block_apply (d : Vec Ideal S512x1024 .bf16) (w : Vec Ideal S1024x1024 .bf16) (i : Fin 512) (l : Fin 1024) :
    out0_2 d w (ix2 i l) = ∑ k : Fin 1024, d (ix2 i k) * w (ix2 l k) := by
  unfold out0_2
  refine (canon_hit (off := 0) _ _ _ i l _ (by omega)).trans ?_
  pointwise [k0_pay1]

variable (m : (ℓ : Loc nD τ sig) → Buf (Elt Ideal) ℓ) (c : Dev nD)

/-- The gradient of the projection's result. -/
abbrev argD : FVec Ideal S8192x1024 .bf16 := m ((c.tc : Thread nD τ).loc main_arg0)
/-- The projection. -/
abbrev argW : FVec Ideal S1024x1024 .bf16 := m ((c.tc : Thread nD τ).loc main_arg1)

theorem index0 : ∀ t : Fin cfg0.N, win0_0.index t = ![t.val % 16, 0] := by decide +kernel
theorem index1 : ∀ t : Fin cfg0.N, win0_1.index t = ![0, 0] := by decide +kernel
theorem index2 : ∀ t : Fin cfg0.N, win0_2.index t = ![t.val % 16, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's block of the gradient. -/
abbrev dBlock (t : Fin cfg0.N) : Vec Ideal S512x1024 .bf16 := iblk m c 0 t
/-- The projection, as every point has it. -/
abbrev wBlock (t : Fin cfg0.N) : Vec Ideal S1024x1024 .bf16 := iblk m c 1 t

theorem dBlock_apply (t : Fin cfg0.N) (i : Fin 512) (l : Fin 1024) : dBlock m c t (ix2 i l) = argD m c (ix2 (tokenOf t i) l) := by
  blk_ext [iblk, V, index0]
theorem wBlock_apply (t : Fin cfg0.N) (i : Fin 1024) (l : Fin 1024) : wBlock m c t (ix2 i l) = argW m c (ix2 i l) := by
  blk_ext [iblk, V, index1]

/-- The array of the kernel. -/
theorem final : (dats m 0 c).arrAt 2 cfg0.N = products (argD m c) (argW m c) := by
  refine (dats m 0 c).arrAt_eq_of_covers 2 _ (by decide +kernel) fun t hf y => ?_
  blk_simp
  rw [after0_2]
  idx_vars y
  have hE : ((View.whole main_v0).slice (win0_2.rect t)).emb (ix2 y0 y1) = ix2 (tokenOf t y0) y1 := by
    blk_ext [index2]
  rw [hE]
  refine (block_apply (dBlock m c t) (wBlock m c t) y0 y1).trans ?_
  simp only [dBlock_apply, wBlock_apply]
  rfl

/-- The reference leaves its arguments as they were; it has no semaphores. -/
theorem frame_reference : Cert.quiescent_OutBwdRefIdeal := fun m g _ =>
  (θ_run _ _ _).mono (fun r h => ⟨fun c => (h c).2, sem_eq_zero_of_no_sems rfl r.2⟩) (Cert.OutBwdRefIdeal.Value.run m g)

set_option smartUnfolding false in
/-- The kernel's frame on float words: the run that holds of any float values, at words. -/
theorem frame_words : Cert.quiescent_OutBwd (hOutBwd := Cert.OutBwd.Gen.facts) := fun m ρ _ =>
  Cert.OutBwdIdeal.Gen.frame (F := Bits) m ρ

/-- Kernel and reference end with the same array. -/
theorem algebraic : Cert.algebraic_OutBwdIdeal_OutBwdRefIdeal := by
  intro m g m' g' _ same
  refine ⟨_, Value.run_blocks m g, (θ_run _ _ _).mono (fun r h c => ?_) (Cert.OutBwdRefIdeal.Value.run m' g')⟩
  obtain ⟨s0, s1⟩ := same c
  refine ⟨(h c).1.trans ?_, (h c).2⟩
  rw [s0, s1]
  funext y
  idx_vars y
  exact (sides_apply _ _ y0 y1).trans (congrFun (final m c) (ix2 y0 y1)).symm

end Cert.OutBack
-- ==== Proof.Rows.lean ====
/-
  A block stored row range by row range, read at an index: the last store whose rows hold the index gives it.
-/
module

public import Idealize.ShloMosaic.Lib.Pointwise
public import Idealize.ShloMosaic.Lib.Pipeline.ValueKit

@[expose] public section

noncomputable section

namespace Cert.Rows

open Idealize.ShloMosaic

variable {Val : EltTy → Type} [∀ e, Nonempty (Val e)] {e : EltTy} {n N W off : Nat}
  (inb : ∀ a, (![off, 0] : Fin 2 → Nat) a + (![n, W] : Fin 2 → Nat) a ≤ (⟨2, ![N, W]⟩ : Shape).size a)

/-- Inside the store's rows the block holds its payload. -/
theorem canon_hit (pay : (Rect.unit (s := ⟨2, ![N, W]⟩) ![off, 0] ![n, W] inb).shape.Idx → Val e) (L : List (View.Piece Val ⟨2, ![N, W]⟩ e))
    (x : Fin n) (y : Fin N) (l : Fin W) (hy : (y : Nat) = off + x) :
    View.canon (⟨Rect.unit (s := ⟨2, ![N, W]⟩) ![off, 0] ![n, W] inb, pay⟩ :: L) (ix2 y l) = pay (ix2 x l) := by
  have h : (ix2 y l : (⟨2, ![N, W]⟩ : Shape).Idx) = (Rect.unit (s := ⟨2, ![N, W]⟩) ![off, 0] ![n, W] inb).emb (ix2 x l) := by
    funext a
    match a with
    | ⟨0, _⟩ => exact Fin.ext (by show (y : Nat) = off + 1 * (x : Nat); omega)
    | ⟨1, _⟩ => exact Fin.ext (by show (l : Nat) = 0 + 1 * (l : Nat); omega)
  rw [h]; exact View.canon_cons_emb _ _ _ _

/-- Outside them it holds what the earlier stores left. -/
theorem canon_miss (pay : (Rect.unit (s := ⟨2, ![N, W]⟩) ![off, 0] ![n, W] inb).shape.Idx → Val e) (L : List (View.Piece Val ⟨2, ![N, W]⟩ e))
    (y : Fin N) (l : Fin W) (hy : (y : Nat) < off ∨ off + n ≤ y) :
    View.canon (⟨Rect.unit (s := ⟨2, ![N, W]⟩) ![off, 0] ![n, W] inb, pay⟩ :: L) (ix2 y l) = View.canon L (ix2 y l) := by
  refine View.canon_cons_of_not_mem _ _ fun hm => ?_
  rw [Rect.mem_set_unit] at hm
  have h0 : off ≤ (y : Nat) ∧ (y : Nat) < off + n := hm 0
  omega

/-- A load of some rows reads the block at these rows. -/
theorem ld_rows (v : Vec Ideal ⟨2, ![N, W]⟩ e) (x : Fin n) (y : Fin N) (l : Fin W) (hy : (y : Nat) = off + x) :
    View.ld v (Rect.unit (s := ⟨2, ![N, W]⟩) ![off, 0] ![n, W] inb) (ix2 x l) = v (ix2 y l) :=
  View.ld_unit_apply_of v _ _ inb _ (ix2 y l) fun a => match a with
    | ⟨0, _⟩ => hy
    | ⟨1, _⟩ => by show (l : Nat) = 0 + (l : Nat); omega

/-- A load of some rows after stores reads what the stores left there. -/
theorem read_rows {sig : RefSig} {κ : Kind} {sp : Space} (b : View sig κ sp ⟨2, ![N, W]⟩ e) (L : List (View.Piece Val ⟨2, ![N, W]⟩ e))
    (x : Fin n) (y : Fin N) (l : Fin W) (hy : (y : Nat) = off + x) :
    b.readCov L (Rect.unit (s := ⟨2, ![N, W]⟩) ![off, 0] ![n, W] inb).toLoadRect (ix2 x l) = View.canon L (ix2 y l) := by
  rw [View.readCov_eq_canon']
  refine congrArg (View.canon L) (funext fun a => ?_)
  match a with
  | ⟨0, _⟩ => exact Fin.ext (by show off + 1 * (x : Nat) = (y : Nat); omega)
  | ⟨1, _⟩ => exact Fin.ext (by show 0 + 1 * (l : Nat) = (l : Nat); omega)

end Cert.Rows
-- ==== Proof.OutGrad.lean ====
/-
  The gradient of the output projection: the kernel's array is the product of the transposed mixed heads, those of the
  memory beside them, and the gradient of the projection's result.
-/
module

public import proofs.«01_k».proof.Defs
public import proofs.«01_k».proof.Proof.Tiles
public import proofs.«01_k».proof.Proof.Columns
public import proofs.«01_k».proof.Proof.Rows
public import proofs.«01_k».proof.Proof.Gen.GradOut
public import proofs.«01_k».proof.Proof.Gen.GradOutIdeal.Value
public import proofs.«01_k».proof.Proof.Gen.GradOutRefIdeal.Run
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.OutGrad

open Cert.GradOutIdeal Cert.GradOutIdeal.Gen Idealize.ShloMosaic Idealize.ShloMosaic.TcCoe Idealize.SL.Sem

attribute [local instance] Cert.GradOutRefIdeal.Gen.facts

variable (m : (ℓ : Loc nD τ sig) → Buf (Elt Ideal) ℓ) (c : Dev nD)

/-- The gradient of the projection's result. -/
abbrev argD : FVec Ideal S8192x1024 .bf16 := m ((c.tc : Thread nD τ).loc main_arg0)
/-- The mixed heads. -/
abbrev argM : FVec Ideal S8192x768 .bf16 := m ((c.tc : Thread nD τ).loc main_arg1)
/-- The memory's heads. -/
abbrev argO : FVec Ideal S8192x256 .bf16 := m ((c.tc : Thread nD τ).loc main_arg2)

/-- The heads and the memory's, side by side. -/
def beside (x : FVec Ideal S8192x768 .bf16) (o : FVec Ideal S8192x256 .bf16) : FVec Ideal S8192x1024 .bf16 :=
  concatenate GradOutRefIdeal.S8192x1024 1 [⟨GradOutRefIdeal.S8192x768, x⟩, ⟨GradOutRefIdeal.S8192x256, o⟩]
    GradOutRefIdeal.Gen.facts.concatenates_S8192x768_S8192x256_S8192x1024_d1

theorem beside_heads (x : FVec Ideal S8192x768 .bf16) (o : FVec Ideal S8192x256 .bf16) (k : Fin 8192) (l : Fin 768) :
    beside x o (ix2 k ⟨l, by omega⟩) = x (ix2 k l) := by
  pointwise [beside]
theorem beside_memory (x : FVec Ideal S8192x768 .bf16) (o : FVec Ideal S8192x256 .bf16) (k : Fin 8192) (l : Fin 256) :
    beside x o (ix2 k ⟨768 + l, by omega⟩) = o (ix2 k l) := by
  pointwise [beside]

theorem heads_apply (d : Vec Ideal S1024x1024 .bf16) (acc : Vec Ideal S768x1024 .f32) (x : Vec Ideal S1024x768 .bf16) (i : Fin 768) (j : Fin 1024) :
    k0_pay2 d acc x (ix2 i j) = acc (ix2 i j) + ∑ k : Fin 1024, x (ix2 k i) * d (ix2 k j) := by
  pointwise [k0_pay2]
theorem memory_apply (d : Vec Ideal S1024x1024 .bf16) (acc : Vec Ideal S256x1024 .f32) (x : Vec Ideal S1024x256 .bf16) (i : Fin 256) (j : Fin 1024) :
    k0_pay3 d acc x (ix2 i j) = acc (ix2 i j) + ∑ k : Fin 1024, x (ix2 k i) * d (ix2 k j) := by
  pointwise [k0_pay3]
theorem start_apply (i j : Fin 1024) : k0_pay1 (F := Ideal) (ix2 i j) = 0 := by
  pointwise [k0_pay1]
theorem narrow (v : Vec Ideal S1024x1024 .f32) : k0_pay4 v = v := rfl

section Stores

variable (d : Vec Ideal S1024x1024 .bf16) (x : Vec Ideal S1024x768 .bf16) (o : Vec Ideal S1024x256 .bf16) (acc : Vec Ideal S1024x1024 .f32)

/-- What the first point stores in the accumulator: zeros, then the sum of the heads' rows, then that of the memory's. -/
def fresh : Vec Ideal S1024x1024 .f32 :=
  View.canon
    [⟨Rect.unit ![768, 0] ![256, 1024] inb_S1024x1024_S256x1024_768_0,
        k0_pay3 d ((View.whole cc0_scratch0).readCov
          [⟨Rect.unit ![0, 0] ![768, 1024] inb_S1024x1024_S768x1024_0_0,
              k0_pay2 d ((View.whole cc0_scratch0).readCov [⟨Rect.unit ![0, 0] ![1024, 1024] inb_S1024x1024_S1024x1024_0_0, k0_pay1 (F := Ideal)⟩]
                (Rect.unit ![0, 0] ![768, 1024] inb_S1024x1024_S768x1024_0_0).toLoadRect) x⟩,
            ⟨Rect.unit ![0, 0] ![1024, 1024] inb_S1024x1024_S1024x1024_0_0, k0_pay1 (F := Ideal)⟩]
          (Rect.unit ![768, 0] ![256, 1024] inb_S1024x1024_S256x1024_768_0).toLoadRect) o⟩,
      ⟨Rect.unit ![0, 0] ![768, 1024] inb_S1024x1024_S768x1024_0_0,
        k0_pay2 d ((View.whole cc0_scratch0).readCov [⟨Rect.unit ![0, 0] ![1024, 1024] inb_S1024x1024_S1024x1024_0_0, k0_pay1 (F := Ideal)⟩]
          (Rect.unit ![0, 0] ![768, 1024] inb_S1024x1024_S768x1024_0_0).toLoadRect) x⟩,
      ⟨Rect.unit ![0, 0] ![1024, 1024] inb_S1024x1024_S1024x1024_0_0, k0_pay1 (F := Ideal)⟩]

theorem fresh_heads (i : Fin 768) (y j : Fin 1024) (hy : y.val = 0 + i.val) : fresh d x o (ix2 y j) = ∑ k : Fin 1024, x (ix2 k i) * d (ix2 k j) := by
  refine (Rows.canon_miss (off := 768) _ _ _ y j (by omega)).trans ((Rows.canon_hit (off := 0) _ _ _ i y j hy).trans ?_)
  refine (heads_apply _ _ _ i j).trans ?_
  rw [Rows.read_rows (off := 0) _ _ _ i y j hy, Rows.canon_hit (off := 0) _ _ _ y y j (by omega), start_apply, zero_add]

theorem fresh_memory (i : Fin 256) (y j : Fin 1024) (hy : y.val = 768 + i.val) : fresh d x o (ix2 y j) = ∑ k : Fin 1024, o (ix2 k i) * d (ix2 k j) := by
  refine (Rows.canon_hit (off := 768) _ _ _ i y j hy).trans ?_
  refine (memory_apply _ _ _ i j).trans ?_
  rw [Rows.read_rows (off := 768) _ _ _ i y j hy, Rows.canon_miss (off := 0) _ _ _ y j (by omega), Rows.canon_hit (off := 0) _ _ _ y y j (by omega), start_apply, zero_add]

/-- What every other point stores in it: the rows that were there with their sums added. -/
def added : Vec Ideal S1024x1024 .f32 :=
  View.canon
    [⟨Rect.unit ![768, 0] ![256, 1024] inb_S1024x1024_S256x1024_768_0,
        k0_pay3 d (View.ld acc (Rect.unit ![768, 0] ![256, 1024] inb_S1024x1024_S256x1024_768_0)) o⟩,
      ⟨Rect.unit ![0, 0] ![768, 1024] inb_S1024x1024_S768x1024_0_0,
        k0_pay2 d (View.ld acc (Rect.unit ![0, 0] ![768, 1024] inb_S1024x1024_S768x1024_0_0)) x⟩]

theorem added_heads (i : Fin 768) (y j : Fin 1024) (hy : y.val = 0 + i.val) :
    added d x o acc (ix2 y j) = acc (ix2 y j) + ∑ k : Fin 1024, x (ix2 k i) * d (ix2 k j) := by
  refine (Rows.canon_miss (off := 768) _ _ _ y j (by omega)).trans ((Rows.canon_hit (off := 0) _ _ _ i y j hy).trans ?_)
  refine (heads_apply _ _ _ i j).trans ?_
  rw [Rows.ld_rows (off := 0) _ acc i y j hy]

theorem added_memory (i : Fin 256) (y j : Fin 1024) (hy : y.val = 768 + i.val) :
    added d x o acc (ix2 y j) = acc (ix2 y j) + ∑ k : Fin 1024, o (ix2 k i) * d (ix2 k j) := by
  refine (Rows.canon_hit (off := 768) _ _ _ i y j hy).trans ?_
  refine (memory_apply _ _ _ i j).trans ?_
  rw [Rows.ld_rows (off := 768) _ acc i y j hy]

end Stores

/-- A point's block of the result's gradient. -/
abbrev dBlock (t : Fin cfg0.N) : Vec Ideal S1024x1024 .bf16 := iblk m c 0 t
/-- A point's block of the heads. -/
abbrev mBlock (t : Fin cfg0.N) : Vec Ideal S1024x768 .bf16 := iblk m c 1 t
/-- A point's block of the memory's heads. -/
abbrev oBlock (t : Fin cfg0.N) : Vec Ideal S1024x256 .bf16 := iblk m c 2 t

theorem index0 : ∀ t : Fin cfg0.N, win0_0.index t = ![t.val % 8, 0] := by decide +kernel
theorem index1 : ∀ t : Fin cfg0.N, win0_1.index t = ![t.val % 8, 0] := by decide +kernel
theorem index2 : ∀ t : Fin cfg0.N, win0_2.index t = ![t.val % 8, 0] := by decide +kernel
theorem index3 : ∀ t : Fin cfg0.N, win0_3.index t = ![0, 0] := by decide +kernel

/-- The token of a point's row. -/
abbrev tokenOf (t : Fin cfg0.N) (k : Fin 1024) : Fin 8192 := ⟨t.val % 8 * 1024 + k.val, by have := Nat.mod_lt t.val (show 0 < 8 by omega); omega⟩

theorem dBlock_apply (t : Fin cfg0.N) (k l : Fin 1024) : dBlock m c t (ix2 k l) = argD m c (ix2 (tokenOf t k) l) := by
  blk_ext [iblk, V, index0]
theorem mBlock_apply (t : Fin cfg0.N) (k : Fin 1024) (l : Fin 768) : mBlock m c t (ix2 k l) = argM m c (ix2 (tokenOf t k) l) := by
  blk_ext [iblk, V, index1]
theorem oBlock_apply (t : Fin cfg0.N) (k : Fin 1024) (l : Fin 256) : oBlock m c t (ix2 k l) = argO m c (ix2 (tokenOf t k) l) := by
  blk_ext [iblk, V, index2]

/-- One token's summand. -/
def summand (k : Fin 8192) (i j : Fin 1024) : EReal := beside (argM m c) (argO m c) (ix2 k i) * argD m c (ix2 k j)

theorem summand_heads (t : Fin cfg0.N) (k : Fin 1024) (i : Fin 768) (y j : Fin 1024) (hy : y.val = 0 + i.val) :
    mBlock m c t (ix2 k i) * dBlock m c t (ix2 k j) = summand m c (tokenOf t k) y j := by
  have e : y = ⟨i, by omega⟩ := Fin.ext (by show y.val = i.val; omega)
  rw [e, summand, beside_heads, mBlock_apply, dBlock_apply]
theorem summand_memory (t : Fin cfg0.N) (k : Fin 1024) (i : Fin 256) (y j : Fin 1024) (hy : y.val = 768 + i.val) :
    oBlock m c t (ix2 k i) * dBlock m c t (ix2 k j) = summand m c (tokenOf t k) y j := by
  have e : y = ⟨768 + i, by omega⟩ := Fin.ext hy
  rw [e, summand, beside_memory, oBlock_apply, dBlock_apply]

/-- The sums of a point's rows are those of its summands, wherever the row is. -/
theorem fresh_apply (t : Fin cfg0.N) (y j : Fin 1024) :
    fresh (dBlock m c t) (mBlock m c t) (oBlock m c t) (ix2 y j) = ∑ k : Fin 1024, summand m c (tokenOf t k) y j := by
  by_cases h : y.val < 768
  · have hy : y.val = 0 + (⟨y, h⟩ : Fin 768).val := by simp
    rw [fresh_heads _ _ _ ⟨y, h⟩ y j hy]
    exact Finset.sum_congr rfl fun k _ => summand_heads m c t k ⟨y, h⟩ y j hy
  · have hy : y.val = 768 + (⟨y.val - 768, by omega⟩ : Fin 256).val := by simp only; omega
    rw [fresh_memory _ _ _ _ y j hy]
    exact Finset.sum_congr rfl fun k _ => summand_memory m c t k _ y j hy

theorem added_apply (t : Fin cfg0.N) (acc : Vec Ideal S1024x1024 .f32) (y j : Fin 1024) :
    added (dBlock m c t) (mBlock m c t) (oBlock m c t) acc (ix2 y j) = acc (ix2 y j) + ∑ k : Fin 1024, summand m c (tokenOf t k) y j := by
  by_cases h : y.val < 768
  · have hy : y.val = 0 + (⟨y, h⟩ : Fin 768).val := by simp
    rw [added_heads _ _ _ _ ⟨y, h⟩ y j hy]
    exact congrArg (acc (ix2 y j) + ·) (Finset.sum_congr rfl fun k _ => summand_heads m c t k ⟨y, h⟩ y j hy)
  · have hy : y.val = 768 + (⟨y.val - 768, by omega⟩ : Fin 256).val := by simp only; omega
    rw [added_memory _ _ _ _ _ y j hy]
    exact congrArg (acc (ix2 y j) + ·) (Finset.sum_congr rfl fun k _ => summand_memory m c t k _ y j hy)

/-- The accumulator read back is what was left in it. -/
theorem held (v : Vec Ideal S1024x1024 .f32) : View.read (Elt Ideal) (View.whole cc0_scratch0) ((Memref.isWhole_whole cc0_scratch0).unread v) = v :=
  (Memref.isWhole_whole cc0_scratch0).read_unread v

/-- The first point leaves its own sum in the accumulator. -/
theorem first (t : Fin cfg0.N) (h : t.val % 8 = 0) : (outsAt0 m c t.val t.isLt).2 = fresh (dBlock m c t) (mBlock m c t) (oBlock m c t) := by
  rw [outsAt0_A m c t h (by omega)]
  dsimp only
  frame_out

/-- Every other point adds its sum. -/
theorem later (t : Fin cfg0.N) (h : ¬t.val % 8 = 0) : (outsAt0 m c t.val t.isLt).2
    = added (dBlock m c t) (mBlock m c t) (oBlock m c t) (outsAt0 m c (t.val - 1) (Nat.lt_of_le_of_lt (Nat.sub_le _ _) t.isLt)).2 := by
  by_cases h7 : t.val % 8 = 7
  · rw [outsAt0_C m c t h h7]
    dsimp only
    frame_out
    simp only [held]
  · rw [outsAt0_B m c t h h7]
    dsimp only
    frame_out
    simp only [held]

/-- The last point writes the accumulator out. -/
theorem written (t : Fin cfg0.N) (h : t.val % 8 = 7) : (outsAt0 m c t.val t.isLt).1 = (outsAt0 m c t.val t.isLt).2 := by
  rw [outsAt0_C m c t (by omega) h]
  dsimp only
  frame_out
  rw [narrow, Columns.read_whole]

/-- The accumulator at the last point. -/
theorem total (t : Fin cfg0.N) (h : t.val % 8 = 7) (i j : Fin 1024) :
    (outsAt0 m c t.val t.isLt).2 (ix2 i j) = ∑ k : Fin 8192, summand m c k i j :=
  sum_of_tiles (J := 8) (L := 8192) rfl (fun n h (y : Fin 1024 × Fin 1024) => (outsAt0 m c n h).2 (ix2 y.1 y.2))
    (fun t k y => summand m c (tokenOf t k) y.1 y.2) (fun _ k y => summand m c k y.1 y.2)
    (fun t h y => by rw [first m c t h, fresh_apply]) (fun t h y => by rw [later m c t h, added_apply]) (fun t k y hl => rfl) t h (i, j)

/-- The product over all tokens, as an array. -/
def products : FVec Ideal S1024x1024 .bf16 := fun y => ∑ k : Fin 8192, summand m c k (y 0) (y 1)

/-- The array of the kernel. -/
theorem final : (dats m 0 c).arrAt 3 cfg0.N = products m c := by
  refine (dats m 0 c).arrAt_eq_of_covers 3 _ (by decide +kernel) fun t hf y => ?_
  have h := (flush0_3 t).mp hf
  blk_simp
  rw [after0_3, written m c t h]
  idx_vars y
  have hE : ((View.whole main_v0).slice (win0_3.rect t)).emb (ix2 y0 y1) = ix2 y0 y1 := by
    blk_ext [index3]
  rw [hE]
  exact total m c t h y0 y1

/-- The reference's result, at one element. -/
theorem reference_apply (x : FVec Ideal S8192x768 .bf16) (o : FVec Ideal S8192x256 .bf16) (d : FVec Ideal S8192x1024 .bf16) (i j : Fin 1024) :
    (truncf .bf16 (transpose GradOutRefIdeal.S1024x1024 [1, 0] (Host.dotGeneral GradOutRefIdeal.dot_S8192x1024_S8192x1024_S1024x1024_0_0_1_1_n_n none
      (extf .f32 d GradOutRefIdeal.Gen.facts.bitsLt_bf16_f32) (extf .f32 (beside x o) GradOutRefIdeal.Gen.facts.bitsLt_bf16_f32))
      GradOutRefIdeal.Gen.facts.transposes_S1024x1024_S1024x1024_1_0) GradOutRefIdeal.Gen.facts.bitsLt_bf16_f32 : FVec Ideal GradOutRefIdeal.S1024x1024 .bf16) (ix2 i j)
      = ∑ k : Fin 8192, beside x o (ix2 k i) * d (ix2 k j) := by
  pointwise []
  exact Finset.sum_congr rfl fun k _ => mul_comm _ _

/-- The reference leaves its arguments as they were; it has no semaphores. -/
theorem frame_reference : Cert.quiescent_GradOutRefIdeal := fun m g _ =>
  (θ_run _ _ _).mono (fun r h => ⟨fun c => (h c).2, sem_eq_zero_of_no_sems rfl r.2⟩) (Cert.GradOutRefIdeal.Value.run m g)

set_option smartUnfolding false in
/-- The kernel's frame on float words: the run that holds of any float values, at words. -/
theorem frame_words : Cert.quiescent_GradOut (hGradOut := Cert.GradOut.Gen.facts) := fun m ρ _ =>
  Cert.GradOutIdeal.Gen.frame (F := Bits) m ρ

/-- Kernel and reference end with the same array. -/
theorem algebraic : Cert.algebraic_GradOutIdeal_GradOutRefIdeal := by
  intro m g m' g' _ same
  refine ⟨_, Value.run_blocks m g, (θ_run _ _ _).mono (fun r h c => ?_) (Cert.GradOutRefIdeal.Value.run m' g')⟩
  obtain ⟨s0, s1, s2⟩ := same c
  refine ⟨(h c).1.trans ?_, (h c).2⟩
  rw [s0, s1, s2]
  funext y
  idx_vars y
  exact (reference_apply _ _ _ y0 y1).trans (congrFun (final m c) (ix2 y0 y1)).symm

end Cert.OutGrad
-- ==== Proof.InBackX.lean ====
/-
  The gradient back through the first layer's projection: the kernel's array is the reference's.
-/
module

public import proofs.«01_k».proof.Defs
public import proofs.«01_k».proof.Proof.Parts
public import proofs.«01_k».proof.Proof.Columns
public import proofs.«01_k».proof.Proof.Gen.InBwdX
public import proofs.«01_k».proof.Proof.Gen.InBwdXIdeal.Value
public import proofs.«01_k».proof.Proof.Gen.InBwdXRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.InBackX

open Cert.InBwdXIdeal Cert.InBwdXIdeal.Gen Cert.Columns Cert.Parts Idealize.ShloMosaic Idealize.ShloMosaic.TcCoe Idealize.SL.Sem

attribute [local instance] Cert.InBwdXRefIdeal.Gen.facts

/-- A block of the kernel's result, at an index. -/
theorem block_apply (q k v : Vec Ideal S512x768 .bf16) (o : Vec Ideal S512x256 .bf16) (w : Vec Ideal S1024x2560 .bf16) (y : Vec Ideal S512x1024 .f32)
    (i : Fin 512) (l : Fin 1024) : out0_6 q k v o w y (ix2 i l) = alpha * y (ix2 i l)
    + ((((∑ j : Fin 768, q (ix2 i j) * w (ix2 l ⟨j, by omega⟩)) + ∑ j : Fin 768, k (ix2 i j) * w (ix2 l ⟨768 + j, by omega⟩))
      + ∑ j : Fin 768, v (ix2 i j) * w (ix2 l ⟨1536 + j, by omega⟩)) + ∑ j : Fin 256, o (ix2 i j) * w (ix2 l ⟨2304 + j, by omega⟩)) := by
  unfold out0_6
  refine (canon_hit (off := 0) _ _ _ i l _ (by omega)).trans ?_
  pointwise [k0_pay1]

variable (m : (ℓ : Loc nD τ sig) → Buf (Elt Ideal) ℓ) (c : Dev nD)

/-- The gradient of the queries. -/
abbrev argQ : FVec Ideal S8192x768 .bf16 := m ((c.tc : Thread nD τ).loc main_arg0)
/-- The gradient of the keys. -/
abbrev argK : FVec Ideal S8192x768 .bf16 := m ((c.tc : Thread nD τ).loc main_arg1)
/-- The gradient of the values. -/
abbrev argV : FVec Ideal S8192x768 .bf16 := m ((c.tc : Thread nD τ).loc main_arg2)
/-- The gradient of the memory queries. -/
abbrev argO : FVec Ideal S8192x256 .bf16 := m ((c.tc : Thread nD τ).loc main_arg3)
/-- The projection. -/
abbrev argW : FVec Ideal S1024x2560 .bf16 := m ((c.tc : Thread nD τ).loc main_arg4)
/-- The gradient of the residual. -/
abbrev argY : FVec Ideal S8192x1024 .f32 := m ((c.tc : Thread nD τ).loc main_arg5)

theorem index0 : ∀ t : Fin cfg0.N, win0_0.index t = ![t.val % 16, 0] := by decide +kernel
theorem index1 : ∀ t : Fin cfg0.N, win0_1.index t = ![t.val % 16, 0] := by decide +kernel
theorem index2 : ∀ t : Fin cfg0.N, win0_2.index t = ![t.val % 16, 0] := by decide +kernel
theorem index3 : ∀ t : Fin cfg0.N, win0_3.index t = ![t.val % 16, 0] := by decide +kernel
theorem index4 : ∀ t : Fin cfg0.N, win0_4.index t = ![0, 0] := by decide +kernel
theorem index5 : ∀ t : Fin cfg0.N, win0_5.index t = ![t.val % 16, 0] := by decide +kernel
theorem index6 : ∀ t : Fin cfg0.N, win0_6.index t = ![t.val % 16, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's block of the queries' gradient. -/
abbrev qBlock (t : Fin cfg0.N) : Vec Ideal S512x768 .bf16 := iblk m c 0 t
/-- A point's block of the keys' gradient. -/
abbrev kBlock (t : Fin cfg0.N) : Vec Ideal S512x768 .bf16 := iblk m c 1 t
/-- A point's block of the values' gradient. -/
abbrev vBlock (t : Fin cfg0.N) : Vec Ideal S512x768 .bf16 := iblk m c 2 t
/-- A point's block of the memory queries' gradient. -/
abbrev oBlock (t : Fin cfg0.N) : Vec Ideal S512x256 .bf16 := iblk m c 3 t
/-- The projection, as every point has it. -/
abbrev wBlock (t : Fin cfg0.N) : Vec Ideal S1024x2560 .bf16 := iblk m c 4 t
/-- A point's block of the residual's gradient. -/
abbrev yBlock (t : Fin cfg0.N) : Vec Ideal S512x1024 .f32 := iblk m c 5 t

variable (t : Fin cfg0.N) (i : Fin 512)

theorem qBlock_apply (l : Fin 768) : qBlock m c t (ix2 i l) = argQ m c (ix2 (tokenOf t i) l) := by
  blk_ext [iblk, V, index0]
theorem kBlock_apply (l : Fin 768) : kBlock m c t (ix2 i l) = argK m c (ix2 (tokenOf t i) l) := by
  blk_ext [iblk, V, index1]
theorem vBlock_apply (l : Fin 768) : vBlock m c t (ix2 i l) = argV m c (ix2 (tokenOf t i) l) := by
  blk_ext [iblk, V, index2]
theorem oBlock_apply (l : Fin 256) : oBlock m c t (ix2 i l) = argO m c (ix2 (tokenOf t i) l) := by
  blk_ext [iblk, V, index3]
theorem wBlock_apply (i : Fin 1024) (l : Fin 2560) : wBlock m c t (ix2 i l) = argW m c (ix2 i l) := by
  blk_ext [iblk, V, index4]
theorem yBlock_apply (l : Fin 1024) : yBlock m c t (ix2 i l) = argY m c (ix2 (tokenOf t i) l) := by
  blk_ext [iblk, V, index5]

/-- The array of the kernel. -/
theorem final : (dats m 0 c).arrAt 6 cfg0.N = dilated (argQ m c) (argK m c) (argV m c) (argO m c) (argW m c) (argY m c) := by
  refine (dats m 0 c).arrAt_eq_of_covers 6 _ (by decide +kernel) fun t hf y => ?_
  blk_simp
  rw [after0_6]
  idx_vars y
  have hE : ((View.whole main_v0).slice (win0_6.rect t)).emb (ix2 y0 y1) = ix2 (tokenOf t y0) y1 := by
    blk_ext [index6]
  rw [hE, dilated_apply]
  refine (block_apply (qBlock m c t) (kBlock m c t) (vBlock m c t) (oBlock m c t) (wBlock m c t) (yBlock m c t) y0 y1).trans ?_
  simp only [qBlock_apply, kBlock_apply, vBlock_apply, oBlock_apply, wBlock_apply, yBlock_apply]

/-- The reference leaves its arguments as they were; it has no semaphores. -/
theorem frame_reference : Cert.quiescent_InBwdXRefIdeal := fun m g _ =>
  (θ_run _ _ _).mono (fun r h => ⟨fun c => (h c).2, sem_eq_zero_of_no_sems rfl r.2⟩) (Cert.InBwdXRefIdeal.Value.run m g)

set_option smartUnfolding false in
/-- The kernel's frame on float words: the run that holds of any float values, at words. -/
theorem frame_words : Cert.quiescent_InBwdX (hInBwdX := Cert.InBwdX.Gen.facts) := fun m ρ _ =>
  Cert.InBwdXIdeal.Gen.frame (F := Bits) m ρ

/-- Kernel and reference end with the same array. -/
theorem algebraic : Cert.algebraic_InBwdXIdeal_InBwdXRefIdeal := by
  intro m g m' g' _ same
  refine ⟨_, Value.run_blocks m g, (θ_run _ _ _).mono (fun r h c => ?_) (Cert.InBwdXRefIdeal.Value.run m' g')⟩
  obtain ⟨s0, s1, s2, s3, s4, s5⟩ := same c
  refine ⟨(h c).1.trans ?_, (h c).2⟩
  rw [s0, s1, s2, s3, s4, s5]
  exact (final m c).symm

end Cert.InBackX
-- ==== Proof.InGradA.lean ====
/-
  The gradient of a dilated-attention layer's projection: the kernel's array is the product of the transposed input and
  the gradients of the queries, the keys, the values and the memory queries side by side.
-/
module

public import proofs.«01_k».proof.Defs
public import proofs.«01_k».proof.Proof.Tiles
public import proofs.«01_k».proof.Proof.Columns
public import proofs.«01_k».proof.Proof.Parts
public import proofs.«01_k».proof.Proof.Gen.GradInA
public import proofs.«01_k».proof.Proof.Gen.GradInAIdeal.Value
public import proofs.«01_k».proof.Proof.Gen.GradInARefIdeal.Run
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.InGradA

open Cert.GradInAIdeal Cert.GradInAIdeal.Gen Idealize.ShloMosaic Idealize.ShloMosaic.TcCoe Idealize.SL.Sem Cert.Parts

attribute [local instance] Cert.GradInARefIdeal.Gen.facts

variable (m : (ℓ : Loc nD τ sig) → Buf (Elt Ideal) ℓ) (c : Dev nD)

/-- The layer's input. -/
abbrev argX : FVec Ideal S8192x1024 .bf16 := m ((c.tc : Thread nD τ).loc main_arg0)
/-- The gradient of the queries. -/
abbrev argQ : FVec Ideal S8192x768 .bf16 := m ((c.tc : Thread nD τ).loc main_arg1)
/-- The gradient of the keys. -/
abbrev argK : FVec Ideal S8192x768 .bf16 := m ((c.tc : Thread nD τ).loc main_arg2)
/-- The gradient of the values. -/
abbrev argV : FVec Ideal S8192x768 .bf16 := m ((c.tc : Thread nD τ).loc main_arg3)
/-- The gradient of the memory queries. -/
abbrev argO : FVec Ideal S8192x256 .bf16 := m ((c.tc : Thread nD τ).loc main_arg4)

variable (x : Vec Ideal S1024x1024 .bf16) (acc : Vec Ideal S1024x768 .f32) (d : Vec Ideal S1024x768 .bf16) (i : Fin 1024) (j : Fin 768) in
theorem queries_apply : k0_pay4 x acc d (ix2 i j) = acc (ix2 i j) + ∑ k : Fin 1024, x (ix2 k i) * d (ix2 k j) := by
  pointwise [k0_pay4]
variable (x : Vec Ideal S1024x1024 .bf16) (acc : Vec Ideal S1024x768 .f32) (d : Vec Ideal S1024x768 .bf16) (i : Fin 1024) (j : Fin 768) in
theorem keys_apply : k0_pay5 x acc d (ix2 i j) = acc (ix2 i j) + ∑ k : Fin 1024, x (ix2 k i) * d (ix2 k j) := by
  pointwise [k0_pay5]
variable (x : Vec Ideal S1024x1024 .bf16) (acc : Vec Ideal S1024x768 .f32) (d : Vec Ideal S1024x768 .bf16) (i : Fin 1024) (j : Fin 768) in
theorem values_apply : k0_pay6 x acc d (ix2 i j) = acc (ix2 i j) + ∑ k : Fin 1024, x (ix2 k i) * d (ix2 k j) := by
  pointwise [k0_pay6]
theorem memory_apply (x : Vec Ideal S1024x1024 .bf16) (acc : Vec Ideal S1024x256 .f32) (d : Vec Ideal S1024x256 .bf16) (i : Fin 1024) (j : Fin 256) :
    k0_pay1 x acc d (ix2 i j) = acc (ix2 i j) + ∑ k : Fin 1024, x (ix2 k i) * d (ix2 k j) := by
  pointwise [k0_pay1]
theorem start_apply (i : Fin 1024) (j : Fin 2560) : k0_pay3 (F := Ideal) (ix2 i j) = 0 := by
  pointwise [k0_pay3]
theorem narrow (v : Vec Ideal S1024x2560 .f32) : k0_pay2 v = v := rfl

section Stores

variable (x : Vec Ideal S1024x1024 .bf16) (q k v : Vec Ideal S1024x768 .bf16) (o : Vec Ideal S1024x256 .bf16) (acc : Vec Ideal S1024x2560 .f32)

/-- The accumulator's stores, from the earliest: one of zeros and one for each of the four gradients. -/
abbrev Stored : Type := List (View.Piece (Elt Ideal) S1024x2560 .f32)

/-- The first point's: zeros. -/
abbrev fresh0 : Stored := [⟨Rect.unit ![0, 0] ![1024, 2560] inb_S1024x2560_S1024x2560_0_0, k0_pay3 (F := Ideal)⟩]
/-- Then the sum of the queries' columns. -/
abbrev fresh1 : Stored :=
  ⟨Rect.unit ![0, 0] ![1024, 768] inb_S1024x2560_S1024x768_0_0,
    k0_pay4 x ((View.whole cc0_scratch0).readCov fresh0 (Rect.unit (s := S1024x2560) ![0, 0] ![1024, 768] inb_S1024x2560_S1024x768_0_0).toLoadRect) q⟩ :: fresh0
/-- Then the sum of the keys' columns. -/
abbrev fresh2 : Stored :=
  ⟨Rect.unit ![0, 768] ![1024, 768] inb_S1024x2560_S1024x768_0_768,
    k0_pay5 x ((View.whole cc0_scratch0).readCov (fresh1 x q) (Rect.unit (s := S1024x2560) ![0, 768] ![1024, 768] inb_S1024x2560_S1024x768_0_768).toLoadRect) k⟩ :: fresh1 x q
/-- Then the sum of the values' columns. -/
abbrev fresh3 : Stored :=
  ⟨Rect.unit ![0, 1536] ![1024, 768] inb_S1024x2560_S1024x768_0_1536,
    k0_pay6 x ((View.whole cc0_scratch0).readCov (fresh2 x q k) (Rect.unit (s := S1024x2560) ![0, 1536] ![1024, 768] inb_S1024x2560_S1024x768_0_1536).toLoadRect) v⟩ :: fresh2 x q k
/-- Then the sum of the memory's columns: what the first point leaves. -/
def fresh : Vec Ideal S1024x2560 .f32 :=
  View.canon (⟨Rect.unit ![0, 2304] ![1024, 256] inb_S1024x2560_S1024x256_0_2304,
    k0_pay1 x ((View.whole cc0_scratch0).readCov (fresh3 x q k v) (Rect.unit (s := S1024x2560) ![0, 2304] ![1024, 256] inb_S1024x2560_S1024x256_0_2304).toLoadRect) o⟩ :: fresh3 x q k v)

/-- What every other point stores in it: the columns that were there with their sums added. -/
def added : Vec Ideal S1024x2560 .f32 :=
  View.canon
    [⟨Rect.unit ![0, 2304] ![1024, 256] inb_S1024x2560_S1024x256_0_2304,
        k0_pay1 x (View.ld acc (Rect.unit ![0, 2304] ![1024, 256] inb_S1024x2560_S1024x256_0_2304)) o⟩,
      ⟨Rect.unit ![0, 1536] ![1024, 768] inb_S1024x2560_S1024x768_0_1536,
        k0_pay6 x (View.ld acc (Rect.unit ![0, 1536] ![1024, 768] inb_S1024x2560_S1024x768_0_1536)) v⟩,
      ⟨Rect.unit ![0, 768] ![1024, 768] inb_S1024x2560_S1024x768_0_768,
        k0_pay5 x (View.ld acc (Rect.unit ![0, 768] ![1024, 768] inb_S1024x2560_S1024x768_0_768)) k⟩,
      ⟨Rect.unit ![0, 0] ![1024, 768] inb_S1024x2560_S1024x768_0_0,
        k0_pay4 x (View.ld acc (Rect.unit ![0, 0] ![1024, 768] inb_S1024x2560_S1024x768_0_0)) q⟩]

variable (i : Fin 1024) (l : Fin 768) (y : Fin 2560)

/-- Where no gradient has been stored yet the first point reads zero. -/
theorem zero_read : View.canon fresh0 (ix2 i y) = 0 := by
  rw [Columns.canon_hit (off := 0) _ _ _ i y y (by omega), start_apply]
theorem zero_keys (hy : 768 ≤ y.val) : View.canon (fresh1 x q) (ix2 i y) = 0 := by
  rw [Columns.canon_miss (off := 0) _ _ _ i y (by omega), zero_read]
theorem zero_values (hy : 1536 ≤ y.val) : View.canon (fresh2 x q k) (ix2 i y) = 0 := by
  rw [Columns.canon_miss (off := 768) _ _ _ i y (by omega), zero_keys _ _ _ _ (by omega)]
theorem zero_memory (hy : 2304 ≤ y.val) : View.canon (fresh3 x q k v) (ix2 i y) = 0 := by
  rw [Columns.canon_miss (off := 1536) _ _ _ i y (by omega), zero_values _ _ _ _ _ (by omega)]

theorem fresh_queries (hy : y.val = 0 + l.val) : fresh x q k v o (ix2 i y) = ∑ n : Fin 1024, x (ix2 n i) * q (ix2 n l) := by
  refine (Columns.canon_miss (off := 2304) _ _ _ i y (by omega)).trans ((Columns.canon_miss (off := 1536) _ _ _ i y (by omega)).trans
    ((Columns.canon_miss (off := 768) _ _ _ i y (by omega)).trans ((Columns.canon_hit (off := 0) _ _ _ i l y hy).trans ?_)))
  refine (queries_apply _ _ _ i l).trans ?_
  rw [Columns.read_columns (off := 0) _ _ _ i l y hy, zero_read, zero_add]

theorem fresh_keys (hy : y.val = 768 + l.val) : fresh x q k v o (ix2 i y) = ∑ n : Fin 1024, x (ix2 n i) * k (ix2 n l) := by
  refine (Columns.canon_miss (off := 2304) _ _ _ i y (by omega)).trans ((Columns.canon_miss (off := 1536) _ _ _ i y (by omega)).trans
    ((Columns.canon_hit (off := 768) _ _ _ i l y hy).trans ?_))
  refine (keys_apply _ _ _ i l).trans ?_
  rw [Columns.read_columns (off := 768) _ _ _ i l y hy, zero_keys _ _ _ _ (by omega), zero_add]

theorem fresh_values (hy : y.val = 1536 + l.val) : fresh x q k v o (ix2 i y) = ∑ n : Fin 1024, x (ix2 n i) * v (ix2 n l) := by
  refine (Columns.canon_miss (off := 2304) _ _ _ i y (by omega)).trans ((Columns.canon_hit (off := 1536) _ _ _ i l y hy).trans ?_)
  refine (values_apply _ _ _ i l).trans ?_
  rw [Columns.read_columns (off := 1536) _ _ _ i l y hy, zero_values _ _ _ _ _ (by omega), zero_add]

theorem fresh_memory (l : Fin 256) (hy : y.val = 2304 + l.val) : fresh x q k v o (ix2 i y) = ∑ n : Fin 1024, x (ix2 n i) * o (ix2 n l) := by
  refine (Columns.canon_hit (off := 2304) _ _ _ i l y hy).trans ?_
  refine (memory_apply _ _ _ i l).trans ?_
  rw [Columns.read_columns (off := 2304) _ _ _ i l y hy, zero_memory _ _ _ _ _ _ (by omega), zero_add]

theorem added_queries (hy : y.val = 0 + l.val) : added x q k v o acc (ix2 i y) = acc (ix2 i y) + ∑ n : Fin 1024, x (ix2 n i) * q (ix2 n l) := by
  refine (Columns.canon_miss (off := 2304) _ _ _ i y (by omega)).trans ((Columns.canon_miss (off := 1536) _ _ _ i y (by omega)).trans
    ((Columns.canon_miss (off := 768) _ _ _ i y (by omega)).trans ((Columns.canon_hit (off := 0) _ _ _ i l y hy).trans ?_)))
  refine (queries_apply _ _ _ i l).trans ?_
  rw [Columns.ld_columns (off := 0) _ acc i l y hy]

theorem added_keys (hy : y.val = 768 + l.val) : added x q k v o acc (ix2 i y) = acc (ix2 i y) + ∑ n : Fin 1024, x (ix2 n i) * k (ix2 n l) := by
  refine (Columns.canon_miss (off := 2304) _ _ _ i y (by omega)).trans ((Columns.canon_miss (off := 1536) _ _ _ i y (by omega)).trans
    ((Columns.canon_hit (off := 768) _ _ _ i l y hy).trans ?_))
  refine (keys_apply _ _ _ i l).trans ?_
  rw [Columns.ld_columns (off := 768) _ acc i l y hy]

theorem added_values (hy : y.val = 1536 + l.val) : added x q k v o acc (ix2 i y) = acc (ix2 i y) + ∑ n : Fin 1024, x (ix2 n i) * v (ix2 n l) := by
  refine (Columns.canon_miss (off := 2304) _ _ _ i y (by omega)).trans ((Columns.canon_hit (off := 1536) _ _ _ i l y hy).trans ?_)
  refine (values_apply _ _ _ i l).trans ?_
  rw [Columns.ld_columns (off := 1536) _ acc i l y hy]

theorem added_memory (l : Fin 256) (hy : y.val = 2304 + l.val) : added x q k v o acc (ix2 i y) = acc (ix2 i y) + ∑ n : Fin 1024, x (ix2 n i) * o (ix2 n l) := by
  refine (Columns.canon_hit (off := 2304) _ _ _ i l y hy).trans ?_
  refine (memory_apply _ _ _ i l).trans ?_
  rw [Columns.ld_columns (off := 2304) _ acc i l y hy]

end Stores

/-- A point's block of the input. -/
abbrev xBlock (t : Fin cfg0.N) : Vec Ideal S1024x1024 .bf16 := iblk m c 0 t
/-- A point's block of the queries' gradient. -/
abbrev qBlock (t : Fin cfg0.N) : Vec Ideal S1024x768 .bf16 := iblk m c 1 t
/-- A point's block of the keys' gradient. -/
abbrev kBlock (t : Fin cfg0.N) : Vec Ideal S1024x768 .bf16 := iblk m c 2 t
/-- A point's block of the values' gradient. -/
abbrev vBlock (t : Fin cfg0.N) : Vec Ideal S1024x768 .bf16 := iblk m c 3 t
/-- A point's block of the memory queries' gradient. -/
abbrev oBlock (t : Fin cfg0.N) : Vec Ideal S1024x256 .bf16 := iblk m c 4 t

theorem index0 : ∀ t : Fin cfg0.N, win0_0.index t = ![t.val % 8, 0] := by decide +kernel
theorem index1 : ∀ t : Fin cfg0.N, win0_1.index t = ![t.val % 8, 0] := by decide +kernel
theorem index2 : ∀ t : Fin cfg0.N, win0_2.index t = ![t.val % 8, 0] := by decide +kernel
theorem index3 : ∀ t : Fin cfg0.N, win0_3.index t = ![t.val % 8, 0] := by decide +kernel
theorem index4 : ∀ t : Fin cfg0.N, win0_4.index t = ![t.val % 8, 0] := by decide +kernel
theorem index5 : ∀ t : Fin cfg0.N, win0_5.index t = ![0, 0] := by decide +kernel

/-- The token of a point's row. -/
abbrev tokenOf (t : Fin cfg0.N) (k : Fin 1024) : Fin 8192 := ⟨t.val % 8 * 1024 + k.val, by have := Nat.mod_lt t.val (show 0 < 8 by omega); omega⟩

theorem xBlock_apply (t : Fin cfg0.N) (k l : Fin 1024) : xBlock m c t (ix2 k l) = argX m c (ix2 (tokenOf t k) l) := by
  blk_ext [iblk, V, index0]
theorem qBlock_apply (t : Fin cfg0.N) (k : Fin 1024) (l : Fin 768) : qBlock m c t (ix2 k l) = argQ m c (ix2 (tokenOf t k) l) := by
  blk_ext [iblk, V, index1]
theorem kBlock_apply (t : Fin cfg0.N) (k : Fin 1024) (l : Fin 768) : kBlock m c t (ix2 k l) = argK m c (ix2 (tokenOf t k) l) := by
  blk_ext [iblk, V, index2]
theorem vBlock_apply (t : Fin cfg0.N) (k : Fin 1024) (l : Fin 768) : vBlock m c t (ix2 k l) = argV m c (ix2 (tokenOf t k) l) := by
  blk_ext [iblk, V, index3]
theorem oBlock_apply (t : Fin cfg0.N) (k : Fin 1024) (l : Fin 256) : oBlock m c t (ix2 k l) = argO m c (ix2 (tokenOf t k) l) := by
  blk_ext [iblk, V, index4]

/-- One token's summand. -/
def summand (k : Fin 8192) (i : Fin 1024) (j : Fin 2560) : EReal := argX m c (ix2 k i) * aside (argQ m c) (argK m c) (argV m c) (argO m c) (ix2 k j)

/-- A lane of the four gradients side by side is one of the queries', the keys', the values' or the memory's. -/
theorem lanes (y : Fin 2560) : (∃ l : Fin 768, y.val = 0 + l.val) ∨ (∃ l : Fin 768, y.val = 768 + l.val) ∨ (∃ l : Fin 768, y.val = 1536 + l.val) ∨ ∃ l : Fin 256, y.val = 2304 + l.val := by
  by_cases h1 : y.val < 768
  · exact Or.inl ⟨⟨y, h1⟩, by simp⟩
  by_cases h2 : y.val < 1536
  · exact Or.inr (Or.inl ⟨⟨y.val - 768, by omega⟩, by simp only; omega⟩)
  by_cases h3 : y.val < 2304
  · exact Or.inr (Or.inr (Or.inl ⟨⟨y.val - 1536, by omega⟩, by simp only; omega⟩))
  · exact Or.inr (Or.inr (Or.inr ⟨⟨y.val - 2304, by omega⟩, by simp only; omega⟩))

section Sums

variable (t : Fin cfg0.N) (n i : Fin 1024) (l : Fin 768) (y : Fin 2560)

theorem summand_queries (hy : y.val = 0 + l.val) : xBlock m c t (ix2 n i) * qBlock m c t (ix2 n l) = summand m c (tokenOf t n) i y := by
  have e : y = ⟨l, by omega⟩ := Fin.ext (by show y.val = l.val; omega)
  rw [e, summand, aside_q, qBlock_apply, xBlock_apply]
theorem summand_keys (hy : y.val = 768 + l.val) : xBlock m c t (ix2 n i) * kBlock m c t (ix2 n l) = summand m c (tokenOf t n) i y := by
  have e : y = ⟨768 + l, by omega⟩ := Fin.ext hy
  rw [e, summand, aside_k, kBlock_apply, xBlock_apply]
theorem summand_values (hy : y.val = 1536 + l.val) : xBlock m c t (ix2 n i) * vBlock m c t (ix2 n l) = summand m c (tokenOf t n) i y := by
  have e : y = ⟨1536 + l, by omega⟩ := Fin.ext hy
  rw [e, summand, aside_v, vBlock_apply, xBlock_apply]
theorem summand_memory (l : Fin 256) (hy : y.val = 2304 + l.val) : xBlock m c t (ix2 n i) * oBlock m c t (ix2 n l) = summand m c (tokenOf t n) i y := by
  have e : y = ⟨2304 + l, by omega⟩ := Fin.ext hy
  rw [e, summand, aside_m, oBlock_apply, xBlock_apply]

/-- The sums of a point's columns are those of its summands, wherever the column is. -/
theorem fresh_apply : fresh (xBlock m c t) (qBlock m c t) (kBlock m c t) (vBlock m c t) (oBlock m c t) (ix2 i y) = ∑ n : Fin 1024, summand m c (tokenOf t n) i y := by
  obtain ⟨l, hy⟩ | ⟨l, hy⟩ | ⟨l, hy⟩ | ⟨l, hy⟩ := lanes y
  · rw [fresh_queries _ _ _ _ _ i l y hy]
    exact Finset.sum_congr rfl fun n _ => summand_queries m c t n i l y hy
  · rw [fresh_keys _ _ _ _ _ i l y hy]
    exact Finset.sum_congr rfl fun n _ => summand_keys m c t n i l y hy
  · rw [fresh_values _ _ _ _ _ i l y hy]
    exact Finset.sum_congr rfl fun n _ => summand_values m c t n i l y hy
  · rw [fresh_memory _ _ _ _ _ i y l hy]
    exact Finset.sum_congr rfl fun n _ => summand_memory m c t n i y l hy

theorem added_apply (acc : Vec Ideal S1024x2560 .f32) :
    added (xBlock m c t) (qBlock m c t) (kBlock m c t) (vBlock m c t) (oBlock m c t) acc (ix2 i y) = acc (ix2 i y) + ∑ n : Fin 1024, summand m c (tokenOf t n) i y := by
  obtain ⟨l, hy⟩ | ⟨l, hy⟩ | ⟨l, hy⟩ | ⟨l, hy⟩ := lanes y
  · rw [added_queries _ _ _ _ _ acc i l y hy]
    exact congrArg (acc (ix2 i y) + ·) (Finset.sum_congr rfl fun n _ => summand_queries m c t n i l y hy)
  · rw [added_keys _ _ _ _ _ acc i l y hy]
    exact congrArg (acc (ix2 i y) + ·) (Finset.sum_congr rfl fun n _ => summand_keys m c t n i l y hy)
  · rw [added_values _ _ _ _ _ acc i l y hy]
    exact congrArg (acc (ix2 i y) + ·) (Finset.sum_congr rfl fun n _ => summand_values m c t n i l y hy)
  · rw [added_memory _ _ _ _ _ acc i y l hy]
    exact congrArg (acc (ix2 i y) + ·) (Finset.sum_congr rfl fun n _ => summand_memory m c t n i y l hy)

end Sums

/-- The accumulator read back is what was left in it. -/
theorem held (v : Vec Ideal S1024x2560 .f32) : View.read (Elt Ideal) (View.whole cc0_scratch0) ((Memref.isWhole_whole cc0_scratch0).unread v) = v :=
  (Memref.isWhole_whole cc0_scratch0).read_unread v

/-- The first point leaves its own sum in the accumulator. -/
theorem first (t : Fin cfg0.N) (h : t.val % 8 = 0) : (outsAt0 m c t.val t.isLt).2 = fresh (xBlock m c t) (qBlock m c t) (kBlock m c t) (vBlock m c t) (oBlock m c t) := by
  rw [outsAt0_A m c t h (by omega)]
  dsimp only
  frame_out

/-- Every other point adds its sum. -/
theorem later (t : Fin cfg0.N) (h : ¬t.val % 8 = 0) : (outsAt0 m c t.val t.isLt).2
    = added (xBlock m c t) (qBlock m c t) (kBlock m c t) (vBlock m c t) (oBlock m c t) (outsAt0 m c (t.val - 1) (Nat.lt_of_le_of_lt (Nat.sub_le _ _) t.isLt)).2 := by
  by_cases h7 : t.val % 8 = 7
  · rw [outsAt0_C m c t h h7]
    dsimp only
    frame_out
    simp only [held]
  · rw [outsAt0_B m c t h h7]
    dsimp only
    frame_out
    simp only [held]

/-- The last point writes the accumulator out. -/
theorem written (t : Fin cfg0.N) (h : t.val % 8 = 7) : (outsAt0 m c t.val t.isLt).1 = (outsAt0 m c t.val t.isLt).2 := by
  rw [outsAt0_C m c t (by omega) h]
  dsimp only
  frame_out
  rw [narrow, Columns.read_whole]

/-- The accumulator at the last point. -/
theorem total (t : Fin cfg0.N) (h : t.val % 8 = 7) (i : Fin 1024) (j : Fin 2560) :
    (outsAt0 m c t.val t.isLt).2 (ix2 i j) = ∑ k : Fin 8192, summand m c k i j :=
  sum_of_tiles (J := 8) (L := 8192) rfl (fun n h (y : Fin 1024 × Fin 2560) => (outsAt0 m c n h).2 (ix2 y.1 y.2))
    (fun t k y => summand m c (tokenOf t k) y.1 y.2) (fun _ k y => summand m c k y.1 y.2)
    (fun t h y => by rw [first m c t h, fresh_apply]) (fun t h y => by rw [later m c t h, added_apply]) (fun t k y hl => rfl) t h (i, j)

/-- The product over all tokens, as an array. -/
def products : FVec Ideal S1024x2560 .bf16 := fun y => ∑ k : Fin 8192, summand m c k (y 0) (y 1)

/-- The array of the kernel. -/
theorem final : (dats m 0 c).arrAt 5 cfg0.N = products m c := by
  refine (dats m 0 c).arrAt_eq_of_covers 5 _ (by decide +kernel) fun t hf y => ?_
  have h := (flush0_5 t).mp hf
  blk_simp
  rw [after0_5, written m c t h]
  idx_vars y
  have hE : ((View.whole main_v0).slice (win0_5.rect t)).emb (ix2 y0 y1) = ix2 y0 y1 := by
    blk_ext [index5]
  rw [hE]
  exact total m c t h y0 y1

/-- The reference's result, at one element. -/
theorem reference_apply (x : FVec Ideal S8192x1024 .bf16) (q k v : FVec Ideal S8192x768 .bf16) (o : FVec Ideal S8192x256 .bf16) (i : Fin 1024) (j : Fin 2560) :
    (truncf .bf16 (transpose GradInARefIdeal.S1024x2560 [1, 0] (Host.dotGeneral GradInARefIdeal.dot_S8192x2560_S8192x1024_S2560x1024_0_0_1_1_n_n none
      (aside q k v o) (extf .f32 x GradInARefIdeal.Gen.facts.bitsLt_bf16_f32))
      GradInARefIdeal.Gen.facts.transposes_S2560x1024_S1024x2560_1_0) GradInARefIdeal.Gen.facts.bitsLt_bf16_f32 : FVec Ideal GradInARefIdeal.S1024x2560 .bf16) (ix2 i j)
      = ∑ n : Fin 8192, x (ix2 n i) * aside q k v o (ix2 n j) := by
  pointwise []
  exact Finset.sum_congr rfl fun k _ => mul_comm _ _

/-- The reference leaves its arguments as they were; it has no semaphores. -/
theorem frame_reference : Cert.quiescent_GradInARefIdeal := fun m g _ =>
  (θ_run _ _ _).mono (fun r h => ⟨fun c => (h c).2, sem_eq_zero_of_no_sems rfl r.2⟩) (Cert.GradInARefIdeal.Value.run m g)

set_option smartUnfolding false in
/-- The kernel's frame on float words: the run that holds of any float values, at words. -/
theorem frame_words : Cert.quiescent_GradInA (hGradInA := Cert.GradInA.Gen.facts) := fun m ρ _ =>
  Cert.GradInAIdeal.Gen.frame (F := Bits) m ρ

/-- Kernel and reference end with the same array. -/
theorem algebraic : Cert.algebraic_GradInAIdeal_GradInARefIdeal := by
  intro m g m' g' _ same
  refine ⟨_, Value.run_blocks m g, (θ_run _ _ _).mono (fun r h c => ?_) (Cert.GradInARefIdeal.Value.run m' g')⟩
  obtain ⟨s0, s1, s2, s3, s4⟩ := same c
  refine ⟨(h c).1.trans ?_, (h c).2⟩
  rw [s0, s1, s2, s3, s4]
  funext y
  idx_vars y
  exact (reference_apply _ _ _ _ _ y0 y1).trans (congrFun (final m c) (ix2 y0 y1)).symm

end Cert.InGradA
-- ==== Proof.Gated.lean ====
/-
  The gradient of the input of a layer with the spatial gating unit, before its norm, as its reference computes it.
-/
module

public import proofs.«01_k».proof.Proof.Parts
public import proofs.«01_k».proof.Proof.Gen.InBwdBRefIdeal

@[expose] public section

set_option maxRecDepth 16384

noncomputable section

namespace Cert.Gated

open Cert.InBwdBRefIdeal Cert.InBwdBRefIdeal.Gen Idealize.ShloMosaic Cert.Parts

variable (duv : FVec Ideal S8192x1536 .bf16) (dm : FVec Ideal S8192x256 .bf16) (w : FVec Ideal S1024x1792 .bf16) (y : FVec Ideal S8192x1024 .f32)

/-- The two halves of the unit's gradient and that of the memory queries, side by side. -/
def aside : FVec Ideal S8192x1792 .f32 :=
  concatenate S8192x1792 1 [⟨S8192x768, extf .f32 (extractStridedSlice S8192x768 ![0, 0] duv slices_S8192x1536_S8192x768_0_0) bitsLt_bf16_f32⟩,
      ⟨S8192x768, extf .f32 (extractStridedSlice S8192x768 ![0, 768] duv slices_S8192x1536_S8192x768_0_768) bitsLt_bf16_f32⟩,
      ⟨S8192x256, extf .f32 dm bitsLt_bf16_f32⟩]
    concatenates_S8192x768_S8192x768_S8192x256_S8192x1792_d1

/-- The gradient of the layer's input as the reference computes it. -/
def back : FVec Ideal S8192x1024 .f32 :=
  addf (Host.dotGeneral dot_S8192x1792_S1024x1792_S8192x1024_1_1_0_0_n_n none (aside duv dm) (extf .f32 w bitsLt_bf16_f32))
    (mulf (broadcastInDim S8192x1024 ![] bcast_S_S8192x1024 (constant S_ .f32 0x3FD744FD#32)) y)

variable (i : Fin 8192)

theorem aside_low (l : Fin 768) : aside duv dm (ix2 i ⟨l, by omega⟩) = duv (ix2 i ⟨l, by omega⟩) := by
  pointwise [aside]
theorem aside_high (l : Fin 768) : aside duv dm (ix2 i ⟨768 + l, by omega⟩) = duv (ix2 i ⟨768 + l, by omega⟩) := by
  pointwise [aside]

/-- The lanes of the unit. -/
theorem aside_unit (l : Fin 1536) : aside duv dm (ix2 i ⟨l, by omega⟩) = duv (ix2 i l) := by
  by_cases h : l.val < 768
  · exact aside_low duv dm i ⟨l, h⟩
  · have e : l.val = 768 + (l.val - 768) := by omega
    have := aside_high duv dm i ⟨l.val - 768, by omega⟩
    simp only [← e] at this
    exact this

/-- The lanes of the memory queries. -/
theorem aside_memory (l : Fin 256) : aside duv dm (ix2 i ⟨1536 + l, by omega⟩) = dm (ix2 i l) := by
  pointwise [aside]
  rw [dif_neg (by omega), dif_neg (by omega)]
  exact congrArg (fun x => dm (ix2 i x)) (Fin.ext (by show 1536 + l.val - 768 - 768 = l.val; omega))

theorem back_apply (l : Fin 1024) : back duv dm w y (ix2 i l) = alpha * y (ix2 i l)
    + ((∑ k : Fin 1536, duv (ix2 i k) * w (ix2 l ⟨k, by omega⟩)) + ∑ k : Fin 256, dm (ix2 i k) * w (ix2 l ⟨1536 + k, by omega⟩)) := by
  have h : back duv dm w y (ix2 i l) = (∑ k : Fin 1792, aside duv dm (ix2 i k) * w (ix2 l k)) + alpha * y (ix2 i l) := by
    pointwise [back]
  rw [h, sum_two (a := 1536) (b := 256) rfl, add_comm]
  simp only [aside_unit, aside_memory]

end Cert.Gated
-- ==== Proof.InGradB.lean ====
/-
  The gradient of the projection before a layer with the spatial gating unit: the kernel's array is the product of the
  transposed input and the gradients of the unit and of the memory queries side by side.
-/
module

public import proofs.«01_k».proof.Defs
public import proofs.«01_k».proof.Proof.Tiles
public import proofs.«01_k».proof.Proof.Columns
public import proofs.«01_k».proof.Proof.Gated
public import proofs.«01_k».proof.Proof.Gen.GradInB
public import proofs.«01_k».proof.Proof.Gen.GradInBIdeal.Value
public import proofs.«01_k».proof.Proof.Gen.GradInBRefIdeal.Run
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.InGradB

open Cert.GradInBIdeal Cert.GradInBIdeal.Gen Idealize.ShloMosaic Idealize.ShloMosaic.TcCoe Idealize.SL.Sem Cert.Gated

attribute [local instance] Cert.GradInBRefIdeal.Gen.facts

variable (m : (ℓ : Loc nD τ sig) → Buf (Elt Ideal) ℓ) (c : Dev nD)

/-- The layer's input. -/
abbrev argX : FVec Ideal S8192x1024 .bf16 := m ((c.tc : Thread nD τ).loc main_arg0)
/-- The gradient of the unit's two halves. -/
abbrev argU : FVec Ideal S8192x1536 .bf16 := m ((c.tc : Thread nD τ).loc main_arg1)
/-- The gradient of the memory queries. -/
abbrev argO : FVec Ideal S8192x256 .bf16 := m ((c.tc : Thread nD τ).loc main_arg2)

theorem unit_apply (x : Vec Ideal S1024x1024 .bf16) (acc : Vec Ideal S1024x1536 .f32) (d : Vec Ideal S1024x1536 .bf16) (i : Fin 1024) (j : Fin 1536) :
    k0_pay2 x acc d (ix2 i j) = acc (ix2 i j) + ∑ k : Fin 1024, x (ix2 k i) * d (ix2 k j) := by
  pointwise [k0_pay2]
theorem memory_apply (x : Vec Ideal S1024x1024 .bf16) (acc : Vec Ideal S1024x256 .f32) (d : Vec Ideal S1024x256 .bf16) (i : Fin 1024) (j : Fin 256) :
    k0_pay3 x acc d (ix2 i j) = acc (ix2 i j) + ∑ k : Fin 1024, x (ix2 k i) * d (ix2 k j) := by
  pointwise [k0_pay3]
theorem start_apply (i : Fin 1024) (j : Fin 1792) : k0_pay1 (F := Ideal) (ix2 i j) = 0 := by
  pointwise [k0_pay1]
theorem narrow (v : Vec Ideal S1024x1792 .f32) : k0_pay4 v = v := rfl

section Stores

variable (x : Vec Ideal S1024x1024 .bf16) (u : Vec Ideal S1024x1536 .bf16) (o : Vec Ideal S1024x256 .bf16) (acc : Vec Ideal S1024x1792 .f32)

/-- What the first point stores in the accumulator: zeros, then the sum of the unit's columns, then that of the memory's. -/
def fresh : Vec Ideal S1024x1792 .f32 :=
  View.canon
    [⟨Rect.unit ![0, 1536] ![1024, 256] inb_S1024x1792_S1024x256_0_1536,
        k0_pay3 x ((View.whole cc0_scratch0).readCov
          [⟨Rect.unit ![0, 0] ![1024, 1536] inb_S1024x1792_S1024x1536_0_0,
              k0_pay2 x ((View.whole cc0_scratch0).readCov [⟨Rect.unit ![0, 0] ![1024, 1792] inb_S1024x1792_S1024x1792_0_0, k0_pay1 (F := Ideal)⟩]
                (Rect.unit ![0, 0] ![1024, 1536] inb_S1024x1792_S1024x1536_0_0).toLoadRect) u⟩,
            ⟨Rect.unit ![0, 0] ![1024, 1792] inb_S1024x1792_S1024x1792_0_0, k0_pay1 (F := Ideal)⟩]
          (Rect.unit ![0, 1536] ![1024, 256] inb_S1024x1792_S1024x256_0_1536).toLoadRect) o⟩,
      ⟨Rect.unit ![0, 0] ![1024, 1536] inb_S1024x1792_S1024x1536_0_0,
        k0_pay2 x ((View.whole cc0_scratch0).readCov [⟨Rect.unit ![0, 0] ![1024, 1792] inb_S1024x1792_S1024x1792_0_0, k0_pay1 (F := Ideal)⟩]
          (Rect.unit ![0, 0] ![1024, 1536] inb_S1024x1792_S1024x1536_0_0).toLoadRect) u⟩,
      ⟨Rect.unit ![0, 0] ![1024, 1792] inb_S1024x1792_S1024x1792_0_0, k0_pay1 (F := Ideal)⟩]

theorem fresh_unit (i : Fin 1024) (l : Fin 1536) (y : Fin 1792) (hy : y.val = 0 + l.val) : fresh x u o (ix2 i y) = ∑ k : Fin 1024, x (ix2 k i) * u (ix2 k l) := by
  refine (Columns.canon_miss (off := 1536) _ _ _ i y (by omega)).trans ((Columns.canon_hit (off := 0) _ _ _ i l y hy).trans ?_)
  refine (unit_apply _ _ _ i l).trans ?_
  rw [Columns.read_columns (off := 0) _ _ _ i l y hy, Columns.canon_hit (off := 0) _ _ _ i y y (by omega), start_apply, zero_add]

theorem fresh_memory (i : Fin 1024) (l : Fin 256) (y : Fin 1792) (hy : y.val = 1536 + l.val) : fresh x u o (ix2 i y) = ∑ k : Fin 1024, x (ix2 k i) * o (ix2 k l) := by
  refine (Columns.canon_hit (off := 1536) _ _ _ i l y hy).trans ?_
  refine (memory_apply _ _ _ i l).trans ?_
  rw [Columns.read_columns (off := 1536) _ _ _ i l y hy, Columns.canon_miss (off := 0) _ _ _ i y (by omega), Columns.canon_hit (off := 0) _ _ _ i y y (by omega), start_apply, zero_add]

/-- What every other point stores in it: the columns that were there with their sums added. -/
def added : Vec Ideal S1024x1792 .f32 :=
  View.canon
    [⟨Rect.unit ![0, 1536] ![1024, 256] inb_S1024x1792_S1024x256_0_1536,
        k0_pay3 x (View.ld acc (Rect.unit ![0, 1536] ![1024, 256] inb_S1024x1792_S1024x256_0_1536)) o⟩,
      ⟨Rect.unit ![0, 0] ![1024, 1536] inb_S1024x1792_S1024x1536_0_0,
        k0_pay2 x (View.ld acc (Rect.unit ![0, 0] ![1024, 1536] inb_S1024x1792_S1024x1536_0_0)) u⟩]

theorem added_unit (i : Fin 1024) (l : Fin 1536) (y : Fin 1792) (hy : y.val = 0 + l.val) :
    added x u o acc (ix2 i y) = acc (ix2 i y) + ∑ k : Fin 1024, x (ix2 k i) * u (ix2 k l) := by
  refine (Columns.canon_miss (off := 1536) _ _ _ i y (by omega)).trans ((Columns.canon_hit (off := 0) _ _ _ i l y hy).trans ?_)
  refine (unit_apply _ _ _ i l).trans ?_
  rw [Columns.ld_columns (off := 0) _ acc i l y hy]

theorem added_memory (i : Fin 1024) (l : Fin 256) (y : Fin 1792) (hy : y.val = 1536 + l.val) :
    added x u o acc (ix2 i y) = acc (ix2 i y) + ∑ k : Fin 1024, x (ix2 k i) * o (ix2 k l) := by
  refine (Columns.canon_hit (off := 1536) _ _ _ i l y hy).trans ?_
  refine (memory_apply _ _ _ i l).trans ?_
  rw [Columns.ld_columns (off := 1536) _ acc i l y hy]

end Stores

/-- A point's block of the input. -/
abbrev xBlock (t : Fin cfg0.N) : Vec Ideal S1024x1024 .bf16 := iblk m c 0 t
/-- A point's block of the unit's gradient. -/
abbrev uBlock (t : Fin cfg0.N) : Vec Ideal S1024x1536 .bf16 := iblk m c 1 t
/-- A point's block of the memory queries' gradient. -/
abbrev oBlock (t : Fin cfg0.N) : Vec Ideal S1024x256 .bf16 := iblk m c 2 t

theorem index0 : ∀ t : Fin cfg0.N, win0_0.index t = ![t.val % 8, 0] := by decide +kernel
theorem index1 : ∀ t : Fin cfg0.N, win0_1.index t = ![t.val % 8, 0] := by decide +kernel
theorem index2 : ∀ t : Fin cfg0.N, win0_2.index t = ![t.val % 8, 0] := by decide +kernel
theorem index3 : ∀ t : Fin cfg0.N, win0_3.index t = ![0, 0] := by decide +kernel

/-- The token of a point's row. -/
abbrev tokenOf (t : Fin cfg0.N) (k : Fin 1024) : Fin 8192 := ⟨t.val % 8 * 1024 + k.val, by have := Nat.mod_lt t.val (show 0 < 8 by omega); omega⟩

theorem xBlock_apply (t : Fin cfg0.N) (k l : Fin 1024) : xBlock m c t (ix2 k l) = argX m c (ix2 (tokenOf t k) l) := by
  blk_ext [iblk, V, index0]
theorem uBlock_apply (t : Fin cfg0.N) (k : Fin 1024) (l : Fin 1536) : uBlock m c t (ix2 k l) = argU m c (ix2 (tokenOf t k) l) := by
  blk_ext [iblk, V, index1]
theorem oBlock_apply (t : Fin cfg0.N) (k : Fin 1024) (l : Fin 256) : oBlock m c t (ix2 k l) = argO m c (ix2 (tokenOf t k) l) := by
  blk_ext [iblk, V, index2]

/-- One token's summand. -/
def summand (k : Fin 8192) (i : Fin 1024) (j : Fin 1792) : EReal := argX m c (ix2 k i) * aside (argU m c) (argO m c) (ix2 k j)

theorem summand_unit (t : Fin cfg0.N) (k i : Fin 1024) (l : Fin 1536) (y : Fin 1792) (hy : y.val = 0 + l.val) :
    xBlock m c t (ix2 k i) * uBlock m c t (ix2 k l) = summand m c (tokenOf t k) i y := by
  have e : y = ⟨l, by omega⟩ := Fin.ext (by show y.val = l.val; omega)
  rw [e, summand, aside_unit, uBlock_apply, xBlock_apply]
theorem summand_memory (t : Fin cfg0.N) (k i : Fin 1024) (l : Fin 256) (y : Fin 1792) (hy : y.val = 1536 + l.val) :
    xBlock m c t (ix2 k i) * oBlock m c t (ix2 k l) = summand m c (tokenOf t k) i y := by
  have e : y = ⟨1536 + l, by omega⟩ := Fin.ext hy
  rw [e, summand, aside_memory, oBlock_apply, xBlock_apply]

/-- The sums of a point's columns are those of its summands, wherever the column is. -/
theorem fresh_apply (t : Fin cfg0.N) (i : Fin 1024) (y : Fin 1792) :
    fresh (xBlock m c t) (uBlock m c t) (oBlock m c t) (ix2 i y) = ∑ k : Fin 1024, summand m c (tokenOf t k) i y := by
  by_cases h : y.val < 1536
  · have hy : y.val = 0 + (⟨y, h⟩ : Fin 1536).val := by simp
    rw [fresh_unit _ _ _ i ⟨y, h⟩ y hy]
    exact Finset.sum_congr rfl fun k _ => summand_unit m c t k i _ y hy
  · have hy : y.val = 1536 + (⟨y.val - 1536, by omega⟩ : Fin 256).val := by simp only; omega
    rw [fresh_memory _ _ _ i _ y hy]
    exact Finset.sum_congr rfl fun k _ => summand_memory m c t k i _ y hy

theorem added_apply (t : Fin cfg0.N) (acc : Vec Ideal S1024x1792 .f32) (i : Fin 1024) (y : Fin 1792) :
    added (xBlock m c t) (uBlock m c t) (oBlock m c t) acc (ix2 i y) = acc (ix2 i y) + ∑ k : Fin 1024, summand m c (tokenOf t k) i y := by
  by_cases h : y.val < 1536
  · have hy : y.val = 0 + (⟨y, h⟩ : Fin 1536).val := by simp
    rw [added_unit _ _ _ _ i ⟨y, h⟩ y hy]
    exact congrArg (acc (ix2 i y) + ·) (Finset.sum_congr rfl fun k _ => summand_unit m c t k i _ y hy)
  · have hy : y.val = 1536 + (⟨y.val - 1536, by omega⟩ : Fin 256).val := by simp only; omega
    rw [added_memory _ _ _ _ i _ y hy]
    exact congrArg (acc (ix2 i y) + ·) (Finset.sum_congr rfl fun k _ => summand_memory m c t k i _ y hy)

/-- The accumulator read back is what was left in it. -/
theorem held (v : Vec Ideal S1024x1792 .f32) : View.read (Elt Ideal) (View.whole cc0_scratch0) ((Memref.isWhole_whole cc0_scratch0).unread v) = v :=
  (Memref.isWhole_whole cc0_scratch0).read_unread v

/-- The first point leaves its own sum in the accumulator. -/
theorem first (t : Fin cfg0.N) (h : t.val % 8 = 0) : (outsAt0 m c t.val t.isLt).2 = fresh (xBlock m c t) (uBlock m c t) (oBlock m c t) := by
  rw [outsAt0_A m c t h (by omega)]
  dsimp only
  frame_out

/-- Every other point adds its sum. -/
theorem later (t : Fin cfg0.N) (h : ¬t.val % 8 = 0) : (outsAt0 m c t.val t.isLt).2
    = added (xBlock m c t) (uBlock m c t) (oBlock m c t) (outsAt0 m c (t.val - 1) (Nat.lt_of_le_of_lt (Nat.sub_le _ _) t.isLt)).2 := by
  by_cases h7 : t.val % 8 = 7
  · rw [outsAt0_C m c t h h7]
    dsimp only
    frame_out
    simp only [held]
  · rw [outsAt0_B m c t h h7]
    dsimp only
    frame_out
    simp only [held]

/-- The last point writes the accumulator out. -/
theorem written (t : Fin cfg0.N) (h : t.val % 8 = 7) : (outsAt0 m c t.val t.isLt).1 = (outsAt0 m c t.val t.isLt).2 := by
  rw [outsAt0_C m c t (by omega) h]
  dsimp only
  frame_out
  rw [narrow, Columns.read_whole]

/-- The accumulator at the last point. -/
theorem total (t : Fin cfg0.N) (h : t.val % 8 = 7) (i : Fin 1024) (j : Fin 1792) :
    (outsAt0 m c t.val t.isLt).2 (ix2 i j) = ∑ k : Fin 8192, summand m c k i j :=
  sum_of_tiles (J := 8) (L := 8192) rfl (fun n h (y : Fin 1024 × Fin 1792) => (outsAt0 m c n h).2 (ix2 y.1 y.2))
    (fun t k y => summand m c (tokenOf t k) y.1 y.2) (fun _ k y => summand m c k y.1 y.2)
    (fun t h y => by rw [first m c t h, fresh_apply]) (fun t h y => by rw [later m c t h, added_apply]) (fun t k y hl => rfl) t h (i, j)

/-- The product over all tokens, as an array. -/
def products : FVec Ideal S1024x1792 .bf16 := fun y => ∑ k : Fin 8192, summand m c k (y 0) (y 1)

/-- The array of the kernel. -/
theorem final : (dats m 0 c).arrAt 3 cfg0.N = products m c := by
  refine (dats m 0 c).arrAt_eq_of_covers 3 _ (by decide +kernel) fun t hf y => ?_
  have h := (flush0_3 t).mp hf
  blk_simp
  rw [after0_3, written m c t h]
  idx_vars y
  have hE : ((View.whole main_v0).slice (win0_3.rect t)).emb (ix2 y0 y1) = ix2 y0 y1 := by
    blk_ext [index3]
  rw [hE]
  exact total m c t h y0 y1

/-- The reference's result, at one element. -/
theorem reference_apply (x : FVec Ideal S8192x1024 .bf16) (u : FVec Ideal S8192x1536 .bf16) (o : FVec Ideal S8192x256 .bf16) (i : Fin 1024) (j : Fin 1792) :
    (truncf .bf16 (transpose GradInBRefIdeal.S1024x1792 [1, 0] (Host.dotGeneral GradInBRefIdeal.dot_S8192x1792_S8192x1024_S1792x1024_0_0_1_1_n_n none
      (aside u o) (extf .f32 x GradInBRefIdeal.Gen.facts.bitsLt_bf16_f32))
      GradInBRefIdeal.Gen.facts.transposes_S1792x1024_S1024x1792_1_0) GradInBRefIdeal.Gen.facts.bitsLt_bf16_f32 : FVec Ideal GradInBRefIdeal.S1024x1792 .bf16) (ix2 i j)
      = ∑ k : Fin 8192, x (ix2 k i) * aside u o (ix2 k j) := by
  pointwise []
  exact Finset.sum_congr rfl fun k _ => mul_comm _ _

/-- The reference leaves its arguments as they were; it has no semaphores. -/
theorem frame_reference : Cert.quiescent_GradInBRefIdeal := fun m g _ =>
  (θ_run _ _ _).mono (fun r h => ⟨fun c => (h c).2, sem_eq_zero_of_no_sems rfl r.2⟩) (Cert.GradInBRefIdeal.Value.run m g)

set_option smartUnfolding false in
/-- The kernel's frame on float words: the run that holds of any float values, at words. -/
theorem frame_words : Cert.quiescent_GradInB (hGradInB := Cert.GradInB.Gen.facts) := fun m ρ _ =>
  Cert.GradInBIdeal.Gen.frame (F := Bits) m ρ

/-- Kernel and reference end with the same array. -/
theorem algebraic : Cert.algebraic_GradInBIdeal_GradInBRefIdeal := by
  intro m g m' g' _ same
  refine ⟨_, Value.run_blocks m g, (θ_run _ _ _).mono (fun r h c => ?_) (Cert.GradInBRefIdeal.Value.run m' g')⟩
  obtain ⟨s0, s1, s2⟩ := same c
  refine ⟨(h c).1.trans ?_, (h c).2⟩
  rw [s0, s1, s2]
  funext y
  idx_vars y
  exact (reference_apply _ _ _ y0 y1).trans (congrFun (final m c) (ix2 y0 y1)).symm

end Cert.InGradB
-- ==== Proof.InBackA.lean ====
/-
  The gradient back through a dilated-attention layer's projection and the layer norm before it: one grid point of the
  kernel.
-/
module

public import proofs.«01_k».proof.Proof.NormBlock
public import proofs.«01_k».proof.Proof.NormRef
public import proofs.«01_k».proof.Proof.Parts
public import proofs.«01_k».proof.Proof.Tiles
public import proofs.«01_k».proof.Proof.Gen.InBwdAIdeal.Value
public import Idealize.ShloMosaic.Lib.Pipeline.ReadBack
public import Idealize.ShloMosaic.Lib.Pointwise

@[expose] public section

set_option maxRecDepth 16384

noncomputable section

namespace Cert.InBackA

open Cert.InBwdAIdeal Cert.InBwdAIdeal.Gen Idealize.ShloMosaic Idealize.ShloMosaic.TcCoe Idealize.SL.Sem Cert.Norm Cert.Parts

variable (m : (ℓ : Loc nD τ sig) → Buf (Elt Ideal) ℓ) (c : Dev nD)

/-- The gradient of the queries. -/
abbrev argQ : FVec Ideal S8192x768 .bf16 := m ((c.tc : Thread nD τ).loc main_arg0)
/-- The gradient of the keys. -/
abbrev argK : FVec Ideal S8192x768 .bf16 := m ((c.tc : Thread nD τ).loc main_arg1)
/-- The gradient of the values. -/
abbrev argV : FVec Ideal S8192x768 .bf16 := m ((c.tc : Thread nD τ).loc main_arg2)
/-- The gradient of the memory queries. -/
abbrev argO : FVec Ideal S8192x256 .bf16 := m ((c.tc : Thread nD τ).loc main_arg3)
/-- The projection. -/
abbrev argW : FVec Ideal S1024x2560 .bf16 := m ((c.tc : Thread nD τ).loc main_arg4)
/-- The gradient of the residual. -/
abbrev argY : FVec Ideal S8192x1024 .f32 := m ((c.tc : Thread nD τ).loc main_arg5)
/-- The rows that were normed. -/
abbrev argR : FVec Ideal S8192x1024 .f32 := m ((c.tc : Thread nD τ).loc main_arg6)
/-- The gain. -/
abbrev argG : FVec Ideal S1x1024 .f32 := m ((c.tc : Thread nD τ).loc main_arg7)

/-- A point's block of the queries' gradient. -/
abbrev qBlock (t : Fin cfg0.N) : Vec Ideal S512x768 .bf16 := iblk m c 0 t
/-- A point's block of the keys' gradient. -/
abbrev kBlock (t : Fin cfg0.N) : Vec Ideal S512x768 .bf16 := iblk m c 1 t
/-- A point's block of the values' gradient. -/
abbrev vBlock (t : Fin cfg0.N) : Vec Ideal S512x768 .bf16 := iblk m c 2 t
/-- A point's block of the memory queries' gradient. -/
abbrev oBlock (t : Fin cfg0.N) : Vec Ideal S512x256 .bf16 := iblk m c 3 t
/-- The projection, as every point has it. -/
abbrev wBlock (t : Fin cfg0.N) : Vec Ideal S1024x2560 .bf16 := iblk m c 4 t
/-- A point's block of the residual's gradient. -/
abbrev yBlock (t : Fin cfg0.N) : Vec Ideal S512x1024 .f32 := iblk m c 5 t
/-- A point's block of the rows. -/
abbrev rBlock (t : Fin cfg0.N) : Vec Ideal S512x1024 .f32 := iblk m c 6 t
/-- The gain, as every point has it. -/
abbrev gBlock (t : Fin cfg0.N) : Vec Ideal S1x1024 .f32 := iblk m c 7 t

/-- The gradient of the normed rows of a block, as the kernel computes it. -/
def entering (t : Fin cfg0.N) : Vec Ideal S512x1024 .f32 :=
  k0_pay2 (qBlock m c t) (View.ld (wBlock m c t) (Rect.unit ![0, 0] ![1024, 768] inb_S1024x2560_S1024x768_0_0))
    (kBlock m c t) (View.ld (wBlock m c t) (Rect.unit ![0, 768] ![1024, 768] inb_S1024x2560_S1024x768_0_768))
    (vBlock m c t) (View.ld (wBlock m c t) (Rect.unit ![0, 1536] ![1024, 768] inb_S1024x2560_S1024x768_0_1536))
    (oBlock m c t) (View.ld (wBlock m c t) (Rect.unit ![0, 2304] ![1024, 256] inb_S1024x2560_S1024x256_0_2304)) (yBlock m c t)

/-- It is the residual's and the products with the projection's four parts. -/
theorem entering_apply (t : Fin cfg0.N) (i : Fin 512) (l : Fin 1024) : entering m c t (ix2 i l) = alpha * yBlock m c t (ix2 i l)
    + ((((∑ j : Fin 768, qBlock m c t (ix2 i j) * wBlock m c t (ix2 l ⟨j, by omega⟩)) + ∑ j : Fin 768, kBlock m c t (ix2 i j) * wBlock m c t (ix2 l ⟨768 + j, by omega⟩))
      + ∑ j : Fin 768, vBlock m c t (ix2 i j) * wBlock m c t (ix2 l ⟨1536 + j, by omega⟩)) + ∑ j : Fin 256, oBlock m c t (ix2 i j) * wBlock m c t (ix2 l ⟨2304 + j, by omega⟩)) := by
  unfold entering
  pointwise [k0_pay2]

/-- A point's gradient of its rows. -/
theorem rows_block (t : Fin cfg0.N) : (outsAt0 m c t.val t.isLt).1 = Block.back (rBlock m c t) (gBlock m c t) (entering m c t) := by
  by_cases h : t.val % 16 = 0
  · rw [outsAt0_A m c t h]
    dsimp only
    frame_out
    rfl
  · rw [outsAt0_B m c t h]
    dsimp only
    frame_out
    rfl

/-- The same at half the width. -/
theorem narrow_block (t : Fin cfg0.N) : (outsAt0 m c t.val t.isLt).2.1 = truncf .bf16 (Block.back (rBlock m c t) (gBlock m c t) (entering m c t)) bitsLt_bf16_f32 := by
  by_cases h : t.val % 16 = 0
  · rw [outsAt0_A m c t h]
    dsimp only
    frame_out
    rfl
  · rw [outsAt0_B m c t h]
    dsimp only
    frame_out
    rfl

theorem zeros_gain (i : S1x1024.Idx) : k0_pay8 (F := Ideal) i = 0 := by
  idx_vars i
  pointwise [k0_pay8]

theorem zeros_shift (i : S1x1024.Idx) : k0_pay9 (F := Ideal) i = 0 := by
  idx_vars i
  pointwise [k0_pay9]

/-- A point's part of the gain's gradient, at a row and a lane. -/
def gainPart (t : Fin cfg0.N) (k : Fin 512) (l : Fin 1024) : EReal :=
  Block.row (entering m c t) k l * normed (Block.row (rBlock m c t) k) l
/-- A point's part of the shift's gradient, at a row and a lane. -/
def shiftPart (t : Fin cfg0.N) (k : Fin 512) (l : Fin 1024) : EReal := Block.row (entering m c t) k l

/-- The first point leaves its own sum over its rows. -/
theorem gain_first (t : Fin cfg0.N) (h : t.val % 16 = 0) (l : Fin 1024) :
    (outsAt0 m c t.val t.isLt).2.2.1 (ix2 0 l) = ∑ k : Fin 512, gainPart m c t k l := by
  rw [outsAt0_A m c t h]
  dsimp only
  frame_out
  refine (Block.addGain_apply (rBlock m c t) (entering m c t) l _ 0).trans ?_
  rw [zeros_gain, zero_add]
  rfl

theorem shift_first (t : Fin cfg0.N) (h : t.val % 16 = 0) (l : Fin 1024) :
    (outsAt0 m c t.val t.isLt).2.2.2 (ix2 0 l) = ∑ k : Fin 512, shiftPart m c t k l := by
  rw [outsAt0_A m c t h]
  dsimp only
  frame_out
  refine (Block.addRows_apply l (entering m c t) _ 0).trans ?_
  rw [zeros_shift, zero_add]
  rfl

/-- Every other point adds its sum. -/
theorem gain_later (t : Fin cfg0.N) (h : ¬t.val % 16 = 0) (l : Fin 1024) :
    (outsAt0 m c t.val t.isLt).2.2.1 (ix2 0 l) = (outsAt0 m c (t.val - 1) (Nat.lt_of_le_of_lt (Nat.sub_le _ _) t.isLt)).2.2.1 (ix2 0 l)
      + ∑ k : Fin 512, gainPart m c t k l := by
  rw [outsAt0_B m c t h]
  dsimp only
  frame_out
  exact Block.addGain_apply (rBlock m c t) (entering m c t) l _ 0

theorem shift_later (t : Fin cfg0.N) (h : ¬t.val % 16 = 0) (l : Fin 1024) :
    (outsAt0 m c t.val t.isLt).2.2.2 (ix2 0 l) = (outsAt0 m c (t.val - 1) (Nat.lt_of_le_of_lt (Nat.sub_le _ _) t.isLt)).2.2.2 (ix2 0 l)
      + ∑ k : Fin 512, shiftPart m c t k l := by
  rw [outsAt0_B m c t h]
  dsimp only
  frame_out
  exact Block.addRows_apply l (entering m c t) _ 0

end Cert.InBackA
-- ==== Proof.InBackAFinal.lean ====
/-
  The gradient back through a dilated-attention layer's projection and the layer norm before it: the kernel's four
  arrays are the reference's.
-/
module

public import proofs.«01_k».proof.Defs
public import proofs.«01_k».proof.Proof.InBackA
public import proofs.«01_k».proof.Proof.Gate
public import proofs.«01_k».proof.Proof.Reals
public import proofs.«01_k».proof.Proof.Gen.InBwdA
public import proofs.«01_k».proof.Proof.Gen.Pre_norm_finite_a
public import proofs.«01_k».proof.Proof.Gen.InBwdARefIdeal.Run
public import Idealize.ShloMosaic.Lib.Claim
public import Idealize.ShloMosaic.Lib.Quiescent
public import Idealize.ShloMosaic.Lib.ReduceAll

@[expose] public section

set_option maxRecDepth 16384

noncomputable section

namespace Cert.InBackA

open Cert.InBwdAIdeal Cert.InBwdAIdeal.Gen Idealize.ShloMosaic Idealize.ShloMosaic.TcCoe Idealize.SL.Sem Cert.Norm Cert.Parts

attribute [local instance] Cert.InBwdARefIdeal.Gen.facts Cert.Pre_norm_finite_a.Gen.facts

/-- An array of the reference's memory. -/
abbrev held (m : (ℓ : Loc InBwdARefIdeal.nD InBwdARefIdeal.τ InBwdARefIdeal.sig) → Buf (Elt Ideal) ℓ) (c : Dev InBwdARefIdeal.nD)
    (r : Ref InBwdARefIdeal.sig .tc) : Buf (Elt Ideal) ((c.tc : Thread InBwdARefIdeal.nD InBwdARefIdeal.τ).loc r) :=
  m ((c.tc : Thread InBwdARefIdeal.nD InBwdARefIdeal.τ).loc r)

/-- The gradient of the normed rows, at the reference's arguments. -/
abbrev reached (m : (ℓ : Loc InBwdARefIdeal.nD InBwdARefIdeal.τ InBwdARefIdeal.sig) → Buf (Elt Ideal) ℓ) (c : Dev InBwdARefIdeal.nD) : Ref.Rows :=
  dilated (held m c InBwdARefIdeal.main_arg0) (held m c InBwdARefIdeal.main_arg1) (held m c InBwdARefIdeal.main_arg2)
    (held m c InBwdARefIdeal.main_arg3) (held m c InBwdARefIdeal.main_arg4) (held m c InBwdARefIdeal.main_arg5)

/-- The reference's run, its results by their stages. -/
theorem run_reference (m : (ℓ : Loc InBwdARefIdeal.nD InBwdARefIdeal.τ InBwdARefIdeal.sig) → Buf (Elt Ideal) ℓ) (ρ : Dev InBwdARefIdeal.nD → PrngReg) :
    θ_run InBwdARefIdeal.defs (onTc (τ := InBwdARefIdeal.τ) (InBwdARefIdeal.main (F := Ideal))) ⟨m, fun _ => 0, ρ⟩ fun r => ∀ c : Dev InBwdARefIdeal.nD,
      held r.2.mem c InBwdARefIdeal.main_v75 = Ref.back (held m c InBwdARefIdeal.main_arg6) (held m c InBwdARefIdeal.main_arg7) (reached m c)
      ∧ held r.2.mem c InBwdARefIdeal.main_v76 = truncf .bf16 (Ref.back (held m c InBwdARefIdeal.main_arg6) (held m c InBwdARefIdeal.main_arg7) (reached m c)) InBwdARefIdeal.Gen.facts.bitsLt_bf16_f32
      ∧ held r.2.mem c InBwdARefIdeal.main_v49 = Ref.gain (held m c InBwdARefIdeal.main_arg6) (reached m c)
      ∧ held r.2.mem c InBwdARefIdeal.main_v46 = Ref.shift (reached m c)
      ∧ held r.2.mem c InBwdARefIdeal.main_arg0 = held m c InBwdARefIdeal.main_arg0
      ∧ held r.2.mem c InBwdARefIdeal.main_arg1 = held m c InBwdARefIdeal.main_arg1
      ∧ held r.2.mem c InBwdARefIdeal.main_arg2 = held m c InBwdARefIdeal.main_arg2
      ∧ held r.2.mem c InBwdARefIdeal.main_arg3 = held m c InBwdARefIdeal.main_arg3
      ∧ held r.2.mem c InBwdARefIdeal.main_arg4 = held m c InBwdARefIdeal.main_arg4
      ∧ held r.2.mem c InBwdARefIdeal.main_arg5 = held m c InBwdARefIdeal.main_arg5
      ∧ held r.2.mem c InBwdARefIdeal.main_arg6 = held m c InBwdARefIdeal.main_arg6
      ∧ held r.2.mem c InBwdARefIdeal.main_arg7 = held m c InBwdARefIdeal.main_arg7 :=
  InBwdARefIdeal.Value.run m ρ

variable (m : (ℓ : Loc nD τ sig) → Buf (Elt Ideal) ℓ) (c : Dev nD)

theorem index0 : ∀ t : Fin cfg0.N, win0_0.index t = ![t.val % 16, 0] := by decide +kernel
theorem index1 : ∀ t : Fin cfg0.N, win0_1.index t = ![t.val % 16, 0] := by decide +kernel
theorem index2 : ∀ t : Fin cfg0.N, win0_2.index t = ![t.val % 16, 0] := by decide +kernel
theorem index3 : ∀ t : Fin cfg0.N, win0_3.index t = ![t.val % 16, 0] := by decide +kernel
theorem index4 : ∀ t : Fin cfg0.N, win0_4.index t = ![0, 0] := by decide +kernel
theorem index5 : ∀ t : Fin cfg0.N, win0_5.index t = ![t.val % 16, 0] := by decide +kernel
theorem index6 : ∀ t : Fin cfg0.N, win0_6.index t = ![t.val % 16, 0] := by decide +kernel
theorem index7 : ∀ t : Fin cfg0.N, win0_7.index t = ![0, 0] := by decide +kernel
theorem index8 : ∀ t : Fin cfg0.N, win0_8.index t = ![t.val % 16, 0] := by decide +kernel
theorem index9 : ∀ t : Fin cfg0.N, win0_9.index t = ![t.val % 16, 0] := by decide +kernel
theorem index10 : ∀ t : Fin cfg0.N, win0_10.index t = ![0, 0] := by decide +kernel
theorem index11 : ∀ t : Fin cfg0.N, win0_11.index t = ![0, 0] := by decide +kernel

/-- The token of a point's row. -/
abbrev tokenOf (t : Fin cfg0.N) (k : Fin 512) : Fin 8192 := ⟨t.val % 16 * 512 + k.val, by have := Nat.mod_lt t.val (show 0 < 16 by omega); omega⟩

section Reads

variable (t : Fin cfg0.N) (i : Fin 512)

theorem qBlock_apply (l : Fin 768) : qBlock m c t (ix2 i l) = argQ m c (ix2 (tokenOf t i) l) := by
  blk_ext [iblk, V, index0]
theorem kBlock_apply (l : Fin 768) : kBlock m c t (ix2 i l) = argK m c (ix2 (tokenOf t i) l) := by
  blk_ext [iblk, V, index1]
theorem vBlock_apply (l : Fin 768) : vBlock m c t (ix2 i l) = argV m c (ix2 (tokenOf t i) l) := by
  blk_ext [iblk, V, index2]
theorem oBlock_apply (l : Fin 256) : oBlock m c t (ix2 i l) = argO m c (ix2 (tokenOf t i) l) := by
  blk_ext [iblk, V, index3]
theorem wBlock_apply (i : Fin 1024) (l : Fin 2560) : wBlock m c t (ix2 i l) = argW m c (ix2 i l) := by
  blk_ext [iblk, V, index4]
theorem yBlock_apply (l : Fin 1024) : yBlock m c t (ix2 i l) = argY m c (ix2 (tokenOf t i) l) := by
  blk_ext [iblk, V, index5]
theorem rBlock_row : Block.row (rBlock m c t) i = Ref.row (argR m c) (tokenOf t i) := by
  funext l
  show rBlock m c t (ix2 i l) = argR m c (ix2 (tokenOf t i) l)
  blk_ext [iblk, V, index6]
theorem gBlock_lane : Block.lane (gBlock m c t) = Ref.lane (argG m c) := by
  funext l
  show gBlock m c t (ix2 0 l) = argG m c (ix2 0 l)
  blk_ext [iblk, V, index7]

end Reads

/-- The gradient of the normed rows, at the kernel's arguments. -/
abbrev entered : Ref.Rows := dilated (argQ m c) (argK m c) (argV m c) (argO m c) (argW m c) (argY m c)

theorem entering_row (t : Fin cfg0.N) (k : Fin 512) : Block.row (entering m c t) k = Ref.row (entered m c) (tokenOf t k) := by
  funext l
  refine ((entering_apply m c t k l).trans ?_).trans (dilated_apply _ _ _ _ _ _ (tokenOf t k) l).symm
  simp only [qBlock_apply, kBlock_apply, vBlock_apply, oBlock_apply, wBlock_apply, yBlock_apply]

/-- The gradients that enter and their factors are finite. -/
structure Finite : Prop where
  q : ∀ r k, ∃ v : ℝ, argQ m c (ix2 r k) = v
  k : ∀ r k, ∃ v : ℝ, argK m c (ix2 r k) = v
  v : ∀ r k, ∃ v : ℝ, argV m c (ix2 r k) = v
  o : ∀ r k, ∃ v : ℝ, argO m c (ix2 r k) = v
  w : ∀ k l, ∃ v : ℝ, argW m c (ix2 k l) = v
  y : ∀ r k, ∃ v : ℝ, argY m c (ix2 r k) = v
  g : ∀ k, ∃ v : ℝ, argG m c (ix2 0 k) = v

theorem entered_real (fin : Finite m c) (i : Fin 8192) (l : Fin 1024) : ∃ v : ℝ, entered m c (ix2 i l) = v := by
  obtain ⟨a, ha⟩ := alpha_real
  obtain ⟨y, hy⟩ := fin.y i l
  obtain ⟨s0, h0⟩ := Ffn.real_sum Finset.univ (fun j : Fin 768 => argQ m c (ix2 i j)) (fun j => argW m c (ix2 l ⟨j, by omega⟩)) (fun j => fin.q _ j) (fun j => fin.w _ _)
  obtain ⟨s1, h1⟩ := Ffn.real_sum Finset.univ (fun j : Fin 768 => argK m c (ix2 i j)) (fun j => argW m c (ix2 l ⟨768 + j, by omega⟩)) (fun j => fin.k _ j) (fun j => fin.w _ _)
  obtain ⟨s2, h2⟩ := Ffn.real_sum Finset.univ (fun j : Fin 768 => argV m c (ix2 i j)) (fun j => argW m c (ix2 l ⟨1536 + j, by omega⟩)) (fun j => fin.v _ j) (fun j => fin.w _ _)
  obtain ⟨s3, h3⟩ := Ffn.real_sum Finset.univ (fun j : Fin 256 => argO m c (ix2 i j)) (fun j => argW m c (ix2 l ⟨2304 + j, by omega⟩)) (fun j => fin.o _ j) (fun j => fin.w _ _)
  refine ⟨a * y + (((s0 + s1) + s2) + s3), ?_⟩
  rw [entered, dilated_apply, h0, h1, h2, h3, hy, ha]
  simp only [EReal.coe_add, EReal.coe_mul]

/-- A point's gradient of its rows is the reference's at their tokens. -/
theorem back_eq (fin : Finite m c) (t : Fin cfg0.N) (k : Fin 512) (l : Fin 1024) :
    Block.back (rBlock m c t) (gBlock m c t) (entering m c t) (ix2 k l) = Ref.back (argR m c) (argG m c) (entered m c) (ix2 (tokenOf t k) l) := by
  rw [Block.back_apply, Ref.back_apply, rBlock_row, gBlock_lane, entering_row]
  exact agree _ _ _ fin.g (fun l => entered_real m c fin _ l) l

theorem final_rows (fin : Finite m c) : (dats m 0 c).arrAt 8 cfg0.N = Ref.back (argR m c) (argG m c) (entered m c) := by
  refine (dats m 0 c).arrAt_eq_of_covers 8 _ (by decide +kernel) fun t hf y => ?_
  blk_simp
  rw [after0_8, rows_block]
  idx_vars y
  have hE : ((View.whole main_v0_0).slice (win0_8.rect t)).emb (ix2 y0 y1) = ix2 (tokenOf t y0) y1 := by
    blk_ext [index8]
  rw [hE]
  exact back_eq m c fin t y0 y1

theorem final_narrow (fin : Finite m c) :
    (dats m 0 c).arrAt 9 cfg0.N = (truncf .bf16 (Ref.back (argR m c) (argG m c) (entered m c)) InBwdARefIdeal.Gen.facts.bitsLt_bf16_f32 : FVec Ideal S8192x1024 .bf16) := by
  refine (dats m 0 c).arrAt_eq_of_covers 9 _ (by decide +kernel) fun t hf y => ?_
  blk_simp
  rw [after0_9, narrow_block]
  idx_vars y
  have hE : ((View.whole main_v0_1).slice (win0_9.rect t)).emb (ix2 y0 y1) = ix2 (tokenOf t y0) y1 := by
    blk_ext [index9]
  rw [hE]
  exact back_eq m c fin t y0 y1

theorem final_gain : (dats m 0 c).arrAt 10 cfg0.N = Ref.gain (argR m c) (entered m c) := by
  refine (dats m 0 c).arrAt_eq_of_covers 10 _ (by decide +kernel) fun t hf y => ?_
  have h := (flush0_10 t).mp hf
  blk_simp
  rw [after0_10]
  idx_vars y
  obtain rfl : y0 = 0 := Subsingleton.elim _ _
  have hE : ((View.whole main_v0_2).slice (win0_10.rect t)).emb (ix2 0 y1) = ix2 0 y1 := by
    blk_ext [index10]
  rw [hE, Ref.gain_apply]
  refine sum_of_tiles (J := 16) (L := 8192) rfl (fun n h l => (outsAt0 m c n h).2.2.1 (ix2 0 l)) (gainPart m c)
    (fun _ i l => normed (Ref.row (argR m c) i) l * Ref.row (entered m c) i l) (gain_first m c) (gain_later m c) (fun t k l hl => ?_) t h y1
  rw [gainPart, rBlock_row, entering_row, mul_comm]

theorem final_shift : (dats m 0 c).arrAt 11 cfg0.N = Ref.shift (entered m c) := by
  refine (dats m 0 c).arrAt_eq_of_covers 11 _ (by decide +kernel) fun t hf y => ?_
  have h := (flush0_11 t).mp hf
  blk_simp
  rw [after0_11]
  idx_vars y
  obtain rfl : y0 = 0 := Subsingleton.elim _ _
  have hE : ((View.whole main_v0_3).slice (win0_11.rect t)).emb (ix2 0 y1) = ix2 0 y1 := by
    blk_ext [index11]
  rw [hE, Ref.shift_apply]
  refine sum_of_tiles (J := 16) (L := 8192) rfl (fun n h l => (outsAt0 m c n h).2.2.2 (ix2 0 l)) (shiftPart m c)
    (fun _ i l => Ref.row (entered m c) i l) (shift_first m c) (shift_later m c) (fun t k l hl => ?_) t h y1
  rw [shiftPart, entering_row]

/-- The precondition says that these seven arguments hold real numbers alone. -/
theorem finite_of_pre (h : Cert.Pre_norm_finite_a.fn (F := Ideal) (argQ m c) (argK m c) (argV m c) (argO m c) (argW m c) (argY m c) (argR m c) (argG m c) = fun _ => 1#1) :
    Finite m c := by
  have h := congrFun h ix0
  unfold Cert.Pre_norm_finite_a.fn Cert.Pre_norm_finite_a.fn_part1 Cert.Pre_norm_finite_a.fn_part2 at h
  dsimp only at h
  obtain ⟨h, hg⟩ := IntOp.andi_eq_one.1 h
  obtain ⟨h, hy⟩ := IntOp.andi_eq_one.1 h
  obtain ⟨h, hw⟩ := IntOp.andi_eq_one.1 h
  obtain ⟨h, ho⟩ := IntOp.andi_eq_one.1 h
  obtain ⟨h, hv⟩ := IntOp.andi_eq_one.1 h
  obtain ⟨hq, hk⟩ := IntOp.andi_eq_one.1 h
  have hq := fun i j => Host.reduce_andi_all _ _ _ _ _ hq (ix2 i j)
  have hk := fun i j => Host.reduce_andi_all _ _ _ _ _ hk (ix2 i j)
  have hv := fun i j => Host.reduce_andi_all _ _ _ _ _ hv (ix2 i j)
  have ho := fun i j => Host.reduce_andi_all _ _ _ _ _ ho (ix2 i j)
  have hw := fun i j => Host.reduce_andi_all _ _ _ _ _ hw (ix2 i j)
  have hy := fun i j => Host.reduce_andi_all _ _ _ _ _ hy (ix2 i j)
  have hg := fun i j => Host.reduce_andi_all _ _ _ _ _ hg (ix2 i j)
  pointwise at hq
  pointwise at hk
  pointwise at hv
  pointwise at ho
  pointwise at hw
  pointwise at hy
  pointwise at hg
  exact ⟨fun i j => real_of_abs_lt _ (hq i j), fun i j => real_of_abs_lt _ (hk i j), fun i j => real_of_abs_lt _ (hv i j), fun i j => real_of_abs_lt _ (ho i j),
    fun i j => real_of_abs_lt _ (hw i j), fun i j => real_of_abs_lt _ (hy i j), fun j => real_of_abs_lt _ (hg j)⟩

/-- The reference leaves its arguments as they were; it has no semaphores. -/
theorem frame_reference : Cert.quiescent_InBwdARefIdeal := fun m g _ =>
  (θ_run _ _ _).mono (fun r h => ⟨fun c => (h c).2.2.2.2, sem_eq_zero_of_no_sems rfl r.2⟩) (run_reference m g)

set_option smartUnfolding false in
/-- The kernel's frame on float words: its ideal program's run is stated of any float values, so of words too. -/
theorem frame_words : Cert.quiescent_InBwdA (hInBwdA := Cert.InBwdA.Gen.facts) := fun m ρ _ =>
  Cert.InBwdAIdeal.Gen.frame (F := Bits) m ρ

/-- Where what enters and its factors are finite, kernel and reference end with the same four arrays. -/
theorem algebraic : Cert.algebraic_InBwdAIdeal_InBwdARefIdeal_pre_norm_finite_a := by
  intro m g m' g' pre same
  refine ⟨_, _, _, _, Value.run_blocks m g, (θ_run _ _ _).mono (fun r h c => ?_) (run_reference m' g')⟩
  obtain ⟨s0, s1, s2, s3, s4, s5, s6, s7⟩ := same c
  have fin := finite_of_pre m c (pre c)
  have hd : reached m' c = entered m c := by
    unfold reached entered
    rw [held, held, held, held, held, held, s0, s1, s2, s3, s4, s5]
  have hr : held m' c InBwdARefIdeal.main_arg6 = argR m c := s6
  have hg : held m' c InBwdARefIdeal.main_arg7 = argG m c := s7
  obtain ⟨h0, h1, h2, h3, h⟩ := h c
  rw [hd, hr] at h0 h1 h2
  rw [hg] at h0 h1
  rw [hd] at h3
  exact ⟨h0.trans (final_rows m c fin).symm, h1.trans (final_narrow m c fin).symm, h2.trans (final_gain m c).symm, h3.trans (final_shift m c).symm, h⟩

end Cert.InBackA
-- ==== Proof.InBackB.lean ====
/-
  The gradient x layer's projection and the layer norm before it: one grid point of the
  kernel.
-/
module

public import proofs.«01_k».proof.Proof.NormBlock
public import proofs.«01_k».proof.Proof.NormRef
public import proofs.«01_k».proof.Proof.Gated
public import proofs.«01_k».proof.Proof.Tiles
public import proofs.«01_k».proof.Proof.Gen.InBwdBIdeal.Value
public import Idealize.ShloMosaic.Lib.Pipeline.ReadBack
public import Idealize.ShloMosaic.Lib.Pointwise

@[expose] public section

set_option maxRecDepth 16384

noncomputable section

namespace Cert.InBackB

open Cert.InBwdBIdeal Cert.InBwdBIdeal.Gen Idealize.ShloMosaic Idealize.ShloMosaic.TcCoe Idealize.SL.Sem Cert.Norm Cert.Parts

variable (m : (ℓ : Loc nD τ sig) → Buf (Elt Ideal) ℓ) (c : Dev nD)

/-- The gradient of the unit's two halves. -/
abbrev argU : FVec Ideal S8192x1536 .bf16 := m ((c.tc : Thread nD τ).loc main_arg0)
/-- The gradient of the memory queries. -/
abbrev argO : FVec Ideal S8192x256 .bf16 := m ((c.tc : Thread nD τ).loc main_arg1)
/-- The projection. -/
abbrev argW : FVec Ideal S1024x1792 .bf16 := m ((c.tc : Thread nD τ).loc main_arg2)
/-- The gradient of the residual. -/
abbrev argY : FVec Ideal S8192x1024 .f32 := m ((c.tc : Thread nD τ).loc main_arg3)
/-- The rows that were normed. -/
abbrev argR : FVec Ideal S8192x1024 .f32 := m ((c.tc : Thread nD τ).loc main_arg4)
/-- The gain. -/
abbrev argG : FVec Ideal S1x1024 .f32 := m ((c.tc : Thread nD τ).loc main_arg5)

/-- A point's block of the unit's gradient. -/
abbrev uBlock (t : Fin cfg0.N) : Vec Ideal S512x1536 .bf16 := iblk m c 0 t
/-- A point's block of the memory queries' gradient. -/
abbrev oBlock (t : Fin cfg0.N) : Vec Ideal S512x256 .bf16 := iblk m c 1 t
/-- The projection, as every point has it. -/
abbrev wBlock (t : Fin cfg0.N) : Vec Ideal S1024x1792 .bf16 := iblk m c 2 t
/-- A point's block of the residual's gradient. -/
abbrev yBlock (t : Fin cfg0.N) : Vec Ideal S512x1024 .f32 := iblk m c 3 t
/-- A point's block of the rows. -/
abbrev rBlock (t : Fin cfg0.N) : Vec Ideal S512x1024 .f32 := iblk m c 4 t
/-- The gain, as every point has it. -/
abbrev gBlock (t : Fin cfg0.N) : Vec Ideal S1x1024 .f32 := iblk m c 5 t

/-- The gradient of the normed rows of a block, as the kernel computes it. -/
def entering (t : Fin cfg0.N) : Vec Ideal S512x1024 .f32 :=
  k0_pay5 (uBlock m c t) (View.ld (wBlock m c t) (Rect.unit ![0, 0] ![1024, 1536] inb_S1024x1792_S1024x1536_0_0))
    (oBlock m c t) (View.ld (wBlock m c t) (Rect.unit ![0, 1536] ![1024, 256] inb_S1024x1792_S1024x256_0_1536)) (yBlock m c t)

/-- It is the residual's and the products with the projection's two parts. -/
theorem entering_apply (t : Fin cfg0.N) (i : Fin 512) (l : Fin 1024) : entering m c t (ix2 i l) = alpha * yBlock m c t (ix2 i l)
    + ((∑ j : Fin 1536, uBlock m c t (ix2 i j) * wBlock m c t (ix2 l ⟨j, by omega⟩)) + ∑ j : Fin 256, oBlock m c t (ix2 i j) * wBlock m c t (ix2 l ⟨1536 + j, by omega⟩)) := by
  unfold entering
  pointwise [k0_pay5]

/-- A point's gradient of its rows. -/
theorem rows_block (t : Fin cfg0.N) : (outsAt0 m c t.val t.isLt).1 = Block.back (rBlock m c t) (gBlock m c t) (entering m c t) := by
  by_cases h : t.val % 16 = 0
  · rw [outsAt0_A m c t h]
    dsimp only
    frame_out
    rfl
  · rw [outsAt0_B m c t h]
    dsimp only
    frame_out
    rfl

/-- The same at half the width. -/
theorem narrow_block (t : Fin cfg0.N) : (outsAt0 m c t.val t.isLt).2.1 = truncf .bf16 (Block.back (rBlock m c t) (gBlock m c t) (entering m c t)) bitsLt_bf16_f32 := by
  by_cases h : t.val % 16 = 0
  · rw [outsAt0_A m c t h]
    dsimp only
    frame_out
    rfl
  · rw [outsAt0_B m c t h]
    dsimp only
    frame_out
    rfl

theorem zeros_gain (i : S1x1024.Idx) : k0_pay9 (F := Ideal) i = 0 := by
  idx_vars i
  pointwise [k0_pay9]

theorem zeros_shift (i : S1x1024.Idx) : k0_pay10 (F := Ideal) i = 0 := by
  idx_vars i
  pointwise [k0_pay10]

/-- A point's part of the gain's gradient, at a row and a lane. -/
def gainPart (t : Fin cfg0.N) (k : Fin 512) (l : Fin 1024) : EReal :=
  Block.row (entering m c t) k l * normed (Block.row (rBlock m c t) k) l
/-- A point's part of the shift's gradient, at a row and a lane. -/
def shiftPart (t : Fin cfg0.N) (k : Fin 512) (l : Fin 1024) : EReal := Block.row (entering m c t) k l

/-- The first point leaves its own sum over its rows. -/
theorem gain_first (t : Fin cfg0.N) (h : t.val % 16 = 0) (l : Fin 1024) :
    (outsAt0 m c t.val t.isLt).2.2.1 (ix2 0 l) = ∑ k : Fin 512, gainPart m c t k l := by
  rw [outsAt0_A m c t h]
  dsimp only
  frame_out
  refine (Block.addGain_apply (rBlock m c t) (entering m c t) l _ 0).trans ?_
  rw [zeros_gain, zero_add]
  rfl

theorem shift_first (t : Fin cfg0.N) (h : t.val % 16 = 0) (l : Fin 1024) :
    (outsAt0 m c t.val t.isLt).2.2.2 (ix2 0 l) = ∑ k : Fin 512, shiftPart m c t k l := by
  rw [outsAt0_A m c t h]
  dsimp only
  frame_out
  refine (Block.addRows_apply l (entering m c t) _ 0).trans ?_
  rw [zeros_shift, zero_add]
  rfl

/-- Every other point adds its sum. -/
theorem gain_later (t : Fin cfg0.N) (h : ¬t.val % 16 = 0) (l : Fin 1024) :
    (outsAt0 m c t.val t.isLt).2.2.1 (ix2 0 l) = (outsAt0 m c (t.val - 1) (Nat.lt_of_le_of_lt (Nat.sub_le _ _) t.isLt)).2.2.1 (ix2 0 l)
      + ∑ k : Fin 512, gainPart m c t k l := by
  rw [outsAt0_B m c t h]
  dsimp only
  frame_out
  exact Block.addGain_apply (rBlock m c t) (entering m c t) l _ 0

theorem shift_later (t : Fin cfg0.N) (h : ¬t.val % 16 = 0) (l : Fin 1024) :
    (outsAt0 m c t.val t.isLt).2.2.2 (ix2 0 l) = (outsAt0 m c (t.val - 1) (Nat.lt_of_le_of_lt (Nat.sub_le _ _) t.isLt)).2.2.2 (ix2 0 l)
      + ∑ k : Fin 512, shiftPart m c t k l := by
  rw [outsAt0_B m c t h]
  dsimp only
  frame_out
  exact Block.addRows_apply l (entering m c t) _ 0

end Cert.InBackB
-- ==== Proof.InBackBFinal.lean ====
/-
  The kernel that takes the gradient back through the projection of a layer with the spatial gating unit, and the layer
  norm before it, ends with its reference's four arrays.
-/
module

public import proofs.«01_k».proof.Defs
public import proofs.«01_k».proof.Proof.InBackB
public import proofs.«01_k».proof.Proof.Gate
public import proofs.«01_k».proof.Proof.Reals
public import proofs.«01_k».proof.Proof.Gen.InBwdB
public import proofs.«01_k».proof.Proof.Gen.Pre_norm_finite_b
public import proofs.«01_k».proof.Proof.Gen.InBwdBRefIdeal.Run
public import Idealize.ShloMosaic.Lib.Claim
public import Idealize.ShloMosaic.Lib.Quiescent
public import Idealize.ShloMosaic.Lib.ReduceAll

@[expose] public section

set_option maxRecDepth 16384

noncomputable section

namespace Cert.InBackB

open Cert.InBwdBIdeal Cert.InBwdBIdeal.Gen Idealize.ShloMosaic Idealize.ShloMosaic.TcCoe Idealize.SL.Sem Cert.Norm Cert.Parts

attribute [local instance] Cert.InBwdBRefIdeal.Gen.facts Cert.Pre_norm_finite_b.Gen.facts

/-- An array of the reference's memory. -/
abbrev held (m : (ℓ : Loc InBwdBRefIdeal.nD InBwdBRefIdeal.τ InBwdBRefIdeal.sig) → Buf (Elt Ideal) ℓ) (c : Dev InBwdBRefIdeal.nD)
    (r : Ref InBwdBRefIdeal.sig .tc) : Buf (Elt Ideal) ((c.tc : Thread InBwdBRefIdeal.nD InBwdBRefIdeal.τ).loc r) :=
  m ((c.tc : Thread InBwdBRefIdeal.nD InBwdBRefIdeal.τ).loc r)

/-- The gradient of the normed rows, at the reference's arguments. -/
abbrev reached (m : (ℓ : Loc InBwdBRefIdeal.nD InBwdBRefIdeal.τ InBwdBRefIdeal.sig) → Buf (Elt Ideal) ℓ) (c : Dev InBwdBRefIdeal.nD) : Ref.Rows :=
  Gated.back (held m c InBwdBRefIdeal.main_arg0) (held m c InBwdBRefIdeal.main_arg1) (held m c InBwdBRefIdeal.main_arg2)
    (held m c InBwdBRefIdeal.main_arg3)

/-- The reference's run, its results by their stages. -/
theorem run_reference (m : (ℓ : Loc InBwdBRefIdeal.nD InBwdBRefIdeal.τ InBwdBRefIdeal.sig) → Buf (Elt Ideal) ℓ) (ρ : Dev InBwdBRefIdeal.nD → PrngReg) :
    θ_run InBwdBRefIdeal.defs (onTc (τ := InBwdBRefIdeal.τ) (InBwdBRefIdeal.main (F := Ideal))) ⟨m, fun _ => 0, ρ⟩ fun r => ∀ c : Dev InBwdBRefIdeal.nD,
      held r.2.mem c InBwdBRefIdeal.main_v75 = Ref.back (held m c InBwdBRefIdeal.main_arg4) (held m c InBwdBRefIdeal.main_arg5) (reached m c)
      ∧ held r.2.mem c InBwdBRefIdeal.main_v76 = truncf .bf16 (Ref.back (held m c InBwdBRefIdeal.main_arg4) (held m c InBwdBRefIdeal.main_arg5) (reached m c)) InBwdBRefIdeal.Gen.facts.bitsLt_bf16_f32
      ∧ held r.2.mem c InBwdBRefIdeal.main_v49 = Ref.gain (held m c InBwdBRefIdeal.main_arg4) (reached m c)
      ∧ held r.2.mem c InBwdBRefIdeal.main_v46 = Ref.shift (reached m c)
      ∧ held r.2.mem c InBwdBRefIdeal.main_arg0 = held m c InBwdBRefIdeal.main_arg0
      ∧ held r.2.mem c InBwdBRefIdeal.main_arg1 = held m c InBwdBRefIdeal.main_arg1
      ∧ held r.2.mem c InBwdBRefIdeal.main_arg2 = held m c InBwdBRefIdeal.main_arg2
      ∧ held r.2.mem c InBwdBRefIdeal.main_arg3 = held m c InBwdBRefIdeal.main_arg3
      ∧ held r.2.mem c InBwdBRefIdeal.main_arg4 = held m c InBwdBRefIdeal.main_arg4
      ∧ held r.2.mem c InBwdBRefIdeal.main_arg5 = held m c InBwdBRefIdeal.main_arg5 :=
  InBwdBRefIdeal.Value.run m ρ

variable (m : (ℓ : Loc nD τ sig) → Buf (Elt Ideal) ℓ) (c : Dev nD)

theorem index0 : ∀ t : Fin cfg0.N, win0_0.index t = ![t.val % 16, 0] := by decide +kernel
theorem index1 : ∀ t : Fin cfg0.N, win0_1.index t = ![t.val % 16, 0] := by decide +kernel
theorem index2 : ∀ t : Fin cfg0.N, win0_2.index t = ![0, 0] := by decide +kernel
theorem index3 : ∀ t : Fin cfg0.N, win0_3.index t = ![t.val % 16, 0] := by decide +kernel
theorem index4 : ∀ t : Fin cfg0.N, win0_4.index t = ![t.val % 16, 0] := by decide +kernel
theorem index5 : ∀ t : Fin cfg0.N, win0_5.index t = ![0, 0] := by decide +kernel
theorem index6 : ∀ t : Fin cfg0.N, win0_6.index t = ![t.val % 16, 0] := by decide +kernel
theorem index7 : ∀ t : Fin cfg0.N, win0_7.index t = ![t.val % 16, 0] := by decide +kernel
theorem index8 : ∀ t : Fin cfg0.N, win0_8.index t = ![0, 0] := by decide +kernel
theorem index9 : ∀ t : Fin cfg0.N, win0_9.index t = ![0, 0] := by decide +kernel

/-- The token of a point's row. -/
abbrev tokenOf (t : Fin cfg0.N) (k : Fin 512) : Fin 8192 := ⟨t.val % 16 * 512 + k.val, by have := Nat.mod_lt t.val (show 0 < 16 by omega); omega⟩

section Reads

variable (t : Fin cfg0.N) (i : Fin 512)

theorem uBlock_apply (l : Fin 1536) : uBlock m c t (ix2 i l) = argU m c (ix2 (tokenOf t i) l) := by
  blk_ext [iblk, V, index0]
theorem oBlock_apply (l : Fin 256) : oBlock m c t (ix2 i l) = argO m c (ix2 (tokenOf t i) l) := by
  blk_ext [iblk, V, index1]
theorem wBlock_apply (i : Fin 1024) (l : Fin 1792) : wBlock m c t (ix2 i l) = argW m c (ix2 i l) := by
  blk_ext [iblk, V, index2]
theorem yBlock_apply (l : Fin 1024) : yBlock m c t (ix2 i l) = argY m c (ix2 (tokenOf t i) l) := by
  blk_ext [iblk, V, index3]
theorem rBlock_row : Block.row (rBlock m c t) i = Ref.row (argR m c) (tokenOf t i) := by
  funext l
  show rBlock m c t (ix2 i l) = argR m c (ix2 (tokenOf t i) l)
  blk_ext [iblk, V, index4]
theorem gBlock_lane : Block.lane (gBlock m c t) = Ref.lane (argG m c) := by
  funext l
  show gBlock m c t (ix2 0 l) = argG m c (ix2 0 l)
  blk_ext [iblk, V, index5]

end Reads

/-- The gradient of the normed rows, at the kernel's arguments. -/
abbrev entered : Ref.Rows := Gated.back (argU m c) (argO m c) (argW m c) (argY m c)

theorem entering_row (t : Fin cfg0.N) (k : Fin 512) : Block.row (entering m c t) k = Ref.row (entered m c) (tokenOf t k) := by
  funext l
  refine ((entering_apply m c t k l).trans ?_).trans (Gated.back_apply _ _ _ _ (tokenOf t k) l).symm
  simp only [uBlock_apply, oBlock_apply, wBlock_apply, yBlock_apply]

/-- The gradients that enter and their factors are finite. -/
structure Finite : Prop where
  u : ∀ r k, ∃ v : ℝ, argU m c (ix2 r k) = v
  o : ∀ r k, ∃ v : ℝ, argO m c (ix2 r k) = v
  w : ∀ k l, ∃ v : ℝ, argW m c (ix2 k l) = v
  y : ∀ r k, ∃ v : ℝ, argY m c (ix2 r k) = v
  g : ∀ k, ∃ v : ℝ, argG m c (ix2 0 k) = v

theorem entered_real (fin : Finite m c) (i : Fin 8192) (l : Fin 1024) : ∃ v : ℝ, entered m c (ix2 i l) = v := by
  obtain ⟨a, ha⟩ := alpha_real
  obtain ⟨y, hy⟩ := fin.y i l
  obtain ⟨s0, h0⟩ := Ffn.real_sum Finset.univ (fun j : Fin 1536 => argU m c (ix2 i j)) (fun j => argW m c (ix2 l ⟨j, by omega⟩)) (fun j => fin.u _ j) (fun j => fin.w _ _)
  obtain ⟨s1, h1⟩ := Ffn.real_sum Finset.univ (fun j : Fin 256 => argO m c (ix2 i j)) (fun j => argW m c (ix2 l ⟨1536 + j, by omega⟩)) (fun j => fin.o _ j) (fun j => fin.w _ _)
  refine ⟨a * y + (s0 + s1), ?_⟩
  rw [entered, Gated.back_apply, h0, h1, hy, ha]
  simp only [EReal.coe_add, EReal.coe_mul]

/-- A point's gradient of its rows is the reference's at their tokens. -/
theorem back_eq (fin : Finite m c) (t : Fin cfg0.N) (k : Fin 512) (l : Fin 1024) :
    Block.back (rBlock m c t) (gBlock m c t) (entering m c t) (ix2 k l) = Ref.back (argR m c) (argG m c) (entered m c) (ix2 (tokenOf t k) l) := by
  rw [Block.back_apply, Ref.back_apply, rBlock_row, gBlock_lane, entering_row]
  exact agree _ _ _ fin.g (fun l => entered_real m c fin _ l) l

theorem final_rows (fin : Finite m c) : (dats m 0 c).arrAt 6 cfg0.N = Ref.back (argR m c) (argG m c) (entered m c) := by
  refine (dats m 0 c).arrAt_eq_of_covers 6 _ (by decide +kernel) fun t hf y => ?_
  blk_simp
  rw [after0_6, rows_block]
  idx_vars y
  have hE : ((View.whole main_v0_0).slice (win0_6.rect t)).emb (ix2 y0 y1) = ix2 (tokenOf t y0) y1 := by
    blk_ext [index6]
  rw [hE]
  exact back_eq m c fin t y0 y1

theorem final_narrow (fin : Finite m c) :
    (dats m 0 c).arrAt 7 cfg0.N = (truncf .bf16 (Ref.back (argR m c) (argG m c) (entered m c)) InBwdBRefIdeal.Gen.facts.bitsLt_bf16_f32 : FVec Ideal S8192x1024 .bf16) := by
  refine (dats m 0 c).arrAt_eq_of_covers 7 _ (by decide +kernel) fun t hf y => ?_
  blk_simp
  rw [after0_7, narrow_block]
  idx_vars y
  have hE : ((View.whole main_v0_1).slice (win0_7.rect t)).emb (ix2 y0 y1) = ix2 (tokenOf t y0) y1 := by
    blk_ext [index7]
  rw [hE]
  exact back_eq m c fin t y0 y1

theorem final_gain : (dats m 0 c).arrAt 8 cfg0.N = Ref.gain (argR m c) (entered m c) := by
  refine (dats m 0 c).arrAt_eq_of_covers 8 _ (by decide +kernel) fun t hf y => ?_
  have h := (flush0_8 t).mp hf
  blk_simp
  rw [after0_8]
  idx_vars y
  obtain rfl : y0 = 0 := Subsingleton.elim _ _
  have hE : ((View.whole main_v0_2).slice (win0_8.rect t)).emb (ix2 0 y1) = ix2 0 y1 := by
    blk_ext [index8]
  rw [hE, Ref.gain_apply]
  refine sum_of_tiles (J := 16) (L := 8192) rfl (fun n h l => (outsAt0 m c n h).2.2.1 (ix2 0 l)) (gainPart m c)
    (fun _ i l => normed (Ref.row (argR m c) i) l * Ref.row (entered m c) i l) (gain_first m c) (gain_later m c) (fun t k l hl => ?_) t h y1
  rw [gainPart, rBlock_row, entering_row, mul_comm]

theorem final_shift : (dats m 0 c).arrAt 9 cfg0.N = Ref.shift (entered m c) := by
  refine (dats m 0 c).arrAt_eq_of_covers 9 _ (by decide +kernel) fun t hf y => ?_
  have h := (flush0_9 t).mp hf
  blk_simp
  rw [after0_9]
  idx_vars y
  obtain rfl : y0 = 0 := Subsingleton.elim _ _
  have hE : ((View.whole main_v0_3).slice (win0_9.rect t)).emb (ix2 0 y1) = ix2 0 y1 := by
    blk_ext [index9]
  rw [hE, Ref.shift_apply]
  refine sum_of_tiles (J := 16) (L := 8192) rfl (fun n h l => (outsAt0 m c n h).2.2.2 (ix2 0 l)) (shiftPart m c)
    (fun _ i l => Ref.row (entered m c) i l) (shift_first m c) (shift_later m c) (fun t k l hl => ?_) t h y1
  rw [shiftPart, entering_row]

/-- The precondition says that these five arguments hold real numbers alone. -/
theorem finite_of_pre (h : Cert.Pre_norm_finite_b.fn (F := Ideal) (argU m c) (argO m c) (argW m c) (argY m c) (argR m c) (argG m c) = fun _ => 1#1) :
    Finite m c := by
  have h := congrFun h ix0
  unfold Cert.Pre_norm_finite_b.fn Cert.Pre_norm_finite_b.fn_part1 at h
  dsimp only at h
  obtain ⟨h, hg⟩ := IntOp.andi_eq_one.1 h
  obtain ⟨h, hy⟩ := IntOp.andi_eq_one.1 h
  obtain ⟨h, hw⟩ := IntOp.andi_eq_one.1 h
  obtain ⟨hu, ho⟩ := IntOp.andi_eq_one.1 h
  have hu := fun i j => Host.reduce_andi_all _ _ _ _ _ hu (ix2 i j)
  have ho := fun i j => Host.reduce_andi_all _ _ _ _ _ ho (ix2 i j)
  have hw := fun i j => Host.reduce_andi_all _ _ _ _ _ hw (ix2 i j)
  have hy := fun i j => Host.reduce_andi_all _ _ _ _ _ hy (ix2 i j)
  have hg := fun i j => Host.reduce_andi_all _ _ _ _ _ hg (ix2 i j)
  pointwise at hu
  pointwise at ho
  pointwise at hw
  pointwise at hy
  pointwise at hg
  exact ⟨fun i j => real_of_abs_lt _ (hu i j), fun i j => real_of_abs_lt _ (ho i j), fun i j => real_of_abs_lt _ (hw i j), fun i j => real_of_abs_lt _ (hy i j),
    fun j => real_of_abs_lt _ (hg j)⟩

/-- The reference leaves its arguments as they were; it has no semaphores. -/
theorem frame_reference : Cert.quiescent_InBwdBRefIdeal := fun m g _ =>
  (θ_run _ _ _).mono (fun r h => ⟨fun c => (h c).2.2.2.2, sem_eq_zero_of_no_sems rfl r.2⟩) (run_reference m g)

set_option smartUnfolding false in
/-- The kernel's frame on float words: its ideal program's run is stated of any float values, so of words too. -/
theorem frame_words : Cert.quiescent_InBwdB (hInBwdB := Cert.InBwdB.Gen.facts) := fun m ρ _ =>
  Cert.InBwdBIdeal.Gen.frame (F := Bits) m ρ

/-- Where what enters and its factors are finite, kernel and reference end with the same four arrays. -/
theorem algebraic : Cert.algebraic_InBwdBIdeal_InBwdBRefIdeal_pre_norm_finite_b := by
  intro m g m' g' pre same
  refine ⟨_, _, _, _, Value.run_blocks m g, (θ_run _ _ _).mono (fun r h c => ?_) (run_reference m' g')⟩
  obtain ⟨s0, s1, s2, s3, s4, s5⟩ := same c
  have fin := finite_of_pre m c (pre c)
  have hd : reached m' c = entered m c := by
    unfold reached entered
    rw [held, held, held, held, s0, s1, s2, s3]
  have hr : held m' c InBwdBRefIdeal.main_arg4 = argR m c := s4
  have hg : held m' c InBwdBRefIdeal.main_arg5 = argG m c := s5
  obtain ⟨h0, h1, h2, h3, h⟩ := h c
  rw [hd, hr] at h0 h1 h2
  rw [hg] at h0 h1
  rw [hd] at h3
  exact ⟨h0.trans (final_rows m c fin).symm, h1.trans (final_narrow m c fin).symm, h2.trans (final_gain m c).symm, h3.trans (final_shift m c).symm, h⟩

end Cert.InBackB
-- ==== Proof.NormForward.lean ====
/-
  A layer norm itself, with its gain and shift: along a row, over all tokens as the references write it, and over a block of
  512 tokens as the kernels do.
-/
module

public import proofs.«01_k».proof.Proof.NormRef
public import proofs.«01_k».proof.Proof.NormBlock

@[expose] public section

set_option maxRecDepth 16384

noncomputable section

namespace Cert.Norm

open Idealize.ShloMosaic Idealize.ShloMosaic.TcCoe Idealize.SL.Sem

/-- A row normed, with gain and shift. -/
def scaled (r g b : Row) (l : Fin 1024) : EReal := normed r l * g l + b l

namespace Ref
open Cert.UpBwdRefIdeal Cert.UpBwdRefIdeal.Gen

/-- The rows normed, with gain and shift. -/
def scale (r : Rows) (g b : Lanes) : Rows :=
  addf (mulf (norms r) (broadcastInDim S8192x1024 ![0, 1] bcast_S1x1024_S8192x1024_0_1 g)) (broadcastInDim S8192x1024 ![0, 1] bcast_S1x1024_S8192x1024_0_1 b)

theorem scale_apply (r : Rows) (g b : Lanes) (i : Fin 8192) (l : Fin 1024) : scale r g b (ix2 i l) = scaled (row r i) (lane g) (lane b) l := by
  pointwise [scale, norms_apply]
  rfl

/-- The residual path's factor times the rows, and what is added to them. -/
def step (y s : Rows) : Rows := addf (mulf (broadcastInDim S8192x1024 ![] bcast_S_S8192x1024 (constant S_ .f32 0x3FD744FD#32)) y) s

theorem step_apply (y s : Rows) (i : Fin 8192) (l : Fin 1024) :
    step y s (ix2 i l) = Ideal.ofBits FTy.f32 0x3FD744FD#32 * y (ix2 i l) + s (ix2 i l) := by
  pointwise [step]

end Ref

namespace Block
open Cert.UpBwdIdeal Cert.UpBwdIdeal.Gen

/-- The block's rows normed, with gain and shift. -/
def scale (r : Rows) (g b : Lanes) : Rows :=
  addf (mulf (norms r) (broadcastTo S512x1024 g broadcasts_S1x1024_S512x1024)) (broadcastTo S512x1024 b broadcasts_S1x1024_S512x1024)

theorem scale_apply (r : Rows) (g b : Lanes) (i : Fin 512) (l : Fin 1024) : scale r g b (ix2 i l) = scaled (row r i) (lane g) (lane b) l := by
  pointwise [scale, norms_apply]
  rfl

/-- The residual path's factor times the block's rows, and what is added to them. -/
def step (y s : Rows) : Rows := addf (mulf (broadcast S512x1024 (Scalar.ofBits .f32 0x3FD744FD#32)) y) s

theorem step_apply (y s : Rows) (i : Fin 512) (l : Fin 1024) :
    step y s (ix2 i l) = Ideal.ofBits FTy.f32 0x3FD744FD#32 * y (ix2 i l) + s (ix2 i l) := by
  pointwise [step]

end Block

end Cert.Norm
-- ==== Proof.DownOut.lean ====
/-
  The second half of a layer's feed-forward block: the down projection, the residual path, and the norm after them. The
  kernel's two arrays are the reference's.
-/
module

public import proofs.«01_k».proof.Defs
public import proofs.«01_k».proof.Proof.NormForward
public import proofs.«01_k».proof.Proof.Columns
public import proofs.«01_k».proof.Proof.Gen.DownFwd
public import proofs.«01_k».proof.Proof.Gen.DownFwdIdeal.Value
public import proofs.«01_k».proof.Proof.Gen.DownFwdRefIdeal.Run
public import Idealize.ShloMosaic.Lib.Pipeline.ReadBack
public import Idealize.ShloMosaic.Lib.Claim
public import Idealize.ShloMosaic.Lib.Quiescent

@[expose] public section

set_option maxRecDepth 16384

noncomputable section

namespace Cert.DownOut

open Cert.DownFwdIdeal Cert.DownFwdIdeal.Gen Idealize.ShloMosaic Idealize.ShloMosaic.TcCoe Idealize.SL.Sem Cert.Norm

attribute [local instance] Cert.DownFwdRefIdeal.Gen.facts

/-- The down projection of all tokens, as the reference writes it. -/
def product (a : FVec Ideal S8192x2816 .bf16) (w : FVec Ideal S2816x1024 .bf16) : Ref.Rows :=
  Host.dotGeneral DownFwdRefIdeal.dot_S8192x2816_S2816x1024_S8192x1024_1_0_0_1_n_n none
    (extf .f32 a DownFwdRefIdeal.Gen.facts.bitsLt_bf16_f32) (extf .f32 w DownFwdRefIdeal.Gen.facts.bitsLt_bf16_f32)

theorem product_apply (a : FVec Ideal S8192x2816 .bf16) (w : FVec Ideal S2816x1024 .bf16) (i : Fin 8192) (l : Fin 1024) :
    product a w (ix2 i l) = ∑ k : Fin 2816, a (ix2 i k) * w (ix2 k l) := by
  pointwise [product]

/-- The down projection of a block of tokens, as the kernel computes it. -/
def blockProduct (a : Vec Ideal S512x2816 .bf16) (w : Vec Ideal S2816x1024 .bf16) : Block.Rows :=
  matmul (F := Ideal) (φ₁ := .bf16) (φ₂ := .bf16) dot_S512x2816_S2816x1024_S512x1024_1_0_0_1_n_n none a w (constant S512x1024 .f32 0x00000000#32)

theorem blockProduct_apply (a : Vec Ideal S512x2816 .bf16) (w : Vec Ideal S2816x1024 .bf16) (i : Fin 512) (l : Fin 1024) :
    blockProduct a w (ix2 i l) = ∑ k : Fin 2816, a (ix2 i k) * w (ix2 k l) := by
  pointwise [blockProduct]

variable (m : (ℓ : Loc nD τ sig) → Buf (Elt Ideal) ℓ) (c : Dev nD)

/-- The hidden values. -/
abbrev argA : FVec Ideal S8192x2816 .bf16 := m ((c.tc : Thread nD τ).loc main_arg0)
/-- The down projection. -/
abbrev argW : FVec Ideal S2816x1024 .bf16 := m ((c.tc : Thread nD τ).loc main_arg1)
/-- The rows of the residual path, before their norm. -/
abbrev argR : FVec Ideal S8192x1024 .f32 := m ((c.tc : Thread nD τ).loc main_arg2)
/-- That norm's gain. -/
abbrev argG : FVec Ideal S1x1024 .f32 := m ((c.tc : Thread nD τ).loc main_arg3)
/-- That norm's shift. -/
abbrev argB : FVec Ideal S1x1024 .f32 := m ((c.tc : Thread nD τ).loc main_arg4)
/-- The later norm's gain. -/
abbrev argH : FVec Ideal S1x1024 .f32 := m ((c.tc : Thread nD τ).loc main_arg5)
/-- The later norm's shift. -/
abbrev argC : FVec Ideal S1x1024 .f32 := m ((c.tc : Thread nD τ).loc main_arg6)

/-- The second residual sum. -/
def total : Ref.Rows := Ref.step (Ref.scale (argR m c) (argG m c) (argB m c)) (product (argA m c) (argW m c))

theorem index0 : ∀ t : Fin cfg0.N, win0_0.index t = ![t.val % 16, 0] := by decide +kernel
theorem index1 : ∀ t : Fin cfg0.N, win0_1.index t = ![0, 0] := by decide +kernel
theorem index2 : ∀ t : Fin cfg0.N, win0_2.index t = ![t.val % 16, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val % 16, 0] := by decide +kernel
theorem index8 : ∀ t : Fin cfg0.N, win0_8.index t = ![t.val % 16, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's hidden values. -/
abbrev aBlock (t : Fin cfg0.N) : Vec Ideal S512x2816 .bf16 := iblk m c 0 t
/-- The down projection, as every point has it. -/
abbrev wBlock (t : Fin cfg0.N) : Vec Ideal S2816x1024 .bf16 := iblk m c 1 t
/-- A point's rows of the residual path. -/
abbrev rBlock (t : Fin cfg0.N) : Vec Ideal S512x1024 .f32 := iblk m c 2 t
/-- Their norm's gain, as every point has it. -/
abbrev gBlock (t : Fin cfg0.N) : Vec Ideal S1x1024 .f32 := iblk m c 3 t
/-- Their norm's shift. -/
abbrev bBlock (t : Fin cfg0.N) : Vec Ideal S1x1024 .f32 := iblk m c 4 t
/-- The later norm's gain. -/
abbrev hBlock (t : Fin cfg0.N) : Vec Ideal S1x1024 .f32 := iblk m c 5 t
/-- The later norm's shift. -/
abbrev cBlock (t : Fin cfg0.N) : Vec Ideal S1x1024 .f32 := iblk m c 6 t

theorem aBlock_apply (t : Fin cfg0.N) (i : Fin 512) (l : Fin 2816) : aBlock m c t (ix2 i l) = argA m c (ix2 (tokenOf t i) l) := by
  blk_ext [iblk, V, index0]
theorem wBlock_apply (t : Fin cfg0.N) (i : Fin 2816) (l : Fin 1024) : wBlock m c t (ix2 i l) = argW m c (ix2 i l) := by
  blk_ext [iblk, V, index1]
theorem rBlock_row (t : Fin cfg0.N) (k : Fin 512) : Block.row (rBlock m c t) k = Ref.row (argR m c) (tokenOf t k) := by
  funext l
  show rBlock m c t (ix2 k l) = argR m c (ix2 (tokenOf t k) l)
  blk_ext [iblk, V, index2]
theorem gBlock_lane (t : Fin cfg0.N) : Block.lane (gBlock m c t) = Ref.lane (argG m c) := by
  funext l
  show gBlock m c t (ix2 0 l) = argG m c (ix2 0 l)
  blk_ext [iblk, V, index3]
theorem bBlock_lane (t : Fin cfg0.N) : Block.lane (bBlock m c t) = Ref.lane (argB m c) := by
  funext l
  show bBlock m c t (ix2 0 l) = argB m c (ix2 0 l)
  blk_ext [iblk, V, index4]
theorem hBlock_lane (t : Fin cfg0.N) : Block.lane (hBlock m c t) = Ref.lane (argH m c) := by
  funext l
  show hBlock m c t (ix2 0 l) = argH m c (ix2 0 l)
  blk_ext [iblk, V, index5]
theorem cBlock_lane (t : Fin cfg0.N) : Block.lane (cBlock m c t) = Ref.lane (argC m c) := by
  funext l
  show cBlock m c t (ix2 0 l) = argC m c (ix2 0 l)
  blk_ext [iblk, V, index6]

/-- A point's rows of the second residual sum. -/
def partOf (t : Fin cfg0.N) : Block.Rows := Block.step (Block.scale (rBlock m c t) (gBlock m c t) (bBlock m c t)) (blockProduct (aBlock m c t) (wBlock m c t))

theorem rows_block (t : Fin cfg0.N) :
    out0_7 (aBlock m c t) (wBlock m c t) (rBlock m c t) (gBlock m c t) (bBlock m c t) (hBlock m c t) (cBlock m c t) = partOf m c t := by
  unfold out0_7
  frame_out
  rfl

theorem narrow_block (t : Fin cfg0.N) :
    out0_8 (aBlock m c t) (wBlock m c t) (rBlock m c t) (gBlock m c t) (bBlock m c t) (hBlock m c t) (cBlock m c t)
      = truncf .bf16 (Block.scale (partOf m c t) (hBlock m c t) (cBlock m c t)) bitsLt_bf16_f32 := by
  unfold out0_8
  frame_out
  rfl

/-- A point's rows are the reference's at their tokens. -/
theorem partOf_row (t : Fin cfg0.N) (k : Fin 512) : Block.row (partOf m c t) k = Ref.row (total m c) (tokenOf t k) := by
  funext l
  show partOf m c t (ix2 k l) = total m c (ix2 (tokenOf t k) l)
  rw [partOf, total, Block.step_apply, Ref.step_apply, Block.scale_apply, Ref.scale_apply, rBlock_row, gBlock_lane, bBlock_lane, blockProduct_apply, product_apply]
  simp only [aBlock_apply, wBlock_apply]

theorem final_rows : (dats m 0 c).arrAt 7 cfg0.N = total m c := by
  refine (dats m 0 c).arrAt_eq_of_covers 7 _ (by decide +kernel) fun t hf y => ?_
  blk_simp
  rw [after0_7]
  refine (congrFun (rows_block m c t) y).trans ?_
  idx_vars y
  have hE : ((View.whole main_v0_0).slice (win0_7.rect t)).emb (ix2 y0 y1) = ix2 (tokenOf t y0) y1 := by
    blk_ext [index7]
  rw [hE]
  exact congrFun (partOf_row m c t y0) y1

theorem final_narrow : (dats m 0 c).arrAt 8 cfg0.N
    = (truncf .bf16 (Ref.scale (total m c) (argH m c) (argC m c)) DownFwdRefIdeal.Gen.facts.bitsLt_bf16_f32 : FVec Ideal S8192x1024 .bf16) := by
  refine (dats m 0 c).arrAt_eq_of_covers 8 _ (by decide +kernel) fun t hf y => ?_
  blk_simp
  rw [after0_8]
  refine (congrFun (narrow_block m c t) y).trans ?_
  idx_vars y
  have hE : ((View.whole main_v0_1).slice (win0_8.rect t)).emb (ix2 y0 y1) = ix2 (tokenOf t y0) y1 := by
    blk_ext [index8]
  rw [hE]
  show Block.scale (partOf m c t) (hBlock m c t) (cBlock m c t) (ix2 y0 y1) = Ref.scale (total m c) (argH m c) (argC m c) (ix2 (tokenOf t y0) y1)
  rw [Block.scale_apply, Ref.scale_apply, partOf_row, hBlock_lane, cBlock_lane]

/-- The reference's run, its results by these stages. -/
theorem run_reference (m : (ℓ : Loc DownFwdRefIdeal.nD DownFwdRefIdeal.τ DownFwdRefIdeal.sig) → Buf (Elt Ideal) ℓ) (ρ : Dev DownFwdRefIdeal.nD → PrngReg) :
    θ_run DownFwdRefIdeal.defs (onTc (τ := DownFwdRefIdeal.τ) (DownFwdRefIdeal.main (F := Ideal))) ⟨m, fun _ => 0, ρ⟩ fun r => ∀ c : Dev DownFwdRefIdeal.nD,
      let arg := fun b : Ref DownFwdRefIdeal.sig .tc => m ((c.tc : Thread DownFwdRefIdeal.nD DownFwdRefIdeal.τ).loc b)
      let now := fun b : Ref DownFwdRefIdeal.sig .tc => r.2.mem ((c.tc : Thread DownFwdRefIdeal.nD DownFwdRefIdeal.τ).loc b)
      let sum := Ref.step (Ref.scale (arg DownFwdRefIdeal.main_arg2) (arg DownFwdRefIdeal.main_arg3) (arg DownFwdRefIdeal.main_arg4)) (product (arg DownFwdRefIdeal.main_arg0) (arg DownFwdRefIdeal.main_arg1))
      now DownFwdRefIdeal.main_v27 = sum
      ∧ now DownFwdRefIdeal.main_v50 = truncf .bf16 (Ref.scale sum (arg DownFwdRefIdeal.main_arg5) (arg DownFwdRefIdeal.main_arg6)) DownFwdRefIdeal.Gen.facts.bitsLt_bf16_f32
      ∧ now DownFwdRefIdeal.main_arg0 = arg DownFwdRefIdeal.main_arg0 ∧ now DownFwdRefIdeal.main_arg1 = arg DownFwdRefIdeal.main_arg1
      ∧ now DownFwdRefIdeal.main_arg2 = arg DownFwdRefIdeal.main_arg2 ∧ now DownFwdRefIdeal.main_arg3 = arg DownFwdRefIdeal.main_arg3
      ∧ now DownFwdRefIdeal.main_arg4 = arg DownFwdRefIdeal.main_arg4 ∧ now DownFwdRefIdeal.main_arg5 = arg DownFwdRefIdeal.main_arg5
      ∧ now DownFwdRefIdeal.main_arg6 = arg DownFwdRefIdeal.main_arg6 :=
  DownFwdRefIdeal.Value.run m ρ

/-- The reference leaves its arguments as they were; it has no semaphores. -/
theorem frame_reference : Cert.quiescent_DownFwdRefIdeal := fun m g _ =>
  (θ_run _ _ _).mono (fun r h => ⟨fun c => (h c).2.2, sem_eq_zero_of_no_sems rfl r.2⟩) (run_reference m g)

set_option smartUnfolding false in
/-- The frame of the kernel on float words: the same run as that of its ideal program, which holds of any float values. -/
theorem frame_words : Cert.quiescent_DownFwd (hDownFwd := Cert.DownFwd.Gen.facts) := fun m ρ _ =>
  Cert.DownFwdIdeal.Gen.frame (F := Bits) m ρ

/-- Kernel and reference end with the same two arrays. -/
theorem algebraic : Cert.algebraic_DownFwdIdeal_DownFwdRefIdeal := by
  intro m g m' g' _ same
  refine ⟨_, _, Value.run_blocks m g, (θ_run _ _ _).mono (fun r h c => ?_) (run_reference m' g')⟩
  obtain ⟨s0, s1, s2, s3, s4, s5, s6⟩ := same c
  have h := h c
  dsimp only at h
  obtain ⟨h0, h1, h⟩ := h
  refine ⟨h0.trans ?_, h1.trans ?_, h⟩
  · rw [s0, s1, s2, s3, s4]
    exact (final_rows m c).symm
  · rw [s0, s1, s2, s3, s4, s5, s6]
    exact (final_narrow m c).symm

end Cert.DownOut
-- ==== Proof.MixProduct.lean ====
/-
  The output projection of the mixer's and the memory attention's results: over all tokens as the references write it, and
  over a block of tokens as the kernels compute it.
-/
module

public import proofs.«01_k».proof.Proof.NormForward
public import proofs.«01_k».proof.Proof.Parts
public import proofs.«01_k».proof.Proof.Rows
public import proofs.«01_k».proof.Proof.Gen.OutFwdIdeal.Value
public import proofs.«01_k».proof.Proof.Gen.OutFwdRefIdeal

@[expose] public section

set_option maxRecDepth 16384

noncomputable section

namespace Cert.MixProduct

open Idealize.ShloMosaic Idealize.ShloMosaic.TcCoe Idealize.SL.Sem Cert.Norm

section Whole
open Cert.OutFwdRefIdeal Cert.OutFwdRefIdeal.Gen

/-- The two results side by side. -/
def aside (p : FVec Ideal S8192x768 .bf16) (o : FVec Ideal S8192x256 .bf16) : FVec Ideal S8192x1024 .bf16 :=
  concatenate S8192x1024 1 [⟨S8192x768, p⟩, ⟨S8192x256, o⟩] concatenates_S8192x768_S8192x256_S8192x1024_d1

/-- Their projection. -/
def product (p : FVec Ideal S8192x768 .bf16) (o : FVec Ideal S8192x256 .bf16) (w : FVec Ideal S1024x1024 .bf16) : Ref.Rows :=
  Host.dotGeneral dot_S8192x1024_S1024x1024_S8192x1024_1_0_0_1_n_n none (extf .f32 (aside p o) bitsLt_bf16_f32) (extf .f32 w bitsLt_bf16_f32)

variable (p : FVec Ideal S8192x768 .bf16) (o : FVec Ideal S8192x256 .bf16) (w : FVec Ideal S1024x1024 .bf16) (i : Fin 8192)

theorem aside_mixer (k : Fin 768) : aside p o (ix2 i ⟨k, by omega⟩) = p (ix2 i k) := by
  pointwise [aside]
theorem aside_memory (k : Fin 256) : aside p o (ix2 i ⟨768 + k, by omega⟩) = o (ix2 i k) := by
  pointwise [aside]

theorem product_apply (l : Fin 1024) : product p o w (ix2 i l)
    = (∑ k : Fin 768, p (ix2 i k) * w (ix2 ⟨k, by omega⟩ l)) + ∑ k : Fin 256, o (ix2 i k) * w (ix2 ⟨768 + k, by omega⟩ l) := by
  have h : product p o w (ix2 i l) = ∑ k : Fin 1024, aside p o (ix2 i k) * w (ix2 k l) := by
    pointwise [product]
  rw [h, Parts.sum_two (a := 768) (b := 256) (by norm_num) fun k : Fin 1024 => aside p o (ix2 i k) * w (ix2 k l)]
  simp only [aside_mixer, aside_memory]

end Whole

section Blocks
open Cert.OutFwdIdeal Cert.OutFwdIdeal.Gen

/-- A block's projection. -/
def blockProduct (p : Vec Ideal S512x768 .bf16) (o : Vec Ideal S512x256 .bf16) (w : Vec Ideal S1024x1024 .bf16) : Block.Rows :=
  addf (matmul (F := Ideal) (φ₁ := .bf16) (φ₂ := .bf16) dot_S512x768_S768x1024_S512x1024_1_0_0_1_n_n none p (View.ld w r0_1) (constant S512x1024 .f32 0x00000000#32))
    (matmul (F := Ideal) (φ₁ := .bf16) (φ₂ := .bf16) dot_S512x256_S256x1024_S512x1024_1_0_0_1_n_n none o (View.ld w r0_3) (constant S512x1024 .f32 0x00000000#32))

theorem blockProduct_apply (p : Vec Ideal S512x768 .bf16) (o : Vec Ideal S512x256 .bf16) (w : Vec Ideal S1024x1024 .bf16) (i : Fin 512) (l : Fin 1024) :
    blockProduct p o w (ix2 i l)
    = (∑ k : Fin 768, p (ix2 i k) * w (ix2 ⟨k, by omega⟩ l)) + ∑ k : Fin 256, o (ix2 i k) * w (ix2 ⟨768 + k, by omega⟩ l) := by
  pointwise [blockProduct]

end Blocks

end Cert.MixProduct
-- ==== Proof.OutLater.lean ====
/-
  A later layer's output projection, the residual path from the layer before, and the norm after them. The kernel's two
  arrays are the reference's.
-/
module

public import proofs.«01_k».proof.Defs
public import proofs.«01_k».proof.Proof.MixProduct
public import proofs.«01_k».proof.Proof.Gen.OutFwd
public import proofs.«01_k».proof.Proof.Gen.OutFwdIdeal.Value
public import proofs.«01_k».proof.Proof.Gen.OutFwdRefIdeal.Run
public import Idealize.ShloMosaic.Lib.Pipeline.ReadBack
public import Idealize.ShloMosaic.Lib.Claim
public import Idealize.ShloMosaic.Lib.Quiescent

@[expose] public section

set_option maxRecDepth 16384

noncomputable section

namespace Cert.OutLater

open Cert.OutFwdIdeal Cert.OutFwdIdeal.Gen Idealize.ShloMosaic Idealize.ShloMosaic.TcCoe Idealize.SL.Sem Cert.Norm Cert.MixProduct

attribute [local instance] Cert.OutFwdRefIdeal.Gen.facts

variable (m : (ℓ : Loc nD τ sig) → Buf (Elt Ideal) ℓ) (c : Dev nD)

/-- The mixer's results. -/
abbrev argP : FVec Ideal S8192x768 .bf16 := m ((c.tc : Thread nD τ).loc main_arg0)
/-- The memory attention's results. -/
abbrev argO : FVec Ideal S8192x256 .bf16 := m ((c.tc : Thread nD τ).loc main_arg1)
/-- The output projection. -/
abbrev argW : FVec Ideal S1024x1024 .bf16 := m ((c.tc : Thread nD τ).loc main_arg2)
/-- The rows of the residual path, before their norm. -/
abbrev argR : FVec Ideal S8192x1024 .f32 := m ((c.tc : Thread nD τ).loc main_arg3)
/-- That norm's gain. -/
abbrev argG : FVec Ideal S1x1024 .f32 := m ((c.tc : Thread nD τ).loc main_arg4)
/-- That norm's shift. -/
abbrev argB : FVec Ideal S1x1024 .f32 := m ((c.tc : Thread nD τ).loc main_arg5)
/-- The later norm's gain. -/
abbrev argH : FVec Ideal S1x1024 .f32 := m ((c.tc : Thread nD τ).loc main_arg6)
/-- The later norm's shift. -/
abbrev argC : FVec Ideal S1x1024 .f32 := m ((c.tc : Thread nD τ).loc main_arg7)

/-- The first residual sum. -/
def total : Ref.Rows := Ref.step (Ref.scale (argR m c) (argG m c) (argB m c)) (product (argP m c) (argO m c) (argW m c))

theorem index0 : ∀ t : Fin cfg0.N, win0_0.index t = ![t.val % 16, 0] := by decide +kernel
theorem index1 : ∀ t : Fin cfg0.N, win0_1.index t = ![t.val % 16, 0] := by decide +kernel
theorem index2 : ∀ t : Fin cfg0.N, win0_2.index t = ![0, 0] := by decide +kernel
theorem index3 : ∀ t : Fin cfg0.N, win0_3.index t = ![t.val % 16, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![t.val % 16, 0] := by decide +kernel
theorem index9 : ∀ t : Fin cfg0.N, win0_9.index t = ![t.val % 16, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's results of the mixer. -/
abbrev pBlock (t : Fin cfg0.N) : Vec Ideal S512x768 .bf16 := iblk m c 0 t
/-- A point's results of the memory attention. -/
abbrev oBlock (t : Fin cfg0.N) : Vec Ideal S512x256 .bf16 := iblk m c 1 t
/-- The output projection, as every point has it. -/
abbrev wBlock (t : Fin cfg0.N) : Vec Ideal S1024x1024 .bf16 := iblk m c 2 t
/-- A point's rows of the residual path. -/
abbrev rBlock (t : Fin cfg0.N) : Vec Ideal S512x1024 .f32 := iblk m c 3 t
/-- Their norm's gain, as every point has it. -/
abbrev gBlock (t : Fin cfg0.N) : Vec Ideal S1x1024 .f32 := iblk m c 4 t
/-- Their norm's shift. -/
abbrev bBlock (t : Fin cfg0.N) : Vec Ideal S1x1024 .f32 := iblk m c 5 t
/-- The later norm's gain. -/
abbrev hBlock (t : Fin cfg0.N) : Vec Ideal S1x1024 .f32 := iblk m c 6 t
/-- The later norm's shift. -/
abbrev cBlock (t : Fin cfg0.N) : Vec Ideal S1x1024 .f32 := iblk m c 7 t

theorem pBlock_apply (t : Fin cfg0.N) (i : Fin 512) (l : Fin 768) : pBlock m c t (ix2 i l) = argP m c (ix2 (tokenOf t i) l) := by
  blk_ext [iblk, V, index0]
theorem oBlock_apply (t : Fin cfg0.N) (i : Fin 512) (l : Fin 256) : oBlock m c t (ix2 i l) = argO m c (ix2 (tokenOf t i) l) := by
  blk_ext [iblk, V, index1]
theorem wBlock_apply (t : Fin cfg0.N) (i : Fin 1024) (l : Fin 1024) : wBlock m c t (ix2 i l) = argW m c (ix2 i l) := by
  blk_ext [iblk, V, index2]
theorem rBlock_row (t : Fin cfg0.N) (k : Fin 512) : Block.row (rBlock m c t) k = Ref.row (argR m c) (tokenOf t k) := by
  funext l
  show rBlock m c t (ix2 k l) = argR m c (ix2 (tokenOf t k) l)
  blk_ext [iblk, V, index3]
theorem gBlock_lane (t : Fin cfg0.N) : Block.lane (gBlock m c t) = Ref.lane (argG m c) := by
  funext l
  show gBlock m c t (ix2 0 l) = argG m c (ix2 0 l)
  blk_ext [iblk, V, index4]
theorem bBlock_lane (t : Fin cfg0.N) : Block.lane (bBlock m c t) = Ref.lane (argB m c) := by
  funext l
  show bBlock m c t (ix2 0 l) = argB m c (ix2 0 l)
  blk_ext [iblk, V, index5]
theorem hBlock_lane (t : Fin cfg0.N) : Block.lane (hBlock m c t) = Ref.lane (argH m c) := by
  funext l
  show hBlock m c t (ix2 0 l) = argH m c (ix2 0 l)
  blk_ext [iblk, V, index6]
theorem cBlock_lane (t : Fin cfg0.N) : Block.lane (cBlock m c t) = Ref.lane (argC m c) := by
  funext l
  show cBlock m c t (ix2 0 l) = argC m c (ix2 0 l)
  blk_ext [iblk, V, index7]

/-- A point's rows of the first residual sum. -/
def partOf (t : Fin cfg0.N) : Block.Rows := Block.step (Block.scale (rBlock m c t) (gBlock m c t) (bBlock m c t)) (blockProduct (pBlock m c t) (oBlock m c t) (wBlock m c t))

theorem rows_block (t : Fin cfg0.N) :
    out0_8 (pBlock m c t) (oBlock m c t) (wBlock m c t) (rBlock m c t) (gBlock m c t) (bBlock m c t) (hBlock m c t) (cBlock m c t) = partOf m c t := by
  unfold out0_8
  frame_out
  rfl

theorem narrow_block (t : Fin cfg0.N) :
    out0_9 (pBlock m c t) (oBlock m c t) (wBlock m c t) (rBlock m c t) (gBlock m c t) (bBlock m c t) (hBlock m c t) (cBlock m c t)
      = truncf .bf16 (Block.scale (partOf m c t) (hBlock m c t) (cBlock m c t)) bitsLt_bf16_f32 := by
  unfold out0_9
  frame_out
  rfl

/-- A point's rows are the reference's at their tokens. -/
theorem partOf_row (t : Fin cfg0.N) (k : Fin 512) : Block.row (partOf m c t) k = Ref.row (total m c) (tokenOf t k) := by
  funext l
  show partOf m c t (ix2 k l) = total m c (ix2 (tokenOf t k) l)
  rw [partOf, total, Block.step_apply, Ref.step_apply, Block.scale_apply, Ref.scale_apply, rBlock_row, gBlock_lane, bBlock_lane, blockProduct_apply, product_apply]
  simp only [pBlock_apply, oBlock_apply, wBlock_apply]

theorem final_rows : (dats m 0 c).arrAt 8 cfg0.N = total m c := by
  refine (dats m 0 c).arrAt_eq_of_covers 8 _ (by decide +kernel) fun t hf y => ?_
  blk_simp
  rw [after0_8]
  refine (congrFun (rows_block m c t) y).trans ?_
  idx_vars y
  have hE : ((View.whole main_v0_0).slice (win0_8.rect t)).emb (ix2 y0 y1) = ix2 (tokenOf t y0) y1 := by
    blk_ext [index8]
  rw [hE]
  exact congrFun (partOf_row m c t y0) y1

theorem final_narrow : (dats m 0 c).arrAt 9 cfg0.N
    = (truncf .bf16 (Ref.scale (total m c) (argH m c) (argC m c)) OutFwdRefIdeal.Gen.facts.bitsLt_bf16_f32 : FVec Ideal S8192x1024 .bf16) := by
  refine (dats m 0 c).arrAt_eq_of_covers 9 _ (by decide +kernel) fun t hf y => ?_
  blk_simp
  rw [after0_9]
  refine (congrFun (narrow_block m c t) y).trans ?_
  idx_vars y
  have hE : ((View.whole main_v0_1).slice (win0_9.rect t)).emb (ix2 y0 y1) = ix2 (tokenOf t y0) y1 := by
    blk_ext [index9]
  rw [hE]
  show Block.scale (partOf m c t) (hBlock m c t) (cBlock m c t) (ix2 y0 y1) = Ref.scale (total m c) (argH m c) (argC m c) (ix2 (tokenOf t y0) y1)
  rw [Block.scale_apply, Ref.scale_apply, partOf_row, hBlock_lane, cBlock_lane]

/-- The reference's run, its results by these stages. -/
theorem run_reference (m : (ℓ : Loc OutFwdRefIdeal.nD OutFwdRefIdeal.τ OutFwdRefIdeal.sig) → Buf (Elt Ideal) ℓ) (ρ : Dev OutFwdRefIdeal.nD → PrngReg) :
    θ_run OutFwdRefIdeal.defs (onTc (τ := OutFwdRefIdeal.τ) (OutFwdRefIdeal.main (F := Ideal))) ⟨m, fun _ => 0, ρ⟩ fun r => ∀ c : Dev OutFwdRefIdeal.nD,
      let arg := fun b : Ref OutFwdRefIdeal.sig .tc => m ((c.tc : Thread OutFwdRefIdeal.nD OutFwdRefIdeal.τ).loc b)
      let now := fun b : Ref OutFwdRefIdeal.sig .tc => r.2.mem ((c.tc : Thread OutFwdRefIdeal.nD OutFwdRefIdeal.τ).loc b)
      let sum := Ref.step (Ref.scale (arg OutFwdRefIdeal.main_arg3) (arg OutFwdRefIdeal.main_arg4) (arg OutFwdRefIdeal.main_arg5)) (product (arg OutFwdRefIdeal.main_arg0) (arg OutFwdRefIdeal.main_arg1) (arg OutFwdRefIdeal.main_arg2))
      now OutFwdRefIdeal.main_v28 = sum
      ∧ now OutFwdRefIdeal.main_v51 = truncf .bf16 (Ref.scale sum (arg OutFwdRefIdeal.main_arg6) (arg OutFwdRefIdeal.main_arg7)) OutFwdRefIdeal.Gen.facts.bitsLt_bf16_f32
      ∧ now OutFwdRefIdeal.main_arg0 = arg OutFwdRefIdeal.main_arg0 ∧ now OutFwdRefIdeal.main_arg1 = arg OutFwdRefIdeal.main_arg1
      ∧ now OutFwdRefIdeal.main_arg2 = arg OutFwdRefIdeal.main_arg2 ∧ now OutFwdRefIdeal.main_arg3 = arg OutFwdRefIdeal.main_arg3
      ∧ now OutFwdRefIdeal.main_arg4 = arg OutFwdRefIdeal.main_arg4 ∧ now OutFwdRefIdeal.main_arg5 = arg OutFwdRefIdeal.main_arg5
      ∧ now OutFwdRefIdeal.main_arg6 = arg OutFwdRefIdeal.main_arg6 ∧ now OutFwdRefIdeal.main_arg7 = arg OutFwdRefIdeal.main_arg7 :=
  OutFwdRefIdeal.Value.run m ρ

/-- The reference leaves its arguments as they were; it has no semaphores. -/
theorem frame_reference : Cert.quiescent_OutFwdRefIdeal := fun m g _ =>
  (θ_run _ _ _).mono (fun r h => ⟨fun c => (h c).2.2, sem_eq_zero_of_no_sems rfl r.2⟩) (run_reference m g)

set_option smartUnfolding false in
/-- The frame of the kernel on float words: the same run as that of its ideal program, which holds of any float values. -/
theorem frame_words : Cert.quiescent_OutFwd (hOutFwd := Cert.OutFwd.Gen.facts) := fun m ρ _ =>
  Cert.OutFwdIdeal.Gen.frame (F := Bits) m ρ

/-- Kernel and reference end with the same two arrays. -/
theorem algebraic : Cert.algebraic_OutFwdIdeal_OutFwdRefIdeal := by
  intro m g m' g' _ same
  refine ⟨_, _, Value.run_blocks m g, (θ_run _ _ _).mono (fun r h c => ?_) (run_reference m' g')⟩
  obtain ⟨s0, s1, s2, s3, s4, s5, s6, s7⟩ := same c
  have h := h c
  dsimp only at h
  obtain ⟨h0, h1, h⟩ := h
  refine ⟨h0.trans ?_, h1.trans ?_, h⟩
  · rw [s0, s1, s2, s3, s4, s5]
    exact (final_rows m c).symm
  · rw [s0, s1, s2, s3, s4, s5, s6, s7]
    exact (final_narrow m c).symm

end Cert.OutLater
-- ==== Proof.OutFirst.lean ====
/-
  The first layer's output projection, the residual path that carries the step's input, and the norm after them. The kernel's
  two arrays are the reference's.
-/
module

public import proofs.«01_k».proof.Defs
public import proofs.«01_k».proof.Proof.MixProduct
public import proofs.«01_k».proof.Proof.Gen.OutFwdX
public import proofs.«01_k».proof.Proof.Gen.OutFwdXIdeal.Value
public import proofs.«01_k».proof.Proof.Gen.OutFwdXRefIdeal.Run
public import Idealize.ShloMosaic.Lib.Pipeline.ReadBack
public import Idealize.ShloMosaic.Lib.Claim
public import Idealize.ShloMosaic.Lib.Quiescent

@[expose] public section

set_option maxRecDepth 16384

noncomputable section

namespace Cert.OutFirst

open Cert.OutFwdXIdeal Cert.OutFwdXIdeal.Gen Idealize.ShloMosaic Idealize.ShloMosaic.TcCoe Idealize.SL.Sem Cert.Norm Cert.MixProduct

attribute [local instance] Cert.OutFwdXRefIdeal.Gen.facts

variable (m : (ℓ : Loc nD τ sig) → Buf (Elt Ideal) ℓ) (c : Dev nD)

/-- The mixer's results. -/
abbrev argP : FVec Ideal S8192x768 .bf16 := m ((c.tc : Thread nD τ).loc main_arg0)
/-- The memory attention's results. -/
abbrev argO : FVec Ideal S8192x256 .bf16 := m ((c.tc : Thread nD τ).loc main_arg1)
/-- The output projection. -/
abbrev argW : FVec Ideal S1024x1024 .bf16 := m ((c.tc : Thread nD τ).loc main_arg2)
/-- The step's input. -/
abbrev argR : FVec Ideal S8192x1024 .f32 := m ((c.tc : Thread nD τ).loc main_arg3)
/-- The norm's gain. -/
abbrev argH : FVec Ideal S1x1024 .f32 := m ((c.tc : Thread nD τ).loc main_arg4)
/-- The norm's shift. -/
abbrev argC : FVec Ideal S1x1024 .f32 := m ((c.tc : Thread nD τ).loc main_arg5)

/-- The first residual sum. -/
def total : Ref.Rows := Ref.step (argR m c) (product (argP m c) (argO m c) (argW m c))

theorem index0 : ∀ t : Fin cfg0.N, win0_0.index t = ![t.val % 16, 0] := by decide +kernel
theorem index1 : ∀ t : Fin cfg0.N, win0_1.index t = ![t.val % 16, 0] := by decide +kernel
theorem index2 : ∀ t : Fin cfg0.N, win0_2.index t = ![0, 0] := by decide +kernel
theorem index3 : ∀ t : Fin cfg0.N, win0_3.index t = ![t.val % 16, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val % 16, 0] := by decide +kernel
theorem index7 : ∀ t : Fin cfg0.N, win0_7.index t = ![t.val % 16, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's results of the mixer. -/
abbrev pBlock (t : Fin cfg0.N) : Vec Ideal S512x768 .bf16 := iblk m c 0 t
/-- A point's results of the memory attention. -/
abbrev oBlock (t : Fin cfg0.N) : Vec Ideal S512x256 .bf16 := iblk m c 1 t
/-- The output projection, as every point has it. -/
abbrev wBlock (t : Fin cfg0.N) : Vec Ideal S1024x1024 .bf16 := iblk m c 2 t
/-- A point's rows of the step's input. -/
abbrev rBlock (t : Fin cfg0.N) : Vec Ideal S512x1024 .f32 := iblk m c 3 t
/-- The norm's gain. -/
abbrev hBlock (t : Fin cfg0.N) : Vec Ideal S1x1024 .f32 := iblk m c 4 t
/-- The norm's shift. -/
abbrev cBlock (t : Fin cfg0.N) : Vec Ideal S1x1024 .f32 := iblk m c 5 t

theorem pBlock_apply (t : Fin cfg0.N) (i : Fin 512) (l : Fin 768) : pBlock m c t (ix2 i l) = argP m c (ix2 (tokenOf t i) l) := by
  blk_ext [iblk, V, index0]
theorem oBlock_apply (t : Fin cfg0.N) (i : Fin 512) (l : Fin 256) : oBlock m c t (ix2 i l) = argO m c (ix2 (tokenOf t i) l) := by
  blk_ext [iblk, V, index1]
theorem wBlock_apply (t : Fin cfg0.N) (i : Fin 1024) (l : Fin 1024) : wBlock m c t (ix2 i l) = argW m c (ix2 i l) := by
  blk_ext [iblk, V, index2]
theorem rBlock_apply (t : Fin cfg0.N) (k : Fin 512) (l : Fin 1024) : rBlock m c t (ix2 k l) = argR m c (ix2 (tokenOf t k) l) := by
  blk_ext [iblk, V, index3]
theorem hBlock_lane (t : Fin cfg0.N) : Block.lane (hBlock m c t) = Ref.lane (argH m c) := by
  funext l
  show hBlock m c t (ix2 0 l) = argH m c (ix2 0 l)
  blk_ext [iblk, V, index4]
theorem cBlock_lane (t : Fin cfg0.N) : Block.lane (cBlock m c t) = Ref.lane (argC m c) := by
  funext l
  show cBlock m c t (ix2 0 l) = argC m c (ix2 0 l)
  blk_ext [iblk, V, index5]

/-- A point's rows of the first residual sum. -/
def partOf (t : Fin cfg0.N) : Block.Rows := Block.step (rBlock m c t) (blockProduct (pBlock m c t) (oBlock m c t) (wBlock m c t))

theorem rows_block (t : Fin cfg0.N) :
    out0_6 (pBlock m c t) (oBlock m c t) (wBlock m c t) (rBlock m c t) (hBlock m c t) (cBlock m c t) = partOf m c t := by
  unfold out0_6
  frame_out
  rfl

theorem narrow_block (t : Fin cfg0.N) :
    out0_7 (pBlock m c t) (oBlock m c t) (wBlock m c t) (rBlock m c t) (hBlock m c t) (cBlock m c t)
      = truncf .bf16 (Block.scale (partOf m c t) (hBlock m c t) (cBlock m c t)) bitsLt_bf16_f32 := by
  unfold out0_7
  frame_out
  rfl

/-- A point's rows are the reference's at their tokens. -/
theorem partOf_row (t : Fin cfg0.N) (k : Fin 512) : Block.row (partOf m c t) k = Ref.row (total m c) (tokenOf t k) := by
  funext l
  show partOf m c t (ix2 k l) = total m c (ix2 (tokenOf t k) l)
  rw [partOf, total, Block.step_apply, Ref.step_apply, rBlock_apply, blockProduct_apply, product_apply]
  simp only [pBlock_apply, oBlock_apply, wBlock_apply]

theorem final_rows : (dats m 0 c).arrAt 6 cfg0.N = total m c := by
  refine (dats m 0 c).arrAt_eq_of_covers 6 _ (by decide +kernel) fun t hf y => ?_
  blk_simp
  rw [after0_6]
  refine (congrFun (rows_block m c t) y).trans ?_
  idx_vars y
  have hE : ((View.whole main_v0_0).slice (win0_6.rect t)).emb (ix2 y0 y1) = ix2 (tokenOf t y0) y1 := by
    blk_ext [index6]
  rw [hE]
  exact congrFun (partOf_row m c t y0) y1

theorem final_narrow : (dats m 0 c).arrAt 7 cfg0.N
    = (truncf .bf16 (Ref.scale (total m c) (argH m c) (argC m c)) OutFwdXRefIdeal.Gen.facts.bitsLt_bf16_f32 : FVec Ideal S8192x1024 .bf16) := by
  refine (dats m 0 c).arrAt_eq_of_covers 7 _ (by decide +kernel) fun t hf y => ?_
  blk_simp
  rw [after0_7]
  refine (congrFun (narrow_block m c t) y).trans ?_
  idx_vars y
  have hE : ((View.whole main_v0_1).slice (win0_7.rect t)).emb (ix2 y0 y1) = ix2 (tokenOf t y0) y1 := by
    blk_ext [index7]
  rw [hE]
  show Block.scale (partOf m c t) (hBlock m c t) (cBlock m c t) (ix2 y0 y1) = Ref.scale (total m c) (argH m c) (argC m c) (ix2 (tokenOf t y0) y1)
  rw [Block.scale_apply, Ref.scale_apply, partOf_row, hBlock_lane, cBlock_lane]

/-- The reference's run, its results by these stages. -/
theorem run_reference (m : (ℓ : Loc OutFwdXRefIdeal.nD OutFwdXRefIdeal.τ OutFwdXRefIdeal.sig) → Buf (Elt Ideal) ℓ) (ρ : Dev OutFwdXRefIdeal.nD → PrngReg) :
    θ_run OutFwdXRefIdeal.defs (onTc (τ := OutFwdXRefIdeal.τ) (OutFwdXRefIdeal.main (F := Ideal))) ⟨m, fun _ => 0, ρ⟩ fun r => ∀ c : Dev OutFwdXRefIdeal.nD,
      let arg := fun b : Ref OutFwdXRefIdeal.sig .tc => m ((c.tc : Thread OutFwdXRefIdeal.nD OutFwdXRefIdeal.τ).loc b)
      let now := fun b : Ref OutFwdXRefIdeal.sig .tc => r.2.mem ((c.tc : Thread OutFwdXRefIdeal.nD OutFwdXRefIdeal.τ).loc b)
      let sum := Ref.step (arg OutFwdXRefIdeal.main_arg3) (product (arg OutFwdXRefIdeal.main_arg0) (arg OutFwdXRefIdeal.main_arg1) (arg OutFwdXRefIdeal.main_arg2))
      now OutFwdXRefIdeal.main_v6 = sum
      ∧ now OutFwdXRefIdeal.main_v29 = truncf .bf16 (Ref.scale sum (arg OutFwdXRefIdeal.main_arg4) (arg OutFwdXRefIdeal.main_arg5)) OutFwdXRefIdeal.Gen.facts.bitsLt_bf16_f32
      ∧ now OutFwdXRefIdeal.main_arg0 = arg OutFwdXRefIdeal.main_arg0 ∧ now OutFwdXRefIdeal.main_arg1 = arg OutFwdXRefIdeal.main_arg1
      ∧ now OutFwdXRefIdeal.main_arg2 = arg OutFwdXRefIdeal.main_arg2 ∧ now OutFwdXRefIdeal.main_arg3 = arg OutFwdXRefIdeal.main_arg3
      ∧ now OutFwdXRefIdeal.main_arg4 = arg OutFwdXRefIdeal.main_arg4 ∧ now OutFwdXRefIdeal.main_arg5 = arg OutFwdXRefIdeal.main_arg5 :=
  OutFwdXRefIdeal.Value.run m ρ

/-- The reference leaves its arguments as they were; it has no semaphores. -/
theorem frame_reference : Cert.quiescent_OutFwdXRefIdeal := fun m g _ =>
  (θ_run _ _ _).mono (fun r h => ⟨fun c => (h c).2.2, sem_eq_zero_of_no_sems rfl r.2⟩) (run_reference m g)

set_option smartUnfolding false in
/-- The frame of the kernel on float words: the same run as that of its ideal program, which holds of any float values. -/
theorem frame_words : Cert.quiescent_OutFwdX (hOutFwdX := Cert.OutFwdX.Gen.facts) := fun m ρ _ =>
  Cert.OutFwdXIdeal.Gen.frame (F := Bits) m ρ

/-- Kernel and reference end with the same two arrays. -/
theorem algebraic : Cert.algebraic_OutFwdXIdeal_OutFwdXRefIdeal := by
  intro m g m' g' _ same
  refine ⟨_, _, Value.run_blocks m g, (θ_run _ _ _).mono (fun r h c => ?_) (run_reference m' g')⟩
  obtain ⟨s0, s1, s2, s3, s4, s5⟩ := same c
  have h := h c
  dsimp only at h
  obtain ⟨h0, h1, h⟩ := h
  refine ⟨h0.trans ?_, h1.trans ?_, h⟩
  · rw [s0, s1, s2, s3]
    exact (final_rows m c).symm
  · rw [s0, s1, s2, s3, s4, s5]
    exact (final_narrow m c).symm

end Cert.OutFirst
-- ==== Proof.GatherARun.lean ====
/- The projection whose weight arrives in eight column shards (`in_proj_a`): the kernel's body run once
   per case of its conditional. At the first grid point the body copies the eight shards into the second
   result, side by side; at every point it multiplies the point's rows by that result. -/
module

public import proofs.«01_k».proof.Proof.Gen.InFwdAIdeal.Frame
public import proofs.«01_k».proof.Proof.Gen.InFwdAIdeal.Skeleton

@[expose] public section

set_option maxRecDepth 16384

noncomputable section

namespace Cert.GatherA

open Cert.InFwdAIdeal Cert.InFwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model of one device's memory and counters in which the body's triples are stated. -/
abbrev Model (F : FTy → Type) : Type := MT nD τ sig Unit (Elt F) ℕ (UR sig nD τ) ℕ

/-- The body copies the shards exactly at the first grid point. -/
theorem copies_iff : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

set_option maxHeartbeats 1000000 in
/-- The body at a point that copies the shards: from inputs `x0`, `x1` and any contents of the two results'
    buffers it runs to its end with the inputs as they were, the first result's buffer at the pieces `L2`
    and the second's at the pieces `L3`; the run finds the pieces. -/
noncomputable def runCopy (c : Dev nD) (i : grid0.Coords) (arg1 : Memref sig .tc .vmem S512x1024 .bf16) (harg1 : arg1.IsWhole) (arg2 : Memref sig .tc .vmem S8x1024x320 .bf16) (harg2 : arg2.IsWhole) (arg3 : Memref sig .tc .vmem S512x2560 .bf16) (harg3 : arg3.IsWhole) (arg4 : Memref sig .tc .vmem S1024x2560 .bf16) (harg4 : arg4.IsWhole) (hc0 : k0_cond1 i = 1#1)
    (x0 : Vec F S512x1024 .bf16) (x1 : Vec F S8x1024x320 .bf16) :
    Σ' (L2 : List (View.Piece (Elt F) S512x2560 .bf16)), { L3 : List (View.Piece (Elt F) S1024x2560 .bf16) //
      ∀ (E : Set ℕ) (K : PUnit → sProp (Model F)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_in_proj_a i arg1 harg1 arg2 harg2 arg3 harg3 arg4 harg4) K } := by
  refine ⟨?_, ?_, fun E K => ?run⟩
  case run =>
    simp only [cc0_in_proj_a_eq_skeleton]; unfold cc0_in_proj_a_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

set_option maxHeartbeats 1000000 in
/-- The body at any other point: from inputs `x0`, `x1` and the second result's buffer at `x3` it runs to its
    end with those as they were and the first result's buffer at the pieces `L2`. -/
noncomputable def runKeep (c : Dev nD) (i : grid0.Coords) (arg1 : Memref sig .tc .vmem S512x1024 .bf16) (harg1 : arg1.IsWhole) (arg2 : Memref sig .tc .vmem S8x1024x320 .bf16) (harg2 : arg2.IsWhole) (arg3 : Memref sig .tc .vmem S512x2560 .bf16) (harg3 : arg3.IsWhole) (arg4 : Memref sig .tc .vmem S1024x2560 .bf16) (harg4 : arg4.IsWhole) (hc0 : ¬k0_cond1 i = 1#1)
    (x0 : Vec F S512x1024 .bf16) (x1 : Vec F S8x1024x320 .bf16) (x3 : Vec F S1024x2560 .bf16) :
    { L2 : List (View.Piece (Elt F) S512x2560 .bf16) //
      ∀ (E : Set ℕ) (K : PUnit → sProp (Model F)),
        iprop(owns (c : Thread nD τ) arg1 fullShare x0 ∗ owns (c : Thread nD τ) arg2 fullShare x1 ∗ (∃ d, owns (c : Thread nD τ) arg3 fullShare d) ∗ owns (c : Thread nD τ) arg4 fullShare x3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare x3) -∗ K ⟨⟩))
          ⊢ wp frame (wpE (defs₀ (F := F)) Variants.none c none) E (cc0_in_proj_a i arg1 harg1 arg2 harg2 arg3 harg3 arg4 harg4) K } := by
  refine ⟨?_, fun E K => ?run⟩
  case run =>
    simp only [cc0_in_proj_a_eq_skeleton]; unfold cc0_in_proj_a_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; isplitr; · ipureintro; exact harg4.read_unread _
    iexact H3

end Cert.GatherA

end
-- ==== Proof.GatherA.lean ====
/- The projection whose weight arrives in eight column shards (`in_proj_a`): what its results' buffers
   hold at every grid point, the body's obligation there, and the frame. The second result is written whole
   at the first point, kept until the last, and written back there. -/
module

public import proofs.«01_k».proof.Proof.GatherARun
public import Idealize.ShloMosaic.Lib.Claim

@[expose] public section

set_option maxRecDepth 16384

noncomputable section

namespace Cert.GatherA

open Cert.InFwdAIdeal Cert.InFwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging buffer at point `t`, and that it is a whole buffer. -/
abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024x320 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2560 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x2560 .bf16 := win0_3.stage (cfg0.slots t 3)
abbrev hs3 (t : Fin cfg0.N) : (ms3 t).IsWhole := hstage0_3 ((cfg0.slots t 3).cast nbuf0_3)

/-- One staging buffer of each result, through which its contents are stated. -/
abbrev VO2 : View sig .tc .vmem S512x2560 .bf16 := (Memref.whole cc0_stg2_0 : Memref sig .tc .vmem S512x2560 .bf16).view
abbrev VO3 : View sig .tc .vmem S1024x2560 .bf16 := (Memref.whole cc0_stg3_0 : Memref sig .tc .vmem S1024x2560 .bf16).view

/-- The copying body's store covers the first result's block, -/
theorem cover_copy_2 (c : Dev nD) (i : grid0.Coords) (arg1 : Memref sig .tc .vmem S512x1024 .bf16) (harg1 : arg1.IsWhole) (arg2 : Memref sig .tc .vmem S8x1024x320 .bf16) (harg2 : arg2.IsWhole) (arg3 : Memref sig .tc .vmem S512x2560 .bf16) (harg3 : arg3.IsWhole) (arg4 : Memref sig .tc .vmem S1024x2560 .bf16) (harg4 : arg4.IsWhole) (hc0 : k0_cond1 i = 1#1)
    (x0 : Vec F S512x1024 .bf16) (x1 : Vec F S8x1024x320 .bf16) (y : S512x2560.Idx) :
    ∃ pc ∈ (runCopy c i arg1 harg1 arg2 harg2 arg3 harg3 arg4 harg4 hc0 x0 x1).1, y ∈ pc.1.set :=
  View.cover_of_tiledL (runCopy c i arg1 harg1 arg2 harg2 arg3 harg3 arg4 harg4 hc0 x0 x1).1 S512x2560.size (by sl_kernel_rfl) y

/-- its eight stores cover the second result, -/
theorem cover_copy_3 (c : Dev nD) (i : grid0.Coords) (arg1 : Memref sig .tc .vmem S512x1024 .bf16) (harg1 : arg1.IsWhole) (arg2 : Memref sig .tc .vmem S8x1024x320 .bf16) (harg2 : arg2.IsWhole) (arg3 : Memref sig .tc .vmem S512x2560 .bf16) (harg3 : arg3.IsWhole) (arg4 : Memref sig .tc .vmem S1024x2560 .bf16) (harg4 : arg4.IsWhole) (hc0 : k0_cond1 i = 1#1)
    (x0 : Vec F S512x1024 .bf16) (x1 : Vec F S8x1024x320 .bf16) (y : S1024x2560.Idx) :
    ∃ pc ∈ (runCopy c i arg1 harg1 arg2 harg2 arg3 harg3 arg4 harg4 hc0 x0 x1).2.1, y ∈ pc.1.set :=
  View.cover_of_tiledL (runCopy c i arg1 harg1 arg2 harg2 arg3 harg3 arg4 harg4 hc0 x0 x1).2.1 S1024x320.size (by sl_kernel_rfl) y

/-- and so does the other body's store the first result's block. -/
theorem cover_keep_2 (c : Dev nD) (i : grid0.Coords) (arg1 : Memref sig .tc .vmem S512x1024 .bf16) (harg1 : arg1.IsWhole) (arg2 : Memref sig .tc .vmem S8x1024x320 .bf16) (harg2 : arg2.IsWhole) (arg3 : Memref sig .tc .vmem S512x2560 .bf16) (harg3 : arg3.IsWhole) (arg4 : Memref sig .tc .vmem S1024x2560 .bf16) (harg4 : arg4.IsWhole) (hc0 : ¬k0_cond1 i = 1#1)
    (x0 : Vec F S512x1024 .bf16) (x1 : Vec F S8x1024x320 .bf16) (x3 : Vec F S1024x2560 .bf16) (y : S512x2560.Idx) :
    ∃ pc ∈ (runKeep c i arg1 harg1 arg2 harg2 arg3 harg3 arg4 harg4 hc0 x0 x1 x3).1, y ∈ pc.1.set :=
  View.cover_of_tiledL (runKeep c i arg1 harg1 arg2 harg2 arg3 harg3 arg4 harg4 hc0 x0 x1 x3).1 S512x2560.size (by sl_kernel_rfl) y

/-- What the copying body leaves in the first result's buffer at point `t`, -/
def prodCopy (c : Dev nD) (t : Fin cfg0.N) (h : k0_cond1 (grid0.coords t) = 1#1) : Vec F S512x2560 .bf16 :=
  VO2.read (Elt F) (VO2.writes (Elt F) VO2.junk (runCopy c (grid0.coords t) (ms0 t) (hs0 t) (ms1 t) (hs1 t) (ms2 t) (hs2 t) (ms3 t) (hs3 t) h (iblk m c 0 t) (iblk m c 1 t)).1)

/-- and in the second's. -/
def joinedAt (c : Dev nD) (t : Fin cfg0.N) (h : k0_cond1 (grid0.coords t) = 1#1) : Vec F S1024x2560 .bf16 :=
  VO3.read (Elt F) (VO3.writes (Elt F) VO3.junk (runCopy c (grid0.coords t) (ms0 t) (hs0 t) (ms1 t) (hs1 t) (ms2 t) (hs2 t) (ms3 t) (hs3 t) h (iblk m c 0 t) (iblk m c 1 t)).2.1)

/-- The joined weight: what the first point leaves in the second result. -/
def joined (c : Dev nD) : Vec F S1024x2560 .bf16 := joinedAt m c t0_0 ((copies_iff t0_0).mpr rfl)

/-- What a point that does not copy leaves in the first result's buffer. -/
def prodKeep (c : Dev nD) (t : Fin cfg0.N) (h : ¬k0_cond1 (grid0.coords t) = 1#1) : Vec F S512x2560 .bf16 :=
  VO2.read (Elt F) (VO2.writes (Elt F) VO2.junk (runKeep c (grid0.coords t) (ms0 t) (hs0 t) (ms1 t) (hs1 t) (ms2 t) (hs2 t) (ms3 t) (hs3 t) h (iblk m c 0 t) (iblk m c 1 t) (joined m c)).1)

/-- What point `t` leaves in the first result's buffer. -/
def prod (c : Dev nD) (t : Fin cfg0.N) : Vec F S512x2560 .bf16 :=
  if h : k0_cond1 (grid0.coords t) = 1#1 then prodCopy m c t h else prodKeep m c t h

/-- The proof data of the one pipeline on core `c`: after point `t` each input's buffer at its block, the
    first result's at `prod` and the second's at the joined weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod m c t
    | ⟨3, _⟩ => joined m c
  Φ _ := Pipeline.ΦA spec0 c
  q _ := fullShare
  owed _ := 0

/-- The proof data's arrays are the ones the region finds. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = prod m c t := by dsimp only [dats]
theorem after3 (c : Dev nD) (t : Fin cfg0.N) : (dats m 0 c).after 3 t = joined m c := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The second result's window is idle exactly where the body does not copy. -/
theorem idle3 (i : grid0.Coords) : cfg0.idle 3 i = !(k0_cond1 i == 1#1) := rfl

/-- What the second result's buffer keeps of a point is what the body left there. -/
theorem kept3 (c : Dev nD) (t : Fin cfg0.N) (d) : (dats m 0 c).kept 3 t d = joined m c := by
  unfold Dat.kept
  rw [Pipeline.fill_of_clip_none (cfg := cfg0) 3 _ (fun _ => rfl) d ((dats m 0 c).after 3 t), Window.fill_cut, after3]

/-- After the first point the second result's buffer holds the joined weight: the first point left it there,
    and no later point stores into it. -/
theorem before3 (c : Dev nD) : ∀ (n : ℕ) (hn : n < cfg0.N), n ≠ 0 → ∀ d, (dats m 0 c).before 3 ⟨n, hn⟩ d = joined m c
  | 0, _, h, _ => absurd rfl h
  | n + 1, hn, _, d => by
    have hN : n + 1 < 16 := lt_of_lt_of_eq hn (show cfg0.N = 16 from N_0)
    rw [Dat.before_of_pos _ 3 _ (Nat.succ_ne_zero n) ((cfg0.win 3).fetch_out rfl _), if_neg (fun h => by have := (flush0_3 _).mp h; dsimp only at this; omega)]
    have hn' : n < cfg0.N := by omega
    show (dats m 0 c).left 3 ⟨n, hn'⟩ d = joined m c
    unfold Dat.left
    rw [idle3]
    by_cases h0 : n = 0
    · subst h0
      rw [show (k0_cond1 (grid0.coords ⟨0, hn'⟩) == 1#1) = true from beq_iff_eq.mpr ((copies_iff ⟨0, hn'⟩).mpr rfl)]
      exact kept3 m c _ d
    · rw [show (k0_cond1 (grid0.coords ⟨n, hn'⟩) == 1#1) = false from beq_eq_false_iff_ne.mpr (fun h => by have := (copies_iff ⟨n, hn'⟩).mp h; dsimp only at this; omega)]
      exact before3 c n hn' h0 d

/-- What the body is called with at point `t`, window by window, -/
def bodyPre (c : Dev nD) (t : Fin cfg0.N) : sProp (Model F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp (Model F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The second result's buffer at the joined weight is what every point must leave there. -/
theorem leaves3 (c : Dev nD) (t : Fin cfg0.N) :
    owns (c : Thread nD τ) (ms3 t) fullShare (joined m c) ⊢ (dats m 0 c).leavesExact 3 t := by
  have hN : t.val < 16 := lt_of_lt_of_eq t.isLt (show cfg0.N = 16 from N_0)
  unfold Dat.leavesExact
  rw [idle3]
  by_cases h0 : t.val % 16 = 0
  · rw [show (k0_cond1 (grid0.coords t) == 1#1) = true from beq_iff_eq.mpr ((copies_iff t).mpr h0)]
    show _ ⊢ owns (c : Thread nD τ) (ms3 t) fullShare ((dats m 0 c).after 3 t)
    rw [after3]
  · rw [show (k0_cond1 (grid0.coords t) == 1#1) = false from beq_eq_false_iff_ne.mpr (fun h => h0 ((copies_iff t).mp h))]
    have hb : ∀ d, (dats m 0 c).before 3 t d = joined m c := before3 m c t.val t.isLt (by omega)
    by_cases h15 : t.val % 16 = 15
    · rw [(flush0_3 t).mpr h15]
      show _ ⊢ owns (c : Thread nD τ) (ms3 t) fullShare ((dats m 0 c).after 3 t)
      rw [after3]
    · rw [show (cfg0.win 3).flush t = false from Bool.eq_false_iff.mpr fun h => h15 ((flush0_3 t).mp h)]
      show _ ⊢ iprop(∃ d, owns (c : Thread nD τ) (ms3 t) fullShare ((dats m 0 c).before 3 t d))
      simp only [hb]
      iintro H
      iexists (joined m c)
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  have hN : t.val < 16 := lt_of_lt_of_eq t.isLt (show cfg0.N = 16 from N_0)
  by_cases hc : k0_cond1 (grid0.coords t) = 1#1
  · have ht : t = t0_0 := Fin.ext (by have := (copies_iff t).mp hc; show t.val = 0; omega)
    rw [show prod m c t = prodCopy m c t hc from dif_pos hc]
    have hj : joined m c = joinedAt m c t hc := by subst ht; rfl
    iintro ⟨HΦ, Ho, ⟨%d0, H0⟩, ⟨%d1, H1⟩, ⟨%d2, H2⟩, ⟨%d3, H3⟩⟩
    iapply ((runCopy c (grid0.coords t) _ _ _ _ _ _ _ _ hc (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_copy_2 c _ _ _ _ _ _ _ _ _ _ _ _)
    iapply (leaves3 m c t)
    rw [hj]
    unfold owns; iexists _; isplitr
    swap; · iexact H3
    ipureintro; exact View.read_writes_of_cover _ _ _ _ _ (cover_copy_3 c _ _ _ _ _ _ _ _ _ _ _ _)
  · rw [show prod m c t = prodKeep m c t hc from dif_neg hc]
    have h0 : t.val ≠ 0 := fun h => hc ((copies_iff t).mpr (by rw [h]))
    simp only [show ∀ d, (dats m 0 c).before 3 t d = joined m c from before3 m c t.val t.isLt h0]
    iintro ⟨HΦ, Ho, ⟨%d0, H0⟩, ⟨%d1, H1⟩, ⟨%d2, H2⟩, ⟨%d3, H3⟩⟩
    iapply ((runKeep c (grid0.coords t) _ _ _ _ _ _ _ _ hc (iblk m c 0 t) (iblk m c 1 t) (joined m c)).2 Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_keep_2 c _ _ _ _ _ _ _ _ _ _ _ _ _)
    iapply (leaves3 m c t)
    iexact H3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data gives, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.GatherA

end
-- ==== Proof.InProjA.lean ====
/-
  The projection whose weight arrives in eight column shards (`in_proj_a`): the kernel's two arrays are the reference's,
  the product with the joined weight and the joined weight itself.
-/
module

public import proofs.«01_k».proof.Defs
public import proofs.«01_k».proof.Proof.GatherA
public import proofs.«01_k».proof.Proof.Gen.InFwdA
public import proofs.«01_k».proof.Proof.Gen.InFwdARefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.InProjA

open Idealize.ShloMosaic Idealize.ShloMosaic.TcCoe Idealize.SL.Sem

section Whole
open Cert.InFwdARefIdeal Cert.InFwdARefIdeal.Gen

/-- The eight column shards side by side, element by element. -/
def join (w : FVec Ideal S8x1024x320 .bf16) : FVec Ideal S1024x2560 .bf16 := fun y =>
  w (ix3 ⟨(y 1).val / 320, Nat.div_lt_of_lt_mul (y 1).isLt⟩ (y 0) ⟨(y 1).val % 320, Nat.mod_lt _ (by norm_num)⟩)

theorem band (w : FVec Ideal S8x1024x320 .bf16) (s : Fin 8) (i : Fin 1024) (j : Fin 320) :
    join w (ix2 i ⟨s.val * 320 + j.val, by omega⟩) = w (ix3 s i j) := by
  have h0 : (s.val * 320 + j.val) / 320 = s.val := by omega
  have h1 : (s.val * 320 + j.val) % 320 = j.val := by omega
  show w (ix3 ⟨(s.val * 320 + j.val) / 320, _⟩ i ⟨(s.val * 320 + j.val) % 320, _⟩) = _
  simp only [h0, h1]

/-- The eight column shards side by side, as the reference puts them. -/
def together (w : FVec Ideal S8x1024x320 .bf16) : FVec Ideal S1024x2560 .bf16 :=
  concatenate S1024x2560 1 [⟨S1024x320, shapeCast S1024x320 (extractStridedSlice S1x1024x320 ![0, 0, 0] w slices_S8x1024x320_S1x1024x320_0_0_0) shapeCasts_S1x1024x320_S1024x320⟩, ⟨S1024x320, shapeCast S1024x320 (extractStridedSlice S1x1024x320 ![1, 0, 0] w slices_S8x1024x320_S1x1024x320_1_0_0) shapeCasts_S1x1024x320_S1024x320⟩, ⟨S1024x320, shapeCast S1024x320 (extractStridedSlice S1x1024x320 ![2, 0, 0] w slices_S8x1024x320_S1x1024x320_2_0_0) shapeCasts_S1x1024x320_S1024x320⟩, ⟨S1024x320, shapeCast S1024x320 (extractStridedSlice S1x1024x320 ![3, 0, 0] w slices_S8x1024x320_S1x1024x320_3_0_0) shapeCasts_S1x1024x320_S1024x320⟩, ⟨S1024x320, shapeCast S1024x320 (extractStridedSlice S1x1024x320 ![4, 0, 0] w slices_S8x1024x320_S1x1024x320_4_0_0) shapeCasts_S1x1024x320_S1024x320⟩, ⟨S1024x320, shapeCast S1024x320 (extractStridedSlice S1x1024x320 ![5, 0, 0] w slices_S8x1024x320_S1x1024x320_5_0_0) shapeCasts_S1x1024x320_S1024x320⟩, ⟨S1024x320, shapeCast S1024x320 (extractStridedSlice S1x1024x320 ![6, 0, 0] w slices_S8x1024x320_S1x1024x320_6_0_0) shapeCasts_S1x1024x320_S1024x320⟩, ⟨S1024x320, shapeCast S1024x320 (extractStridedSlice S1x1024x320 ![7, 0, 0] w slices_S8x1024x320_S1x1024x320_7_0_0) shapeCasts_S1x1024x320_S1024x320⟩] concatenates_S1024x320_S1024x320_S1024x320_S1024x320_S1024x320_S1024x320_S1024x320_S1024x320_S1024x2560_d1

set_option maxHeartbeats 2000000 in
/-- A shard is its band of the whole. -/
theorem together_band (w : FVec Ideal S8x1024x320 .bf16) (s : Fin 8) (i : Fin 1024) (j : Fin 320) :
    together w (ix2 i ⟨s.val * 320 + j.val, by omega⟩) = w (ix3 s i j) := by
  fin_cases s <;> pointwise [together] <;> split_ifs <;>
    first
    | (exfalso; omega)
    | exact congrArg w (congrArg (ix3 _ i) (Fin.ext (by dsimp only; omega)))

theorem together_eq (w : FVec Ideal S8x1024x320 .bf16) : together w = join w := by
  funext y
  idx_vars y
  obtain ⟨s, j, rfl⟩ : ∃ (s : Fin 8) (j : Fin 320), y1 = ⟨s.val * 320 + j.val, by omega⟩ :=
    ⟨⟨y1.val / 320, by omega⟩, ⟨y1.val % 320, by omega⟩, Fin.ext (by dsimp only; omega)⟩
  rw [together_band, band]

/-- The product with the joined weight. -/
def product (x : FVec Ideal S8192x1024 .bf16) (w : FVec Ideal S8x1024x320 .bf16) : FVec Ideal S8192x2560 .bf16 :=
  truncf .bf16 (Host.dotGeneral dot_S8192x1024_S1024x2560_S8192x2560_1_0_0_1_n_n none (extf .f32 x bitsLt_bf16_f32) (extf .f32 (together w) bitsLt_bf16_f32)) bitsLt_bf16_f32

theorem product_apply (x : FVec Ideal S8192x1024 .bf16) (w : FVec Ideal S8x1024x320 .bf16) (i : Fin 8192) (j : Fin 2560) :
    product x w (ix2 i j) = ∑ k : Fin 1024, x (ix2 i k) * join w (ix2 k j) := by
  rw [product, together_eq]
  pointwise []

end Whole

open Cert.InFwdAIdeal Cert.InFwdAIdeal.Gen Cert.GatherA

attribute [local instance] Cert.InFwdARefIdeal.Gen.facts

variable (m : (ℓ : Loc nD τ sig) → Buf (Elt Ideal) ℓ) (c : Dev nD)

/-- The tokens' rows. -/
abbrev argX : FVec Ideal S8192x1024 .bf16 := m ((c.tc : Thread nD τ).loc main_arg0)
/-- The weight's eight column shards. -/
abbrev argW : FVec Ideal S8x1024x320 .bf16 := m ((c.tc : Thread nD τ).loc main_arg1)

theorem index0 : ∀ t : Fin cfg0.N, win0_0.index t = ![t.val % 16, 0] := by decide +kernel
theorem index1 : ∀ t : Fin cfg0.N, win0_1.index t = ![0, 0, 0] := by decide +kernel
theorem index2 : ∀ t : Fin cfg0.N, win0_2.index t = ![t.val % 16, 0] := by decide +kernel
theorem index3 : ∀ t : Fin cfg0.N, win0_3.index t = ![0, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's rows. -/
abbrev xBlock (t : Fin cfg0.N) : Vec Ideal S512x1024 .bf16 := iblk m c 0 t
/-- The shards, as every point has them. -/
abbrev wBlock (t : Fin cfg0.N) : Vec Ideal S8x1024x320 .bf16 := iblk m c 1 t

theorem xBlock_apply (t : Fin cfg0.N) (i : Fin 512) (l : Fin 1024) : xBlock m c t (ix2 i l) = argX m c (ix2 (tokenOf t i) l) := by
  blk_ext [iblk, V, index0]
theorem wBlock_eq (t : Fin cfg0.N) : wBlock m c t = argW m c := by
  funext y
  idx_vars y
  blk_ext [iblk, V, index1]

/-- Where a band's element lies in the whole. -/
theorem place (s : Fin 8) (h) (i : Fin 1024) (j : Fin 320) :
    (Rect.unit (s := S1024x2560) ![0, s.val * 320] S1024x320.size h).emb (ix2 i j) = ix2 i ⟨s.val * 320 + j.val, by omega⟩ := by
  blk_ext []

/-- A store of a shard into its band is that band of the whole. -/
theorem store (s : Fin 8) (o : ℕ) (ho : o = s.val * 320) (h) (w : Vec Ideal S8x1024x320 .bf16) (p : Vec Ideal S1024x320 .bf16) (e : ∀ i j, p (ix2 i j) = w (ix3 s i j)) (x : S1024x320.Idx) :
    p x = join w ((Rect.unit (s := S1024x2560) ![0, o] S1024x320.size h).emb x) := by
  subst ho
  idx_vars x
  rw [e]
  exact (band w s x0 x1).symm.trans (congrArg (join w) (place s h x0 x1).symm)

/-- The first point's eight stores are the eight bands. -/
theorem pieces (t : Fin cfg0.N) (h : k0_cond1 (grid0.coords t) = 1#1) :
    View.PiecesOf (Val := Elt Ideal) (join (wBlock m c t)) (runCopy (F := Ideal) c (grid0.coords t) (ms0 t) (hs0 t) (ms1 t) (hs1 t) (ms2 t) (hs2 t) (ms3 t) (hs3 t) h (iblk m c 0 t) (iblk m c 1 t)).2.1 := by
  frame_open
  refine ⟨store 7 2240 rfl inb_S1024x2560_S1024x320_0_2240 _ _ fun i j => ?_, store 6 1920 rfl inb_S1024x2560_S1024x320_0_1920 _ _ fun i j => ?_, store 5 1600 rfl inb_S1024x2560_S1024x320_0_1600 _ _ fun i j => ?_, store 4 1280 rfl inb_S1024x2560_S1024x320_0_1280 _ _ fun i j => ?_, store 3 960 rfl inb_S1024x2560_S1024x320_0_960 _ _ fun i j => ?_, store 2 640 rfl inb_S1024x2560_S1024x320_0_640 _ _ fun i j => ?_, store 1 320 rfl inb_S1024x2560_S1024x320_0_320 _ _ fun i j => ?_, store 0 0 rfl inb_S1024x2560_S1024x320_0_0 _ _ fun i j => ?_, trivial⟩
  all_goals
    frame_out
    pointwise [k0_pay1, k0_pay3, k0_pay4, k0_pay5, k0_pay6, k0_pay7, k0_pay8, k0_pay9]

/-- Together they leave the joined weight. -/
theorem stored (t : Fin cfg0.N) (h : k0_cond1 (grid0.coords t) = 1#1) :
    View.canon (Val := Elt Ideal) (runCopy (F := Ideal) c (grid0.coords t) (ms0 t) (hs0 t) (ms1 t) (hs1 t) (ms2 t) (hs2 t) (ms3 t) (hs3 t) h (iblk m c 0 t) (iblk m c 1 t)).2.1 = join (argW m c) := by
  funext y
  refine Eq.trans ?_ (View.canon_append_of_piecesOf _ [] _ (pieces m c t h) y (cover_copy_3 c _ _ _ _ _ _ _ _ _ h _ _ y)) |>.trans ?_
  · rw [List.append_nil]
  · rw [wBlock_eq]

theorem joined_eq : joined m c = join (argW m c) := by
  unfold joined joinedAt
  rw [View.read_writes_eq_canon _ _ _ (cover_copy_3 c _ _ _ _ _ _ _ _ _ _ _ _)]
  exact stored m c _ _

/-- A point's product. -/
theorem pay_apply (x : Vec Ideal S512x1024 .bf16) (w : Vec Ideal S1024x2560 .bf16) (i : Fin 512) (j : Fin 2560) :
    k0_pay2 (F := Ideal) x w (ix2 i j) = ∑ k : Fin 1024, x (ix2 i k) * w (ix2 k j) := by
  pointwise [k0_pay2]

/-- A load of the whole joined weight reads it. -/
theorem ld_whole (w : Vec Ideal S1024x2560 .bf16) : View.ld (Val := Elt Ideal) w (Rect.unit (s := S1024x2560) ![0, 0] S1024x2560.size inb_S1024x2560_S1024x2560_0_0) = w :=
  View.ld_unit_zero (funext fun a => by fin_cases a <;> rfl) _ w

/-- What each point leaves in the first result's buffer. -/
theorem prod_eq (t : Fin cfg0.N) : prod m c t = k0_pay2 (F := Ideal) (xBlock m c t) (join (argW m c)) := by
  unfold prod
  split
  · rename_i h
    have hs := stored m c t h
    frame_open at hs
    unfold prodCopy
    frame_open
    rw [View.readCov_eq_canon', hs]
    frame_out
    exact congrArg (k0_pay2 _) (ld_whole (join (argW m c)))
  · unfold prodKeep
    frame_out
    rw [joined_eq]

theorem final_product : (dats m 0 c).arrAt 2 cfg0.N = product (argX m c) (argW m c) := by
  refine (dats m 0 c).arrAt_eq_of_covers 2 _ (by decide +kernel) fun t hf y => ?_
  blk_simp
  rw [after2]
  refine (congrFun (prod_eq m c t) y).trans ?_
  idx_vars y
  have hE : ((View.whole main_v0_0).slice (win0_2.rect t)).emb (ix2 y0 y1) = ix2 (tokenOf t y0) y1 := by
    blk_ext [index2]
  rw [hE]
  refine (pay_apply _ _ y0 y1).trans (Eq.trans ?_ (product_apply _ _ (tokenOf t y0) y1).symm)
  simp only [xBlock_apply]

theorem final_joined : (dats m 0 c).arrAt 3 cfg0.N = together (argW m c) := by
  refine (dats m 0 c).arrAt_eq_of_covers 3 _ (by decide +kernel) fun t hf y => ?_
  blk_simp
  rw [after3, together_eq]
  refine (congrFun (joined_eq m c) y).trans ?_
  idx_vars y
  have hE : ((View.whole main_v0_1).slice (win0_3.rect t)).emb (ix2 y0 y1) = ix2 y0 y1 := by
    blk_ext [index3]
  rw [hE]

/-- The kernel's run: each result at what the grid's points leave, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The reference's run, its results by these names. -/
theorem run_reference (m : (ℓ : Loc InFwdARefIdeal.nD InFwdARefIdeal.τ InFwdARefIdeal.sig) → Buf (Elt Ideal) ℓ) (ρ : Dev InFwdARefIdeal.nD → PrngReg) :
    θ_run InFwdARefIdeal.defs (onTc (τ := InFwdARefIdeal.τ) (InFwdARefIdeal.main (F := Ideal))) ⟨m, fun _ => 0, ρ⟩ fun r => ∀ c : Dev InFwdARefIdeal.nD,
      r.2.mem ((c.tc : Thread InFwdARefIdeal.nD InFwdARefIdeal.τ).loc InFwdARefIdeal.main_v20) = product (m ((c.tc : Thread InFwdARefIdeal.nD InFwdARefIdeal.τ).loc InFwdARefIdeal.main_arg0)) (m ((c.tc : Thread InFwdARefIdeal.nD InFwdARefIdeal.τ).loc InFwdARefIdeal.main_arg1))
      ∧ r.2.mem ((c.tc : Thread InFwdARefIdeal.nD InFwdARefIdeal.τ).loc InFwdARefIdeal.main_v16) = together (m ((c.tc : Thread InFwdARefIdeal.nD InFwdARefIdeal.τ).loc InFwdARefIdeal.main_arg1))
      ∧ r.2.mem ((c.tc : Thread InFwdARefIdeal.nD InFwdARefIdeal.τ).loc InFwdARefIdeal.main_arg0) = m ((c.tc : Thread InFwdARefIdeal.nD InFwdARefIdeal.τ).loc InFwdARefIdeal.main_arg0)
      ∧ r.2.mem ((c.tc : Thread InFwdARefIdeal.nD InFwdARefIdeal.τ).loc InFwdARefIdeal.main_arg1) = m ((c.tc : Thread InFwdARefIdeal.nD InFwdARefIdeal.τ).loc InFwdARefIdeal.main_arg1) :=
  InFwdARefIdeal.Value.run m ρ

/-- The reference leaves its arguments as they were; it has no semaphores. -/
theorem frame_reference : Cert.quiescent_InFwdARefIdeal := fun m g _ =>
  (θ_run _ _ _).mono (fun r h => ⟨fun c => (h c).2.2, sem_eq_zero_of_no_sems rfl r.2⟩) (run_reference m g)

set_option smartUnfolding false in
/-- The frame of the kernel on float words: the same run as that of its ideal program, which holds of any float values. -/
theorem frame_words : Cert.quiescent_InFwdA (hInFwdA := Cert.InFwdA.Gen.facts) := fun m ρ _ =>
  Cert.GatherA.frame (F := Bits) m ρ

/-- Kernel and reference end with the same two arrays. -/
theorem algebraic : Cert.algebraic_InFwdAIdeal_InFwdARefIdeal := by
  intro m g m' g' _ same
  refine ⟨_, _, run_blocks m g, (θ_run _ _ _).mono (fun r h c => ?_) (run_reference m' g')⟩
  obtain ⟨s0, s1⟩ := same c
  obtain ⟨h0, h1, h⟩ := h c
  refine ⟨h0.trans ?_, h1.trans ?_, h⟩
  · rw [s0, s1]
    exact (final_product m c).symm
  · rw [s1]
    exact (final_joined m c).symm

end Cert.InProjA
-- ==== Proof.GatherBRun.lean ====
/- The projection whose weight arrives in eight column shards (`in_proj_b`): the kernel's body run once
   per case of its conditional. At the first grid point the body copies the eight shards into the second
   result, side by side; at every point it multiplies the point's rows by that result. -/
module

public import proofs.«01_k».proof.Proof.Gen.InFwdBIdeal.Frame
public import proofs.«01_k».proof.Proof.Gen.InFwdBIdeal.Skeleton

@[expose] public section

set_option maxRecDepth 16384

noncomputable section

namespace Cert.GatherB

open Cert.InFwdBIdeal Cert.InFwdBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model of one device's memory and counters in which the body's triples are stated. -/
abbrev Model (F : FTy → Type) : Type := MT nD τ sig Unit (Elt F) ℕ (UR sig nD τ) ℕ

/-- The body copies the shards exactly at the first grid point. -/
theorem copies_iff : ∀ t : Fin cfg0.N, k0_cond1 (grid0.coords t) = 1#1 ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 0)

set_option maxHeartbeats 1000000 in
/-- The body at a point that copies the shards: from inputs `x0`, `x1` and any contents of the two results'
    buffers it runs to its end with the inputs as they were, the first result's buffer at the pieces `L2`
    and the second's at the pieces `L3`; the run finds the pieces. -/
noncomputable def runCopy (c : Dev nD) (i : grid0.Coords) (arg1 : Memref sig .tc .vmem S512x1024 .bf16) (harg1 : arg1.IsWhole) (arg2 : Memref sig .tc .vmem S8x1024x224 .bf16) (harg2 : arg2.IsWhole) (arg3 : Memref sig .tc .vmem S512x1792 .bf16) (harg3 : arg3.IsWhole) (arg4 : Memref sig .tc .vmem S1024x1792 .bf16) (harg4 : arg4.IsWhole) (hc0 : k0_cond1 i = 1#1)
    (x0 : Vec F S512x1024 .bf16) (x1 : Vec F S8x1024x224 .bf16) :
    Σ' (L2 : List (View.Piece (Elt F) S512x1792 .bf16)), { L3 : List (View.Piece (Elt F) S1024x1792 .bf16) //
      ∀ (E : Set ℕ) (K : PUnit → sProp (Model F)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_in_proj_b i arg1 harg1 arg2 harg2 arg3 harg3 arg4 harg4) K } := by
  refine ⟨?_, ?_, fun E K => ?run⟩
  case run =>
    simp only [cc0_in_proj_b_eq_skeleton]; unfold cc0_in_proj_b_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

set_option maxHeartbeats 1000000 in
/-- The body at any other point: from inputs `x0`, `x1` and the second result's buffer at `x3` it runs to its
    end with those as they were and the first result's buffer at the pieces `L2`. -/
noncomputable def runKeep (c : Dev nD) (i : grid0.Coords) (arg1 : Memref sig .tc .vmem S512x1024 .bf16) (harg1 : arg1.IsWhole) (arg2 : Memref sig .tc .vmem S8x1024x224 .bf16) (harg2 : arg2.IsWhole) (arg3 : Memref sig .tc .vmem S512x1792 .bf16) (harg3 : arg3.IsWhole) (arg4 : Memref sig .tc .vmem S1024x1792 .bf16) (harg4 : arg4.IsWhole) (hc0 : ¬k0_cond1 i = 1#1)
    (x0 : Vec F S512x1024 .bf16) (x1 : Vec F S8x1024x224 .bf16) (x3 : Vec F S1024x1792 .bf16) :
    { L2 : List (View.Piece (Elt F) S512x1792 .bf16) //
      ∀ (E : Set ℕ) (K : PUnit → sProp (Model F)),
        iprop(owns (c : Thread nD τ) arg1 fullShare x0 ∗ owns (c : Thread nD τ) arg2 fullShare x1 ∗ (∃ d, owns (c : Thread nD τ) arg3 fullShare d) ∗ owns (c : Thread nD τ) arg4 fullShare x3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare x3) -∗ K ⟨⟩))
          ⊢ wp frame (wpE (defs₀ (F := F)) Variants.none c none) E (cc0_in_proj_b i arg1 harg1 arg2 harg2 arg3 harg3 arg4 harg4) K } := by
  refine ⟨?_, fun E K => ?run⟩
  case run =>
    simp only [cc0_in_proj_b_eq_skeleton]; unfold cc0_in_proj_b_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; isplitr; · ipureintro; exact harg4.read_unread _
    iexact H3

end Cert.GatherB

end
-- ==== Proof.GatherB.lean ====
/- The projection whose weight arrives in eight column shards (`in_proj_b`): what its results' buffers
   hold at every grid point, the body's obligation there, and the frame. The second result is written whole
   at the first point, kept until the last, and written back there. -/
module

public import proofs.«01_k».proof.Proof.GatherBRun
public import Idealize.ShloMosaic.Lib.Claim

@[expose] public section

set_option maxRecDepth 16384

noncomputable section

namespace Cert.GatherB

open Cert.InFwdBIdeal Cert.InFwdBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging buffer at point `t`, and that it is a whole buffer. -/
abbrev ms0 (t : Fin cfg0.N) : Memref sig .tc .vmem S512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024x224 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1792 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1792 .bf16 := win0_3.stage (cfg0.slots t 3)
abbrev hs3 (t : Fin cfg0.N) : (ms3 t).IsWhole := hstage0_3 ((cfg0.slots t 3).cast nbuf0_3)

/-- One staging buffer of each result, through which its contents are stated. -/
abbrev VO2 : View sig .tc .vmem S512x1792 .bf16 := (Memref.whole cc0_stg2_0 : Memref sig .tc .vmem S512x1792 .bf16).view
abbrev VO3 : View sig .tc .vmem S1024x1792 .bf16 := (Memref.whole cc0_stg3_0 : Memref sig .tc .vmem S1024x1792 .bf16).view

/-- The copying body's store covers the first result's block, -/
theorem cover_copy_2 (c : Dev nD) (i : grid0.Coords) (arg1 : Memref sig .tc .vmem S512x1024 .bf16) (harg1 : arg1.IsWhole) (arg2 : Memref sig .tc .vmem S8x1024x224 .bf16) (harg2 : arg2.IsWhole) (arg3 : Memref sig .tc .vmem S512x1792 .bf16) (harg3 : arg3.IsWhole) (arg4 : Memref sig .tc .vmem S1024x1792 .bf16) (harg4 : arg4.IsWhole) (hc0 : k0_cond1 i = 1#1)
    (x0 : Vec F S512x1024 .bf16) (x1 : Vec F S8x1024x224 .bf16) (y : S512x1792.Idx) :
    ∃ pc ∈ (runCopy c i arg1 harg1 arg2 harg2 arg3 harg3 arg4 harg4 hc0 x0 x1).1, y ∈ pc.1.set :=
  View.cover_of_tiledL (runCopy c i arg1 harg1 arg2 harg2 arg3 harg3 arg4 harg4 hc0 x0 x1).1 S512x1792.size (by sl_kernel_rfl) y

/-- its eight stores cover the second result, -/
theorem cover_copy_3 (c : Dev nD) (i : grid0.Coords) (arg1 : Memref sig .tc .vmem S512x1024 .bf16) (harg1 : arg1.IsWhole) (arg2 : Memref sig .tc .vmem S8x1024x224 .bf16) (harg2 : arg2.IsWhole) (arg3 : Memref sig .tc .vmem S512x1792 .bf16) (harg3 : arg3.IsWhole) (arg4 : Memref sig .tc .vmem S1024x1792 .bf16) (harg4 : arg4.IsWhole) (hc0 : k0_cond1 i = 1#1)
    (x0 : Vec F S512x1024 .bf16) (x1 : Vec F S8x1024x224 .bf16) (y : S1024x1792.Idx) :
    ∃ pc ∈ (runCopy c i arg1 harg1 arg2 harg2 arg3 harg3 arg4 harg4 hc0 x0 x1).2.1, y ∈ pc.1.set :=
  View.cover_of_tiledL (runCopy c i arg1 harg1 arg2 harg2 arg3 harg3 arg4 harg4 hc0 x0 x1).2.1 S1024x224.size (by sl_kernel_rfl) y

/-- and so does the other body's store the first result's block. -/
theorem cover_keep_2 (c : Dev nD) (i : grid0.Coords) (arg1 : Memref sig .tc .vmem S512x1024 .bf16) (harg1 : arg1.IsWhole) (arg2 : Memref sig .tc .vmem S8x1024x224 .bf16) (harg2 : arg2.IsWhole) (arg3 : Memref sig .tc .vmem S512x1792 .bf16) (harg3 : arg3.IsWhole) (arg4 : Memref sig .tc .vmem S1024x1792 .bf16) (harg4 : arg4.IsWhole) (hc0 : ¬k0_cond1 i = 1#1)
    (x0 : Vec F S512x1024 .bf16) (x1 : Vec F S8x1024x224 .bf16) (x3 : Vec F S1024x1792 .bf16) (y : S512x1792.Idx) :
    ∃ pc ∈ (runKeep c i arg1 harg1 arg2 harg2 arg3 harg3 arg4 harg4 hc0 x0 x1 x3).1, y ∈ pc.1.set :=
  View.cover_of_tiledL (runKeep c i arg1 harg1 arg2 harg2 arg3 harg3 arg4 harg4 hc0 x0 x1 x3).1 S512x1792.size (by sl_kernel_rfl) y

/-- What the copying body leaves in the first result's buffer at point `t`, -/
def prodCopy (c : Dev nD) (t : Fin cfg0.N) (h : k0_cond1 (grid0.coords t) = 1#1) : Vec F S512x1792 .bf16 :=
  VO2.read (Elt F) (VO2.writes (Elt F) VO2.junk (runCopy c (grid0.coords t) (ms0 t) (hs0 t) (ms1 t) (hs1 t) (ms2 t) (hs2 t) (ms3 t) (hs3 t) h (iblk m c 0 t) (iblk m c 1 t)).1)

/-- and in the second's. -/
def joinedAt (c : Dev nD) (t : Fin cfg0.N) (h : k0_cond1 (grid0.coords t) = 1#1) : Vec F S1024x1792 .bf16 :=
  VO3.read (Elt F) (VO3.writes (Elt F) VO3.junk (runCopy c (grid0.coords t) (ms0 t) (hs0 t) (ms1 t) (hs1 t) (ms2 t) (hs2 t) (ms3 t) (hs3 t) h (iblk m c 0 t) (iblk m c 1 t)).2.1)

/-- The joined weight: what the first point leaves in the second result. -/
def joined (c : Dev nD) : Vec F S1024x1792 .bf16 := joinedAt m c t0_0 ((copies_iff t0_0).mpr rfl)

/-- What a point that does not copy leaves in the first result's buffer. -/
def prodKeep (c : Dev nD) (t : Fin cfg0.N) (h : ¬k0_cond1 (grid0.coords t) = 1#1) : Vec F S512x1792 .bf16 :=
  VO2.read (Elt F) (VO2.writes (Elt F) VO2.junk (runKeep c (grid0.coords t) (ms0 t) (hs0 t) (ms1 t) (hs1 t) (ms2 t) (hs2 t) (ms3 t) (hs3 t) h (iblk m c 0 t) (iblk m c 1 t) (joined m c)).1)

/-- What point `t` leaves in the first result's buffer. -/
def prod (c : Dev nD) (t : Fin cfg0.N) : Vec F S512x1792 .bf16 :=
  if h : k0_cond1 (grid0.coords t) = 1#1 then prodCopy m c t h else prodKeep m c t h

/-- The proof data of the one pipeline on core `c`: after point `t` each input's buffer at its block, the
    first result's at `prod` and the second's at the joined weight. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod m c t
    | ⟨3, _⟩ => joined m c
  Φ _ := Pipeline.ΦA spec0 c
  q _ := fullShare
  owed _ := 0

/-- The proof data's arrays are the ones the region finds. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = prod m c t := by dsimp only [dats]
theorem after3 (c : Dev nD) (t : Fin cfg0.N) : (dats m 0 c).after 3 t = joined m c := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The second result's window is idle exactly where the body does not copy. -/
theorem idle3 (i : grid0.Coords) : cfg0.idle 3 i = !(k0_cond1 i == 1#1) := rfl

/-- What the second result's buffer keeps of a point is what the body left there. -/
theorem kept3 (c : Dev nD) (t : Fin cfg0.N) (d) : (dats m 0 c).kept 3 t d = joined m c := by
  unfold Dat.kept
  rw [Pipeline.fill_of_clip_none (cfg := cfg0) 3 _ (fun _ => rfl) d ((dats m 0 c).after 3 t), Window.fill_cut, after3]

/-- After the first point the second result's buffer holds the joined weight: the first point left it there,
    and no later point stores into it. -/
theorem before3 (c : Dev nD) : ∀ (n : ℕ) (hn : n < cfg0.N), n ≠ 0 → ∀ d, (dats m 0 c).before 3 ⟨n, hn⟩ d = joined m c
  | 0, _, h, _ => absurd rfl h
  | n + 1, hn, _, d => by
    have hN : n + 1 < 16 := lt_of_lt_of_eq hn (show cfg0.N = 16 from N_0)
    rw [Dat.before_of_pos _ 3 _ (Nat.succ_ne_zero n) ((cfg0.win 3).fetch_out rfl _), if_neg (fun h => by have := (flush0_3 _).mp h; dsimp only at this; omega)]
    have hn' : n < cfg0.N := by omega
    show (dats m 0 c).left 3 ⟨n, hn'⟩ d = joined m c
    unfold Dat.left
    rw [idle3]
    by_cases h0 : n = 0
    · subst h0
      rw [show (k0_cond1 (grid0.coords ⟨0, hn'⟩) == 1#1) = true from beq_iff_eq.mpr ((copies_iff ⟨0, hn'⟩).mpr rfl)]
      exact kept3 m c _ d
    · rw [show (k0_cond1 (grid0.coords ⟨n, hn'⟩) == 1#1) = false from beq_eq_false_iff_ne.mpr (fun h => by have := (copies_iff ⟨n, hn'⟩).mp h; dsimp only at this; omega)]
      exact before3 c n hn' h0 d

/-- What the body is called with at point `t`, window by window, -/
def bodyPre (c : Dev nD) (t : Fin cfg0.N) : sProp (Model F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp (Model F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The second result's buffer at the joined weight is what every point must leave there. -/
theorem leaves3 (c : Dev nD) (t : Fin cfg0.N) :
    owns (c : Thread nD τ) (ms3 t) fullShare (joined m c) ⊢ (dats m 0 c).leavesExact 3 t := by
  have hN : t.val < 16 := lt_of_lt_of_eq t.isLt (show cfg0.N = 16 from N_0)
  unfold Dat.leavesExact
  rw [idle3]
  by_cases h0 : t.val % 16 = 0
  · rw [show (k0_cond1 (grid0.coords t) == 1#1) = true from beq_iff_eq.mpr ((copies_iff t).mpr h0)]
    show _ ⊢ owns (c : Thread nD τ) (ms3 t) fullShare ((dats m 0 c).after 3 t)
    rw [after3]
  · rw [show (k0_cond1 (grid0.coords t) == 1#1) = false from beq_eq_false_iff_ne.mpr (fun h => h0 ((copies_iff t).mp h))]
    have hb : ∀ d, (dats m 0 c).before 3 t d = joined m c := before3 m c t.val t.isLt (by omega)
    by_cases h15 : t.val % 16 = 15
    · rw [(flush0_3 t).mpr h15]
      show _ ⊢ owns (c : Thread nD τ) (ms3 t) fullShare ((dats m 0 c).after 3 t)
      rw [after3]
    · rw [show (cfg0.win 3).flush t = false from Bool.eq_false_iff.mpr fun h => h15 ((flush0_3 t).mp h)]
      show _ ⊢ iprop(∃ d, owns (c : Thread nD τ) (ms3 t) fullShare ((dats m 0 c).before 3 t d))
      simp only [hb]
      iintro H
      iexists (joined m c)
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  have hN : t.val < 16 := lt_of_lt_of_eq t.isLt (show cfg0.N = 16 from N_0)
  by_cases hc : k0_cond1 (grid0.coords t) = 1#1
  · have ht : t = t0_0 := Fin.ext (by have := (copies_iff t).mp hc; show t.val = 0; omega)
    rw [show prod m c t = prodCopy m c t hc from dif_pos hc]
    have hj : joined m c = joinedAt m c t hc := by subst ht; rfl
    iintro ⟨HΦ, Ho, ⟨%d0, H0⟩, ⟨%d1, H1⟩, ⟨%d2, H2⟩, ⟨%d3, H3⟩⟩
    iapply ((runCopy c (grid0.coords t) _ _ _ _ _ _ _ _ hc (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_copy_2 c _ _ _ _ _ _ _ _ _ _ _ _)
    iapply (leaves3 m c t)
    rw [hj]
    unfold owns; iexists _; isplitr
    swap; · iexact H3
    ipureintro; exact View.read_writes_of_cover _ _ _ _ _ (cover_copy_3 c _ _ _ _ _ _ _ _ _ _ _ _)
  · rw [show prod m c t = prodKeep m c t hc from dif_neg hc]
    have h0 : t.val ≠ 0 := fun h => hc ((copies_iff t).mpr (by rw [h]))
    simp only [show ∀ d, (dats m 0 c).before 3 t d = joined m c from before3 m c t.val t.isLt h0]
    iintro ⟨HΦ, Ho, ⟨%d0, H0⟩, ⟨%d1, H1⟩, ⟨%d2, H2⟩, ⟨%d3, H3⟩⟩
    iapply ((runKeep c (grid0.coords t) _ _ _ _ _ _ _ _ hc (iblk m c 0 t) (iblk m c 1 t) (joined m c)).2 Set.univ _)
    isplitl [H0]; · iexact H0
    isplitl [H1]; · iexact H1
    isplitl [H2]; · iexists _; iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_keep_2 c _ _ _ _ _ _ _ _ _ _ _ _ _)
    iapply (leaves3 m c t)
    iexact H3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data gives, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.GatherB

end
-- ==== Proof.InProjB.lean ====
/-
  The projection whose weight arrives in eight column shards (`in_proj_b`): the kernel's two arrays are the reference's,
  the product with the joined weight and the joined weight itself.
-/
module

public import proofs.«01_k».proof.Defs
public import proofs.«01_k».proof.Proof.GatherB
public import proofs.«01_k».proof.Proof.Gen.InFwdB
public import proofs.«01_k».proof.Proof.Gen.InFwdBRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.InProjB

open Idealize.ShloMosaic Idealize.ShloMosaic.TcCoe Idealize.SL.Sem

section Whole
open Cert.InFwdBRefIdeal Cert.InFwdBRefIdeal.Gen

/-- The eight column shards side by side, element by element. -/
def join (w : FVec Ideal S8x1024x224 .bf16) : FVec Ideal S1024x1792 .bf16 := fun y =>
  w (ix3 ⟨(y 1).val / 224, Nat.div_lt_of_lt_mul (y 1).isLt⟩ (y 0) ⟨(y 1).val % 224, Nat.mod_lt _ (by norm_num)⟩)

theorem band (w : FVec Ideal S8x1024x224 .bf16) (s : Fin 8) (i : Fin 1024) (j : Fin 224) :
    join w (ix2 i ⟨s.val * 224 + j.val, by omega⟩) = w (ix3 s i j) := by
  have h0 : (s.val * 224 + j.val) / 224 = s.val := by omega
  have h1 : (s.val * 224 + j.val) % 224 = j.val := by omega
  show w (ix3 ⟨(s.val * 224 + j.val) / 224, _⟩ i ⟨(s.val * 224 + j.val) % 224, _⟩) = _
  simp only [h0, h1]

/-- The eight column shards side by side, as the reference puts them. -/
def together (w : FVec Ideal S8x1024x224 .bf16) : FVec Ideal S1024x1792 .bf16 :=
  concatenate S1024x1792 1 [⟨S1024x224, shapeCast S1024x224 (extractStridedSlice S1x1024x224 ![0, 0, 0] w slices_S8x1024x224_S1x1024x224_0_0_0) shapeCasts_S1x1024x224_S1024x224⟩, ⟨S1024x224, shapeCast S1024x224 (extractStridedSlice S1x1024x224 ![1, 0, 0] w slices_S8x1024x224_S1x1024x224_1_0_0) shapeCasts_S1x1024x224_S1024x224⟩, ⟨S1024x224, shapeCast S1024x224 (extractStridedSlice S1x1024x224 ![2, 0, 0] w slices_S8x1024x224_S1x1024x224_2_0_0) shapeCasts_S1x1024x224_S1024x224⟩, ⟨S1024x224, shapeCast S1024x224 (extractStridedSlice S1x1024x224 ![3, 0, 0] w slices_S8x1024x224_S1x1024x224_3_0_0) shapeCasts_S1x1024x224_S1024x224⟩, ⟨S1024x224, shapeCast S1024x224 (extractStridedSlice S1x1024x224 ![4, 0, 0] w slices_S8x1024x224_S1x1024x224_4_0_0) shapeCasts_S1x1024x224_S1024x224⟩, ⟨S1024x224, shapeCast S1024x224 (extractStridedSlice S1x1024x224 ![5, 0, 0] w slices_S8x1024x224_S1x1024x224_5_0_0) shapeCasts_S1x1024x224_S1024x224⟩, ⟨S1024x224, shapeCast S1024x224 (extractStridedSlice S1x1024x224 ![6, 0, 0] w slices_S8x1024x224_S1x1024x224_6_0_0) shapeCasts_S1x1024x224_S1024x224⟩, ⟨S1024x224, shapeCast S1024x224 (extractStridedSlice S1x1024x224 ![7, 0, 0] w slices_S8x1024x224_S1x1024x224_7_0_0) shapeCasts_S1x1024x224_S1024x224⟩] concatenates_S1024x224_S1024x224_S1024x224_S1024x224_S1024x224_S1024x224_S1024x224_S1024x224_S1024x1792_d1

set_option maxHeartbeats 2000000 in
/-- A shard is its band of the whole. -/
theorem together_band (w : FVec Ideal S8x1024x224 .bf16) (s : Fin 8) (i : Fin 1024) (j : Fin 224) :
    together w (ix2 i ⟨s.val * 224 + j.val, by omega⟩) = w (ix3 s i j) := by
  fin_cases s <;> pointwise [together] <;> split_ifs <;>
    first
    | (exfalso; omega)
    | exact congrArg w (congrArg (ix3 _ i) (Fin.ext (by dsimp only; omega)))

theorem together_eq (w : FVec Ideal S8x1024x224 .bf16) : together w = join w := by
  funext y
  idx_vars y
  obtain ⟨s, j, rfl⟩ : ∃ (s : Fin 8) (j : Fin 224), y1 = ⟨s.val * 224 + j.val, by omega⟩ :=
    ⟨⟨y1.val / 224, by omega⟩, ⟨y1.val % 224, by omega⟩, Fin.ext (by dsimp only; omega)⟩
  rw [together_band, band]

/-- The product with the joined weight. -/
def product (x : FVec Ideal S8192x1024 .bf16) (w : FVec Ideal S8x1024x224 .bf16) : FVec Ideal S8192x1792 .bf16 :=
  truncf .bf16 (Host.dotGeneral dot_S8192x1024_S1024x1792_S8192x1792_1_0_0_1_n_n none (extf .f32 x bitsLt_bf16_f32) (extf .f32 (together w) bitsLt_bf16_f32)) bitsLt_bf16_f32

theorem product_apply (x : FVec Ideal S8192x1024 .bf16) (w : FVec Ideal S8x1024x224 .bf16) (i : Fin 8192) (j : Fin 1792) :
    product x w (ix2 i j) = ∑ k : Fin 1024, x (ix2 i k) * join w (ix2 k j) := by
  rw [product, together_eq]
  pointwise []

end Whole

open Cert.InFwdBIdeal Cert.InFwdBIdeal.Gen Cert.GatherB

attribute [local instance] Cert.InFwdBRefIdeal.Gen.facts

variable (m : (ℓ : Loc nD τ sig) → Buf (Elt Ideal) ℓ) (c : Dev nD)

/-- The tokens' rows. -/
abbrev argX : FVec Ideal S8192x1024 .bf16 := m ((c.tc : Thread nD τ).loc main_arg0)
/-- The weight's eight column shards. -/
abbrev argW : FVec Ideal S8x1024x224 .bf16 := m ((c.tc : Thread nD τ).loc main_arg1)

theorem index0 : ∀ t : Fin cfg0.N, win0_0.index t = ![t.val % 16, 0] := by decide +kernel
theorem index1 : ∀ t : Fin cfg0.N, win0_1.index t = ![0, 0, 0] := by decide +kernel
theorem index2 : ∀ t : Fin cfg0.N, win0_2.index t = ![t.val % 16, 0] := by decide +kernel
theorem index3 : ∀ t : Fin cfg0.N, win0_3.index t = ![0, 0] := by decide +kernel

/-- The token of a point's row. -/
abbrev tokenOf (t : Fin cfg0.N) (k : Fin 512) : Fin 8192 := ⟨t.val % 16 * 512 + k.val, by have := Nat.mod_lt t.val (show 0 < 16 by omega); omega⟩

/-- A point's rows. -/
abbrev xBlock (t : Fin cfg0.N) : Vec Ideal S512x1024 .bf16 := iblk m c 0 t
/-- The shards, as every point has them. -/
abbrev wBlock (t : Fin cfg0.N) : Vec Ideal S8x1024x224 .bf16 := iblk m c 1 t

theorem xBlock_apply (t : Fin cfg0.N) (i : Fin 512) (l : Fin 1024) : xBlock m c t (ix2 i l) = argX m c (ix2 (tokenOf t i) l) := by
  blk_ext [iblk, V, index0]
theorem wBlock_eq (t : Fin cfg0.N) : wBlock m c t = argW m c := by
  funext y
  idx_vars y
  blk_ext [iblk, V, index1]

/-- Where a band's element lies in the whole. -/
theorem place (s : Fin 8) (h) (i : Fin 1024) (j : Fin 224) :
    (Rect.unit (s := S1024x1792) ![0, s.val * 224] S1024x224.size h).emb (ix2 i j) = ix2 i ⟨s.val * 224 + j.val, by omega⟩ := by
  blk_ext []

/-- A store of a shard into its band is that band of the whole. -/
theorem store (s : Fin 8) (o : ℕ) (ho : o = s.val * 224) (h) (w : Vec Ideal S8x1024x224 .bf16) (p : Vec Ideal S1024x224 .bf16) (e : ∀ i j, p (ix2 i j) = w (ix3 s i j)) (x : S1024x224.Idx) :
    p x = join w ((Rect.unit (s := S1024x1792) ![0, o] S1024x224.size h).emb x) := by
  subst ho
  idx_vars x
  rw [e]
  exact (band w s x0 x1).symm.trans (congrArg (join w) (place s h x0 x1).symm)

/-- The first point's eight stores are the eight bands. -/
theorem pieces (t : Fin cfg0.N) (h : k0_cond1 (grid0.coords t) = 1#1) :
    View.PiecesOf (Val := Elt Ideal) (join (wBlock m c t)) (runCopy (F := Ideal) c (grid0.coords t) (ms0 t) (hs0 t) (ms1 t) (hs1 t) (ms2 t) (hs2 t) (ms3 t) (hs3 t) h (iblk m c 0 t) (iblk m c 1 t)).2.1 := by
  frame_open
  refine ⟨store 7 1568 rfl inb_S1024x1792_S1024x224_0_1568 _ _ fun i j => ?_, store 6 1344 rfl inb_S1024x1792_S1024x224_0_1344 _ _ fun i j => ?_, store 5 1120 rfl inb_S1024x1792_S1024x224_0_1120 _ _ fun i j => ?_, store 4 896 rfl inb_S1024x1792_S1024x224_0_896 _ _ fun i j => ?_, store 3 672 rfl inb_S1024x1792_S1024x224_0_672 _ _ fun i j => ?_, store 2 448 rfl inb_S1024x1792_S1024x224_0_448 _ _ fun i j => ?_, store 1 224 rfl inb_S1024x1792_S1024x224_0_224 _ _ fun i j => ?_, store 0 0 rfl inb_S1024x1792_S1024x224_0_0 _ _ fun i j => ?_, trivial⟩
  all_goals
    frame_out
    pointwise [k0_pay1, k0_pay3, k0_pay4, k0_pay5, k0_pay6, k0_pay7, k0_pay8, k0_pay9]

/-- Together they leave the joined weight. -/
theorem stored (t : Fin cfg0.N) (h : k0_cond1 (grid0.coords t) = 1#1) :
    View.canon (Val := Elt Ideal) (runCopy (F := Ideal) c (grid0.coords t) (ms0 t) (hs0 t) (ms1 t) (hs1 t) (ms2 t) (hs2 t) (ms3 t) (hs3 t) h (iblk m c 0 t) (iblk m c 1 t)).2.1 = join (argW m c) := by
  funext y
  refine Eq.trans ?_ (View.canon_append_of_piecesOf _ [] _ (pieces m c t h) y (cover_copy_3 c _ _ _ _ _ _ _ _ _ h _ _ y)) |>.trans ?_
  · rw [List.append_nil]
  · rw [wBlock_eq]

theorem joined_eq : joined m c = join (argW m c) := by
  unfold joined joinedAt
  rw [View.read_writes_eq_canon _ _ _ (cover_copy_3 c _ _ _ _ _ _ _ _ _ _ _ _)]
  exact stored m c _ _

/-- A point's product. -/
theorem pay_apply (x : Vec Ideal S512x1024 .bf16) (w : Vec Ideal S1024x1792 .bf16) (i : Fin 512) (j : Fin 1792) :
    k0_pay2 (F := Ideal) x w (ix2 i j) = ∑ k : Fin 1024, x (ix2 i k) * w (ix2 k j) := by
  pointwise [k0_pay2]

/-- A load of the whole joined weight reads it. -/
theorem ld_whole (w : Vec Ideal S1024x1792 .bf16) : View.ld (Val := Elt Ideal) w (Rect.unit (s := S1024x1792) ![0, 0] S1024x1792.size inb_S1024x1792_S1024x1792_0_0) = w :=
  View.ld_unit_zero (funext fun a => by fin_cases a <;> rfl) _ w

/-- What each point leaves in the first result's buffer. -/
theorem prod_eq (t : Fin cfg0.N) : prod m c t = k0_pay2 (F := Ideal) (xBlock m c t) (join (argW m c)) := by
  unfold prod
  split
  · rename_i h
    have hs := stored m c t h
    frame_open at hs
    unfold prodCopy
    frame_open
    rw [View.readCov_eq_canon', hs]
    frame_out
    exact congrArg (k0_pay2 _) (ld_whole (join (argW m c)))
  · unfold prodKeep
    frame_out
    rw [joined_eq]

theorem final_product : (dats m 0 c).arrAt 2 cfg0.N = product (argX m c) (argW m c) := by
  refine (dats m 0 c).arrAt_eq_of_covers 2 _ (by decide +kernel) fun t hf y => ?_
  blk_simp
  rw [after2]
  refine (congrFun (prod_eq m c t) y).trans ?_
  idx_vars y
  have hE : ((View.whole main_v0_0).slice (win0_2.rect t)).emb (ix2 y0 y1) = ix2 (tokenOf t y0) y1 := by
    blk_ext [index2]
  rw [hE]
  refine (pay_apply _ _ y0 y1).trans (Eq.trans ?_ (product_apply _ _ (tokenOf t y0) y1).symm)
  simp only [xBlock_apply]

theorem final_joined : (dats m 0 c).arrAt 3 cfg0.N = together (argW m c) := by
  refine (dats m 0 c).arrAt_eq_of_covers 3 _ (by decide +kernel) fun t hf y => ?_
  blk_simp
  rw [after3, together_eq]
  refine (congrFun (joined_eq m c) y).trans ?_
  idx_vars y
  have hE : ((View.whole main_v0_1).slice (win0_3.rect t)).emb (ix2 y0 y1) = ix2 y0 y1 := by
    blk_ext [index3]
  rw [hE]

/-- The kernel's run: each result at what the grid's points leave, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The reference's run, its results by these names. -/
theorem run_reference (m : (ℓ : Loc InFwdBRefIdeal.nD InFwdBRefIdeal.τ InFwdBRefIdeal.sig) → Buf (Elt Ideal) ℓ) (ρ : Dev InFwdBRefIdeal.nD → PrngReg) :
    θ_run InFwdBRefIdeal.defs (onTc (τ := InFwdBRefIdeal.τ) (InFwdBRefIdeal.main (F := Ideal))) ⟨m, fun _ => 0, ρ⟩ fun r => ∀ c : Dev InFwdBRefIdeal.nD,
      r.2.mem ((c.tc : Thread InFwdBRefIdeal.nD InFwdBRefIdeal.τ).loc InFwdBRefIdeal.main_v20) = product (m ((c.tc : Thread InFwdBRefIdeal.nD InFwdBRefIdeal.τ).loc InFwdBRefIdeal.main_arg0)) (m ((c.tc : Thread InFwdBRefIdeal.nD InFwdBRefIdeal.τ).loc InFwdBRefIdeal.main_arg1))
      ∧ r.2.mem ((c.tc : Thread InFwdBRefIdeal.nD InFwdBRefIdeal.τ).loc InFwdBRefIdeal.main_v16) = together (m ((c.tc : Thread InFwdBRefIdeal.nD InFwdBRefIdeal.τ).loc InFwdBRefIdeal.main_arg1))
      ∧ r.2.mem ((c.tc : Thread InFwdBRefIdeal.nD InFwdBRefIdeal.τ).loc InFwdBRefIdeal.main_arg0) = m ((c.tc : Thread InFwdBRefIdeal.nD InFwdBRefIdeal.τ).loc InFwdBRefIdeal.main_arg0)
      ∧ r.2.mem ((c.tc : Thread InFwdBRefIdeal.nD InFwdBRefIdeal.τ).loc InFwdBRefIdeal.main_arg1) = m ((c.tc : Thread InFwdBRefIdeal.nD InFwdBRefIdeal.τ).loc InFwdBRefIdeal.main_arg1) :=
  InFwdBRefIdeal.Value.run m ρ

/-- The reference leaves its arguments as they were; it has no semaphores. -/
theorem frame_reference : Cert.quiescent_InFwdBRefIdeal := fun m g _ =>
  (θ_run _ _ _).mono (fun r h => ⟨fun c => (h c).2.2, sem_eq_zero_of_no_sems rfl r.2⟩) (run_reference m g)

set_option smartUnfolding false in
/-- The frame of the kernel on float words: the same run as that of its ideal program, which holds of any float values. -/
theorem frame_words : Cert.quiescent_InFwdB (hInFwdB := Cert.InFwdB.Gen.facts) := fun m ρ _ =>
  Cert.GatherB.frame (F := Bits) m ρ

/-- Kernel and reference end with the same two arrays. -/
theorem algebraic : Cert.algebraic_InFwdBIdeal_InFwdBRefIdeal := by
  intro m g m' g' _ same
  refine ⟨_, _, run_blocks m g, (θ_run _ _ _).mono (fun r h c => ?_) (run_reference m' g')⟩
  obtain ⟨s0, s1⟩ := same c
  obtain ⟨h0, h1, h⟩ := h c
  refine ⟨h0.trans ?_, h1.trans ?_, h⟩
  · rw [s0, s1]
    exact (final_product m c).symm
  · rw [s1]
    exact (final_joined m c).symm

end Cert.InProjB
-- ==== Proof.MemKeys.lean ====
/-
  The memory's keys and values side by side: the kernel's array is the memory times their projection.
-/
module

public import proofs.«01_k».proof.Defs
public import proofs.«01_k».proof.Proof.Gen.MemFwd
public import proofs.«01_k».proof.Proof.Gen.MemFwdIdeal.Value
public import proofs.«01_k».proof.Proof.Gen.MemFwdRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.MemKeys

open Cert.MemFwdIdeal Cert.MemFwdIdeal.Gen Idealize.ShloMosaic Idealize.ShloMosaic.TcCoe Idealize.SL.Sem

attribute [local instance] Cert.MemFwdRefIdeal.Gen.facts

variable (m : (ℓ : Loc nD τ sig) → Buf (Elt Ideal) ℓ) (c : Dev nD)

/-- The memory. -/
abbrev argMem : FVec Ideal S1024x1024 .bf16 := m ((c.tc : Thread nD τ).loc main_arg0)
/-- The projection of its keys and values. -/
abbrev argW : FVec Ideal S1024x512 .bf16 := m ((c.tc : Thread nD τ).loc main_arg1)

/-- The product, as an array. -/
def product (a : FVec Ideal S1024x1024 .bf16) (w : FVec Ideal S1024x512 .bf16) : FVec Ideal S1024x512 .bf16 :=
  fun y => ∑ k : Fin 1024, a (ix2 (y 0) k) * w (ix2 k (y 1))

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel

theorem lt_two (t : Fin cfg0.N) : t.val < 2 := lt_of_lt_of_le t.isLt (by decide +kernel)

/-- What a point stores. -/
theorem block_apply (x0 : Vec Ideal S512x1024 .bf16) (x1 : Vec Ideal S1024x512 .bf16) (i j : Fin 512) :
    out0_2 x0 x1 (ix2 i j) = ∑ k : Fin 1024, x0 (ix2 i k) * x1 (ix2 k j) := by
  unfold out0_2
  frame_out
  pointwise [k0_pay1]

/-- The array of the kernel. -/
theorem final : (dats m 0 c).arrAt 2 cfg0.N = product (argMem m c) (argW m c) := by
  refine (dats m 0 c).arrAt_eq_of_covers 2 _ (by decide +kernel) fun t hf y => ?_
  have ht := lt_two t
  blk_simp
  rw [after0_2]
  idx_vars y
  refine (block_apply _ _ y0 y1).trans ?_
  have hE : ((View.whole main_v0).slice (win0_2.rect t)).emb (ix2 y0 y1) = ix2 ⟨t.val * 512 + y0, by omega⟩ y1 := by
    blk_ext [index2]
  rw [hE]
  refine Finset.sum_congr rfl fun k _ => congrArg₂ (· * ·) ?_ ?_
  · blk_ext [iblk, V, index0]
  · blk_ext [iblk, V, index1]

/-- The reference's result, which is made of two halves, at one element. -/
theorem reference_apply (a : FVec Ideal S1024x1024 .bf16) (w : FVec Ideal S1024x512 .bf16) (i : Fin 1024) (j : Fin 512) :
    (truncf .bf16 (concatenate MemFwdRefIdeal.S1024x512 1
      [⟨MemFwdRefIdeal.S1024x256, extractStridedSlice MemFwdRefIdeal.S1024x256 ![0, 0] (Host.dotGeneral MemFwdRefIdeal.dot_S1024x1024_S1024x512_S1024x512_1_0_0_1_n_n none
          (extf .f32 a MemFwdRefIdeal.Gen.facts.bitsLt_bf16_f32) (extf .f32 w MemFwdRefIdeal.Gen.facts.bitsLt_bf16_f32)) MemFwdRefIdeal.Gen.facts.slices_S1024x512_S1024x256_0_0⟩,
       ⟨MemFwdRefIdeal.S1024x256, extractStridedSlice MemFwdRefIdeal.S1024x256 ![0, 256] (Host.dotGeneral MemFwdRefIdeal.dot_S1024x1024_S1024x512_S1024x512_1_0_0_1_n_n none
          (extf .f32 a MemFwdRefIdeal.Gen.facts.bitsLt_bf16_f32) (extf .f32 w MemFwdRefIdeal.Gen.facts.bitsLt_bf16_f32)) MemFwdRefIdeal.Gen.facts.slices_S1024x512_S1024x256_0_256⟩]
      MemFwdRefIdeal.Gen.facts.concatenates_S1024x256_S1024x256_S1024x512_d1) MemFwdRefIdeal.Gen.facts.bitsLt_bf16_f32 : FVec Ideal MemFwdRefIdeal.S1024x512 .bf16) (ix2 i j)
      = product a w (ix2 i j) := by
  have e : ¬j.val < 256 → 256 + (j.val - 256) = j.val := by omega
  pointwise [product]
  split
  · rfl
  · rename_i hj
    simp only [e hj, Fin.eta]

/-- The reference leaves its arguments as they were; it has no semaphores. -/
theorem frame_reference : Cert.quiescent_MemFwdRefIdeal := fun m g _ =>
  (θ_run _ _ _).mono (fun r h => ⟨fun c => (h c).2, sem_eq_zero_of_no_sems rfl r.2⟩) (Cert.MemFwdRefIdeal.Value.run m g)

set_option smartUnfolding false in
/-- The kernel's frame on float words: the run that holds of any float values, at words. -/
theorem frame_words : Cert.quiescent_MemFwd (hMemFwd := Cert.MemFwd.Gen.facts) := fun m ρ _ =>
  Cert.MemFwdIdeal.Gen.frame (F := Bits) m ρ

/-- Kernel and reference end with the same array. -/
theorem algebraic : Cert.algebraic_MemFwdIdeal_MemFwdRefIdeal := by
  intro m g m' g' _ same
  refine ⟨_, Value.run_blocks m g, (θ_run _ _ _).mono (fun r h c => ?_) (Cert.MemFwdRefIdeal.Value.run m' g')⟩
  obtain ⟨s0, s1⟩ := same c
  refine ⟨(h c).1.trans ?_, (h c).2⟩
  rw [s0, s1]
  funext y
  idx_vars y
  exact (reference_apply _ _ y0 y1).trans (congrFun (final m c) (ix2 y0 y1)).symm

end Cert.MemKeys
-- ==== Proof.MemGrad.lean ====
/-
  The gradient of the projection of the memory's keys and values: the kernel's array is the product of the transposed
  memory and the incoming gradient.
-/
module

public import proofs.«01_k».proof.Defs
public import proofs.«01_k».proof.Proof.Gen.GradMem
public import proofs.«01_k».proof.Proof.Gen.GradMemIdeal.Value
public import proofs.«01_k».proof.Proof.Gen.GradMemRefIdeal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

@[expose] public section

set_option maxRecDepth 16384

noncomputable section

namespace Cert.MemGrad

open Cert.GradMemIdeal Cert.GradMemIdeal.Gen Idealize.ShloMosaic Idealize.ShloMosaic.TcCoe Idealize.SL.Sem

attribute [local instance] Cert.GradMemRefIdeal.Gen.facts

variable (m : (ℓ : Loc nD τ sig) → Buf (Elt Ideal) ℓ) (c : Dev nD)

/-- The memory. -/
abbrev argMem : FVec Ideal S1024x1024 .bf16 := m ((c.tc : Thread nD τ).loc main_arg0)
/-- The incoming gradient. -/
abbrev argDy : FVec Ideal S1024x512 .bf16 := m ((c.tc : Thread nD τ).loc main_arg1)

/-- The product, as an array. -/
def product (a : FVec Ideal S1024x1024 .bf16) (d : FVec Ideal S1024x512 .bf16) : FVec Ideal S1024x512 .bf16 :=
  fun y => ∑ k : Fin 1024, a (ix2 k (y 0)) * d (ix2 k (y 1))

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel

/-- The one point's product, added to what the buffer held. -/
theorem step_apply (acc : Vec Ideal S1024x512 .f32) (x0 : Vec Ideal S1024x1024 .bf16) (x1 : Vec Ideal S1024x512 .bf16) (i : Fin 1024) (j : Fin 512) :
    k0_pay2 acc x0 x1 (ix2 i j) = acc (ix2 i j) + ∑ k : Fin 1024, x0 (ix2 k i) * x1 (ix2 k j) := by
  pointwise [k0_pay2]

theorem start_apply (i : Fin 1024) (j : Fin 512) : k0_pay1 (F := Ideal) (ix2 i j) = 0 := by
  pointwise [k0_pay1]

/-- What the one point writes out. -/
theorem written (t : Fin cfg0.N) (i : Fin 1024) (j : Fin 512) :
    outsAt0 m c t (ix2 i j) = ∑ k : Fin 1024, argMem m c (ix2 k i) * argDy m c (ix2 k j) := by
  unfold outsAt0 out0_A_2
  frame_out
  pointwise [k0_pay3]
  rw [step_apply, start_apply, zero_add]
  refine Finset.sum_congr rfl fun k _ => congrArg₂ (· * ·) ?_ ?_
  · blk_ext [iblk, V, index0]
  · blk_ext [iblk, V, index1]

/-- The array of the kernel. -/
theorem final : (dats m 0 c).arrAt 2 cfg0.N = product (argMem m c) (argDy m c) := by
  refine (dats m 0 c).arrAt_eq_of_covers 2 _ (by decide +kernel) fun t hf y => ?_
  blk_simp
  rw [after0_2]
  idx_vars y
  have hE : ((View.whole main_v0).slice (win0_2.rect t)).emb (ix2 y0 y1) = ix2 y0 y1 := by
    blk_ext [index2]
  rw [hE]
  exact written m c t y0 y1

/-- The reference's result, at one element. -/
theorem reference_apply (a : FVec Ideal S1024x1024 .bf16) (d : FVec Ideal S1024x512 .bf16) (i : Fin 1024) (j : Fin 512) :
    (truncf .bf16 (transpose GradMemRefIdeal.S1024x512 [1, 0] (Host.dotGeneral GradMemRefIdeal.dot_S1024x512_S1024x1024_S512x1024_0_0_1_1_n_n none
      (concatenate GradMemRefIdeal.S1024x512 1
        [⟨GradMemRefIdeal.S1024x256, extf .f32 (extractStridedSlice GradMemRefIdeal.S1024x256 ![0, 0] d GradMemRefIdeal.Gen.facts.slices_S1024x512_S1024x256_0_0) GradMemRefIdeal.Gen.facts.bitsLt_bf16_f32⟩,
         ⟨GradMemRefIdeal.S1024x256, extf .f32 (extractStridedSlice GradMemRefIdeal.S1024x256 ![0, 256] d GradMemRefIdeal.Gen.facts.slices_S1024x512_S1024x256_0_256) GradMemRefIdeal.Gen.facts.bitsLt_bf16_f32⟩]
        GradMemRefIdeal.Gen.facts.concatenates_S1024x256_S1024x256_S1024x512_d1)
      (extf .f32 a GradMemRefIdeal.Gen.facts.bitsLt_bf16_f32))
      GradMemRefIdeal.Gen.facts.transposes_S512x1024_S1024x512_1_0) GradMemRefIdeal.Gen.facts.bitsLt_bf16_f32 : FVec Ideal GradMemRefIdeal.S1024x512 .bf16) (ix2 i j)
      = product a d (ix2 i j) := by
  have e : ¬j.val < 256 → 256 + (j.val - 256) = j.val := by omega
  pointwise [product]
  refine Finset.sum_congr rfl fun k _ => (mul_comm _ _).trans (congrArg (_ * ·) ?_)
  split
  · rfl
  · rename_i hj
    simp only [e hj, Fin.eta]

/-- The reference leaves its arguments as they were; it has no semaphores. -/
theorem frame_reference : Cert.quiescent_GradMemRefIdeal := fun m g _ =>
  (θ_run _ _ _).mono (fun r h => ⟨fun c => (h c).2, sem_eq_zero_of_no_sems rfl r.2⟩) (Cert.GradMemRefIdeal.Value.run m g)

set_option smartUnfolding false in
/-- The kernel's frame on float words: the run that holds of any float values, at words. -/
theorem frame_words : Cert.quiescent_GradMem (hGradMem := Cert.GradMem.Gen.facts) := fun m ρ _ =>
  Cert.GradMemIdeal.Gen.frame (F := Bits) m ρ

/-- Kernel and reference end with the same array. -/
theorem algebraic : Cert.algebraic_GradMemIdeal_GradMemRefIdeal := by
  intro m g m' g' _ same
  refine ⟨_, Value.run_blocks m g, (θ_run _ _ _).mono (fun r h c => ?_) (Cert.GradMemRefIdeal.Value.run m' g')⟩
  obtain ⟨s0, s1⟩ := same c
  refine ⟨(h c).1.trans ?_, (h c).2⟩
  rw [s0, s1]
  funext y
  idx_vars y
  exact (reference_apply _ _ y0 y1).trans (congrFun (final m c) (ix2 y0 y1)).symm

end Cert.MemGrad
-- ==== Proof.UpFwdRun.lean ====
/- The forward up-projection whose two weights arrive in eight column shards each (`ffn_up_fwd`): the kernel's
   body run once per case of its conditionals. At the first grid point the body copies the sixteen shards into
   the scratch, side by side, and starts a copy of the scratch into the fourth result; at every point it
   multiplies the point's rows by the scratch; at the last point it waits for the copy. Between the first point
   and the last the body holds one half of the scratch's share, and the copy in flight the other. -/
module

public import proofs.«01_k».proof.Proof.Gen.UpFwdIdeal.Frame
public import proofs.«01_k».proof.Proof.Gen.UpFwdIdeal.Skeleton

@[expose] public section

set_option maxRecDepth 16384

noncomputable section

namespace Cert.GatherUp

open Cert.UpFwdIdeal Cert.UpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The model of one device's memory and counters in which the body's triples are stated. -/
abbrev Model (F : FTy → Type) : Type := MT nD τ sig Unit (Elt F) ℕ (Pipeline.UD sig nD τ) ℕ

/-- The body copies the shards at a point where this bit is one, -/
abbrev startBit (i : grid0.Coords) : BitVec 1 := Scalar.cmpi .ne (Scalar.extui (Scalar.cmpi .eq (BitVec.ofNat 32 (i 0).val) 0#32) : BitVec 32) 0#32
/-- and waits for the copy of the scratch at a point where this one is. -/
abbrev endBit (i : grid0.Coords) : BitVec 1 := Scalar.cmpi .ne (Scalar.extui (Scalar.cmpi .eq (BitVec.ofNat 32 (i 0).val) 31#32) : BitVec 32) 0#32

/-- The body copies the shards exactly at the first grid point, -/
theorem starts_iff : ∀ t : Fin cfg0.N, startBit (grid0.coords t) = 1#1 ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [startBit, e0]
    word_cmp
   : ∀ t : Fin grid0.N, startBit (grid0.coords t) = 1#1 ↔ t.val % 32 = 0)

/-- and waits exactly at the last. -/
theorem ends_iff : ∀ t : Fin cfg0.N, endBit (grid0.coords t) = 1#1 ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [endBit, e0]
    word_cmp
   : ∀ t : Fin grid0.N, endBit (grid0.coords t) = 1#1 ↔ t.val % 32 = 31)

/-- The copy in flight: it delivers the fourth result at `fy` and one half of the scratch's share, the scratch at `fk`. -/
abbrev flight (c : Dev nD) (arg7 : Memref sig .tc .hbm S1024x5632 .bf16) (arg8 : Memref sig .tc .vmem S1024x5632 .bf16) (fy : Buf (Elt F) (arg7.view.loc (c : Thread nD τ))) (fk : Buf (Elt F) (arg8.view.loc (c : Thread nD τ))) : sProp (Model F) :=
  Transfers.Flight (countersEmb (U := Pipeline.UD sig nD τ)) (c : Thread nD τ) (.dma 10) ()
    360448
    iprop((arg7.view.loc (c : Thread nD τ) ↦[arg7.view.set]{fullShare} fy) ∗ (arg8.view.loc (c : Thread nD τ) ↦[arg8.view.set]{fullShare.right} fk))

set_option maxHeartbeats 4000000 in
/-- The body at the point that copies the shards. -/
noncomputable def runStart (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : startBit i = 1#1) (he : ¬endBit i = 1#1)
    (x0 : Vec F S256x1024 .bf16) (x1 : Vec F S8x1024x352 .bf16) (x2 : Vec F S8x1024x352 .bf16) (fy : Buf (Elt F) (arg7.view.loc (c : Thread nD τ))) :
    Σ' (L3 L4 L5 : List (View.Piece (Elt F) S256x2816 .bf16)), { LS : List (View.Piece (Elt F) S1024x5632 .bf16) //
      ∀ (K : PUnit → sProp (Model F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg8 fullShare d) ∗ (arg7.view.loc (c : Thread nD τ) ↦[arg7.view.set]{fullShare} fy) ∗ semVal ((c : Thread nD τ), SemLoc.dma 10) 0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f g, ⌜g = arg8.view.read (Elt F) (arg8.view.writes (Elt F) f LS)⌝ ∗ (arg8.view.loc (c : Thread nD τ) ↦[arg8.view.set]{fullShare.left} arg8.view.writes (Elt F) f LS)
                    ∗ flight c arg7 arg8 (arg7.view.writes (Elt F) fy [⟨Rect.whole S1024x5632, g⟩]) (arg8.view.writes (Elt F) f LS))) -∗ K ⟨⟩))
          ⊢ wp frame (wpE (defs₀ (F := F)) Variants.none c none) Set.univ (cc0_ffn_up_fwd i arg1 harg1 arg2 harg2 arg3 harg3 arg4 harg4 arg5 harg5 arg6 harg6 arg7 harg7 arg8 harg8 cc0_scratch1) K } := by
  refine ⟨?_, ?_, ?_, ?_, fun K => ?run⟩
  case run =>
    simp only [cc0_ffn_up_fwd_eq_skeleton]; unfold cc0_ffn_up_fwd_skel
    simp only [k0_part3_eq_skeleton]; unfold k0_part3_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, HK⟩, HY, Hd, Hk⟩
    obtain rfl := harg1.eq_unread hf0; obtain rfl := harg2.eq_unread hf1; obtain rfl := harg3.eq_unread hf2
    set_option sl_exec.lendShare "HK" in sl_exec (disch := first | sl_exact hs | sl_exact he)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _, _
    isplitr; swap
    · isplitl [HK]; · iexact HK
      iexact Hd
    ipureintro; rfl

set_option maxHeartbeats 4000000 in
/-- The body at a point that neither copies nor waits. -/
noncomputable def runKeep (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : ¬endBit i = 1#1)
    (x0 : Vec F S256x1024 .bf16) (x1 : Vec F S8x1024x352 .bf16) (x2 : Vec F S8x1024x352 .bf16) (x3 : Vec F S1024x5632 .bf16) :
    Σ' (L3 L4 : List (View.Piece (Elt F) S256x2816 .bf16)), { L5 : List (View.Piece (Elt F) S256x2816 .bf16) //
      ∀ (K : PUnit → sProp (Model F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg8 fullShare.left x3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg8 fullShare.left x3) -∗ K ⟨⟩))
          ⊢ wp frame (wpE (defs₀ (F := F)) Variants.none c none) Set.univ (cc0_ffn_up_fwd i arg1 harg1 arg2 harg2 arg3 harg3 arg4 harg4 arg5 harg5 arg6 harg6 arg7 harg7 arg8 harg8 cc0_scratch1) K } := by
  refine ⟨?_, ?_, ?_, fun K => ?run⟩
  case run =>
    simp only [cc0_ffn_up_fwd_eq_skeleton]; unfold cc0_ffn_up_fwd_skel
    simp only [k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, HK⟩, Hk⟩
    obtain rfl := harg1.eq_unread hf0; obtain rfl := harg2.eq_unread hf1; obtain rfl := harg3.eq_unread hf2; obtain rfl := harg8.eq_unread hf6
    sl_exec (disch := first | sl_exact hs | sl_exact he)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; isplitr; · ipureintro; exact harg8.read_unread _
    iexact HK

set_option maxHeartbeats 4000000 in
/-- The body at the point that waits for the copy. -/
noncomputable def runEnd (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : endBit i = 1#1)
    (x0 : Vec F S256x1024 .bf16) (x1 : Vec F S8x1024x352 .bf16) (x2 : Vec F S8x1024x352 .bf16) (x3 : Vec F S1024x5632 .bf16) (fy : Buf (Elt F) (arg7.view.loc (c : Thread nD τ))) :
    Σ' (L3 L4 : List (View.Piece (Elt F) S256x2816 .bf16)), { L5 : List (View.Piece (Elt F) S256x2816 .bf16) //
      ∀ (W : Waits sig Unit) (K : PUnit → sProp (Model F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg8 fullShare.left x3
            ∗ flight c arg7 arg8 fy (harg8.unread x3) ∗ owes (c : Thread nD τ) 0 W
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg8 fullShare x3
                ∗ (arg7.view.loc (c : Thread nD τ) ↦[arg7.view.set]{fullShare} fy) ∗ semVal ((c : Thread nD τ), SemLoc.dma 10) 0 ∗ (∃ W', owes (c : Thread nD τ) 0 W')) -∗ K ⟨⟩))
          ⊢ wp frame (wpE (defs₀ (F := F)) Variants.none c none) Set.univ (cc0_ffn_up_fwd i arg1 harg1 arg2 harg2 arg3 harg3 arg4 harg4 arg5 harg5 arg6 harg6 arg7 harg7 arg8 harg8 cc0_scratch1) K } := by
  refine ⟨?_, ?_, ?_, fun W K => ?run⟩
  case run =>
    simp only [cc0_ffn_up_fwd_eq_skeleton]; unfold cc0_ffn_up_fwd_skel
    simp only [k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, HK⟩, HF, HO, Hk⟩
    obtain rfl := harg1.eq_unread hf0; obtain rfl := harg2.eq_unread hf1; obtain rfl := harg3.eq_unread hf2; obtain rfl := harg8.eq_unread hf6
    set_option sl_exec.lendShare "HK" in sl_exec (disch := first | sl_exact hs | sl_exact he)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HK]
    · iexists _; isplitr; · ipureintro; exact harg8.read_unread _
      iexact HK
    isplitl [HF_dst]; · iexact HF_dst
    isplitl [HF]; · iexact HF
    iexists _; iexact HO

end Cert.GatherUp

end
-- ==== Proof.UpFwdFrame.lean ====
/- The forward up-projection whose two weights arrive in eight column shards each (`ffn_up_fwd`): what its results'
   buffers, the scratch and the copy in flight hold between the grid points, the body's obligation at each, and the
   frame. The fourth result is what the copy delivers: the joined weight. -/
module

public import proofs.«01_k».proof.Proof.UpFwdRun
public import Idealize.ShloMosaic.Lib.Claim
public import Idealize.ShloMosaic.Lib.Pipeline.FrameValue

@[expose] public section

set_option maxRecDepth 16384

noncomputable section

namespace Cert.GatherUp

open Cert.UpFwdIdeal Cert.UpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Each window's current staging buffer at point `t`, and that it is a whole buffer. -/
abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024x352 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1024x352 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2816 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x2816 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x2816 .bf16 := win0_5.stage (cfg0.slots t 5)
abbrev hs5 (t : Fin cfg0.N) : (ms5 t).IsWhole := hstage0_5 ((cfg0.slots t 5).cast nbuf0_5)

/-- The scratch that holds the joined weight, and the fourth result, left where the call put it. -/
abbrev scr : Memref sig .tc .vmem S1024x5632 .bf16 := Memref.whole cc0_scratch0
abbrev hscr : scr.IsWhole := Memref.isWhole_whole _
abbrev hbm : Memref sig .tc .hbm S1024x5632 .bf16 := Memref.whole main_v0_3
abbrev hhbm : hbm.IsWhole := Memref.isWhole_whole _

/-- One staging buffer of a result, through which the results' contents are stated. -/
abbrev VO : View sig .tc .vmem S256x2816 .bf16 := (Memref.whole cc0_stg3_0 : Memref sig .tc .vmem S256x2816 .bf16).view

/-- The body's stores cover the result (the point that copies, window 3). -/
theorem cover_Start_3 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : startBit i = 1#1) (he : ¬endBit i = 1#1) (x0 : Vec F S256x1024 .bf16) (x1 : Vec F S8x1024x352 .bf16) (x2 : Vec F S8x1024x352 .bf16) (fy : Buf (Elt F) (arg7.view.loc (c : Thread nD τ))) (y : S256x2816.Idx) :
    ∃ pc ∈ (runStart c i arg1 harg1 arg2 harg2 arg3 harg3 arg4 harg4 arg5 harg5 arg6 harg6 arg7 harg7 arg8 harg8 hs he x0 x1 x2 fy).1, y ∈ pc.1.set :=
  View.cover_of_tiledL (runStart c i arg1 harg1 arg2 harg2 arg3 harg3 arg4 harg4 arg5 harg5 arg6 harg6 arg7 harg7 arg8 harg8 hs he x0 x1 x2 fy).1 S256x1408.size (by sl_kernel_rfl) y

/-- The body's stores cover the result (the point that copies, window 4). -/
theorem cover_Start_4 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : startBit i = 1#1) (he : ¬endBit i = 1#1) (x0 : Vec F S256x1024 .bf16) (x1 : Vec F S8x1024x352 .bf16) (x2 : Vec F S8x1024x352 .bf16) (fy : Buf (Elt F) (arg7.view.loc (c : Thread nD τ))) (y : S256x2816.Idx) :
    ∃ pc ∈ (runStart c i arg1 harg1 arg2 harg2 arg3 harg3 arg4 harg4 arg5 harg5 arg6 harg6 arg7 harg7 arg8 harg8 hs he x0 x1 x2 fy).2.1, y ∈ pc.1.set :=
  View.cover_of_tiledL (runStart c i arg1 harg1 arg2 harg2 arg3 harg3 arg4 harg4 arg5 harg5 arg6 harg6 arg7 harg7 arg8 harg8 hs he x0 x1 x2 fy).2.1 S256x1408.size (by sl_kernel_rfl) y

/-- The body's stores cover the result (the point that copies, window 5). -/
theorem cover_Start_5 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : startBit i = 1#1) (he : ¬endBit i = 1#1) (x0 : Vec F S256x1024 .bf16) (x1 : Vec F S8x1024x352 .bf16) (x2 : Vec F S8x1024x352 .bf16) (fy : Buf (Elt F) (arg7.view.loc (c : Thread nD τ))) (y : S256x2816.Idx) :
    ∃ pc ∈ (runStart c i arg1 harg1 arg2 harg2 arg3 harg3 arg4 harg4 arg5 harg5 arg6 harg6 arg7 harg7 arg8 harg8 hs he x0 x1 x2 fy).2.2.1, y ∈ pc.1.set :=
  View.cover_of_tiledL (runStart c i arg1 harg1 arg2 harg2 arg3 harg3 arg4 harg4 arg5 harg5 arg6 harg6 arg7 harg7 arg8 harg8 hs he x0 x1 x2 fy).2.2.1 S256x1408.size (by sl_kernel_rfl) y

/-- The body's stores cover the result (the point that neither copies nor waits, window 3). -/
theorem cover_Keep_3 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : ¬endBit i = 1#1) (x0 : Vec F S256x1024 .bf16) (x1 : Vec F S8x1024x352 .bf16) (x2 : Vec F S8x1024x352 .bf16) (x3 : Vec F S1024x5632 .bf16) (y : S256x2816.Idx) :
    ∃ pc ∈ (runKeep c i arg1 harg1 arg2 harg2 arg3 harg3 arg4 harg4 arg5 harg5 arg6 harg6 arg7 harg7 arg8 harg8 hs he x0 x1 x2 x3).1, y ∈ pc.1.set :=
  View.cover_of_tiledL (runKeep c i arg1 harg1 arg2 harg2 arg3 harg3 arg4 harg4 arg5 harg5 arg6 harg6 arg7 harg7 arg8 harg8 hs he x0 x1 x2 x3).1 S256x1408.size (by sl_kernel_rfl) y

/-- The body's stores cover the result (the point that neither copies nor waits, window 4). -/
theorem cover_Keep_4 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : ¬endBit i = 1#1) (x0 : Vec F S256x1024 .bf16) (x1 : Vec F S8x1024x352 .bf16) (x2 : Vec F S8x1024x352 .bf16) (x3 : Vec F S1024x5632 .bf16) (y : S256x2816.Idx) :
    ∃ pc ∈ (runKeep c i arg1 harg1 arg2 harg2 arg3 harg3 arg4 harg4 arg5 harg5 arg6 harg6 arg7 harg7 arg8 harg8 hs he x0 x1 x2 x3).2.1, y ∈ pc.1.set :=
  View.cover_of_tiledL (runKeep c i arg1 harg1 arg2 harg2 arg3 harg3 arg4 harg4 arg5 harg5 arg6 harg6 arg7 harg7 arg8 harg8 hs he x0 x1 x2 x3).2.1 S256x1408.size (by sl_kernel_rfl) y

/-- The body's stores cover the result (the point that neither copies nor waits, window 5). -/
theorem cover_Keep_5 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : ¬endBit i = 1#1) (x0 : Vec F S256x1024 .bf16) (x1 : Vec F S8x1024x352 .bf16) (x2 : Vec F S8x1024x352 .bf16) (x3 : Vec F S1024x5632 .bf16) (y : S256x2816.Idx) :
    ∃ pc ∈ (runKeep c i arg1 harg1 arg2 harg2 arg3 harg3 arg4 harg4 arg5 harg5 arg6 harg6 arg7 harg7 arg8 harg8 hs he x0 x1 x2 x3).2.2.1, y ∈ pc.1.set :=
  View.cover_of_tiledL (runKeep c i arg1 harg1 arg2 harg2 arg3 harg3 arg4 harg4 arg5 harg5 arg6 harg6 arg7 harg7 arg8 harg8 hs he x0 x1 x2 x3).2.2.1 S256x1408.size (by sl_kernel_rfl) y

/-- The body's stores cover the result (the point that waits, window 3). -/
theorem cover_End_3 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : endBit i = 1#1) (x0 : Vec F S256x1024 .bf16) (x1 : Vec F S8x1024x352 .bf16) (x2 : Vec F S8x1024x352 .bf16) (x3 : Vec F S1024x5632 .bf16) (fy : Buf (Elt F) (arg7.view.loc (c : Thread nD τ))) (y : S256x2816.Idx) :
    ∃ pc ∈ (runEnd c i arg1 harg1 arg2 harg2 arg3 harg3 arg4 harg4 arg5 harg5 arg6 harg6 arg7 harg7 arg8 harg8 hs he x0 x1 x2 x3 fy).1, y ∈ pc.1.set :=
  View.cover_of_tiledL (runEnd c i arg1 harg1 arg2 harg2 arg3 harg3 arg4 harg4 arg5 harg5 arg6 harg6 arg7 harg7 arg8 harg8 hs he x0 x1 x2 x3 fy).1 S256x1408.size (by sl_kernel_rfl) y

/-- The body's stores cover the result (the point that waits, window 4). -/
theorem cover_End_4 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : endBit i = 1#1) (x0 : Vec F S256x1024 .bf16) (x1 : Vec F S8x1024x352 .bf16) (x2 : Vec F S8x1024x352 .bf16) (x3 : Vec F S1024x5632 .bf16) (fy : Buf (Elt F) (arg7.view.loc (c : Thread nD τ))) (y : S256x2816.Idx) :
    ∃ pc ∈ (runEnd c i arg1 harg1 arg2 harg2 arg3 harg3 arg4 harg4 arg5 harg5 arg6 harg6 arg7 harg7 arg8 harg8 hs he x0 x1 x2 x3 fy).2.1, y ∈ pc.1.set :=
  View.cover_of_tiledL (runEnd c i arg1 harg1 arg2 harg2 arg3 harg3 arg4 harg4 arg5 harg5 arg6 harg6 arg7 harg7 arg8 harg8 hs he x0 x1 x2 x3 fy).2.1 S256x1408.size (by sl_kernel_rfl) y

/-- The body's stores cover the result (the point that waits, window 5). -/
theorem cover_End_5 (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : ¬startBit i = 1#1) (he : endBit i = 1#1) (x0 : Vec F S256x1024 .bf16) (x1 : Vec F S8x1024x352 .bf16) (x2 : Vec F S8x1024x352 .bf16) (x3 : Vec F S1024x5632 .bf16) (fy : Buf (Elt F) (arg7.view.loc (c : Thread nD τ))) (y : S256x2816.Idx) :
    ∃ pc ∈ (runEnd c i arg1 harg1 arg2 harg2 arg3 harg3 arg4 harg4 arg5 harg5 arg6 harg6 arg7 harg7 arg8 harg8 hs he x0 x1 x2 x3 fy).2.2.1, y ∈ pc.1.set :=
  View.cover_of_tiledL (runEnd c i arg1 harg1 arg2 harg2 arg3 harg3 arg4 harg4 arg5 harg5 arg6 harg6 arg7 harg7 arg8 harg8 hs he x0 x1 x2 x3 fy).2.2.1 S256x1408.size (by sl_kernel_rfl) y

/-- The sixteen shards' stores cover the scratch. -/
theorem cover_scr (c : Dev nD) (i : grid0.Coords) (arg1 : Memref sig .tc .vmem S256x1024 .bf16) (harg1 : arg1.IsWhole) (arg2 : Memref sig .tc .vmem S8x1024x352 .bf16) (harg2 : arg2.IsWhole) (arg3 : Memref sig .tc .vmem S8x1024x352 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S256x2816 .bf16) (harg6 : arg6.IsWhole) (arg7 : Memref sig .tc .hbm S1024x5632 .bf16) (harg7 : arg7.IsWhole) (arg8 : Memref sig .tc .vmem S1024x5632 .bf16) (harg8 : arg8.IsWhole) (hs : startBit i = 1#1) (he : ¬endBit i = 1#1) (x0 : Vec F S256x1024 .bf16) (x1 : Vec F S8x1024x352 .bf16) (x2 : Vec F S8x1024x352 .bf16) (fy : Buf (Elt F) (arg7.view.loc (c : Thread nD τ))) (y : S1024x5632.Idx) :
    ∃ pc ∈ (runStart c i arg1 harg1 arg2 harg2 arg3 harg3 arg4 harg4 arg5 harg5 arg6 harg6 arg7 harg7 arg8 harg8 hs he x0 x1 x2 fy).2.2.2.1, y ∈ pc.1.set :=
  View.cover_of_tiledL (runStart c i arg1 harg1 arg2 harg2 arg3 harg3 arg4 harg4 arg5 harg5 arg6 harg6 arg7 harg7 arg8 harg8 hs he x0 x1 x2 fy).2.2.2.1 S1024x352.size (by sl_kernel_rfl) y

/-- The body's run at the point that copies, -/
abbrev startAt (c : Dev nD) (t : Fin cfg0.N) (hs : startBit (grid0.coords t) = 1#1) (he : ¬endBit (grid0.coords t) = 1#1) :=
  runStart c (grid0.coords t) (ms0 t) (hs0 t) (ms1 t) (hs1 t) (ms2 t) (hs2 t) (ms3 t) (hs3 t) (ms4 t) (hs4 t) (ms5 t) (hs5 t) hbm hhbm scr hscr hs he (iblk m c 0 t) (iblk m c 1 t) (iblk m c 2 t) (V m c main_v0_3)

/-- what it leaves in the scratch, -/
def joinedAt (c : Dev nD) (t : Fin cfg0.N) (hs : startBit (grid0.coords t) = 1#1) (he : ¬endBit (grid0.coords t) = 1#1) : Vec F S1024x5632 .bf16 :=
  scr.view.read (Elt F) (scr.view.writes (Elt F) scr.view.junk (startAt m c t hs he).2.2.2.1)

/-- the first point, -/
abbrev t0 : Fin cfg0.N := ⟨0, by rw [show cfg0.N = 32 from N_0]; decide⟩

/-- the joined weight: what the first point leaves in the scratch, -/
def joined (c : Dev nD) : Vec F S1024x5632 .bf16 :=
  joinedAt m c t0 ((starts_iff t0).mpr rfl) (fun h => absurd ((ends_iff t0).mp h) (by decide))

/-- the body's run at a point that neither copies nor waits, -/
abbrev keepAt (c : Dev nD) (t : Fin cfg0.N) (hs : ¬startBit (grid0.coords t) = 1#1) (he : ¬endBit (grid0.coords t) = 1#1) :=
  runKeep c (grid0.coords t) (ms0 t) (hs0 t) (ms1 t) (hs1 t) (ms2 t) (hs2 t) (ms3 t) (hs3 t) (ms4 t) (hs4 t) (ms5 t) (hs5 t) hbm hhbm scr hscr hs he (iblk m c 0 t) (iblk m c 1 t) (iblk m c 2 t) (joined m c)

/-- and at the point that waits. -/
abbrev endAt (c : Dev nD) (t : Fin cfg0.N) (hs : ¬startBit (grid0.coords t) = 1#1) (he : endBit (grid0.coords t) = 1#1) :=
  runEnd c (grid0.coords t) (ms0 t) (hs0 t) (ms1 t) (hs1 t) (ms2 t) (hs2 t) (ms3 t) (hs3 t) (ms4 t) (hs4 t) (ms5 t) (hs5 t) hbm hhbm scr hscr hs he (iblk m c 0 t) (iblk m c 1 t) (iblk m c 2 t) (joined m c) (hhbm.unread (joined m c))

/-- The two conditions never hold together. -/
theorem not_both (t : Fin cfg0.N) (hs : startBit (grid0.coords t) = 1#1) : ¬endBit (grid0.coords t) = 1#1 := fun he => by
  have h1 := (starts_iff t).mp hs
  have h2 := (ends_iff t).mp he
  omega

/-- What point `t` leaves in the result of window 3. -/
def out3 (c : Dev nD) (t : Fin cfg0.N) : Vec F S256x2816 .bf16 :=
  if hs : startBit (grid0.coords t) = 1#1 then VO.read (Elt F) (VO.writes (Elt F) VO.junk (startAt m c t hs (not_both t hs)).1)
  else if he : endBit (grid0.coords t) = 1#1 then VO.read (Elt F) (VO.writes (Elt F) VO.junk (endAt m c t hs he).1)
  else VO.read (Elt F) (VO.writes (Elt F) VO.junk (keepAt m c t hs he).1)

/-- What point `t` leaves in the result of window 4. -/
def out4 (c : Dev nD) (t : Fin cfg0.N) : Vec F S256x2816 .bf16 :=
  if hs : startBit (grid0.coords t) = 1#1 then VO.read (Elt F) (VO.writes (Elt F) VO.junk (startAt m c t hs (not_both t hs)).2.1)
  else if he : endBit (grid0.coords t) = 1#1 then VO.read (Elt F) (VO.writes (Elt F) VO.junk (endAt m c t hs he).2.1)
  else VO.read (Elt F) (VO.writes (Elt F) VO.junk (keepAt m c t hs he).2.1)

/-- What point `t` leaves in the result of window 5. -/
def out5 (c : Dev nD) (t : Fin cfg0.N) : Vec F S256x2816 .bf16 :=
  if hs : startBit (grid0.coords t) = 1#1 then VO.read (Elt F) (VO.writes (Elt F) VO.junk (startAt m c t hs (not_both t hs)).2.2.1)
  else if he : endBit (grid0.coords t) = 1#1 then VO.read (Elt F) (VO.writes (Elt F) VO.junk (endAt m c t hs he).2.2.1)
  else VO.read (Elt F) (VO.writes (Elt F) VO.junk (keepAt m c t hs he).2.2.1)

/-- The semaphore the copy completes on, -/
abbrev osem0 : Fin 1 → SemLoc sig := fun _ => SemLoc.dma 10
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (Model F))
      = semVal ((c : Thread nD τ), SemLoc.dma 10) 0 := by
  rw [Pipeline.ownSems0_eq_of_list c osem0 [0] (by decide) (by decide)]; rfl

/-- the buffers outside the windows that the body only reads (none), and the one it writes. -/
def H0 : Finset (Ref sig .tc) := ∅
theorem H0_sub : H0 ⊆ Pipeline.restRefs sig spec0 := by decide
def R0 : Finset (Ref sig .tc) := {main_v0_3}
theorem R0_sub : R0 ⊆ Pipeline.restRefs sig spec0 \ H0 := by decide

/-- What the fourth result ends at. -/
def G (c : Dev nD) (b : Ref sig .tc) : Buf (Elt F) ((c : Thread nD τ).loc b) :=
  Function.update (V m c) main_v0_3 (hhbm.unread (joined m c)) b

theorem G_eq (c : Dev nD) : G m c main_v0_3 = hhbm.unread (joined m c) := by
  unfold G; rw [Function.update_self]

/-- What the body holds outside the windows before the first point and after the last, the fourth result at `f`. -/
abbrev ends (c : Dev nD) (f : Buf (Elt F) ((c : Thread nD τ).loc main_v0_3)) : sProp (Model F) :=
  iprop((∃ d, owns (c : Thread nD τ) scr fullShare d) ∗ (∃ r, prngReg c r) ∗ semVal ((c : Thread nD τ), SemLoc.dma 10) 0
    ∗ emp ∗ (((c : Thread nD τ).loc main_v0_3) ↦{fullShare} f))

theorem ends_eq (c : Dev nD) (W : (c : Dev nD) → (b : Ref sig .tc) → Buf (Elt F) ((c : Thread nD τ).loc b)) :
    (Pipeline.ΦDRG osem0 spec0 H0 R0 (V m) W c : sProp (Model F)) = ends c (W c main_v0_3) := by
  rw [Pipeline.ΦDRG_eq, scopedRest0_eq, ownSems00_eq]
  unfold Pipeline.routed H0 R0
  rw [BI.bigSep_empty, BI.bigSep_eq_bigSepL_of_eq [main_v0_3] (by decide) (by decide)]
  unfold ends
  simp only [BI.bigSepL_singleton, owns_whole]
  try rfl

/-- Between two points: one half of the scratch's share, and the copy in flight with the other. -/
abbrev between (c : Dev nD) : sProp (Model F) :=
  iprop(owns (c : Thread nD τ) scr fullShare.left (joined m c) ∗ (∃ r, prngReg c r)
    ∗ flight c hbm scr (hhbm.unread (joined m c)) (hscr.unread (joined m c)))

/-- What the body holds outside the windows before point `n`. -/
def Phi (c : Dev nD) (n : ℕ) : sProp (Model F) :=
  if n = 0 then ends c (V m c main_v0_3) else if n = 32 then ends c (G m c main_v0_3) else between m c

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
  Φ n := Phi m c n.val
  q _ := fullShare
  owed _ := 0

/-- The proof data's arrays are the ones the region finds. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 m c t := by dsimp only [dats]
theorem after4 (c : Dev nD) (t : Fin cfg0.N) : (dats m 0 c).after 4 t = out4 m c t := by dsimp only [dats]
theorem after5 (c : Dev nD) (t : Fin cfg0.N) : (dats m 0 c).after 5 t = out5 m c t := by dsimp only [dats]

/-- Each input's current staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- What the body is called with at point `t`, window by window, -/
def bodyPre (c : Dev nD) (t : Fin cfg0.N) : sProp (Model F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp (Model F) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

/-- The fourth result whole, as the body's run names it. -/
theorem hbm_pt (c : Dev nD) (f : Buf (Elt F) ((c : Thread nD τ).loc main_v0_3)) :
    ((hbm.view.loc (c : Thread nD τ) ↦[hbm.view.set]{fullShare} f) : sProp (Model F)) = (((c : Thread nD τ).loc main_v0_3) ↦{fullShare} f) := by
  rw [show hbm.view.set = Finset.univ from View.set_whole _]

theorem hbm_end (c : Dev nD) (f : Buf (Elt F) ((c : Thread nD τ).loc main_v0_3)) :
    ((hbm.view.loc (c : Thread nD τ) ↦[hbm.view.set]{fullShare} f) : sProp (Model F)) ⊢ iprop(emp ∗ (((c : Thread nD τ).loc main_v0_3) ↦{fullShare} f)) := by
  rw [hbm_pt]
  exact Entails.of_eq (equiv_iff.mp Idealize.SL.BI.emp_sep).symm

/-- A copy over the whole buffer leaves what it carries. -/
theorem copied (f : hbm.view.ty.Contents (Elt F)) (g : Vec F S1024x5632 .bf16) :
    hbm.view.writes (Elt F) f [⟨Rect.whole S1024x5632, g⟩] = hhbm.unread g := by
  apply hhbm.eq_unread
  rw [View.read_writes_eq_canon _ _ _ (fun y => ⟨_, List.mem_singleton_self _, by rw [Rect.set_whole]; try exact Finset.mem_univ _⟩)]
  funext y
  have e := View.canon_cons_emb (Val := Elt F) (Rect.whole S1024x5632) g [] y
  rwa [Rect.emb_whole_apply] at e

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Phi m c t.val from rfl, show (dats m 0 c).Φ t.succ = Phi m c (t.val + 1) from rfl]
  rw [after0, after1, after2, after3, after4, after5]
  have hN : t.val < 32 := lt_of_lt_of_eq t.isLt (show cfg0.N = 32 from N_0)
  by_cases hs : startBit (grid0.coords t) = 1#1
  · have h0 : t.val = 0 := by have := (starts_iff t).mp hs; omega
    have ht : t = t0 := Fin.ext h0
    have he := not_both t hs
    rw [show out3 m c t = _ from dif_pos hs, show out4 m c t = _ from dif_pos hs, show out5 m c t = _ from dif_pos hs]
    rw [show Phi m c t.val = ends c (V m c main_v0_3) from if_pos h0,
      show Phi m c (t.val + 1) = between m c from (if_neg (by omega)).trans (if_neg (by omega)),
      show (dats m 0 c).owesAt () t.succ = (dats m 0 c).owesAt () t.castSucc from rfl]
    have hj : joined m c = joinedAt m c t hs he := by subst ht; rfl
    iintro ⟨⟨HS, Hr, Hq, Hz, HY⟩, Ho, ⟨%d0, H0⟩, ⟨%d1, H1⟩, ⟨%d2, H2⟩, ⟨%d3, H3⟩, ⟨%d4, H4⟩, ⟨%d5, H5⟩⟩
    iapply ((startAt m c t hs he).2.2.2.2 _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    isplitl [HY]; · rw [hbm_pt]; iexact HY
    isplitl [Hq]; · iexact Hq
    iintro ⟨H0, H1, H2, ⟨%e3, H3⟩, ⟨%e4, H4⟩, ⟨%e5, H5⟩, ⟨%f, %g, %hg, HK, HF⟩⟩
    have hr : scr.view.read (Elt F) (scr.view.writes (Elt F) f (startAt m c t hs he).2.2.2.1) = joined m c := by
      rw [hj]; exact View.read_writes_of_cover _ _ _ _ _ (cover_scr c _ _ _ _ _ _ _ _ _ _ _ _ _ _ _ _ _ _ _ _ _ _ _)
    rw [hg, hr, copied, hscr.eq_unread hr]
    isplitl [HK Hr HF]
    · isplitl [HK]
      · unfold owns; iexists _; isplitr
        swap; · iexact HK
        ipureintro; exact hscr.read_unread _
      isplitl [Hr]; · iexact Hr
      iexact HF
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_Start_3 c _ _ _ _ _ _ _ _ _ _ _ _ _ _ _ _ _ _ _ _ _ _ _)
    isplitl [H4]
    · unfold owns; iexists _; isplitr
      swap; · iexact H4
      ipureintro; exact View.read_writes_of_cover _ _ _ _ _ (cover_Start_4 c _ _ _ _ _ _ _ _ _ _ _ _ _ _ _ _ _ _ _ _ _ _ _)
    unfold owns; iexists _; isplitr
    swap; · iexact H5
    ipureintro; exact View.read_writes_of_cover _ _ _ _ _ (cover_Start_5 c _ _ _ _ _ _ _ _ _ _ _ _ _ _ _ _ _ _ _ _ _ _ _)
  · have h0 : t.val ≠ 0 := fun h => hs ((starts_iff t).mpr (by rw [h]))
    rw [show Phi m c t.val = between m c from (if_neg h0).trans (if_neg (by omega))]
    by_cases he : endBit (grid0.coords t) = 1#1
    · have h31 : t.val + 1 = 32 := by have := (ends_iff t).mp he; omega
      rw [show out3 m c t = _ from (dif_neg hs).trans (dif_pos he), show out4 m c t = _ from (dif_neg hs).trans (dif_pos he), show out5 m c t = _ from (dif_neg hs).trans (dif_pos he)]
      rw [show Phi m c (t.val + 1) = ends c (G m c main_v0_3) from (if_neg (by omega)).trans (if_pos h31), G_eq]
      unfold Dat.owesAt Pipeline.owesWithin
      rw [show (dats m 0 c).owed t.castSucc = 0 from rfl, show (dats m 0 c).owed t.succ = 0 from rfl]
      iintro ⟨⟨HS, Hr, HF⟩, ⟨%W, -, HW⟩, ⟨%d0, H0⟩, ⟨%d1, H1⟩, ⟨%d2, H2⟩, ⟨%d3, H3⟩, ⟨%d4, H4⟩, ⟨%d5, H5⟩⟩
      iapply ((endAt m c t hs he).2.2.2 W _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      isplitl [HF]; · iexact HF
      isplitl [HW]; · iexact HW
      iintro ⟨H0, H1, H2, ⟨%e3, H3⟩, ⟨%e4, H4⟩, ⟨%e5, H5⟩, HS, HY, Hq, ⟨%W', HW'⟩⟩
      isplitl [HS Hr Hq HY]
      · isplitl [HS]; · iexists _; iexact HS
        isplitl [Hr]; · iexact Hr
        isplitl [Hq]; · iexact Hq
        iapply (hbm_end c _)
        iexact HY
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_End_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover_End_4 c _ _ _ _ _ _ _ _ _ _ _ _ _ _ _ _ _ _ _ _ _ _ _ _)
      unfold owns; iexists _; isplitr
      swap; · iexact H5
      ipureintro; exact View.read_writes_of_cover _ _ _ _ _ (cover_End_5 c _ _ _ _ _ _ _ _ _ _ _ _ _ _ _ _ _ _ _ _ _ _ _ _)
    · have h31 : t.val + 1 ≠ 32 := fun h => he ((ends_iff t).mpr (by omega))
      rw [show out3 m c t = _ from (dif_neg hs).trans (dif_neg he), show out4 m c t = _ from (dif_neg hs).trans (dif_neg he), show out5 m c t = _ from (dif_neg hs).trans (dif_neg he)]
      rw [show Phi m c (t.val + 1) = between m c from (if_neg (by omega)).trans (if_neg h31),
        show (dats m 0 c).owesAt () t.succ = (dats m 0 c).owesAt () t.castSucc from rfl]
      iintro ⟨⟨HS, Hr, HF⟩, Ho, ⟨%d0, H0⟩, ⟨%d1, H1⟩, ⟨%d2, H2⟩, ⟨%d3, H3⟩, ⟨%d4, H4⟩, ⟨%d5, H5⟩⟩
      iapply ((keepAt m c t hs he).2.2.2 _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, ⟨%e3, H3⟩, ⟨%e4, H4⟩, ⟨%e5, H5⟩, HS⟩
      isplitl [HS Hr HF]
      · isplitl [HS]; · iexact HS
        isplitl [Hr]; · iexact Hr
        iexact HF
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_Keep_3 c _ _ _ _ _ _ _ _ _ _ _ _ _ _ _ _ _ _ _ _ _ _ _)
      isplitl [H4]
      · unfold owns; iexists _; isplitr
        swap; · iexact H4
        ipureintro; exact View.read_writes_of_cover _ _ _ _ _ (cover_Keep_4 c _ _ _ _ _ _ _ _ _ _ _ _ _ _ _ _ _ _ _ _ _ _ _)
      unfold owns; iexists _; isplitr
      swap; · iexact H5
      ipureintro; exact View.read_writes_of_cover _ _ _ _ _ (cover_Keep_5 c _ _ _ _ _ _ _ _ _ _ _ _ _ _ _ _ _ _ _ _ _ _ _)

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The program up to its one region: the region alone. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem entry (c : Dev nD) : (Pipeline.ΦDRG osem0 spec0 H0 R0 (V m) (V m) c : sProp (Model F)) ⊢ (dats m 0 c).Φ 0 := by
  rw [ends_eq, show (dats m 0 c).Φ 0 = ends c (V m c main_v0_3) from by show Phi m c 0 = _; exact if_pos rfl]

theorem exit (c : Dev nD) : (dats m 0 c).Φ (Fin.last cfg0.N) ⊢ (Pipeline.ΦDRG osem0 spec0 H0 R0 (V m) (G m) c : sProp (Model F)) := by
  have h : (Fin.last cfg0.N).val = 32 := N_0
  rw [ends_eq, show (dats m 0 c).Φ (Fin.last cfg0.N) = ends c (G m c main_v0_3) from by show Phi m c (Fin.last cfg0.N).val = _; rw [h]; exact (if_neg (by decide)).trans (if_pos rfl)]

set_option backward.isDefEq.respectTransparency.types false in
/-- The launch: every array ends at what the proof data gives, the fourth result at the joined weight, and every
    counter at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := entry m) (hout := exit m)

/-- The frame: the argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1.toR c).1 0).trans (((dats m 0 c).arrAt_in 0 rfl _).trans (A_eq m c 0)),
    ((h.1.toR c).1 1).trans (((dats m 0 c).arrAt_in 1 rfl _).trans (A_eq m c 1)),
    ((h.1.toR c).1 2).trans (((dats m 0 c).arrAt_in 2 rfl _).trans (A_eq m c 2))⟩, h.2⟩) (run_main m ρ)

end Cert.GatherUp

end
-- ==== Proof.UpStores.lean ====
/-
  The forward up-projection whose two weights arrive in eight column shards each: what a grid point stores in its three
  results, half of the hidden lanes at a time, read at an index.
-/
module

public import proofs.«01_k».proof.Proof.UpFwdFrame
public import proofs.«01_k».proof.Proof.Columns
public import proofs.«01_k».proof.Proof.Gate
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpStores

open Cert.UpFwdIdeal Cert.UpFwdIdeal.Gen Idealize.ShloMosaic Idealize.ShloMosaic.TcCoe Idealize.SL.Sem
open Cert.Ffn (sigm)

/-- A row through half of a weight's columns. -/
def lane (x : Vec Ideal S256x1024 .bf16) (w : Vec Ideal S1024x1408 .bf16) (i : Fin 256) (l : Fin 1408) : EReal :=
  ∑ k : Fin 1024, x (ix2 i k) * w (ix2 k l)

/-- A row through one column of the joined weight. -/
def column (x : Vec Ideal S256x1024 .bf16) (W : Vec Ideal S1024x5632 .bf16) (i : Fin 256) (y : Fin 5632) : EReal :=
  ∑ k : Fin 1024, x (ix2 i k) * W (ix2 k y)

section Payloads

variable (x : Vec Ideal S256x1024 .bf16) (g u : Vec Ideal S1024x1408 .bf16) (i : Fin 256) (l : Fin 1408)

theorem slope_left : k0_pay25 (F := Ideal) x g u (ix2 i l) = (lane x u i l) * (sigm (lane x g i l) * (1 + (lane x g i l) * (1 - sigm (lane x g i l)))) := by
  pointwise [k0_pay25, k0_pay21, k0_pay22, k0_pay23, k0_pay24]
  rfl
theorem silu_left : k0_pay26 (F := Ideal) x g (ix2 i l) = (lane x g i l) * sigm (lane x g i l) := by
  pointwise [k0_pay26, k0_pay21, k0_pay22, k0_pay23, k0_pay24]
  rfl
theorem hidden_left : k0_pay27 (F := Ideal) x g u (ix2 i l) = (lane x g i l) * sigm (lane x g i l) * (lane x u i l) := by
  pointwise [k0_pay27, k0_pay21, k0_pay22, k0_pay23, k0_pay24]
  rfl
theorem slope_right : k0_pay1 (F := Ideal) (k0_pay28 x g) (k0_pay29 x u) (k0_pay30 x g) (Scalar.ofBits .f32 0x3F800000#32) (ix2 i l) = (lane x u i l) * (sigm (lane x g i l) * (1 + (lane x g i l) * (1 - sigm (lane x g i l)))) := by
  pointwise [k0_pay1, k0_pay28, k0_pay29, k0_pay30, k0_pay31]
  rfl
theorem silu_right : k0_pay2 (F := Ideal) (k0_pay31 x g) (ix2 i l) = (lane x g i l) * sigm (lane x g i l) := by
  pointwise [k0_pay2, k0_pay28, k0_pay29, k0_pay30, k0_pay31]
  rfl
theorem hidden_right : k0_pay3 (F := Ideal) (k0_pay29 x u) (k0_pay31 x g) (ix2 i l) = (lane x g i l) * sigm (lane x g i l) * (lane x u i l) := by
  pointwise [k0_pay3, k0_pay28, k0_pay29, k0_pay30, k0_pay31]
  rfl

end Payloads

section Stores

variable (x : Vec Ideal S256x1024 .bf16) (W : Vec Ideal S1024x5632 .bf16)

theorem lane_columns {off : ℕ} (inb) (i : Fin 256) (l : Fin 1408) (y : Fin 5632) (hy : y.val = off + l.val) :
    lane x (View.ld W (Rect.unit (s := S1024x5632) ![0, off] ![1024, 1408] inb)) i l = column x W i y :=
  Finset.sum_congr rfl fun k _ => congrArg (x (ix2 i k) * ·) (Columns.ld_columns (off := off) inb W k l y hy)

/-- A point's block of the gate's derivative times the up projection: its two stores. -/
def slope : Vec Ideal S256x2816 .bf16 :=
  View.canon
    [⟨Rect.unit ![0, 1408] ![256, 1408] inb_S256x2816_S256x1408_0_1408,
        k0_pay1 (k0_pay28 x (View.ld W (Rect.unit ![0, 1408] ![1024, 1408] inb_S1024x5632_S1024x1408_0_1408))) (k0_pay29 x (View.ld W (Rect.unit ![0, 4224] ![1024, 1408] inb_S1024x5632_S1024x1408_0_4224))) (k0_pay30 x (View.ld W (Rect.unit ![0, 1408] ![1024, 1408] inb_S1024x5632_S1024x1408_0_1408))) (Scalar.ofBits .f32 0x3F800000#32)⟩,
      ⟨Rect.unit ![0, 0] ![256, 1408] inb_S256x2816_S256x1408_0_0,
        k0_pay25 x (View.ld W (Rect.unit ![0, 0] ![1024, 1408] inb_S1024x5632_S1024x1408_0_0)) (View.ld W (Rect.unit ![0, 2816] ![1024, 1408] inb_S1024x5632_S1024x1408_0_2816))⟩]

theorem slope_apply (i : Fin 256) (y : Fin 2816) : slope x W (ix2 i y) = (column x W i ⟨2816 + y.val, by omega⟩) * (sigm (column x W i ⟨y.val, by omega⟩) * (1 + (column x W i ⟨y.val, by omega⟩) * (1 - sigm (column x W i ⟨y.val, by omega⟩)))) := by
  by_cases h : y.val < 1408
  · refine (Columns.canon_miss (off := 1408) _ _ _ i y (Or.inl h)).trans ((Columns.canon_hit (off := 0) _ _ _ i ⟨y.val, h⟩ y (by show y.val = 0 + y.val; omega)).trans ?_)
    refine (slope_left x _ _ i ⟨y.val, h⟩).trans ?_
    rw [lane_columns (off := 0) x W _ i ⟨y.val, h⟩ ⟨y.val, by omega⟩ (by show y.val = 0 + y.val; omega), lane_columns (off := 2816) x W _ i ⟨y.val, h⟩ ⟨2816 + y.val, by omega⟩ rfl]
  · refine (Columns.canon_hit (off := 1408) _ _ _ i ⟨y.val - 1408, by omega⟩ y (by show y.val = 1408 + (y.val - 1408); omega)).trans ?_
    refine (slope_right x _ _ i ⟨y.val - 1408, by omega⟩).trans ?_
    rw [lane_columns (off := 1408) x W _ i ⟨y.val - 1408, by omega⟩ ⟨y.val, by omega⟩ (by show y.val = 1408 + (y.val - 1408); omega), lane_columns (off := 4224) x W _ i ⟨y.val - 1408, by omega⟩ ⟨2816 + y.val, by omega⟩ (by show 2816 + y.val = 4224 + (y.val - 1408); omega)]

/-- A point's block of the gate: its two stores. -/
def silu : Vec Ideal S256x2816 .bf16 :=
  View.canon
    [⟨Rect.unit ![0, 1408] ![256, 1408] inb_S256x2816_S256x1408_0_1408,
        k0_pay2 (k0_pay31 x (View.ld W (Rect.unit ![0, 1408] ![1024, 1408] inb_S1024x5632_S1024x1408_0_1408)))⟩,
      ⟨Rect.unit ![0, 0] ![256, 1408] inb_S256x2816_S256x1408_0_0,
        k0_pay26 x (View.ld W (Rect.unit ![0, 0] ![1024, 1408] inb_S1024x5632_S1024x1408_0_0))⟩]

theorem silu_apply (i : Fin 256) (y : Fin 2816) : silu x W (ix2 i y) = (column x W i ⟨y.val, by omega⟩) * sigm (column x W i ⟨y.val, by omega⟩) := by
  by_cases h : y.val < 1408
  · refine (Columns.canon_miss (off := 1408) _ _ _ i y (Or.inl h)).trans ((Columns.canon_hit (off := 0) _ _ _ i ⟨y.val, h⟩ y (by show y.val = 0 + y.val; omega)).trans ?_)
    refine (silu_left x _ i ⟨y.val, h⟩).trans ?_
    rw [lane_columns (off := 0) x W _ i ⟨y.val, h⟩ ⟨y.val, by omega⟩ (by show y.val = 0 + y.val; omega)]
  · refine (Columns.canon_hit (off := 1408) _ _ _ i ⟨y.val - 1408, by omega⟩ y (by show y.val = 1408 + (y.val - 1408); omega)).trans ?_
    refine (silu_right x _ i ⟨y.val - 1408, by omega⟩).trans ?_
    rw [lane_columns (off := 1408) x W _ i ⟨y.val - 1408, by omega⟩ ⟨y.val, by omega⟩ (by show y.val = 1408 + (y.val - 1408); omega)]

/-- A point's block of the gate times the up projection: its two stores. -/
def hidden : Vec Ideal S256x2816 .bf16 :=
  View.canon
    [⟨Rect.unit ![0, 1408] ![256, 1408] inb_S256x2816_S256x1408_0_1408,
        k0_pay3 (k0_pay29 x (View.ld W (Rect.unit ![0, 4224] ![1024, 1408] inb_S1024x5632_S1024x1408_0_4224))) (k0_pay31 x (View.ld W (Rect.unit ![0, 1408] ![1024, 1408] inb_S1024x5632_S1024x1408_0_1408)))⟩,
      ⟨Rect.unit ![0, 0] ![256, 1408] inb_S256x2816_S256x1408_0_0,
        k0_pay27 x (View.ld W (Rect.unit ![0, 0] ![1024, 1408] inb_S1024x5632_S1024x1408_0_0)) (View.ld W (Rect.unit ![0, 2816] ![1024, 1408] inb_S1024x5632_S1024x1408_0_2816))⟩]

theorem hidden_apply (i : Fin 256) (y : Fin 2816) : hidden x W (ix2 i y) = (column x W i ⟨y.val, by omega⟩) * sigm (column x W i ⟨y.val, by omega⟩) * (column x W i ⟨2816 + y.val, by omega⟩) := by
  by_cases h : y.val < 1408
  · refine (Columns.canon_miss (off := 1408) _ _ _ i y (Or.inl h)).trans ((Columns.canon_hit (off := 0) _ _ _ i ⟨y.val, h⟩ y (by show y.val = 0 + y.val; omega)).trans ?_)
    refine (hidden_left x _ _ i ⟨y.val, h⟩).trans ?_
    rw [lane_columns (off := 0) x W _ i ⟨y.val, h⟩ ⟨y.val, by omega⟩ (by show y.val = 0 + y.val; omega), lane_columns (off := 2816) x W _ i ⟨y.val, h⟩ ⟨2816 + y.val, by omega⟩ rfl]
  · refine (Columns.canon_hit (off := 1408) _ _ _ i ⟨y.val - 1408, by omega⟩ y (by show y.val = 1408 + (y.val - 1408); omega)).trans ?_
    refine (hidden_right x _ _ i ⟨y.val - 1408, by omega⟩).trans ?_
    rw [lane_columns (off := 1408) x W _ i ⟨y.val - 1408, by omega⟩ ⟨y.val, by omega⟩ (by show y.val = 1408 + (y.val - 1408); omega), lane_columns (off := 4224) x W _ i ⟨y.val - 1408, by omega⟩ ⟨2816 + y.val, by omega⟩ (by show 2816 + y.val = 4224 + (y.val - 1408); omega)]

end Stores

end Cert.UpStores
-- ==== Proof.UpRef.lean ====
/-
  The forward up-projection of the feed-forward block as the reference computes it: the two weights joined from their
  column shards, and the three results read at an index.
-/
module

public import proofs.«01_k».proof.Proof.Gen.UpFwdRefIdeal.Run
public import Idealize.ShloMosaic.Lib.Pointwise
public import proofs.«01_k».proof.Proof.Gate

@[expose] public section

set_option maxRecDepth 16384

noncomputable section

namespace Cert.UpProj.Ref

open Cert.UpFwdRefIdeal Cert.UpFwdRefIdeal.Gen Idealize.ShloMosaic Idealize.ShloMosaic.TcCoe Idealize.SL.Sem
open Cert.Ffn (sigm)

/-- Eight column shards side by side, element by element. -/
def joinHalf (w : FVec Ideal S8x1024x352 .bf16) : FVec Ideal S1024x2816 .bf16 := fun y =>
  w (ix3 ⟨(y 1).val / 352, Nat.div_lt_of_lt_mul (y 1).isLt⟩ (y 0) ⟨(y 1).val % 352, Nat.mod_lt _ (by norm_num)⟩)

theorem band (w : FVec Ideal S8x1024x352 .bf16) (s : Fin 8) (i : Fin 1024) (j : Fin 352) :
    joinHalf w (ix2 i ⟨s.val * 352 + j.val, by omega⟩) = w (ix3 s i j) := by
  have h0 : (s.val * 352 + j.val) / 352 = s.val := by omega
  have h1 : (s.val * 352 + j.val) % 352 = j.val := by omega
  show w (ix3 ⟨(s.val * 352 + j.val) / 352, _⟩ i ⟨(s.val * 352 + j.val) % 352, _⟩) = _
  simp only [h0, h1]

/-- Eight column shards side by side, as the reference puts them. -/
def together (w : FVec Ideal S8x1024x352 .bf16) : FVec Ideal S1024x2816 .bf16 :=
  concatenate S1024x2816 1 [⟨S1024x352, shapeCast S1024x352 (extractStridedSlice S1x1024x352 ![0, 0, 0] w slices_S8x1024x352_S1x1024x352_0_0_0) shapeCasts_S1x1024x352_S1024x352⟩, ⟨S1024x352, shapeCast S1024x352 (extractStridedSlice S1x1024x352 ![1, 0, 0] w slices_S8x1024x352_S1x1024x352_1_0_0) shapeCasts_S1x1024x352_S1024x352⟩, ⟨S1024x352, shapeCast S1024x352 (extractStridedSlice S1x1024x352 ![2, 0, 0] w slices_S8x1024x352_S1x1024x352_2_0_0) shapeCasts_S1x1024x352_S1024x352⟩, ⟨S1024x352, shapeCast S1024x352 (extractStridedSlice S1x1024x352 ![3, 0, 0] w slices_S8x1024x352_S1x1024x352_3_0_0) shapeCasts_S1x1024x352_S1024x352⟩, ⟨S1024x352, shapeCast S1024x352 (extractStridedSlice S1x1024x352 ![4, 0, 0] w slices_S8x1024x352_S1x1024x352_4_0_0) shapeCasts_S1x1024x352_S1024x352⟩, ⟨S1024x352, shapeCast S1024x352 (extractStridedSlice S1x1024x352 ![5, 0, 0] w slices_S8x1024x352_S1x1024x352_5_0_0) shapeCasts_S1x1024x352_S1024x352⟩, ⟨S1024x352, shapeCast S1024x352 (extractStridedSlice S1x1024x352 ![6, 0, 0] w slices_S8x1024x352_S1x1024x352_6_0_0) shapeCasts_S1x1024x352_S1024x352⟩, ⟨S1024x352, shapeCast S1024x352 (extractStridedSlice S1x1024x352 ![7, 0, 0] w slices_S8x1024x352_S1x1024x352_7_0_0) shapeCasts_S1x1024x352_S1024x352⟩] concatenates_S1024x352_S1024x352_S1024x352_S1024x352_S1024x352_S1024x352_S1024x352_S1024x352_S1024x2816_d1

set_option maxHeartbeats 2000000 in
/-- A shard is its band of the whole. -/
theorem together_band (w : FVec Ideal S8x1024x352 .bf16) (s : Fin 8) (i : Fin 1024) (j : Fin 352) :
    together w (ix2 i ⟨s.val * 352 + j.val, by omega⟩) = w (ix3 s i j) := by
  fin_cases s <;> pointwise [together] <;> split_ifs <;>
    first
    | (exfalso; omega)
    | exact congrArg w (congrArg (ix3 _ i) (Fin.ext (by dsimp only; omega)))

theorem together_eq (w : FVec Ideal S8x1024x352 .bf16) : together w = joinHalf w := by
  funext y
  idx_vars y
  obtain ⟨s, j, rfl⟩ : ∃ (s : Fin 8) (j : Fin 352), y1 = ⟨s.val * 352 + j.val, by omega⟩ :=
    ⟨⟨y1.val / 352, by omega⟩, ⟨y1.val % 352, by omega⟩, Fin.ext (by dsimp only; omega)⟩
  rw [together_band, band]

/-- The gate's weight and the up projection's weight side by side. -/
def both (a b : FVec Ideal S8x1024x352 .bf16) : FVec Ideal S1024x5632 .bf16 :=
  concatenate S1024x5632 1 [⟨S1024x2816, together a⟩, ⟨S1024x2816, together b⟩] concatenates_S1024x2816_S1024x2816_S1024x5632_d1

theorem both_gate (a b : FVec Ideal S8x1024x352 .bf16) (i : Fin 1024) (j : Fin 2816) :
    both a b (ix2 i ⟨j.val, by omega⟩) = joinHalf a (ix2 i j) := by
  rw [← together_eq]
  pointwise [both]

theorem both_up (a b : FVec Ideal S8x1024x352 .bf16) (i : Fin 1024) (j : Fin 2816) :
    both a b (ix2 i ⟨2816 + j.val, by omega⟩) = joinHalf b (ix2 i j) := by
  rw [← together_eq]
  pointwise [both]

/-- Rows by hidden lanes. -/
abbrev Hidden := FVec Ideal S8192x2816 .f32

/-- The block's input through a joined weight. -/
def through (x : FVec Ideal S8192x1024 .bf16) (w : FVec Ideal S8x1024x352 .bf16) : Hidden :=
  Host.dotGeneral dot_S8192x1024_S1024x2816_S8192x2816_1_0_0_1_n_n none (extf .f32 x bitsLt_bf16_f32) (extf .f32 (together w) bitsLt_bf16_f32)
/-- Ones. -/
def ones : Hidden := broadcastInDim S8192x2816 ![] bcast_S_S8192x2816 (constant S_ .f32 0x3F800000#32)
/-- The sigmoid of every lane. -/
def sigmoid (g : Hidden) : Hidden := Host.divf ones (addf ones (Host.exp (Host.negf g)))
/-- The gate's derivative times the up projection. -/
def slope (g u : Hidden) : FVec Ideal S8192x2816 .bf16 :=
  truncf .bf16 (mulf (addf (mulf ones (sigmoid g)) (mulf (mulf g ones) (mulf (sigmoid g) (subf ones (sigmoid g))))) u) bitsLt_bf16_f32
/-- The gate. -/
def silu (g : Hidden) : FVec Ideal S8192x2816 .bf16 := truncf .bf16 (mulf g (sigmoid g)) bitsLt_bf16_f32
/-- The gate times the up projection. -/
def hidden (g u : Hidden) : FVec Ideal S8192x2816 .bf16 := truncf .bf16 (mulf (mulf g (sigmoid g)) u) bitsLt_bf16_f32

/-- The reference's run, its results by these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = slope (through (m ((c.tc : Thread nD τ).loc main_arg0)) (m ((c.tc : Thread nD τ).loc main_arg1))) (through (m ((c.tc : Thread nD τ).loc main_arg0)) (m ((c.tc : Thread nD τ).loc main_arg2)))
      ∧ r.2.mem ((c.tc : Thread nD τ).loc main_v44) = silu (through (m ((c.tc : Thread nD τ).loc main_arg0)) (m ((c.tc : Thread nD τ).loc main_arg1)))
      ∧ r.2.mem ((c.tc : Thread nD τ).loc main_v46) = hidden (through (m ((c.tc : Thread nD τ).loc main_arg0)) (m ((c.tc : Thread nD τ).loc main_arg1))) (through (m ((c.tc : Thread nD τ).loc main_arg0)) (m ((c.tc : Thread nD τ).loc main_arg2)))
      ∧ r.2.mem ((c.tc : Thread nD τ).loc main_v47) = both (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run m ρ

variable (g u : Hidden) (r : Fin 8192) (l : Fin 2816)

theorem through_apply (x : FVec Ideal S8192x1024 .bf16) (w : FVec Ideal S8x1024x352 .bf16) :
    through x w (ix2 r l) = ∑ k : Fin 1024, x (ix2 r k) * joinHalf w (ix2 k l) := by
  rw [through, together_eq]
  pointwise []

theorem sigmoid_apply : sigmoid g (ix2 r l) = sigm (g (ix2 r l)) := by
  pointwise [sigmoid, ones]
  rfl

/-- The derivative of `g · sigm g`, as the sum of its two terms and factored; `g` may be infinite. -/
theorem slope_eq (g : EReal) : 1 * sigm g + g * 1 * (sigm g * (1 - sigm g)) = sigm g * (1 + g * (1 - sigm g)) := by
  have h := Cert.Ffn.gate_eq 1 1 g ⟨1, by simp⟩
  simp only [one_mul, mul_one] at h ⊢
  exact h.symm

theorem slope_apply : slope g u (ix2 r l) = u (ix2 r l) * (sigm (g (ix2 r l)) * (1 + g (ix2 r l) * (1 - sigm (g (ix2 r l))))) := by
  rw [← slope_eq, mul_comm (u (ix2 r l))]
  pointwise [slope, ones, sigmoid_apply]

theorem silu_apply : silu g (ix2 r l) = g (ix2 r l) * sigm (g (ix2 r l)) := by
  pointwise [silu, sigmoid_apply]

theorem hidden_apply : hidden g u (ix2 r l) = g (ix2 r l) * sigm (g (ix2 r l)) * u (ix2 r l) := by
  pointwise [hidden, sigmoid_apply]

end Cert.UpProj.Ref
-- ==== Proof.UpProj.lean ====
/-
  The forward up-projection whose two weights arrive in eight column shards each (`ffn_up_fwd`): the kernel's four arrays
  are the reference's, the gate's derivative times the up projection, the gate, their product, and the joined weight.
-/
module

public import proofs.«01_k».proof.Defs
public import proofs.«01_k».proof.Proof.UpStores
public import proofs.«01_k».proof.Proof.UpRef
public import proofs.«01_k».proof.Proof.Gen.UpFwd
public import Idealize.ShloMosaic.Lib.Claim
public import Idealize.ShloMosaic.Lib.Quiescent

@[expose] public section

set_option maxRecDepth 16384

noncomputable section

namespace Cert.UpProj

open Idealize.ShloMosaic Idealize.ShloMosaic.TcCoe Idealize.SL.Sem
open Cert.UpFwdIdeal Cert.UpFwdIdeal.Gen Cert.GatherUp
open Cert.Ffn (sigm)
open Cert.UpProj.Ref (joinHalf band together both both_gate both_up through through_apply)

attribute [local instance] Cert.UpFwdRefIdeal.Gen.facts

variable (m : (ℓ : Loc nD τ sig) → Buf (Elt Ideal) ℓ) (c : Dev nD)

/-- The tokens' rows. -/
abbrev argX : FVec Ideal S8192x1024 .bf16 := m ((c.tc : Thread nD τ).loc main_arg0)
/-- The gate's weight in eight column shards. -/
abbrev argG : FVec Ideal S8x1024x352 .bf16 := m ((c.tc : Thread nD τ).loc main_arg1)
/-- The up projection's weight in eight column shards. -/
abbrev argU : FVec Ideal S8x1024x352 .bf16 := m ((c.tc : Thread nD τ).loc main_arg2)

theorem index0 : ∀ t : Fin cfg0.N, win0_0.index t = ![t.val % 32, 0] := by decide +kernel
theorem index1 : ∀ t : Fin cfg0.N, win0_1.index t = ![0, 0, 0] := by decide +kernel
theorem index2 : ∀ t : Fin cfg0.N, win0_2.index t = ![0, 0, 0] := by decide +kernel
theorem index3 : ∀ t : Fin cfg0.N, win0_3.index t = ![t.val % 32, 0] := by decide +kernel
theorem index4 : ∀ t : Fin cfg0.N, win0_4.index t = ![t.val % 32, 0] := by decide +kernel
theorem index5 : ∀ t : Fin cfg0.N, win0_5.index t = ![t.val % 32, 0] := by decide +kernel

/-- The token of a point's row. -/
abbrev tokenOf (t : Fin cfg0.N) (k : Fin 256) : Fin 8192 := ⟨t.val % 32 * 256 + k.val, by have := Nat.mod_lt t.val (show 0 < 32 by omega); omega⟩

/-- A point's rows. -/
abbrev xBlock (t : Fin cfg0.N) : Vec Ideal S256x1024 .bf16 := iblk m c 0 t
/-- The shards, as every point has them. -/
abbrev gBlock (t : Fin cfg0.N) : Vec Ideal S8x1024x352 .bf16 := iblk m c 1 t
abbrev uBlock (t : Fin cfg0.N) : Vec Ideal S8x1024x352 .bf16 := iblk m c 2 t

theorem xBlock_apply (t : Fin cfg0.N) (i : Fin 256) (l : Fin 1024) : xBlock m c t (ix2 i l) = argX m c (ix2 (tokenOf t i) l) := by
  blk_ext [iblk, V, index0]
theorem gBlock_eq (t : Fin cfg0.N) : gBlock m c t = argG m c := by
  funext y
  idx_vars y
  blk_ext [iblk, V, index1]
theorem uBlock_eq (t : Fin cfg0.N) : uBlock m c t = argU m c := by
  funext y
  idx_vars y
  blk_ext [iblk, V, index2]

/-- Where a band's element lies in the whole. -/
theorem place (o : ℕ) (h) (i : Fin 1024) (j : Fin 352) (y : Fin 5632) (hy : y.val = o + j.val) :
    (Rect.unit (s := S1024x5632) ![0, o] S1024x352.size h).emb (ix2 i j) = ix2 i y := by
  funext a
  match a with
  | ⟨0, _⟩ => exact Fin.ext (by show 0 + 1 * i.val = i.val; omega)
  | ⟨1, _⟩ => exact Fin.ext (by show o + 1 * j.val = y.val; omega)

/-- A store of a shard of the gate's weight into its band is that band of the joined weight, -/
theorem store_gate (s : Fin 8) (o : ℕ) (ho : o = s.val * 352) (h) (a b : Vec Ideal S8x1024x352 .bf16) (p : Vec Ideal S1024x352 .bf16) (e : ∀ i j, p (ix2 i j) = a (ix3 s i j)) (x : S1024x352.Idx) :
    p x = both a b ((Rect.unit (s := S1024x5632) ![0, o] S1024x352.size h).emb x) := by
  subst ho
  idx_vars x
  rw [e, place _ h x0 x1 ⟨s.val * 352 + x1.val, by omega⟩ rfl]
  exact (band a s x0 x1).symm.trans (both_gate a b x0 ⟨s.val * 352 + x1.val, by omega⟩).symm

/-- and one of the up projection's likewise. -/
theorem store_up (s : Fin 8) (o : ℕ) (ho : o = 2816 + s.val * 352) (h) (a b : Vec Ideal S8x1024x352 .bf16) (p : Vec Ideal S1024x352 .bf16) (e : ∀ i j, p (ix2 i j) = b (ix3 s i j)) (x : S1024x352.Idx) :
    p x = both a b ((Rect.unit (s := S1024x5632) ![0, o] S1024x352.size h).emb x) := by
  subst ho
  idx_vars x
  rw [e, place _ h x0 x1 ⟨2816 + (s.val * 352 + x1.val), by omega⟩ (by show 2816 + (s.val * 352 + x1.val) = 2816 + s.val * 352 + x1.val; omega)]
  exact (band b s x0 x1).symm.trans (both_up a b x0 ⟨s.val * 352 + x1.val, by omega⟩).symm

set_option maxHeartbeats 2000000 in
/-- The first point's sixteen stores are the sixteen bands. -/
theorem pieces (t : Fin cfg0.N) (hs : startBit (grid0.coords t) = 1#1) (he : ¬endBit (grid0.coords t) = 1#1) :
    View.PiecesOf (Val := Elt Ideal) (both (gBlock m c t) (uBlock m c t)) (startAt (F := Ideal) m c t hs he).2.2.2.1 := by
  frame_open
  refine ⟨store_up 7 5280 rfl inb_S1024x5632_S1024x352_0_5280 _ _ _ fun i j => ?_, store_gate 7 2464 rfl inb_S1024x5632_S1024x352_0_2464 _ _ _ fun i j => ?_, store_up 6 4928 rfl inb_S1024x5632_S1024x352_0_4928 _ _ _ fun i j => ?_, store_gate 6 2112 rfl inb_S1024x5632_S1024x352_0_2112 _ _ _ fun i j => ?_, store_up 5 4576 rfl inb_S1024x5632_S1024x352_0_4576 _ _ _ fun i j => ?_, store_gate 5 1760 rfl inb_S1024x5632_S1024x352_0_1760 _ _ _ fun i j => ?_, store_up 4 4224 rfl inb_S1024x5632_S1024x352_0_4224 _ _ _ fun i j => ?_, store_gate 4 1408 rfl inb_S1024x5632_S1024x352_0_1408 _ _ _ fun i j => ?_, store_up 3 3872 rfl inb_S1024x5632_S1024x352_0_3872 _ _ _ fun i j => ?_, store_gate 3 1056 rfl inb_S1024x5632_S1024x352_0_1056 _ _ _ fun i j => ?_, store_up 2 3520 rfl inb_S1024x5632_S1024x352_0_3520 _ _ _ fun i j => ?_, store_gate 2 704 rfl inb_S1024x5632_S1024x352_0_704 _ _ _ fun i j => ?_, store_up 1 3168 rfl inb_S1024x5632_S1024x352_0_3168 _ _ _ fun i j => ?_, store_gate 1 352 rfl inb_S1024x5632_S1024x352_0_352 _ _ _ fun i j => ?_, store_up 0 2816 rfl inb_S1024x5632_S1024x352_0_2816 _ _ _ fun i j => ?_, store_gate 0 0 rfl inb_S1024x5632_S1024x352_0_0 _ _ _ fun i j => ?_, trivial⟩
  all_goals
    frame_out
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20]

/-- Together they leave the joined weight. -/
theorem stored (t : Fin cfg0.N) (hs : startBit (grid0.coords t) = 1#1) (he : ¬endBit (grid0.coords t) = 1#1) :
    View.canon (Val := Elt Ideal) (startAt (F := Ideal) m c t hs he).2.2.2.1 = both (argG m c) (argU m c) := by
  funext y
  refine Eq.trans ?_ (View.canon_append_of_piecesOf _ [] _ (pieces m c t hs he) y (cover_scr c _ _ _ _ _ _ _ _ _ _ _ _ _ _ _ _ _ hs he _ _ _ _ y)) |>.trans ?_
  · rw [List.append_nil]
  · rw [gBlock_eq, uBlock_eq]

theorem joined_eq : joined m c = both (argG m c) (argU m c) := by
  unfold joined joinedAt
  rw [View.read_writes_eq_canon _ _ _ (cover_scr c _ _ _ _ _ _ _ _ _ _ _ _ _ _ _ _ _ _ _ _ _ _ _)]
  exact stored m c _ _ _

/-- The scratch, read whole, holds the joined weight. -/
theorem read_scr : View.read (Elt Ideal) (View.whole cc0_scratch0) (hscr.unread (joined m c)) = joined m c := hscr.read_unread _

set_option maxHeartbeats 1000000 in
/-- What each point leaves in the first result's buffer: the point that copies, -/
theorem start3 (t : Fin cfg0.N) (hs : startBit (grid0.coords t) = 1#1) (he : ¬endBit (grid0.coords t) = 1#1) :
    View.canon (Val := Elt Ideal) (startAt (F := Ideal) m c t hs he).1 = UpStores.slope (xBlock m c t) (both (argG m c) (argU m c)) := by
  have hj := stored m c t hs he
  unfold startAt at hj
  unfold startAt
  frame_open at hj
  frame_open
  repeat rw [View.readCov_eq_canon']
  rw [hj]
  frame_out

/-- one that neither copies nor waits, -/
theorem keep3 (t : Fin cfg0.N) (hs : ¬startBit (grid0.coords t) = 1#1) (he : ¬endBit (grid0.coords t) = 1#1) :
    View.canon (Val := Elt Ideal) (keepAt (F := Ideal) m c t hs he).1 = UpStores.slope (xBlock m c t) (joined m c) := by
  unfold keepAt
  frame_open
  frame_out
  rw [read_scr]

/-- and the one that waits. -/
theorem end3 (t : Fin cfg0.N) (hs : ¬startBit (grid0.coords t) = 1#1) (he : endBit (grid0.coords t) = 1#1) :
    View.canon (Val := Elt Ideal) (endAt (F := Ideal) m c t hs he).1 = UpStores.slope (xBlock m c t) (joined m c) := by
  unfold endAt
  frame_open
  frame_out
  rw [read_scr]

theorem out3_eq (t : Fin cfg0.N) : out3 m c t = UpStores.slope (xBlock m c t) (both (argG m c) (argU m c)) := by
  unfold out3
  split
  · rw [View.read_writes_eq_canon _ _ _ (cover_Start_3 c _ _ _ _ _ _ _ _ _ _ _ _ _ _ _ _ _ _ _ _ _ _ _)]
    exact start3 m c t _ _
  · split
    · rw [View.read_writes_eq_canon _ _ _ (cover_End_3 c _ _ _ _ _ _ _ _ _ _ _ _ _ _ _ _ _ _ _ _ _ _ _ _), ← joined_eq]
      exact end3 m c t _ _
    · rw [View.read_writes_eq_canon _ _ _ (cover_Keep_3 c _ _ _ _ _ _ _ _ _ _ _ _ _ _ _ _ _ _ _ _ _ _ _), ← joined_eq]
      exact keep3 m c t _ _

set_option maxHeartbeats 1000000 in
/-- What each point leaves in the second result's buffer: the point that copies, -/
theorem start4 (t : Fin cfg0.N) (hs : startBit (grid0.coords t) = 1#1) (he : ¬endBit (grid0.coords t) = 1#1) :
    View.canon (Val := Elt Ideal) (startAt (F := Ideal) m c t hs he).2.1 = UpStores.silu (xBlock m c t) (both (argG m c) (argU m c)) := by
  have hj := stored m c t hs he
  unfold startAt at hj
  unfold startAt
  frame_open at hj
  frame_open
  repeat rw [View.readCov_eq_canon']
  rw [hj]
  frame_out

/-- one that neither copies nor waits, -/
theorem keep4 (t : Fin cfg0.N) (hs : ¬startBit (grid0.coords t) = 1#1) (he : ¬endBit (grid0.coords t) = 1#1) :
    View.canon (Val := Elt Ideal) (keepAt (F := Ideal) m c t hs he).2.1 = UpStores.silu (xBlock m c t) (joined m c) := by
  unfold keepAt
  frame_open
  frame_out
  rw [read_scr]

/-- and the one that waits. -/
theorem end4 (t : Fin cfg0.N) (hs : ¬startBit (grid0.coords t) = 1#1) (he : endBit (grid0.coords t) = 1#1) :
    View.canon (Val := Elt Ideal) (endAt (F := Ideal) m c t hs he).2.1 = UpStores.silu (xBlock m c t) (joined m c) := by
  unfold endAt
  frame_open
  frame_out
  rw [read_scr]

theorem out4_eq (t : Fin cfg0.N) : out4 m c t = UpStores.silu (xBlock m c t) (both (argG m c) (argU m c)) := by
  unfold out4
  split
  · rw [View.read_writes_eq_canon _ _ _ (cover_Start_4 c _ _ _ _ _ _ _ _ _ _ _ _ _ _ _ _ _ _ _ _ _ _ _)]
    exact start4 m c t _ _
  · split
    · rw [View.read_writes_eq_canon _ _ _ (cover_End_4 c _ _ _ _ _ _ _ _ _ _ _ _ _ _ _ _ _ _ _ _ _ _ _ _), ← joined_eq]
      exact end4 m c t _ _
    · rw [View.read_writes_eq_canon _ _ _ (cover_Keep_4 c _ _ _ _ _ _ _ _ _ _ _ _ _ _ _ _ _ _ _ _ _ _ _), ← joined_eq]
      exact keep4 m c t _ _

set_option maxHeartbeats 1000000 in
/-- What each point leaves in the third result's buffer: the point that copies, -/
theorem start5 (t : Fin cfg0.N) (hs : startBit (grid0.coords t) = 1#1) (he : ¬endBit (grid0.coords t) = 1#1) :
    View.canon (Val := Elt Ideal) (startAt (F := Ideal) m c t hs he).2.2.1 = UpStores.hidden (xBlock m c t) (both (argG m c) (argU m c)) := by
  have hj := stored m c t hs he
  unfold startAt at hj
  unfold startAt
  frame_open at hj
  frame_open
  repeat rw [View.readCov_eq_canon']
  rw [hj]
  frame_out

/-- one that neither copies nor waits, -/
theorem keep5 (t : Fin cfg0.N) (hs : ¬startBit (grid0.coords t) = 1#1) (he : ¬endBit (grid0.coords t) = 1#1) :
    View.canon (Val := Elt Ideal) (keepAt (F := Ideal) m c t hs he).2.2.1 = UpStores.hidden (xBlock m c t) (joined m c) := by
  unfold keepAt
  frame_open
  frame_out
  rw [read_scr]

/-- and the one that waits. -/
theorem end5 (t : Fin cfg0.N) (hs : ¬startBit (grid0.coords t) = 1#1) (he : endBit (grid0.coords t) = 1#1) :
    View.canon (Val := Elt Ideal) (endAt (F := Ideal) m c t hs he).2.2.1 = UpStores.hidden (xBlock m c t) (joined m c) := by
  unfold endAt
  frame_open
  frame_out
  rw [read_scr]

theorem out5_eq (t : Fin cfg0.N) : out5 m c t = UpStores.hidden (xBlock m c t) (both (argG m c) (argU m c)) := by
  unfold out5
  split
  · rw [View.read_writes_eq_canon _ _ _ (cover_Start_5 c _ _ _ _ _ _ _ _ _ _ _ _ _ _ _ _ _ _ _ _ _ _ _)]
    exact start5 m c t _ _
  · split
    · rw [View.read_writes_eq_canon _ _ _ (cover_End_5 c _ _ _ _ _ _ _ _ _ _ _ _ _ _ _ _ _ _ _ _ _ _ _ _), ← joined_eq]
      exact end5 m c t _ _
    · rw [View.read_writes_eq_canon _ _ _ (cover_Keep_5 c _ _ _ _ _ _ _ _ _ _ _ _ _ _ _ _ _ _ _ _ _ _ _), ← joined_eq]
      exact keep5 m c t _ _

/-- A row through one column of the joined weight, for the gate and for the up projection. -/
theorem gate_column (t : Fin cfg0.N) (i : Fin 256) (y : Fin 2816) (h) :
    UpStores.column (xBlock m c t) (both (argG m c) (argU m c)) i ⟨y.val, h⟩ = through (argX m c) (argG m c) (ix2 (tokenOf t i) y) := by
  rw [through_apply]
  exact Finset.sum_congr rfl fun k _ => by rw [xBlock_apply, both_gate]
theorem up_column (t : Fin cfg0.N) (i : Fin 256) (y : Fin 2816) (h) :
    UpStores.column (xBlock m c t) (both (argG m c) (argU m c)) i ⟨2816 + y.val, h⟩ = through (argX m c) (argU m c) (ix2 (tokenOf t i) y) := by
  rw [through_apply]
  exact Finset.sum_congr rfl fun k _ => by rw [xBlock_apply, both_up]

theorem final_slope : (dats m 0 c).arrAt 3 cfg0.N = Ref.slope (through (argX m c) (argG m c)) (through (argX m c) (argU m c)) := by
  refine (dats m 0 c).arrAt_eq_of_covers 3 _ (by decide +kernel) fun t hf y => ?_
  blk_simp
  rw [after3]
  refine (congrFun (out3_eq m c t) y).trans ?_
  idx_vars y
  have hE : ((View.whole main_v0_0).slice (win0_3.rect t)).emb (ix2 y0 y1) = ix2 (tokenOf t y0) y1 := by
    blk_ext [index3]
  rw [hE]
  refine (UpStores.slope_apply _ _ y0 y1).trans (Eq.trans ?_ (Ref.slope_apply _ _ (tokenOf t y0) y1).symm)
  simp only [gate_column, up_column]

theorem final_silu : (dats m 0 c).arrAt 4 cfg0.N = Ref.silu (through (argX m c) (argG m c)) := by
  refine (dats m 0 c).arrAt_eq_of_covers 4 _ (by decide +kernel) fun t hf y => ?_
  blk_simp
  rw [after4]
  refine (congrFun (out4_eq m c t) y).trans ?_
  idx_vars y
  have hE : ((View.whole main_v0_1).slice (win0_4.rect t)).emb (ix2 y0 y1) = ix2 (tokenOf t y0) y1 := by
    blk_ext [index4]
  rw [hE]
  refine (UpStores.silu_apply _ _ y0 y1).trans (Eq.trans ?_ (Ref.silu_apply _ (tokenOf t y0) y1).symm)
  simp only [gate_column]

theorem final_hidden : (dats m 0 c).arrAt 5 cfg0.N = Ref.hidden (through (argX m c) (argG m c)) (through (argX m c) (argU m c)) := by
  refine (dats m 0 c).arrAt_eq_of_covers 5 _ (by decide +kernel) fun t hf y => ?_
  blk_simp
  rw [after5]
  refine (congrFun (out5_eq m c t) y).trans ?_
  idx_vars y
  have hE : ((View.whole main_v0_2).slice (win0_5.rect t)).emb (ix2 y0 y1) = ix2 (tokenOf t y0) y1 := by
    blk_ext [index5]
  rw [hE]
  refine (UpStores.hidden_apply _ _ y0 y1).trans (Eq.trans ?_ (Ref.hidden_apply _ _ (tokenOf t y0) y1).symm)
  simp only [gate_column, up_column]

/-- The fourth result, read whole, is its contents. -/
theorem unread_eq (J : Vec Ideal S1024x5632 .bf16) : hhbm.unread (Val := Elt Ideal) J = J :=
  (hhbm.eq_unread (f := J) (X := J) (View.read_whole _ _)).symm

/-- The kernel's run: three results at what the grid's points leave, the fourth at the joined weight, the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = (dats m 0 c).arrAt 3 cfg0.N
      ∧ r.2.mem ((c.tc : Thread nD τ).loc main_v0_1) = (dats m 0 c).arrAt 4 cfg0.N
      ∧ r.2.mem ((c.tc : Thread nD τ).loc main_v0_2) = (dats m 0 c).arrAt 5 cfg0.N
      ∧ r.2.mem ((c.tc : Thread nD τ).loc main_v0_3) = joined m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1.toR c).1 3, (h.1.toR c).1 4, (h.1.toR c).1 5,
      (h.1.written c (by decide)).trans ((G_eq m c).trans (unread_eq _)),
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2))⟩)
    (run_main m ρ)

/-- The reference leaves its arguments as they were; it has no semaphores. -/
theorem frame_reference : Cert.quiescent_UpFwdRefIdeal := fun m g _ =>
  (θ_run _ _ _).mono (fun r h => ⟨fun c => (h c).2.2.2.2, sem_eq_zero_of_no_sems rfl r.2⟩) (Ref.run m g)

set_option smartUnfolding false in
/-- The frame of the kernel on float words: the same run as that of its ideal program, which holds of any float values. -/
theorem frame_words : Cert.quiescent_UpFwd (hUpFwd := Cert.UpFwd.Gen.facts) := fun m ρ _ =>
  Cert.GatherUp.frame (F := Bits) m ρ

/-- Kernel and reference end with the same four arrays. -/
theorem algebraic : Cert.algebraic_UpFwdIdeal_UpFwdRefIdeal := by
  intro m g m' g' _ same
  refine ⟨_, _, _, _, run_blocks m g, (θ_run _ _ _).mono (fun r h c => ?_) (Ref.run m' g')⟩
  obtain ⟨s0, s1, s2⟩ := same c
  obtain ⟨h0, h1, h2, h3, h⟩ := h c
  refine ⟨h0.trans ?_, h1.trans ?_, h2.trans ?_, h3.trans ?_, h⟩
  · rw [s0, s1, s2]
    exact (final_slope m c).symm
  · rw [s0, s1]
    exact (final_silu m c).symm
  · rw [s0, s1, s2]
    exact (final_hidden m c).symm
  · rw [s1, s2]
    exact (joined_eq m c).symm

end Cert.UpProj
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_scores_finite
public import proofs.«01_k».proof.Proof.Gen.Pre_factors_finite
public import proofs.«01_k».proof.Proof.Gen.DownBwd
public import proofs.«01_k».proof.Proof.Gen.GradDown
public import proofs.«01_k».proof.Proof.Gen.GradGate
public import proofs.«01_k».proof.Proof.Gen.GradUp
public import proofs.«01_k».proof.Proof.Gen.DownBwdIdeal.Value
public import proofs.«01_k».proof.Proof.Gen.DownBwdRefIdeal.Run
public import proofs.«01_k».proof.Proof.Gen.GradDownIdeal.Value
public import proofs.«01_k».proof.Proof.Gen.GradDownRefIdeal.Run
public import proofs.«01_k».proof.Proof.Gen.GradGateIdeal.Value
public import proofs.«01_k».proof.Proof.Gen.GradGateRefIdeal.Run
public import proofs.«01_k».proof.Proof.Gen.GradUpIdeal.Value
public import proofs.«01_k».proof.Proof.Gen.GradUpRefIdeal.Run
public import proofs.«01_k».proof.Proof.Gen.UpBwd
public import proofs.«01_k».proof.Proof.Gen.UpBwdIdeal.Value
public import proofs.«01_k».proof.Proof.Gen.UpBwdRefIdeal.Run
public import proofs.«01_k».proof.Proof.Gen.OutBwd
public import proofs.«01_k».proof.Proof.Gen.OutBwdIdeal.Value
public import proofs.«01_k».proof.Proof.Gen.OutBwdRefIdeal.Run
public import proofs.«01_k».proof.Proof.Gen.GradOut
public import proofs.«01_k».proof.Proof.Gen.GradOutIdeal.Value
public import proofs.«01_k».proof.Proof.Gen.GradOutRefIdeal.Run
public import proofs.«01_k».proof.Proof.Gen.InBwdX
public import proofs.«01_k».proof.Proof.Gen.InBwdXIdeal.Value
public import proofs.«01_k».proof.Proof.Gen.InBwdXRefIdeal.Run
public import proofs.«01_k».proof.Proof.Gen.GradInA
public import proofs.«01_k».proof.Proof.Gen.GradInAIdeal.Value
public import proofs.«01_k».proof.Proof.Gen.GradInARefIdeal.Run
public import proofs.«01_k».proof.Proof.Gen.GradInB
public import proofs.«01_k».proof.Proof.Gen.GradInBIdeal.Value
public import proofs.«01_k».proof.Proof.Gen.GradInBRefIdeal.Run
public import proofs.«01_k».proof.Proof.Gen.InBwdA
public import proofs.«01_k».proof.Proof.Gen.InBwdAIdeal.Value
public import proofs.«01_k».proof.Proof.Gen.InBwdARefIdeal.Run
public import proofs.«01_k».proof.Proof.Gen.InBwdB
public import proofs.«01_k».proof.Proof.Gen.InBwdBIdeal.Value
public import proofs.«01_k».proof.Proof.Gen.InBwdBRefIdeal.Run
public import proofs.«01_k».proof.Proof.Gen.DownFwd
public import proofs.«01_k».proof.Proof.Gen.DownFwdIdeal.Value
public import proofs.«01_k».proof.Proof.Gen.DownFwdRefIdeal.Run
public import proofs.«01_k».proof.Proof.Gen.OutFwd
public import proofs.«01_k».proof.Proof.Gen.OutFwdIdeal.Value
public import proofs.«01_k».proof.Proof.Gen.OutFwdRefIdeal.Run
public import proofs.«01_k».proof.Proof.Gen.OutFwdX
public import proofs.«01_k».proof.Proof.Gen.OutFwdXIdeal.Value
public import proofs.«01_k».proof.Proof.Gen.OutFwdXRefIdeal.Run
public import proofs.«01_k».proof.Proof.Gen.MemFwd
public import proofs.«01_k».proof.Proof.Gen.MemFwdIdeal.Value
public import proofs.«01_k».proof.Proof.Gen.MemFwdRefIdeal.Run
public import proofs.«01_k».proof.Proof.Gen.GradMem
public import proofs.«01_k».proof.Proof.Gen.GradMemIdeal.Value
public import proofs.«01_k».proof.Proof.Gen.GradMemRefIdeal.Run
public import proofs.«01_k».proof.Proof.Gen.InFwdA
public import proofs.«01_k».proof.Proof.Gen.InFwdAIdeal.Frame
public import proofs.«01_k».proof.Proof.Gen.InFwdAIdeal.Skeleton
public import proofs.«01_k».proof.Proof.Gen.InFwdARefIdeal.Run
public import proofs.«01_k».proof.Proof.Gen.InFwdB
public import proofs.«01_k».proof.Proof.Gen.InFwdBIdeal.Frame
public import proofs.«01_k».proof.Proof.Gen.InFwdBIdeal.Skeleton
public import proofs.«01_k».proof.Proof.Gen.InFwdBRefIdeal.Run
public import proofs.«01_k».proof.Proof.Gen.UpFwd
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdRefIdeal.Run
public import proofs.«01_k».proof.Proof.Gen.Pre_norm_finite
public import proofs.«01_k».proof.Proof.Gen.Pre_norm_finite_a
public import proofs.«01_k».proof.Proof.Gen.Pre_norm_finite_b
public import proofs.«01_k».proof.Proof.MemClaim
public import proofs.«01_k».proof.Proof.FfnFinal
public import proofs.«01_k».proof.Proof.DownGrad
public import proofs.«01_k».proof.Proof.GateGrad
public import proofs.«01_k».proof.Proof.UpGrad
public import proofs.«01_k».proof.Proof.UpBackFinal
public import proofs.«01_k».proof.Proof.OutBack
public import proofs.«01_k».proof.Proof.OutGrad
public import proofs.«01_k».proof.Proof.InBackX
public import proofs.«01_k».proof.Proof.InGradA
public import proofs.«01_k».proof.Proof.InGradB
public import proofs.«01_k».proof.Proof.InBackAFinal
public import proofs.«01_k».proof.Proof.InBackBFinal
public import proofs.«01_k».proof.Proof.DownOut
public import proofs.«01_k».proof.Proof.OutLater
public import proofs.«01_k».proof.Proof.OutFirst
public import proofs.«01_k».proof.Proof.InProjA
public import proofs.«01_k».proof.Proof.InProjB
public import proofs.«01_k».proof.Proof.MemKeys
public import proofs.«01_k».proof.Proof.MemGrad
public import proofs.«01_k».proof.Proof.UpProj
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.DownBwd.Gen.facts, Cert.DownBwdIdeal.Gen.facts, Cert.DownBwdRefIdeal.Gen.facts,
    Cert.GradDown.Gen.facts, Cert.GradDownIdeal.Gen.facts, Cert.GradDownRefIdeal.Gen.facts,
    Cert.GradGate.Gen.facts, Cert.GradGateIdeal.Gen.facts, Cert.GradGateRefIdeal.Gen.facts,
    Cert.GradUp.Gen.facts, Cert.GradUpIdeal.Gen.facts, Cert.GradUpRefIdeal.Gen.facts,
    Cert.UpBwd.Gen.facts, Cert.UpBwdIdeal.Gen.facts, Cert.UpBwdRefIdeal.Gen.facts,
    Cert.OutBwd.Gen.facts, Cert.OutBwdIdeal.Gen.facts, Cert.OutBwdRefIdeal.Gen.facts,
    Cert.GradOut.Gen.facts, Cert.GradOutIdeal.Gen.facts, Cert.GradOutRefIdeal.Gen.facts,
    Cert.InBwdX.Gen.facts, Cert.InBwdXIdeal.Gen.facts, Cert.InBwdXRefIdeal.Gen.facts,
    Cert.GradInA.Gen.facts, Cert.GradInAIdeal.Gen.facts, Cert.GradInARefIdeal.Gen.facts,
    Cert.GradInB.Gen.facts, Cert.GradInBIdeal.Gen.facts, Cert.GradInBRefIdeal.Gen.facts,
    Cert.InBwdA.Gen.facts, Cert.InBwdAIdeal.Gen.facts, Cert.InBwdARefIdeal.Gen.facts,
    Cert.InBwdB.Gen.facts, Cert.InBwdBIdeal.Gen.facts, Cert.InBwdBRefIdeal.Gen.facts,
    Cert.DownFwd.Gen.facts, Cert.DownFwdIdeal.Gen.facts, Cert.DownFwdRefIdeal.Gen.facts,
    Cert.OutFwd.Gen.facts, Cert.OutFwdIdeal.Gen.facts, Cert.OutFwdRefIdeal.Gen.facts,
    Cert.OutFwdX.Gen.facts, Cert.OutFwdXIdeal.Gen.facts, Cert.OutFwdXRefIdeal.Gen.facts,
    Cert.InFwdA.Gen.facts, Cert.InFwdAIdeal.Gen.facts, Cert.InFwdARefIdeal.Gen.facts,
    Cert.InFwdB.Gen.facts, Cert.InFwdBIdeal.Gen.facts, Cert.InFwdBRefIdeal.Gen.facts,
    Cert.MemFwd.Gen.facts, Cert.MemFwdIdeal.Gen.facts, Cert.MemFwdRefIdeal.Gen.facts,
    Cert.GradMem.Gen.facts, Cert.GradMemIdeal.Gen.facts, Cert.GradMemRefIdeal.Gen.facts,
    Cert.UpFwd.Gen.facts, Cert.UpFwdIdeal.Gen.facts, Cert.UpFwdRefIdeal.Gen.facts,
    Cert.Pre_scores_finite.Gen.facts, Cert.Pre_factors_finite.Gen.facts, Cert.Pre_norm_finite.Gen.facts, Cert.Pre_norm_finite_a.Gen.facts, Cert.Pre_norm_finite_b.Gen.facts,
    -- the frames
    Cert.MemBwd.frame_words, fun m ρ _ => Cert.KernelIdeal.Gen.frame m ρ, fun m ρ _ => Cert.KernelIdeal.Gen.frame m ρ,
    Cert.MemBwd.frame_reference, fun m ρ _ => Cert.MemBwd.frame_reference m ρ trivial,
    Cert.Ffn.frame_words, fun m ρ _ => Cert.DownBwdIdeal.Gen.frame m ρ, fun m ρ _ => Cert.DownBwdIdeal.Gen.frame m ρ,
    Cert.Ffn.frame_reference, fun m ρ _ => Cert.Ffn.frame_reference m ρ trivial,
    Cert.DownGrad.frame_words, fun m ρ _ => Cert.GradDownIdeal.Gen.frame m ρ, Cert.DownGrad.frame_reference,
    Cert.GateGrad.frame_words, fun m ρ _ => Cert.GradGateIdeal.Gen.frame m ρ, Cert.GateGrad.frame_reference,
    Cert.UpGrad.frame_words, fun m ρ _ => Cert.GradUpIdeal.Gen.frame m ρ, Cert.UpGrad.frame_reference,
    Cert.UpBack.frame_words, fun m ρ _ => Cert.UpBwdIdeal.Gen.frame m ρ, fun m ρ _ => Cert.UpBwdIdeal.Gen.frame m ρ,
    Cert.UpBack.frame_reference, fun m ρ _ => Cert.UpBack.frame_reference m ρ trivial,
    Cert.OutBack.frame_words, fun m ρ _ => Cert.OutBwdIdeal.Gen.frame m ρ, Cert.OutBack.frame_reference,
    Cert.OutGrad.frame_words, fun m ρ _ => Cert.GradOutIdeal.Gen.frame m ρ, Cert.OutGrad.frame_reference,
    Cert.InBackX.frame_words, fun m ρ _ => Cert.InBwdXIdeal.Gen.frame m ρ, Cert.InBackX.frame_reference,
    Cert.InGradA.frame_words, fun m ρ _ => Cert.GradInAIdeal.Gen.frame m ρ, Cert.InGradA.frame_reference,
    Cert.InGradB.frame_words, fun m ρ _ => Cert.GradInBIdeal.Gen.frame m ρ, Cert.InGradB.frame_reference,
    Cert.InBackA.frame_words, fun m ρ _ => Cert.InBwdAIdeal.Gen.frame m ρ, fun m ρ _ => Cert.InBwdAIdeal.Gen.frame m ρ,
    Cert.InBackA.frame_reference, fun m ρ _ => Cert.InBackA.frame_reference m ρ trivial,
    Cert.InBackB.frame_words, fun m ρ _ => Cert.InBwdBIdeal.Gen.frame m ρ, fun m ρ _ => Cert.InBwdBIdeal.Gen.frame m ρ,
    Cert.InBackB.frame_reference, fun m ρ _ => Cert.InBackB.frame_reference m ρ trivial,
    Cert.DownOut.frame_words, fun m ρ _ => Cert.DownFwdIdeal.Gen.frame m ρ, Cert.DownOut.frame_reference,
    Cert.OutLater.frame_words, fun m ρ _ => Cert.OutFwdIdeal.Gen.frame m ρ, Cert.OutLater.frame_reference,
    Cert.OutFirst.frame_words, fun m ρ _ => Cert.OutFwdXIdeal.Gen.frame m ρ, Cert.OutFirst.frame_reference,
    Cert.InProjA.frame_words, fun m ρ _ => Cert.GatherA.frame m ρ, Cert.InProjA.frame_reference,
    Cert.InProjB.frame_words, fun m ρ _ => Cert.GatherB.frame m ρ, Cert.InProjB.frame_reference,
    Cert.MemKeys.frame_words, fun m ρ _ => Cert.MemFwdIdeal.Gen.frame m ρ, Cert.MemKeys.frame_reference,
    Cert.MemGrad.frame_words, fun m ρ _ => Cert.GradMemIdeal.Gen.frame m ρ, Cert.MemGrad.frame_reference,
    Cert.UpProj.frame_words, fun m ρ _ => Cert.GatherUp.frame m ρ, Cert.UpProj.frame_reference,
    -- the idealizations and the values
    trivial, Cert.MemBwd.algebraic,
    trivial, Cert.Ffn.algebraic,
    trivial, Cert.DownGrad.algebraic,
    trivial, Cert.GateGrad.algebraic,
    trivial, Cert.UpGrad.algebraic,
    trivial, Cert.UpBack.algebraic,
    trivial, Cert.OutBack.algebraic,
    trivial, Cert.OutGrad.algebraic,
    trivial, Cert.InBackX.algebraic,
    trivial, Cert.InGradA.algebraic,
    trivial, Cert.InGradB.algebraic,
    trivial, Cert.InBackA.algebraic,
    trivial, Cert.InBackB.algebraic,
    trivial, Cert.DownOut.algebraic,
    trivial, Cert.OutLater.algebraic,
    trivial, Cert.OutFirst.algebraic,
    trivial, Cert.InProjA.algebraic,
    trivial, Cert.InProjB.algebraic,
    trivial, Cert.MemKeys.algebraic,
    trivial, Cert.MemGrad.algebraic,
    trivial, Cert.UpProj.algebraic⟩

end Cert.Proof

end
